-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_v57) = v6 c
          ∧ r.2.mem ((c.tc : Thread Cert.ReferenceIdeal.nD Cert.ReferenceIdeal.τ).loc Cert.ReferenceIdeal.main_v58) = v7 c
          ∧ r.2.mem ((c.tc : Thread Cert.ReferenceIdeal.nD Cert.ReferenceIdeal.τ).loc Cert.ReferenceIdeal.main_v41) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v111) = v0 c
          ∧ r.2.mem ((c.tc : Thread Cert.Reference18Ideal.nD Cert.Reference18Ideal.τ).loc Cert.Reference18Ideal.main_v94) = v1 c
          ∧ r.2.mem ((c.tc : Thread Cert.Reference18Ideal.nD Cert.Reference18Ideal.τ).loc Cert.Reference18Ideal.main_v112) = v2 c
          ∧ r.2.mem ((c.tc : Thread Cert.Reference18Ideal.nD Cert.Reference18Ideal.τ).loc Cert.Reference18Ideal.main_v113) = v3 c
          ∧ r.2.mem ((c.tc : Thread Cert.Reference18Ideal.nD Cert.Reference18Ideal.τ).loc Cert.Reference18Ideal.main_v114) = v4 c
          ∧ r.2.mem ((c.tc : Thread Cert.Reference18Ideal.nD Cert.Reference18Ideal.τ).loc Cert.Reference18Ideal.main_v115) = v5 c
          ∧ r.2.mem ((c.tc : Thread Cert.Reference18Ideal.nD Cert.Reference18Ideal.τ).loc Cert.Reference18Ideal.main_v89) = v6 c
          ∧ r.2.mem ((c.tc : Thread Cert.Reference18Ideal.nD Cert.Reference18Ideal.τ).loc Cert.Reference18Ideal.main_v70) = v7 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v49) = v0 c
          ∧ r.2.mem ((c.tc : Thread Cert.Reference19Ideal.nD Cert.Reference19Ideal.τ).loc Cert.Reference19Ideal.main_v48) = v1 c
          ∧ r.2.mem ((c.tc : Thread Cert.Reference19Ideal.nD Cert.Reference19Ideal.τ).loc Cert.Reference19Ideal.main_v32) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v44) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v33) = v0 c
          ∧ r.2.mem ((c.tc : Thread Cert.Reference33Ideal.nD Cert.Reference33Ideal.τ).loc Cert.Reference33Ideal.main_v17) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v117) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v180) = v0 c
          ∧ r.2.mem ((c.tc : Thread Cert.Reference35Ideal.nD Cert.Reference35Ideal.τ).loc Cert.Reference35Ideal.main_v171) = v1 c
          ∧ r.2.mem ((c.tc : Thread Cert.Reference35Ideal.nD Cert.Reference35Ideal.τ).loc Cert.Reference35Ideal.main_v119) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v254) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite18 : Cert.Pre_finite18.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite18.lean ====
abbrev S4096x1024 : Shape := ⟨2, ![4096, 1024]⟩
abbrev S1x1024 : Shape := ⟨2, ![1, 1024]⟩
abbrev S4x1024x1024 : Shape := ⟨3, ![4, 1024, 1024]⟩
abbrev S256x2048 : Shape := ⟨2, ![256, 2048]⟩
abbrev S_ : Shape := ⟨0, ![]⟩
abbrev S1x1024x1024 : Shape := ⟨3, ![1, 1024, 1024]⟩
abbrev S1024x1024 : Shape := ⟨2, ![1024, 1024]⟩
abbrev S256x1024 : Shape := ⟨2, ![256, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  slices_S4x1024x1024_S1x1024x1024_0_0_0 : S4x1024x1024.Slices ![0, 0, 0] S1x1024x1024
  shapeCasts_S1x1024x1024_S1024x1024 : S1x1024x1024.ShapeCasts S1024x1024
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v16 : IVec S_ 1) (main_v17 : FVec F S256x1024 .bf16) : IVec S_ 1 :=
  let main_v18 : FVec F S256x1024 .f32 := (extf .f32 · bitsLt_bf16_f32) main_v17
  let main_v19 : FVec F S256x1024 .f32 := Host.absf main_v18
  let main_cst_4 : FVec F S_ .f32 := constant S_ .f32 0x7F800000#32
  let main_v20 : FVec F S256x1024 .f32 := broadcastInDim S256x1024 ![] bcast_S_S256x1024 main_cst_4
  let main_v21 : IVec S256x1024 1 := cmpf .olt main_v19 main_v20
  let main_c_5 : IVec S_ 1 := constantI S_ 1 1#1
  let main_v22 : IVec S_ 1 := (fun x v => Host.reduce IntOp.andi x v reducesTo_S256x1024_S_d0_1 h_S_) main_v21 main_c_5
  let main_v23 : IVec S_ 1 := andi main_v16 main_v22
  main_v23

def fn {F : FTy → Type} [FloatOps F] (main_arg0 : FVec F S4096x1024 .f32) (main_arg1 : FVec F S4096x1024 .f32) (main_arg2 : FVec F S1x1024 .f32) (main_arg3 : FVec F S4x1024x1024 .bf16) (main_arg4 : FVec F S256x2048 .bf16) (main_arg5 : FVec F S4x1024x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1024 .bf16 := (extractStridedSlice S1x1024x1024 ![0, 0, 0] · slices_S4x1024x1024_S1x1024x1024_0_0_0) main_arg3
  let main_v10 : FVec F S1024x1024 .bf16 := shapeCast S1024x1024 main_v9 shapeCasts_S1x1024x1024_S1024x1024
  let main_v11 : FVec F S1024x1024 .f32 := (extf .f32 · bitsLt_bf16_f32) main_v10
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v8 main_v15
  let main_v17 : FVec F S256x1024 .bf16 := (extractStridedSlice S256x1024 ![0, 0] · slices_S256x2048_S256x1024_0_0) main_arg4
  fn_part1 (F := F) main_v16 main_v17
-- ==== Kernel.lean ====
abbrev S4096x1024 : Shape := ⟨2, ![4096, 1024]⟩
abbrev S4096x512 : Shape := ⟨2, ![4096, 512]⟩
abbrev S4096x8704 : Shape := ⟨2, ![4096, 8704]⟩
abbrev S4x1024 : Shape := ⟨2, ![4, 1024]⟩
abbrev S4x4x512x1024 : Shape := ⟨4, ![4, 4, 512, 1024]⟩
abbrev S4x1024x1024 : Shape := ⟨3, ![4, 1024, 1024]⟩
abbrev S8x128 : Shape := ⟨2, ![8, 128]⟩
abbrev S4096x4096 : Shape := ⟨2, ![4096, 4096]⟩
abbrev S256x1024 : Shape := ⟨2, ![256, 1024]⟩
abbrev S256x512 : Shape := ⟨2, ![256, 512]⟩
abbrev S1x4x512x1024 : Shape := ⟨4, ![1, 4, 512, 1024]⟩
abbrev S1x1024x1024 : Shape := ⟨3, ![1, 1024, 1024]⟩
abbrev S256x4096 : Shape := ⟨2, ![256, 4096]⟩
abbrev S1024x1024 : Shape := ⟨2, ![1024, 1024]⟩
abbrev S1x1024 : Shape := ⟨2, ![1, 1024]⟩
abbrev S1x1x512x1024 : Shape := ⟨4, ![1, 1, 512, 1024]⟩
abbrev S512x1024 : Shape := ⟨2, ![512, 1024]⟩
abbrev S1024 : Shape := ⟨1, ![1024]⟩

abbrev nBuf : Space → Nat
  | .hbm => 19
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x8704, .f32⟩
  | .hbm, ⟨6, _⟩ => ⟨S4x1024, .f32⟩
  | .hbm, ⟨7, _⟩ => ⟨S4x4x512x1024, .bf16⟩
  | .hbm, ⟨8, _⟩ => ⟨S4x1024x1024, .bf16⟩
  | .hbm, ⟨9, _⟩ => ⟨S8x128, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x4096, .bf16⟩
  | .hbm, ⟨15, _⟩ => ⟨S4096x4096, .bf16⟩
  | .hbm, ⟨16, _⟩ => ⟨S4096x1024, .bf16⟩
  | .hbm, ⟨17, _⟩ => ⟨S4096x1024, .bf16⟩
  | .hbm, ⟨18, _⟩ => ⟨S4x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S4x1024, .f32⟩
  | .local _ .vmem, ⟨27, _⟩ => ⟨S1x4x512x1024, .bf16⟩
  | .local _ .vmem, ⟨28, _⟩ => ⟨S1x1024x1024, .bf16⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x4096, .bf16⟩
  | .local _ .vmem, ⟨38, _⟩ => ⟨S256x4096, .bf16⟩
  | .local _ .vmem, ⟨39, _⟩ => ⟨S256x4096, .bf16⟩
  | .local _ .vmem, ⟨40, _⟩ => ⟨S256x4096, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S256x1024, .bf16⟩
  | .local _ .vmem, ⟨45, _⟩ => ⟨S4x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_9 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_10 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_11 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_12 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x4096 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x4096 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S4x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S4096x1024 : Shape := ⟨2, ![4096, 1024]⟩
abbrev S4096x512 : Shape := ⟨2, ![4096, 512]⟩
abbrev S4096x8704 : Shape := ⟨2, ![4096, 8704]⟩
abbrev S4x1024 : Shape := ⟨2, ![4, 1024]⟩
abbrev S4x4x512x1024 : Shape := ⟨4, ![4, 4, 512, 1024]⟩
abbrev S4x1024x1024 : Shape := ⟨3, ![4, 1024, 1024]⟩
abbrev S8x128 : Shape := ⟨2, ![8, 128]⟩
abbrev S1x4x512x1024 : Shape := ⟨4, ![1, 4, 512, 1024]⟩
abbrev S4x512x1024 : Shape := ⟨3, ![4, 512, 1024]⟩
abbrev S1x1024x1024 : Shape := ⟨3, ![1, 1024, 1024]⟩
abbrev S1024x1024 : Shape := ⟨2, ![1024, 1024]⟩
abbrev S4096x1x512 : Shape := ⟨3, ![4096, 1, 512]⟩
abbrev S4096x4x512 : Shape := ⟨3, ![4096, 4, 512]⟩
abbrev S4x1024x4096 : Shape := ⟨3, ![4, 1024, 4096]⟩
abbrev S4096x4x1024 : Shape := ⟨3, ![4096, 4, 1024]⟩
abbrev S4096x4096 : Shape := ⟨2, ![4096, 4096]⟩
abbrev S1x4x1024 : Shape := ⟨3, ![1, 4, 1024]⟩
abbrev S_ : Shape := ⟨0, ![]⟩
abbrev S4x4096x512 : Shape := ⟨3, ![4, 4096, 512]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x8704, .f32⟩
  | .hbm, ⟨6, _⟩ => ⟨S4x1024, .f32⟩
  | .hbm, ⟨7, _⟩ => ⟨S4x4x512x1024, .bf16⟩
  | .hbm, ⟨8, _⟩ => ⟨S4x1024x1024, .bf16⟩
  | .hbm, ⟨9, _⟩ => ⟨S8x128, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S1x4x512x1024, .bf16⟩
  | .hbm, ⟨15, _⟩ => ⟨S4x512x1024, .bf16⟩
  | .hbm, ⟨16, _⟩ => ⟨S4x512x1024, .f32⟩
  | .hbm, ⟨17, _⟩ => ⟨S1x1024x1024, .bf16⟩
  | .hbm, ⟨18, _⟩ => ⟨S1024x1024, .bf16⟩
  | .hbm, ⟨19, _⟩ => ⟨S1024x1024, .f32⟩
  | .hbm, ⟨20, _⟩ => ⟨S4096x1x512, .f32⟩
  | .hbm, ⟨21, _⟩ => ⟨S4096x1x512, .f32⟩
  | .hbm, ⟨22, _⟩ => ⟨S4096x1x512, .f32⟩
  | .hbm, ⟨23, _⟩ => ⟨S4096x1x512, .f32⟩
  | .hbm, ⟨24, _⟩ => ⟨S4096x4x512, .f32⟩
  | .hbm, ⟨25, _⟩ => ⟨S4x1024x4096, .f32⟩
  | .hbm, ⟨26, _⟩ => ⟨S4096x4x1024, .f32⟩
  | .hbm, ⟨27, _⟩ => ⟨S4096x4096, .f32⟩
  | .hbm, ⟨28, _⟩ => ⟨S4096x4x1024, .f32⟩
  | .hbm, ⟨29, _⟩ => ⟨S1x4x1024, .f32⟩
  | .hbm, ⟨30, _⟩ => ⟨S4096x4x1024, .f32⟩
  | .hbm, ⟨31, _⟩ => ⟨S4096x4x1024, .f32⟩
  | .hbm, ⟨32, _⟩ => ⟨S4096x4x1024, .f32⟩
  | .hbm, ⟨33, _⟩ => ⟨S4096x4x1024, .f32⟩
  | .hbm, ⟨34, _⟩ => ⟨S_, .f32⟩
  | .hbm, ⟨35, _⟩ => ⟨S4096x4x1024, .f32⟩
  | .hbm, ⟨36, _⟩ => ⟨S4096x4x1024, .f32⟩
  | .hbm, ⟨37, _⟩ => ⟨S_, .f32⟩
  | .hbm, ⟨38, _⟩ => ⟨S4096x4x1024, .f32⟩
  | .hbm, ⟨39, _⟩ => ⟨S4096x4x1024, .f32⟩
  | .hbm, ⟨40, _⟩ => ⟨S_, .f32⟩
  | .hbm, ⟨41, _⟩ => ⟨S4096x4x1024, .f32⟩
  | .hbm, ⟨42, _⟩ => ⟨S4096x4x1024, .f32⟩
  | .hbm, ⟨43, _⟩ => ⟨S4096x4x1024, .f32⟩
  | .hbm, ⟨44, _⟩ => ⟨S4096x4x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x4x1024, .f32⟩
  | .hbm, ⟨50, _⟩ => ⟨S4096x4x1024, .f32⟩
  | .hbm, ⟨51, _⟩ => ⟨S4096x4x1024, .f32⟩
  | .hbm, ⟨52, _⟩ => ⟨S4096x4x1024, .f32⟩
  | .hbm, ⟨53, _⟩ => ⟨S_, .f32⟩
  | .hbm, ⟨54, _⟩ => ⟨S4x1024, .f32⟩
  | .hbm, ⟨55, _⟩ => ⟨S1x4x1024, .f32⟩
  | .hbm, ⟨56, _⟩ => ⟨S_, .f32⟩
  | .hbm, ⟨57, _⟩ => ⟨S4x1024, .f32⟩
  | .hbm, ⟨58, _⟩ => ⟨S4096x4096, .f32⟩
  | .hbm, ⟨59, _⟩ => ⟨S4x1024x4096, .f32⟩
  | .hbm, ⟨60, _⟩ => ⟨S4x4096x512, .f32⟩
  | .hbm, ⟨61, _⟩ => ⟨S4096x4x512, .f32⟩
  | .hbm, ⟨62, _⟩ => ⟨S4096x1x512, .f32⟩
  | .hbm, ⟨63, _⟩ => ⟨S4096x512, .f32⟩
  | .hbm, ⟨64, _⟩ => ⟨S4096x1x512, .f32⟩
  | .hbm, ⟨65, _⟩ => ⟨S4096x512, .f32⟩
  | .hbm, ⟨66, _⟩ => ⟨S4096x1x512, .f32⟩
  | .hbm, ⟨67, _⟩ => ⟨S4096x512, .f32⟩
  | .hbm, ⟨68, _⟩ => ⟨S4096x1x512, .f32⟩
  | .hbm, ⟨69, _⟩ => ⟨S4096x512, .f32⟩
  | .hbm, ⟨70, _⟩ => ⟨S4096x4096, .bf16⟩
  | .hbm, ⟨71, _⟩ => ⟨S4096x4096, .f32⟩
  | .hbm, ⟨72, _⟩ => ⟨S4096x4096, .bf16⟩
  | .hbm, ⟨73, _⟩ => ⟨S4096x1024, .bf16⟩
  | .hbm, ⟨74, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel2.lean ====
abbrev S4096x1024 : Shape := ⟨2, ![4096, 1024]⟩
abbrev S4096x2048 : Shape := ⟨2, ![4096, 2048]⟩
abbrev S4096x512 : Shape := ⟨2, ![4096, 512]⟩
abbrev S4096x4096 : Shape := ⟨2, ![4096, 4096]⟩
abbrev S1024x8704 : Shape := ⟨2, ![1024, 8704]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x512, .bf16⟩
  | .hbm, ⟨4, _⟩ => ⟨S4096x1024, .bf16⟩
  | .hbm, ⟨5, _⟩ => ⟨S4096x4096, .bf16⟩
  | .hbm, ⟨6, _⟩ => ⟨S1024x8704, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S1024x512, .bf16⟩
  | .local _ .vmem, ⟨12, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c6_i32 : BitVec 32 := 6#32
  let v6 : BitVec 1 := Scalar.cmpi .slt arg0 c6_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c6_i32_3 : BitVec 32 := 6#32
  let v10 : BitVec 1 := Scalar.cmpi .sge arg0 c6_i32_3
  let c7_i32 : BitVec 32 := 7#32
  let v11 : BitVec 1 := Scalar.cmpi .slt arg0 c7_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c7_i32_5 : BitVec 32 := 7#32
  let v15 : BitVec 1 := Scalar.cmpi .sge arg0 c7_i32_5
  let c9_i32 : BitVec 32 := 9#32
  let v16 : BitVec 1 := Scalar.cmpi .slt arg0 c9_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c9_i32_7 : BitVec 32 := 9#32
  let v20 : BitVec 1 := Scalar.cmpi .sge arg0 c9_i32_7
  let c17_i32 : BitVec 32 := 17#32
  let v21 : BitVec 1 := Scalar.cmpi .slt arg0 c17_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4096x1024 : Shape := ⟨2, ![4096, 1024]⟩
abbrev S4096x2048 : Shape := ⟨2, ![4096, 2048]⟩
abbrev S4096x512 : Shape := ⟨2, ![4096, 512]⟩
abbrev S4096x4096 : Shape := ⟨2, ![4096, 4096]⟩
abbrev S4096x8704 : Shape := ⟨2, ![4096, 8704]⟩
abbrev S8704x1024 : Shape := ⟨2, ![8704, 1024]⟩
abbrev S1024x8704 : Shape := ⟨2, ![1024, 8704]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x512, .bf16⟩
  | .hbm, ⟨4, _⟩ => ⟨S4096x1024, .bf16⟩
  | .hbm, ⟨5, _⟩ => ⟨S4096x4096, .bf16⟩
  | .hbm, ⟨6, _⟩ => ⟨S4096x8704, .bf16⟩
  | .hbm, ⟨7, _⟩ => ⟨S4096x1024, .f32⟩
  | .hbm, ⟨8, _⟩ => ⟨S4096x8704, .f32⟩
  | .hbm, ⟨9, _⟩ => ⟨S8704x1024, .f32⟩
  | .hbm, ⟨10, _⟩ => ⟨S1024x8704, .f32⟩
  | .hbm, ⟨11, _⟩ => ⟨S1024x8704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel3.lean ====
abbrev S4096x2048 : Shape := ⟨2, ![4096, 2048]⟩
abbrev S4096x1024 : Shape := ⟨2, ![4096, 1024]⟩
abbrev S4096x512 : Shape := ⟨2, ![4096, 512]⟩
abbrev S4096x4096 : Shape := ⟨2, ![4096, 4096]⟩
abbrev S4x1024x8704 : Shape := ⟨3, ![4, 1024, 8704]⟩
abbrev S256x2048 : Shape := ⟨2, ![256, 2048]⟩
abbrev S256x1024 : Shape := ⟨2, ![256, 1024]⟩
abbrev S256x512 : Shape := ⟨2, ![256, 512]⟩
abbrev S256x4096 : Shape := ⟨2, ![256, 4096]⟩
abbrev S1x512x8704 : Shape := ⟨3, ![1, 512, 8704]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩
abbrev S1x512x512 : Shape := ⟨3, ![1, 512, 512]⟩
abbrev S512x512 : Shape := ⟨2, ![512, 512]⟩
abbrev S1x512x4096 : Shape := ⟨3, ![1, 512, 4096]⟩
abbrev S512x4096 : Shape := ⟨2, ![512, 4096]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S4096x4096, .bf16⟩
  | .hbm, ⟨5, _⟩ => ⟨S4x1024x8704, .bf16⟩
  | .hbm, ⟨6, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x4096, .bf16⟩
  | .local _ .vmem, ⟨9, _⟩ => ⟨S256x4096, .bf16⟩
  | .local _ .vmem, ⟨10, _⟩ => ⟨S1x512x8704, .bf16⟩
  | .local _ .vmem, ⟨11, _⟩ => ⟨S1x512x8704, .bf16⟩
  | .local _ .vmem, ⟨12, _⟩ => ⟨S256x512, .f32⟩
  | .local _ .vmem, ⟨13, _⟩ => ⟨S256x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x8704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4096x2048 : Shape := ⟨2, ![4096, 2048]⟩
abbrev S4096x1024 : Shape := ⟨2, ![4096, 1024]⟩
abbrev S4096x512 : Shape := ⟨2, ![4096, 512]⟩
abbrev S4096x4096 : Shape := ⟨2, ![4096, 4096]⟩
abbrev S4x1024x8704 : Shape := ⟨3, ![4, 1024, 8704]⟩
abbrev S4096x8704 : Shape := ⟨2, ![4096, 8704]⟩
abbrev S1x1024x8704 : Shape := ⟨3, ![1, 1024, 8704]⟩
abbrev S1024x8704 : Shape := ⟨2, ![1024, 8704]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S4096x4096, .bf16⟩
  | .hbm, ⟨5, _⟩ => ⟨S4x1024x8704, .bf16⟩
  | .hbm, ⟨6, _⟩ => ⟨S4096x8704, .bf16⟩
  | .hbm, ⟨7, _⟩ => ⟨S4096x8704, .f32⟩
  | .hbm, ⟨8, _⟩ => ⟨S1x1024x8704, .bf16⟩
  | .hbm, ⟨9, _⟩ => ⟨S1024x8704, .bf16⟩
  | .hbm, ⟨10, _⟩ => ⟨S1024x8704, .f32⟩
  | .hbm, ⟨11, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S4x1024x8704 : Shape := ⟨3, ![4, 1024, 8704]⟩
abbrev S4096x8704 : Shape := ⟨2, ![4096, 8704]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1024x8704, .bf16⟩
  | .hbm, ⟨2, _⟩ => ⟨S4096x8704, .f32⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .f32⟩
  | .local _ .vmem, ⟨4, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S4x1024x8704 : Shape := ⟨3, ![4, 1024, 8704]⟩
abbrev S1x1024x8704 : Shape := ⟨3, ![1, 1024, 8704]⟩
abbrev S1024x8704 : Shape := ⟨2, ![1024, 8704]⟩
abbrev S4096x8704 : Shape := ⟨2, ![4096, 8704]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x8704, .bf16⟩
  | .hbm, ⟨2, _⟩ => ⟨S4096x1024, .f32⟩
  | .hbm, ⟨3, _⟩ => ⟨S1x1024x8704, .bf16⟩
  | .hbm, ⟨4, _⟩ => ⟨S1024x8704, .bf16⟩
  | .hbm, ⟨5, _⟩ => ⟨S1024x8704, .f32⟩
  | .hbm, ⟨6, _⟩ => ⟨S4096x8704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x4096, .bf16⟩
  | .hbm, ⟨3, _⟩ => ⟨S4x4096x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S4096x1024 : Shape := ⟨2, ![4096, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩
abbrev S1x4096x1024 : Shape := ⟨3, ![1, 4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x4096, .bf16⟩
  | .hbm, ⟨3, _⟩ => ⟨S4x4096x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024x4096, .bf16⟩
  | .hbm, ⟨20, _⟩ => ⟨S1024x4096, .bf16⟩
  | .hbm, ⟨21, _⟩ => ⟨S1024x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096x1024, .bf16⟩
  | .hbm, ⟨28, _⟩ => ⟨S4096x1024, .bf16⟩
  | .hbm, ⟨29, _⟩ => ⟨S4096x1024, .f32⟩
  | .hbm, ⟨30, _⟩ => ⟨S4096x1024, .f32⟩
  | .hbm, ⟨31, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel8.lean ====
abbrev S4096x1024 : Shape := ⟨2, ![4096, 1024]⟩
abbrev S4096x512 : Shape := ⟨2, ![4096, 512]⟩
abbrev S4096x8704 : Shape := ⟨2, ![4096, 8704]⟩
abbrev S4x1024 : Shape := ⟨2, ![4, 1024]⟩
abbrev S4x4x512x1024 : Shape := ⟨4, ![4, 4, 512, 1024]⟩
abbrev S4x1024x1024 : Shape := ⟨3, ![4, 1024, 1024]⟩
abbrev S256x1024 : Shape := ⟨2, ![256, 1024]⟩
abbrev S256x512 : Shape := ⟨2, ![256, 512]⟩
abbrev S1x4x512x1024 : Shape := ⟨4, ![1, 4, 512, 1024]⟩
abbrev S1x1024x1024 : Shape := ⟨3, ![1, 1024, 1024]⟩
abbrev S1x1024 : Shape := ⟨2, ![1, 1024]⟩
abbrev S1x1x512x1024 : Shape := ⟨4, ![1, 1, 512, 1024]⟩
abbrev S512x1024 : Shape := ⟨2, ![512, 1024]⟩
abbrev S1024x1024 : Shape := ⟨2, ![1024, 1024]⟩

abbrev nBuf : Space → Nat
  | .hbm => 10
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x8704, .f32⟩
  | .hbm, ⟨6, _⟩ => ⟨S4x1024, .f32⟩
  | .hbm, ⟨7, _⟩ => ⟨S4x4x512x1024, .bf16⟩
  | .hbm, ⟨8, _⟩ => ⟨S4x1024x1024, .bf16⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S4x1024, .f32⟩
  | .local _ .vmem, ⟨27, _⟩ => ⟨S1x4x512x1024, .bf16⟩
  | .local _ .vmem, ⟨28, _⟩ => ⟨S1x1024x1024, .bf16⟩
  | .local _ .vmem, ⟨29, _⟩ => ⟨S256x1024, .f32⟩
  | .local _ .vmem, ⟨30, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_9 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_10 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_11 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_12 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference8Ideal.lean ====
abbrev S4096x1024 : Shape := ⟨2, ![4096, 1024]⟩
abbrev S4096x512 : Shape := ⟨2, ![4096, 512]⟩
abbrev S4096x8704 : Shape := ⟨2, ![4096, 8704]⟩
abbrev S4x1024 : Shape := ⟨2, ![4, 1024]⟩
abbrev S4x4x512x1024 : Shape := ⟨4, ![4, 4, 512, 1024]⟩
abbrev S4x1024x1024 : Shape := ⟨3, ![4, 1024, 1024]⟩
abbrev S4096x1x512 : Shape := ⟨3, ![4096, 1, 512]⟩
abbrev S4096x4x512 : Shape := ⟨3, ![4096, 4, 512]⟩
abbrev S1x4x512x1024 : Shape := ⟨4, ![1, 4, 512, 1024]⟩
abbrev S4x512x1024 : Shape := ⟨3, ![4, 512, 1024]⟩
abbrev S4x1024x4096 : Shape := ⟨3, ![4, 1024, 4096]⟩
abbrev S4096x4x1024 : Shape := ⟨3, ![4096, 4, 1024]⟩
abbrev S4096x4096 : Shape := ⟨2, ![4096, 4096]⟩
abbrev S1x4x1024 : Shape := ⟨3, ![1, 4, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x8704, .f32⟩
  | .hbm, ⟨6, _⟩ => ⟨S4x1024, .f32⟩
  | .hbm, ⟨7, _⟩ => ⟨S4x4x512x1024, .bf16⟩
  | .hbm, ⟨8, _⟩ => ⟨S4x1024x1024, .bf16⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x1x512, .f32⟩
  | .hbm, ⟨14, _⟩ => ⟨S4096x1x512, .f32⟩
  | .hbm, ⟨15, _⟩ => ⟨S4096x1x512, .f32⟩
  | .hbm, ⟨16, _⟩ => ⟨S4096x1x512, .f32⟩
  | .hbm, ⟨17, _⟩ => ⟨S4096x4x512, .f32⟩
  | .hbm, ⟨18, _⟩ => ⟨S1x4x512x1024, .bf16⟩
  | .hbm, ⟨19, _⟩ => ⟨S4x512x1024, .bf16⟩
  | .hbm, ⟨20, _⟩ => ⟨S4x512x1024, .f32⟩
  | .hbm, ⟨21, _⟩ => ⟨S4x1024x4096, .f32⟩
  | .hbm, ⟨22, _⟩ => ⟨S4096x4x1024, .f32⟩
  | .hbm, ⟨23, _⟩ => ⟨S4096x4096, .f32⟩
  | .hbm, ⟨24, _⟩ => ⟨S4096x4x1024, .f32⟩
  | .hbm, ⟨25, _⟩ => ⟨S1x4x1024, .f32⟩
  | .hbm, ⟨26, _⟩ => ⟨S4096x4x1024, .f32⟩
  | .hbm, ⟨27, _⟩ => ⟨S4096x4x1024, .f32⟩
  | .hbm, ⟨28, _⟩ => ⟨S4096x4x1024, .f32⟩
  | .hbm, ⟨29, _⟩ => ⟨S4096x4x1024, .f32⟩
  | .hbm, ⟨30, _⟩ => ⟨S_, .f32⟩
  | .hbm, ⟨31, _⟩ => ⟨S4096x4x1024, .f32⟩
  | .hbm, ⟨32, _⟩ => ⟨S4096x4x1024, .f32⟩
  | .hbm, ⟨33, _⟩ => ⟨S_, .f32⟩
  | .hbm, ⟨34, _⟩ => ⟨S4096x4x1024, .f32⟩
  | .hbm, ⟨35, _⟩ => ⟨S4096x4x1024, .f32⟩
  | .hbm, ⟨36, _⟩ => ⟨S4096x4x1024, .f32⟩
  | .hbm, ⟨37, _⟩ => ⟨S_, .f32⟩
  | .hbm, ⟨38, _⟩ => ⟨S4096x1024, .f32⟩
  | .hbm, ⟨39, _⟩ => ⟨S1x1024x1024, .bf16⟩
  | .hbm, ⟨40, _⟩ => ⟨S1024x1024, .bf16⟩
  | .hbm, ⟨41, _⟩ => ⟨S1024x1024, .f32⟩
  | .hbm, ⟨42, _⟩ => ⟨S4096x1024, .f32⟩
  | .hbm, ⟨43, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x512 : Shape := ⟨2, ![4096, 512]⟩
abbrev S4096x4096 : Shape := ⟨2, ![4096, 4096]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x512 : Shape := ⟨2, ![4096, 512]⟩
abbrev S4096x4096 : Shape := ⟨2, ![4096, 4096]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x512 : Shape := ⟨2, ![4096, 512]⟩
abbrev S4096x4096 : Shape := ⟨2, ![4096, 4096]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x512 : Shape := ⟨2, ![4096, 512]⟩
abbrev S4096x4096 : Shape := ⟨2, ![4096, 4096]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S4096x512 : Shape := ⟨2, ![4096, 512]⟩
abbrev S4096x4096 : Shape := ⟨2, ![4096, 4096]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x512 : Shape := ⟨2, ![4096, 512]⟩
abbrev S4096x4096 : Shape := ⟨2, ![4096, 4096]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x512 : Shape := ⟨2, ![4096, 512]⟩
abbrev S4096x4096 : Shape := ⟨2, ![4096, 4096]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x512 : Shape := ⟨2, ![4096, 512]⟩
abbrev S4096x4096 : Shape := ⟨2, ![4096, 4096]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel18.lean ====
abbrev S4096x1024 : Shape := ⟨2, ![4096, 1024]⟩
abbrev S1x1024 : Shape := ⟨2, ![1, 1024]⟩
abbrev S4x1024x1024 : Shape := ⟨3, ![4, 1024, 1024]⟩
abbrev S256x2048 : Shape := ⟨2, ![256, 2048]⟩
abbrev S256x1024 : Shape := ⟨2, ![256, 1024]⟩
abbrev S1x1024x1024 : Shape := ⟨3, ![1, 1024, 1024]⟩
abbrev S256 : Shape := ⟨1, ![256]⟩
abbrev S256x1 : Shape := ⟨2, ![256, 1]⟩
abbrev S1024x1024 : Shape := ⟨2, ![1024, 1024]⟩
abbrev S256x256 : Shape := ⟨2, ![256, 256]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4x1024x1024, .bf16⟩
  | .hbm, ⟨4, _⟩ => ⟨S256x2048, .bf16⟩
  | .hbm, ⟨5, _⟩ => ⟨S4x1024x1024, .bf16⟩
  | .hbm, ⟨6, _⟩ => ⟨S4096x1024, .f32⟩
  | .hbm, ⟨7, _⟩ => ⟨S1x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S256x1024, .f32⟩
  | .hbm, ⟨13, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference18Ideal.lean ====
abbrev S4096x1024 : Shape := ⟨2, ![4096, 1024]⟩
abbrev S1x1024 : Shape := ⟨2, ![1, 1024]⟩
abbrev S4x1024x1024 : Shape := ⟨3, ![4, 1024, 1024]⟩
abbrev S256x2048 : Shape := ⟨2, ![256, 2048]⟩
abbrev S1x1024x1024 : Shape := ⟨3, ![1, 1024, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S1024 : Shape := ⟨1, ![1024]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S4x1024x1024, .bf16⟩
  | 4 => ⟨S256x2048, .bf16⟩
  | 5 => ⟨S4x1024x1024, .bf16⟩
  | 6 => ⟨S1x1024x1024, .bf16⟩
  | 7 => ⟨S1024x1024, .bf16⟩
  | 8 => ⟨S1024x1024, .f32⟩
  | 9 => ⟨S1x1024x1024, .bf16⟩
  | 10 => ⟨S1024x1024, .bf16⟩
  | 11 => ⟨S1024x1024, .f32⟩
  | 12 => ⟨S256x1024, .bf16⟩
  | 13 => ⟨S256x1024, .f32⟩
  | 14 => ⟨S256x1024, .bf16⟩
  | 15 => ⟨S256x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x4x256, .f32⟩
  | 37 => ⟨S256x4x256, .f32⟩
  | 38 => ⟨S4x4096x256, .f32⟩
  | 39 => ⟨S_, .f32⟩
  | 40 => ⟨S4x4096x256, .f32⟩
  | 41 => ⟨S4x4096x256, .f32⟩
  | 42 => ⟨S_, .f32⟩
  | 43 => ⟨S4x4096, .f32⟩
  | 44 => ⟨S4x4096x1, .f32⟩
  | 45 => ⟨S4x4096x256, .f32⟩
  | 46 => ⟨S4x4096x256, .i1⟩
  | 47 => ⟨S4x4096x256, .f32⟩
  | 48 => ⟨S_, .f32⟩
  | 49 => ⟨S4x4096, .f32⟩
  | 50 => ⟨S_, .f32⟩
  | 51 => ⟨S4x4096, .f32⟩
  | 52 => ⟨S4x4096, .f32⟩
  | 53 => ⟨S_, .f32⟩
  | 54 => ⟨S4x4096, .f32⟩
  | 55 => ⟨S4x4096, .i1⟩
  | 56 => ⟨S_, .f32⟩
  | 57 => ⟨S4x4096, .f32⟩
  | 58 => ⟨S4x4096, .i1⟩
  | 59 => ⟨S_, .f32⟩
  | 60 => ⟨S4x4096, .f32⟩
  | 61 => ⟨S_, .f32⟩
  | 62 => ⟨S4x4096, .f32⟩
  | 63 => ⟨S_, .f32⟩
  | 64 => ⟨S4x4096, .f32⟩
  | 65 => ⟨S4x4096, .f32⟩
  | 66 => ⟨S4x4096, .f32⟩
  | 67 => ⟨S4x4096x1, .f32⟩
  | 68 => ⟨S4x4096x256, .f32⟩
  | 69 => ⟨S4x4096x256, .f32⟩
  | 70 => ⟨S4x4096x256, .f32⟩
  | 71 => ⟨S_, .f32⟩
  | 72 => ⟨S4x4096, .f32⟩
  | 73 => ⟨S4x4096x1, .f32⟩
  | 74 => ⟨S4x4096x256, .f32⟩
  | 75 => ⟨S4x4096x256, .f32⟩
  | 76 => ⟨S4x4096x1, .f32⟩
  | 77 => ⟨S_, .f32⟩
  | 78 => ⟨S4x4096x1, .f32⟩
  | 79 => ⟨S4x4096x1, .f32⟩
  | 80 => ⟨S256x4x256, .f32⟩
  | 81 => ⟨S4x256x4096, .f32⟩
  | 82 => ⟨S4096x4x256, .f32⟩
  | 83 => ⟨S4096x1024, .f32⟩
  | 84 => ⟨S4096x1024, .f32⟩
  | 85 => ⟨S4096x1024, .f32⟩
  | 86 => ⟨S4096x4x256, .f32⟩
  | 87 => ⟨S4x256x4096, .f32⟩
  | 88 => ⟨S4x4096x256, .f32⟩
  | 89 => ⟨S4x256x256, .f32⟩
  | 90 => ⟨S256x4x256, .f32⟩
  | 91 => ⟨S256x1024, .f32⟩
  | 92 => ⟨S4x4096x256, .f32⟩
  | 93 => ⟨S4x4096x256, .f32⟩
  | 94 => ⟨S4x4096x256, .f32⟩
  | 95 => ⟨S_, .f32⟩
  | 96 => ⟨S4x4096, .f32⟩
  | 97 => ⟨S4x4096x1, .f32⟩
  | 98 => ⟨S4x4096x1, .f32⟩
  | 99 => ⟨S4x4096x256, .f32⟩
  | 100 => ⟨S4x4096x256, .f32⟩
  | 101 => ⟨S_, .f32⟩
  | 102 => ⟨S4x4096, .f32⟩
  | 103 => ⟨S4x4096x256, .f32⟩
  | 104 => ⟨S4x4096x256, .f32⟩
  | 105 => ⟨S4x4096x256, .f32⟩
  | 106 => ⟨S_, .f32⟩
  | 107 => ⟨S4x4096x256, .f32⟩
  | 108 => ⟨S4x4096x256, .f32⟩
  | 109 => ⟨S4x256x256, .f32⟩
  | 110 => ⟨S256x4x256, .f32⟩
  | 111 => ⟨S4x4096x256, .f32⟩
  | 112 => ⟨S4096x4x256, .f32⟩
  | 113 => ⟨S256x1024, .f32⟩
  | 114 => ⟨S4096x1024, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .bf16⟩
  | 13 => ⟨S4096x1024, .bf16⟩
  | 14 => ⟨S4096x1024, .bf16⟩
  | 15 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_18 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_19 : Ref sig .tc := ⟨.hbm, 129, rfl⟩
abbrev main_v103 : Ref sig .tc := ⟨.hbm, 130, rfl⟩
abbrev main_v104 : Ref sig .tc := ⟨.hbm, 131, rfl⟩
abbrev main_cst_20 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Kernel19.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S8x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel20.lean ====
abbrev S4096x2176 : Shape := ⟨2, ![4096, 2176]⟩
abbrev S128x2176 : Shape := ⟨2, ![128, 2176]⟩

abbrev nBuf : Space → Nat
  | .hbm => 9
  | .vmem => 18
  | .smem => 0
  | _ => 0

abbrev bufTy : (tb : Table) → Fin (tcTables nBuf tb) → BufTy
  | .hbm, ⟨0, _⟩ => ⟨S4096x2176, .f32⟩
  | .hbm, ⟨1, _⟩ => ⟨S4096x2176, .f32⟩
  | .hbm, ⟨2, _⟩ => ⟨S4096x2176, .f32⟩
  | .hbm, ⟨3, _⟩ => ⟨S4096x2176, .f32⟩
  | .hbm, ⟨4, _⟩ => ⟨S4096x2176, .f32⟩
  | .hbm, ⟨5, _⟩ => ⟨S4096x2176, .f32⟩
  | .hbm, ⟨6, _⟩ => ⟨S4096x2176, .f32⟩
  | .hbm, ⟨7, _⟩ => ⟨S4096x2176, .f32⟩
  | .hbm, ⟨8, _⟩ => ⟨S4096x2176, .f32⟩
  | .local _ .vmem, ⟨0, _⟩ => ⟨S128x2176, .f32⟩
  | .local _ .vmem, ⟨1, _⟩ => ⟨S128x2176, .f32⟩
  | .local _ .vmem, ⟨2, _⟩ => ⟨S128x2176, .f32⟩
  | .local _ .vmem, ⟨3, _⟩ => ⟨S128x2176, .f32⟩
  | .local _ .vmem, ⟨4, _⟩ => ⟨S128x2176, .f32⟩
  | .local _ .vmem, ⟨5, _⟩ => ⟨S128x2176, .f32⟩
  | .local _ .vmem, ⟨6, _⟩ => ⟨S128x2176, .f32⟩
  | .local _ .vmem, ⟨7, _⟩ => ⟨S128x2176, .f32⟩
  | .local _ .vmem, ⟨8, _⟩ => ⟨S128x2176, .f32⟩
  | .local _ .vmem, ⟨9, _⟩ => ⟨S128x2176, .f32⟩
  | .local _ .vmem, ⟨10, _⟩ => ⟨S128x2176, .f32⟩
  | .local _ .vmem, ⟨11, _⟩ => ⟨S128x2176, .f32⟩
  | .local _ .vmem, ⟨12, _⟩ => ⟨S128x2176, .f32⟩
  | .local _ .vmem, ⟨13, _⟩ => ⟨S128x2176, .f32⟩
  | .local _ .vmem, ⟨14, _⟩ => ⟨S128x2176, .f32⟩
  | .local _ .vmem, ⟨15, _⟩ => ⟨S128x2176, .f32⟩
  | .local _ .vmem, ⟨16, _⟩ => ⟨S128x2176, .f32⟩
  | .local _ .vmem, ⟨17, _⟩ => ⟨S128x2176, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2176 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S4096x2176 : Shape := ⟨2, ![4096, 2176]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S4096x2176, .f32⟩
  | .hbm, ⟨2, _⟩ => ⟨S4096x2176, .f32⟩
  | .hbm, ⟨3, _⟩ => ⟨S4096x2176, .f32⟩
  | .hbm, ⟨4, _⟩ => ⟨S4096x2176, .f32⟩
  | .hbm, ⟨5, _⟩ => ⟨S4096x2176, .f32⟩
  | .hbm, ⟨6, _⟩ => ⟨S_, .f32⟩
  | .hbm, ⟨7, _⟩ => ⟨S4096x2176, .f32⟩
  | .hbm, ⟨8, _⟩ => ⟨S4096x2176, .f32⟩
  | .hbm, ⟨9, _⟩ => ⟨S_, .f32⟩
  | .hbm, ⟨10, _⟩ => ⟨S4096x2176, .f32⟩
  | .hbm, ⟨11, _⟩ => ⟨S4096x2176, .f32⟩
  | .hbm, ⟨12, _⟩ => ⟨S4096x2176, .f32⟩
  | .hbm, ⟨13, _⟩ => ⟨S_, .f32⟩
  | .hbm, ⟨14, _⟩ => ⟨S4096x2176, .f32⟩
  | .hbm, ⟨15, _⟩ => ⟨S4096x2176, .f32⟩
  | .hbm, ⟨16, _⟩ => ⟨S4096x2176, .f32⟩
  | .hbm, ⟨17, _⟩ => ⟨S_, .f32⟩
  | .hbm, ⟨18, _⟩ => ⟨S4096x2176, .f32⟩
  | .hbm, ⟨19, _⟩ => ⟨S4096x2176, .f32⟩
  | .hbm, ⟨20, _⟩ => ⟨S4096x2176, .f32⟩
  | .hbm, ⟨21, _⟩ => ⟨S_, .f32⟩
  | .hbm, ⟨22, _⟩ => ⟨S4096x2176, .f32⟩
  | .hbm, ⟨23, _⟩ => ⟨S4096x2176, .f32⟩
  | .hbm, ⟨24, _⟩ => ⟨S_, .f32⟩
  | .hbm, ⟨25, _⟩ => ⟨S4096x2176, .f32⟩
  | .hbm, ⟨26, _⟩ => ⟨S4096x2176, .f32⟩
  | .hbm, ⟨27, _⟩ => ⟨S4096x2176, .f32⟩
  | .hbm, ⟨28, _⟩ => ⟨S_, .f32⟩
  | .hbm, ⟨29, _⟩ => ⟨S4096x2176, .f32⟩
  | .hbm, ⟨30, _⟩ => ⟨S4096x2176, .f32⟩
  | .hbm, ⟨31, _⟩ => ⟨S4096x2176, .f32⟩
  | .hbm, ⟨32, _⟩ => ⟨S_, .f32⟩
  | .hbm, ⟨33, _⟩ => ⟨S4096x2176, .f32⟩
  | .hbm, ⟨34, _⟩ => ⟨S4096x2176, .f32⟩
  | .hbm, ⟨35, _⟩ => ⟨S4096x2176, .f32⟩
  | .hbm, ⟨36, _⟩ => ⟨S_, .f32⟩
  | .hbm, ⟨37, _⟩ => ⟨S4096x2176, .f32⟩
  | .hbm, ⟨38, _⟩ => ⟨S4096x2176, .f32⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8192x256 : Shape := ⟨2, ![8192, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S8192x256 : Shape := ⟨2, ![8192, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S1024x1024 : Shape := ⟨2, ![1024, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S4096x512 : Shape := ⟨2, ![4096, 512]⟩
abbrev S128x512 : Shape := ⟨2, ![128, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S4096x512 : Shape := ⟨2, ![4096, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S4096x1024 : Shape := ⟨2, ![4096, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S4096x1024 : Shape := ⟨2, ![4096, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S4608x128 : Shape := ⟨2, ![4608, 128]⟩
abbrev S128x128 : Shape := ⟨2, ![128, 128]⟩

abbrev nBuf : Space → Nat
  | .hbm => 7
  | .vmem => 14
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4608x128 : Shape := ⟨2, ![4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S4608x128, .f32⟩
  | .hbm, ⟨11, _⟩ => ⟨S_, .f32⟩
  | .hbm, ⟨12, _⟩ => ⟨S4608x128, .f32⟩
  | .hbm, ⟨13, _⟩ => ⟨S4608x128, .f32⟩
  | .hbm, ⟨14, _⟩ => ⟨S4608x128, .f32⟩
  | .hbm, ⟨15, _⟩ => ⟨S_, .f32⟩
  | .hbm, ⟨16, _⟩ => ⟨S4608x128, .f32⟩
  | .hbm, ⟨17, _⟩ => ⟨S4608x128, .f32⟩
  | .hbm, ⟨18, _⟩ => ⟨S4608x128, .f32⟩
  | .hbm, ⟨19, _⟩ => ⟨S_, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S4608x128, .f32⟩
  | .hbm, ⟨26, _⟩ => ⟨S_, .f32⟩
  | .hbm, ⟨27, _⟩ => ⟨S4608x128, .f32⟩
  | .hbm, ⟨28, _⟩ => ⟨S4608x128, .f32⟩
  | .hbm, ⟨29, _⟩ => ⟨S4608x128, .f32⟩
  | .hbm, ⟨30, _⟩ => ⟨S_, .f32⟩
  | .hbm, ⟨31, _⟩ => ⟨S4608x128, .f32⟩
  | .hbm, ⟨32, _⟩ => ⟨S4608x128, .f32⟩
  | .hbm, ⟨33, _⟩ => ⟨S4608x128, .f32⟩
  | .hbm, ⟨34, _⟩ => ⟨S_, .f32⟩
  | .hbm, ⟨35, _⟩ => ⟨S4608x128, .f32⟩
  | .hbm, ⟨36, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S4x5120x128 : Shape := ⟨3, ![4, 5120, 128]⟩
abbrev S8x128 : Shape := ⟨2, ![8, 128]⟩
abbrev S5120x128 : Shape := ⟨2, ![5120, 128]⟩
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 3
  | .vmem => 4
  | .smem => 0
  | _ => 0

abbrev bufTy : (tb : Table) → Fin (tcTables nBuf tb) → BufTy
  | .hbm, ⟨0, _⟩ => ⟨S4x5120x128, .f32⟩
  | .hbm, ⟨1, _⟩ => ⟨S8x128, .f32⟩
  | .hbm, ⟨2, _⟩ => ⟨S5120x128, .f32⟩
  | .local _ .vmem, ⟨0, _⟩ => ⟨S4x512x128, .f32⟩
  | .local _ .vmem, ⟨1, _⟩ => ⟨S4x512x128, .f32⟩
  | .local _ .vmem, ⟨2, _⟩ => ⟨S512x128, .f32⟩
  | .local _ .vmem, ⟨3, _⟩ => ⟨S512x128, .f32⟩
  | _, _ => ⟨S4x5120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference26Ideal.lean ====
abbrev S4x5120x128 : Shape := ⟨3, ![4, 5120, 128]⟩
abbrev S8x128 : Shape := ⟨2, ![8, 128]⟩
abbrev S_ : Shape := ⟨0, ![]⟩
abbrev S5120x128 : Shape := ⟨2, ![5120, 128]⟩

abbrev nBuf : Space → Nat
  | .hbm => 4
  | .vmem => 0
  | .smem => 0
  | _ => 0

abbrev bufTy : (tb : Table) → Fin (tcTables nBuf tb) → BufTy
  | .hbm, ⟨0, _⟩ => ⟨S4x5120x128, .f32⟩
  | .hbm, ⟨1, _⟩ => ⟨S8x128, .f32⟩
  | .hbm, ⟨2, _⟩ => ⟨S_, .f32⟩
  | .hbm, ⟨3, _⟩ => ⟨S5120x128, .f32⟩
  | _, _ => ⟨S4x5120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel27.lean ====
abbrev S4096x1024 : Shape := ⟨2, ![4096, 1024]⟩
abbrev S1x1024 : Shape := ⟨2, ![1, 1024]⟩
abbrev S4x1024x1024 : Shape := ⟨3, ![4, 1024, 1024]⟩
abbrev S256x2048 : Shape := ⟨2, ![256, 2048]⟩
abbrev S256x1024 : Shape := ⟨2, ![256, 1024]⟩
abbrev S1x1024x1024 : Shape := ⟨3, ![1, 1024, 1024]⟩
abbrev S256 : Shape := ⟨1, ![256]⟩
abbrev S256x1 : Shape := ⟨2, ![256, 1]⟩
abbrev S1024x1024 : Shape := ⟨2, ![1024, 1024]⟩
abbrev S256x256 : Shape := ⟨2, ![256, 256]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S256x2048, .bf16⟩
  | .hbm, ⟨4, _⟩ => ⟨S4x1024x1024, .bf16⟩
  | .hbm, ⟨5, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024x1024, .bf16⟩
  | .local _ .vmem, ⟨7, _⟩ => ⟨S256x1024, .f32⟩
  | .local _ .vmem, ⟨8, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S4096x1024 : Shape := ⟨2, ![4096, 1024]⟩
abbrev S1x1024 : Shape := ⟨2, ![1, 1024]⟩
abbrev S4x1024x1024 : Shape := ⟨3, ![4, 1024, 1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S256x2048, .bf16⟩
  | .hbm, ⟨4, _⟩ => ⟨S4x1024x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024x1024, .bf16⟩
  | .hbm, ⟨21, _⟩ => ⟨S1024x1024, .bf16⟩
  | .hbm, ⟨22, _⟩ => ⟨S1024x1024, .f32⟩
  | .hbm, ⟨23, _⟩ => ⟨S4096x1024, .f32⟩
  | .hbm, ⟨24, _⟩ => ⟨S4096x4x256, .f32⟩
  | .hbm, ⟨25, _⟩ => ⟨S256x1024, .bf16⟩
  | .hbm, ⟨26, _⟩ => ⟨S256x1024, .f32⟩
  | .hbm, ⟨27, _⟩ => ⟨S256x4x256, .f32⟩
  | .hbm, ⟨28, _⟩ => ⟨S256x1024, .bf16⟩
  | .hbm, ⟨29, _⟩ => ⟨S256x1024, .f32⟩
  | .hbm, ⟨30, _⟩ => ⟨S256x4x256, .f32⟩
  | .hbm, ⟨31, _⟩ => ⟨S4x4096x256, .f32⟩
  | .hbm, ⟨32, _⟩ => ⟨S_, .f32⟩
  | .hbm, ⟨33, _⟩ => ⟨S4x4096x256, .f32⟩
  | .hbm, ⟨34, _⟩ => ⟨S4x4096x256, .f32⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x256x4096, .f32⟩
  | .hbm, ⟨50, _⟩ => ⟨S4096x4x256, .f32⟩
  | .hbm, ⟨51, _⟩ => ⟨S4096x1024, .f32⟩
  | .hbm, ⟨52, _⟩ => ⟨S1x1024x1024, .bf16⟩
  | .hbm, ⟨53, _⟩ => ⟨S1024x1024, .bf16⟩
  | .hbm, ⟨54, _⟩ => ⟨S1024x1024, .f32⟩
  | .hbm, ⟨55, _⟩ => ⟨S4096x1024, .f32⟩
  | .hbm, ⟨56, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel28.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel29.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference29Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S256x1024 : Shape := ⟨2, ![256, 1024]⟩
abbrev S4x1024x2048 : Shape := ⟨3, ![4, 1024, 2048]⟩
abbrev S256x2048 : Shape := ⟨2, ![256, 2048]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S4x1024x2048, .bf16⟩
  | .hbm, ⟨2, _⟩ => ⟨S256x2048, .bf16⟩
  | .local _ .vmem, ⟨0, _⟩ => ⟨S256x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S256x1024 : Shape := ⟨2, ![256, 1024]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x1024x2048, .bf16⟩
  | .hbm, ⟨2, _⟩ => ⟨S256x1024, .f32⟩
  | .hbm, ⟨3, _⟩ => ⟨S1x1024x2048, .bf16⟩
  | .hbm, ⟨4, _⟩ => ⟨S1024x2048, .bf16⟩
  | .hbm, ⟨5, _⟩ => ⟨S1024x2048, .f32⟩
  | .hbm, ⟨6, _⟩ => ⟨S256x2048, .f32⟩
  | .hbm, ⟨7, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel31.lean ====
abbrev S256x1024 : Shape := ⟨2, ![256, 1024]⟩
abbrev S256x2048 : Shape := ⟨2, ![256, 2048]⟩
abbrev S1024x2048 : Shape := ⟨2, ![1024, 2048]⟩
abbrev S256x512 : Shape := ⟨2, ![256, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S512x512, .bf16⟩
  | .local _ .vmem, ⟨5, _⟩ => ⟨S512x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S256x1024 : Shape := ⟨2, ![256, 1024]⟩
abbrev S256x2048 : Shape := ⟨2, ![256, 2048]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S2048x1024, .f32⟩
  | .hbm, ⟨4, _⟩ => ⟨S1024x2048, .f32⟩
  | .hbm, ⟨5, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel32.lean ====
abbrev S256x2048 : Shape := ⟨2, ![256, 2048]⟩
abbrev S4x1024x2048 : Shape := ⟨3, ![4, 1024, 2048]⟩
abbrev S256x1024 : Shape := ⟨2, ![256, 1024]⟩
abbrev S1x512x2048 : Shape := ⟨3, ![1, 512, 2048]⟩
abbrev S256x512 : Shape := ⟨2, ![256, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S4x1024x2048, .bf16⟩
  | .hbm, ⟨2, _⟩ => ⟨S256x1024, .f32⟩
  | .local _ .vmem, ⟨0, _⟩ => ⟨S256x2048, .f32⟩
  | .local _ .vmem, ⟨1, _⟩ => ⟨S1x512x2048, .bf16⟩
  | .local _ .vmem, ⟨2, _⟩ => ⟨S1x512x2048, .bf16⟩
  | .local _ .vmem, ⟨3, _⟩ => ⟨S256x512, .f32⟩
  | .local _ .vmem, ⟨4, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S256x2048 : Shape := ⟨2, ![256, 2048]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x1024x2048, .bf16⟩
  | .hbm, ⟨2, _⟩ => ⟨S1x1024x2048, .bf16⟩
  | .hbm, ⟨3, _⟩ => ⟨S1024x2048, .bf16⟩
  | .hbm, ⟨4, _⟩ => ⟨S1024x2048, .f32⟩
  | .hbm, ⟨5, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel33.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference33Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel34.lean ====
abbrev S4096x8704 : Shape := ⟨2, ![4096, 8704]⟩
abbrev S4x128x128 : Shape := ⟨3, ![4, 128, 128]⟩
abbrev S1x512 : Shape := ⟨2, ![1, 512]⟩
abbrev S4096x512 : Shape := ⟨2, ![4096, 512]⟩
abbrev S256x512 : Shape := ⟨2, ![256, 512]⟩
abbrev S16x512 : Shape := ⟨2, ![16, 512]⟩
abbrev S272x512 : Shape := ⟨2, ![272, 512]⟩
abbrev S256x1 : Shape := ⟨2, ![256, 1]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x8704, .f32⟩
  | .hbm, ⟨1, _⟩ => ⟨S4x128x128, .f32⟩
  | .hbm, ⟨2, _⟩ => ⟨S1x512, .f32⟩
  | .hbm, ⟨3, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference34Ideal.lean ====
abbrev S4096x8704 : Shape := ⟨2, ![4096, 8704]⟩
abbrev S4x128x128 : Shape := ⟨3, ![4, 128, 128]⟩
abbrev S1x512 : Shape := ⟨2, ![1, 512]⟩
abbrev S4096x512 : Shape := ⟨2, ![4096, 512]⟩
abbrev S4096 : Shape := ⟨1, ![4096]⟩
abbrev S4096x128 : Shape := ⟨2, ![4096, 128]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x128x128 : Shape := ⟨3, ![1, 128, 128]⟩
abbrev S128x128 : Shape := ⟨2, ![128, 128]⟩

abbrev nBuf : Space → Nat
  | .hbm => 133
  | .vmem => 0
  | .smem => 0
  | _ => 0

abbrev hbmTy0_0 (i : Nat) : BufTy := match i % 128 with
  | 0 => ⟨S4096x8704, .f32⟩
  | 1 => ⟨S4x128x128, .f32⟩
  | 2 => ⟨S1x512, .f32⟩
  | 3 => ⟨S4096x512, .f32⟩
  | 4 => ⟨S4096, .i32⟩
  | 5 => ⟨S4096x128, .f32⟩
  | 6 => ⟨S1x4096, .i32⟩
  | 7 => ⟨S4096x1, .i32⟩
  | 8 => ⟨S4096x4096, .i32⟩
  | 9 => ⟨S4096x4096, .i32⟩
  | 10 => ⟨S4096x4096, .i1⟩
  | 11 => ⟨S4096x1, .i32⟩
  | 12 => ⟨S1x4096, .i32⟩
  | 13 => ⟨S_, .i32⟩
  | 14 => ⟨S1x4096, .i32⟩
  | 15 => ⟨S1x4096, .i32⟩
  | 16 => ⟨S4096x4096, .i32⟩
  | 17 => ⟨S4096x4096, .i32⟩
  | 18 => ⟨S4096x4096, .i1⟩
  | 19 => ⟨S4096x4096, .i1⟩
  | 20 => ⟨S4096x4096, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S4096x128, .f32⟩
  | 29 => ⟨S4096x1, .f32⟩
  | 30 => ⟨S4096x128, .f32⟩
  | 31 => ⟨S4096x128, .f32⟩
  | 32 => ⟨S4096x128, .f32⟩
  | 33 => ⟨S1x128x128, .f32⟩
  | 34 => ⟨S128x128, .f32⟩
  | 35 => ⟨S4096x128, .f32⟩
  | 36 => ⟨S4096x128, .f32⟩
  | 37 => ⟨S1x4096, .i32⟩
  | 38 => ⟨S4096x1, .i32⟩
  | 39 => ⟨S4096x4096, .i32⟩
  | 40 => ⟨S4096x4096, .i32⟩
  | 41 => ⟨S4096x4096, .i1⟩
  | 42 => ⟨S4096x1, .i32⟩
  | 43 => ⟨S1x4096, .i32⟩
  | 44 => ⟨S_, .i32⟩
  | 45 => ⟨S1x4096, .i32⟩
  | 46 => ⟨S1x4096, .i32⟩
  | 47 => ⟨S4096x4096, .i32⟩
  | 48 => ⟨S4096x4096, .i32⟩
  | 49 => ⟨S4096x4096, .i1⟩
  | 50 => ⟨S4096x4096, .i1⟩
  | 51 => ⟨S4096x4096, .f32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .f32⟩
  | 59 => ⟨S4096x128, .f32⟩
  | 60 => ⟨S4096x1, .f32⟩
  | 61 => ⟨S4096x128, .f32⟩
  | 62 => ⟨S4096x128, .f32⟩
  | 63 => ⟨S4096x128, .f32⟩
  | 64 => ⟨S1x128x128, .f32⟩
  | 65 => ⟨S128x128, .f32⟩
  | 66 => ⟨S4096x128, .f32⟩
  | 67 => ⟨S4096x128, .f32⟩
  | 68 => ⟨S1x4096, .i32⟩
  | 69 => ⟨S4096x1, .i32⟩
  | 70 => ⟨S4096x4096, .i32⟩
  | 71 => ⟨S4096x4096, .i32⟩
  | 72 => ⟨S4096x4096, .i1⟩
  | 73 => ⟨S4096x1, .i32⟩
  | 74 => ⟨S1x4096, .i32⟩
  | 75 => ⟨S_, .i32⟩
  | 76 => ⟨S1x4096, .i32⟩
  | 77 => ⟨S1x4096, .i32⟩
  | 78 => ⟨S4096x4096, .i32⟩
  | 79 => ⟨S4096x4096, .i32⟩
  | 80 => ⟨S4096x4096, .i1⟩
  | 81 => ⟨S4096x4096, .i1⟩
  | 82 => ⟨S4096x4096, .f32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .f32⟩
  | 90 => ⟨S4096x128, .f32⟩
  | 91 => ⟨S4096x1, .f32⟩
  | 92 => ⟨S4096x128, .f32⟩
  | 93 => ⟨S4096x128, .f32⟩
  | 94 => ⟨S4096x128, .f32⟩
  | 95 => ⟨S1x128x128, .f32⟩
  | 96 => ⟨S128x128, .f32⟩
  | 97 => ⟨S4096x128, .f32⟩
  | 98 => ⟨S4096x128, .f32⟩
  | 99 => ⟨S1x4096, .i32⟩
  | 100 => ⟨S4096x1, .i32⟩
  | 101 => ⟨S4096x4096, .i32⟩
  | 102 => ⟨S4096x4096, .i32⟩
  | 103 => ⟨S4096x4096, .i1⟩
  | 104 => ⟨S4096x1, .i32⟩
  | 105 => ⟨S1x4096, .i32⟩
  | 106 => ⟨S_, .i32⟩
  | 107 => ⟨S1x4096, .i32⟩
  | 108 => ⟨S1x4096, .i32⟩
  | 109 => ⟨S4096x4096, .i32⟩
  | 110 => ⟨S4096x4096, .i32⟩
  | 111 => ⟨S4096x4096, .i1⟩
  | 112 => ⟨S4096x4096, .i1⟩
  | 113 => ⟨S4096x4096, .f32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096, .f32⟩
  | 121 => ⟨S4096x128, .f32⟩
  | 122 => ⟨S4096x1, .f32⟩
  | 123 => ⟨S4096x128, .f32⟩
  | 124 => ⟨S4096x128, .f32⟩
  | 125 => ⟨S4096x128, .f32⟩
  | 126 => ⟨S1x128x128, .f32⟩
  | 127 => ⟨S128x128, .f32⟩
  | _ => ⟨S4096x8704, .f32⟩

abbrev hbmTy0_1 (i : Nat) : BufTy := match i % 128 with
  | 0 => ⟨S4096x128, .f32⟩
  | 1 => ⟨S4096x512, .f32⟩
  | 2 => ⟨S4096x512, .f32⟩
  | 3 => ⟨S4096x512, .f32⟩
  | 4 => ⟨S4096x512, .bf16⟩
  | _ => ⟨S4096x8704, .f32⟩

abbrev hbmTy (i : Nat) : BufTy := match i / 128 with
  | 0 => hbmTy0_0 i
  | 1 => hbmTy0_1 i
  | _ => ⟨S4096x8704, .f32⟩

abbrev bufTy : (tb : Table) → Fin (tcTables nBuf tb) → BufTy
  | .hbm, ⟨i, _⟩ => hbmTy i
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_c_3 : Ref sig .tc := ⟨.hbm, 52, rfl⟩
abbrev main_v45 : Ref sig .tc := ⟨.hbm, 53, rfl⟩
abbrev main_v46 : Ref sig .tc := ⟨.hbm, 54, rfl⟩
abbrev main_c_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_c_5 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_c_6 : Ref sig .tc := ⟨.hbm, 83, rfl⟩
abbrev main_v73 : Ref sig .tc := ⟨.hbm, 84, rfl⟩
abbrev main_v74 : Ref sig .tc := ⟨.hbm, 85, rfl⟩
abbrev main_c_7 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_c_8 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_c_9 : Ref sig .tc := ⟨.hbm, 114, rfl⟩
abbrev main_v101 : Ref sig .tc := ⟨.hbm, 115, rfl⟩
abbrev main_v102 : Ref sig .tc := ⟨.hbm, 116, rfl⟩
abbrev main_c_10 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩

abbrev nD : Nat := 1
abbrev τ : Topo := Topo.v7x

variable {F : FTy → Type} [FloatOps F]
-- ==== Kernel35.lean ====
abbrev S4096x8704 : Shape := ⟨2, ![4096, 8704]⟩
abbrev S4096x512 : Shape := ⟨2, ![4096, 512]⟩
abbrev S4x128x128 : Shape := ⟨3, ![4, 128, 128]⟩
abbrev S1x512 : Shape := ⟨2, ![1, 512]⟩
abbrev S256x512 : Shape := ⟨2, ![256, 512]⟩
abbrev S16x512 : Shape := ⟨2, ![16, 512]⟩
abbrev S272x512 : Shape := ⟨2, ![272, 512]⟩
abbrev S256x1 : Shape := ⟨2, ![256, 1]⟩
abbrev S272x128 : Shape := ⟨2, ![272, 128]⟩
abbrev S256x128 : Shape := ⟨2, ![256, 128]⟩
abbrev S272x1 : Shape := ⟨2, ![272, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S4096x8704, .f32⟩
  | .hbm, ⟨1, _⟩ => ⟨S4096x512, .f32⟩
  | .hbm, ⟨2, _⟩ => ⟨S4x128x128, .f32⟩
  | .hbm, ⟨3, _⟩ => ⟨S1x512, .f32⟩
  | .hbm, ⟨4, _⟩ => ⟨S4096x512, .bf16⟩
  | .hbm, ⟨5, _⟩ => ⟨S4x128x128, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S256x512, .f32⟩
  | .local _ .vmem, ⟨5, _⟩ => ⟨S256x512, .f32⟩
  | .local _ .vmem, ⟨6, _⟩ => ⟨S16x512, .f32⟩
  | .local _ .vmem, ⟨7, _⟩ => ⟨S16x512, .f32⟩
  | .local _ .vmem, ⟨8, _⟩ => ⟨S4x128x128, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S4x128x128, .f32⟩
  | .local _ .vmem, ⟨13, _⟩ => ⟨S1x512, .f32⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference35Ideal.lean ====
abbrev S4096x8704 : Shape := ⟨2, ![4096, 8704]⟩
abbrev S4096x512 : Shape := ⟨2, ![4096, 512]⟩
abbrev S4x128x128 : Shape := ⟨3, ![4, 128, 128]⟩
abbrev S1x512 : Shape := ⟨2, ![1, 512]⟩
abbrev S4096 : Shape := ⟨1, ![4096]⟩
abbrev S4096x128 : Shape := ⟨2, ![4096, 128]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x128x128 : Shape := ⟨3, ![1, 128, 128]⟩
abbrev S128x128 : Shape := ⟨2, ![128, 128]⟩
abbrev S512 : Shape := ⟨1, ![512]⟩
abbrev S128x4096 : Shape := ⟨2, ![128, 4096]⟩

abbrev nBuf : Space → Nat
  | .hbm => 206
  | .vmem => 0
  | .smem => 0
  | _ => 0

abbrev hbmTy0_0 (i : Nat) : BufTy := match i % 128 with
  | 0 => ⟨S4096x8704, .f32⟩
  | 1 => ⟨S4096x512, .f32⟩
  | 2 => ⟨S4x128x128, .f32⟩
  | 3 => ⟨S1x512, .f32⟩
  | 4 => ⟨S4096x512, .f32⟩
  | 5 => ⟨S4096, .i32⟩
  | 6 => ⟨S4096x128, .f32⟩
  | 7 => ⟨S1x4096, .i32⟩
  | 8 => ⟨S4096x1, .i32⟩
  | 9 => ⟨S4096x4096, .i32⟩
  | 10 => ⟨S4096x4096, .i32⟩
  | 11 => ⟨S4096x4096, .i1⟩
  | 12 => ⟨S4096x1, .i32⟩
  | 13 => ⟨S1x4096, .i32⟩
  | 14 => ⟨S_, .i32⟩
  | 15 => ⟨S1x4096, .i32⟩
  | 16 => ⟨S1x4096, .i32⟩
  | 17 => ⟨S4096x4096, .i32⟩
  | 18 => ⟨S4096x4096, .i32⟩
  | 19 => ⟨S4096x4096, .i1⟩
  | 20 => ⟨S4096x4096, .i1⟩
  | 21 => ⟨S4096x4096, .f32⟩
  | 22 => ⟨S_, .i32⟩
  | 23 => ⟨S4096, .i32⟩
  | 24 => ⟨S4096, .i32⟩
  | 25 => ⟨S_, .i32⟩
  | 26 => ⟨S4096, .i32⟩
  | 27 => ⟨S4096, .i32⟩
  | 28 => ⟨S4096, .f32⟩
  | 29 => ⟨S4096x128, .f32⟩
  | 30 => ⟨S4096x1, .f32⟩
  | 31 => ⟨S4096x128, .f32⟩
  | 32 => ⟨S4096x128, .f32⟩
  | 33 => ⟨S4096x128, .f32⟩
  | 34 => ⟨S1x128x128, .f32⟩
  | 35 => ⟨S128x128, .f32⟩
  | 36 => ⟨S4096x128, .f32⟩
  | 37 => ⟨S4096x128, .f32⟩
  | 38 => ⟨S1x4096, .i32⟩
  | 39 => ⟨S4096x1, .i32⟩
  | 40 => ⟨S4096x4096, .i32⟩
  | 41 => ⟨S4096x4096, .i32⟩
  | 42 => ⟨S4096x4096, .i1⟩
  | 43 => ⟨S4096x1, .i32⟩
  | 44 => ⟨S1x4096, .i32⟩
  | 45 => ⟨S_, .i32⟩
  | 46 => ⟨S1x4096, .i32⟩
  | 47 => ⟨S1x4096, .i32⟩
  | 48 => ⟨S4096x4096, .i32⟩
  | 49 => ⟨S4096x4096, .i32⟩
  | 50 => ⟨S4096x4096, .i1⟩
  | 51 => ⟨S4096x4096, .i1⟩
  | 52 => ⟨S4096x4096, .f32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S4096, .f32⟩
  | 60 => ⟨S4096x128, .f32⟩
  | 61 => ⟨S4096x1, .f32⟩
  | 62 => ⟨S4096x128, .f32⟩
  | 63 => ⟨S4096x128, .f32⟩
  | 64 => ⟨S4096x128, .f32⟩
  | 65 => ⟨S1x128x128, .f32⟩
  | 66 => ⟨S128x128, .f32⟩
  | 67 => ⟨S4096x128, .f32⟩
  | 68 => ⟨S4096x128, .f32⟩
  | 69 => ⟨S1x4096, .i32⟩
  | 70 => ⟨S4096x1, .i32⟩
  | 71 => ⟨S4096x4096, .i32⟩
  | 72 => ⟨S4096x4096, .i32⟩
  | 73 => ⟨S4096x4096, .i1⟩
  | 74 => ⟨S4096x1, .i32⟩
  | 75 => ⟨S1x4096, .i32⟩
  | 76 => ⟨S_, .i32⟩
  | 77 => ⟨S1x4096, .i32⟩
  | 78 => ⟨S1x4096, .i32⟩
  | 79 => ⟨S4096x4096, .i32⟩
  | 80 => ⟨S4096x4096, .i32⟩
  | 81 => ⟨S4096x4096, .i1⟩
  | 82 => ⟨S4096x4096, .i1⟩
  | 83 => ⟨S4096x4096, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S4096x128, .f32⟩
  | 92 => ⟨S4096x1, .f32⟩
  | 93 => ⟨S4096x128, .f32⟩
  | 94 => ⟨S4096x128, .f32⟩
  | 95 => ⟨S4096x128, .f32⟩
  | 96 => ⟨S1x128x128, .f32⟩
  | 97 => ⟨S128x128, .f32⟩
  | 98 => ⟨S4096x128, .f32⟩
  | 99 => ⟨S4096x128, .f32⟩
  | 100 => ⟨S1x4096, .i32⟩
  | 101 => ⟨S4096x1, .i32⟩
  | 102 => ⟨S4096x4096, .i32⟩
  | 103 => ⟨S4096x4096, .i32⟩
  | 104 => ⟨S4096x4096, .i1⟩
  | 105 => ⟨S4096x1, .i32⟩
  | 106 => ⟨S1x4096, .i32⟩
  | 107 => ⟨S_, .i32⟩
  | 108 => ⟨S1x4096, .i32⟩
  | 109 => ⟨S1x4096, .i32⟩
  | 110 => ⟨S4096x4096, .i32⟩
  | 111 => ⟨S4096x4096, .i32⟩
  | 112 => ⟨S4096x4096, .i1⟩
  | 113 => ⟨S4096x4096, .i1⟩
  | 114 => ⟨S4096x4096, .f32⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S4096, .f32⟩
  | 122 => ⟨S4096x128, .f32⟩
  | 123 => ⟨S4096x1, .f32⟩
  | 124 => ⟨S4096x128, .f32⟩
  | 125 => ⟨S4096x128, .f32⟩
  | 126 => ⟨S4096x128, .f32⟩
  | 127 => ⟨S1x128x128, .f32⟩
  | _ => ⟨S4096x8704, .f32⟩

abbrev hbmTy0_1 (i : Nat) : BufTy := match i % 128 with
  | 0 => ⟨S128x128, .f32⟩
  | 1 => ⟨S4096x128, .f32⟩
  | 2 => ⟨S4096x512, .f32⟩
  | 3 => ⟨S4096x512, .f32⟩
  | 4 => ⟨S4096x512, .f32⟩
  | 5 => ⟨S4096x512, .f32⟩
  | 6 => ⟨S_, .f32⟩
  | 7 => ⟨S512, .f32⟩
  | 8 => ⟨S1x512, .f32⟩
  | 9 => ⟨S4096x512, .f32⟩
  | 10 => ⟨S4096x512, .f32⟩
  | 11 => ⟨S4096x128, .f32⟩
  | 12 => ⟨S4096x128, .f32⟩
  | 13 => ⟨S4096x128, .f32⟩
  | 14 => ⟨S4096x128, .f32⟩
  | 15 => ⟨S128x128, .f32⟩
  | 16 => ⟨S128x128, .f32⟩
  | 17 => ⟨S4096x128, .f32⟩
  | 18 => ⟨S1x128x128, .f32⟩
  | 19 => ⟨S_, .f32⟩
  | 20 => ⟨S4x128x128, .f32⟩
  | 21 => ⟨S4096x128, .f32⟩
  | 22 => ⟨S4096x128, .f32⟩
  | 23 => ⟨S4096x128, .f32⟩
  | 24 => ⟨S128x4096, .f32⟩
  | 25 => ⟨S4096x128, .f32⟩
  | 26 => ⟨S4096x128, .f32⟩
  | 27 => ⟨S_, .f32⟩
  | 28 => ⟨S4096x512, .f32⟩
  | 29 => ⟨S128x128, .f32⟩
  | 30 => ⟨S128x128, .f32⟩
  | 31 => ⟨S4096x128, .f32⟩
  | 32 => ⟨S1x128x128, .f32⟩
  | 33 => ⟨S_, .f32⟩
  | 34 => ⟨S4x128x128, .f32⟩
  | 35 => ⟨S4x128x128, .f32⟩
  | 36 => ⟨S4096x128, .f32⟩
  | 37 => ⟨S4096x128, .f32⟩
  | 38 => ⟨S4096x128, .f32⟩
  | 39 => ⟨S128x4096, .f32⟩
  | 40 => ⟨S4096x128, .f32⟩
  | 41 => ⟨S4096x128, .f32⟩
  | 42 => ⟨S_, .f32⟩
  | 43 => ⟨S4096x512, .f32⟩
  | 44 => ⟨S4096x512, .f32⟩
  | 45 => ⟨S128x128, .f32⟩
  | 46 => ⟨S128x128, .f32⟩
  | 47 => ⟨S4096x128, .f32⟩
  | 48 => ⟨S1x128x128, .f32⟩
  | 49 => ⟨S_, .f32⟩
  | 50 => ⟨S4x128x128, .f32⟩
  | 51 => ⟨S4x128x128, .f32⟩
  | 52 => ⟨S4096x128, .f32⟩
  | 53 => ⟨S4096x128, .f32⟩
  | 54 => ⟨S4096x128, .f32⟩
  | 55 => ⟨S128x4096, .f32⟩
  | 56 => ⟨S4096x128, .f32⟩
  | 57 => ⟨S4096x128, .f32⟩
  | 58 => ⟨S_, .f32⟩
  | 59 => ⟨S4096x512, .f32⟩
  | 60 => ⟨S4096x512, .f32⟩
  | 61 => ⟨S128x128, .f32⟩
  | 62 => ⟨S128x128, .f32⟩
  | 63 => ⟨S4096x128, .f32⟩
  | 64 => ⟨S1x128x128, .f32⟩
  | 65 => ⟨S_, .f32⟩
  | 66 => ⟨S4x128x128, .f32⟩
  | 67 => ⟨S4x128x128, .f32⟩
  | 68 => ⟨S4096x128, .f32⟩
  | 69 => ⟨S4096x128, .f32⟩
  | 70 => ⟨S4096x128, .f32⟩
  | 71 => ⟨S128x4096, .f32⟩
  | 72 => ⟨S4096x128, .f32⟩
  | 73 => ⟨S4096x128, .f32⟩
  | 74 => ⟨S_, .f32⟩
  | 75 => ⟨S4096x512, .f32⟩
  | 76 => ⟨S4096x512, .f32⟩
  | 77 => ⟨S4096x512, .bf16⟩
  | _ => ⟨S4096x8704, .f32⟩

abbrev hbmTy (i : Nat) : BufTy := match i / 128 with
  | 0 => hbmTy0_0 i
  | 1 => hbmTy0_1 i
  | _ => ⟨S4096x8704, .f32⟩

abbrev bufTy : (tb : Table) → Fin (tcTables nBuf tb) → BufTy
  | .hbm, ⟨i, _⟩ => hbmTy i
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c_3 : Ref sig .tc := ⟨.hbm, 53, rfl⟩
abbrev main_v45 : Ref sig .tc := ⟨.hbm, 54, rfl⟩
abbrev main_v46 : Ref sig .tc := ⟨.hbm, 55, rfl⟩
abbrev main_c_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_c_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_c_6 : Ref sig .tc := ⟨.hbm, 84, rfl⟩
abbrev main_v73 : Ref sig .tc := ⟨.hbm, 85, rfl⟩
abbrev main_v74 : Ref sig .tc := ⟨.hbm, 86, rfl⟩
abbrev main_c_7 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_c_8 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_c_9 : Ref sig .tc := ⟨.hbm, 115, rfl⟩
abbrev main_v101 : Ref sig .tc := ⟨.hbm, 116, rfl⟩
abbrev main_v102 : Ref sig .tc := ⟨.hbm, 117, rfl⟩
abbrev main_c_10 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_cst_11 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_cst_12 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_cst_13 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_cst_14 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_cst_15 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_cst_16 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_cst_17 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_cst_18 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩

abbrev nD : Nat := 1
abbrev τ : Topo := Topo.v7x

variable {F : FTy → Type} [FloatOps F]
-- ==== Kernel36.lean ====
abbrev S4096x8704 : Shape := ⟨2, ![4096, 8704]⟩
abbrev S32x512 : Shape := ⟨2, ![32, 512]⟩
abbrev S1x512 : Shape := ⟨2, ![1, 512]⟩
abbrev S4096x512 : Shape := ⟨2, ![4096, 512]⟩
abbrev S256x512 : Shape := ⟨2, ![256, 512]⟩
abbrev S288x512 : Shape := ⟨2, ![288, 512]⟩
abbrev S64x512 : Shape := ⟨2, ![64, 512]⟩
abbrev S56x512 : Shape := ⟨2, ![56, 512]⟩
abbrev S32 : Shape := ⟨1, ![32]⟩
abbrev S32x1 : Shape := ⟨2, ![32, 1]⟩

abbrev nBuf : Space → Nat
  | .hbm => 6
  | .vmem => 15
  | .smem => 0
  | _ => 0

abbrev bufTy : (tb : Table) → Fin (tcTables nBuf tb) → BufTy
  | .hbm, ⟨0, _⟩ => ⟨S4096x8704, .f32⟩
  | .hbm, ⟨1, _⟩ => ⟨S32x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | .local _ .vmem, ⟨14, _⟩ => ⟨S288x512, .f32⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference36Ideal.lean ====
abbrev S4096x8704 : Shape := ⟨2, ![4096, 8704]⟩
abbrev S32x512 : Shape := ⟨2, ![32, 512]⟩
abbrev S1x512 : Shape := ⟨2, ![1, 512]⟩
abbrev S4096x1024 : Shape := ⟨2, ![4096, 1024]⟩
abbrev S4096x512 : Shape := ⟨2, ![4096, 512]⟩
abbrev S_ : Shape := ⟨0, ![]⟩
abbrev S4126x512 : Shape := ⟨2, ![4126, 512]⟩
abbrev S512 : Shape := ⟨1, ![512]⟩
abbrev S4096 : Shape := ⟨1, ![4096]⟩
abbrev S4096x1 : Shape := ⟨2, ![4096, 1]⟩

abbrev nBuf : Space → Nat
  | .hbm => 278
  | .vmem => 0
  | .smem => 0
  | _ => 0

abbrev hbmTy0_0 (i : Nat) : BufTy := match i % 128 with
  | 0 => ⟨S4096x8704, .f32⟩
  | 1 => ⟨S32x512, .f32⟩
  | 2 => ⟨S1x512, .f32⟩
  | 3 => ⟨S1x512, .f32⟩
  | 4 => ⟨S1x512, .f32⟩
  | 5 => ⟨S4096x1024, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .i32⟩
  | 18 => ⟨S_, .f32⟩
  | 19 => ⟨S4126x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S1x512, .f32⟩
  | 30 => ⟨S512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S1x512, .f32⟩
  | 37 => ⟨S512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S1x512, .f32⟩
  | 44 => ⟨S512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S4096x512, .f32⟩
  | 53 => ⟨S1x512, .f32⟩
  | 54 => ⟨S4096x512, .f32⟩
  | 55 => ⟨S4096x512, .f32⟩
  | 56 => ⟨S4096x512, .f32⟩
  | 57 => ⟨S1x512, .f32⟩
  | 58 => ⟨S512, .f32⟩
  | 59 => ⟨S4096x512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S4096x512, .f32⟩
  | 67 => ⟨S1x512, .f32⟩
  | 68 => ⟨S4096x512, .f32⟩
  | 69 => ⟨S4096x512, .f32⟩
  | 70 => ⟨S4096x512, .f32⟩
  | 71 => ⟨S1x512, .f32⟩
  | 72 => ⟨S512, .f32⟩
  | 73 => ⟨S4096x512, .f32⟩
  | 74 => ⟨S1x512, .f32⟩
  | 75 => ⟨S4096x512, .f32⟩
  | 76 => ⟨S4096x512, .f32⟩
  | 77 => ⟨S4096x512, .f32⟩
  | 78 => ⟨S1x512, .f32⟩
  | 79 => ⟨S512, .f32⟩
  | 80 => ⟨S4096x512, .f32⟩
  | 81 => ⟨S1x512, .f32⟩
  | 82 => ⟨S4096x512, .f32⟩
  | 83 => ⟨S4096x512, .f32⟩
  | 84 => ⟨S4096x512, .f32⟩
  | 85 => ⟨S1x512, .f32⟩
  | 86 => ⟨S512, .f32⟩
  | 87 => ⟨S4096x512, .f32⟩
  | 88 => ⟨S1x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S4096x512, .f32⟩
  | 95 => ⟨S1x512, .f32⟩
  | 96 => ⟨S4096x512, .f32⟩
  | 97 => ⟨S4096x512, .f32⟩
  | 98 => ⟨S4096x512, .f32⟩
  | 99 => ⟨S1x512, .f32⟩
  | 100 => ⟨S512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S4096x512, .f32⟩
  | 109 => ⟨S1x512, .f32⟩
  | 110 => ⟨S4096x512, .f32⟩
  | 111 => ⟨S4096x512, .f32⟩
  | 112 => ⟨S4096x512, .f32⟩
  | 113 => ⟨S1x512, .f32⟩
  | 114 => ⟨S512, .f32⟩
  | 115 => ⟨S4096x512, .f32⟩
  | 116 => ⟨S1x512, .f32⟩
  | 117 => ⟨S4096x512, .f32⟩
  | 118 => ⟨S4096x512, .f32⟩
  | 119 => ⟨S4096x512, .f32⟩
  | 120 => ⟨S1x512, .f32⟩
  | 121 => ⟨S512, .f32⟩
  | 122 => ⟨S4096x512, .f32⟩
  | 123 => ⟨S1x512, .f32⟩
  | 124 => ⟨S4096x512, .f32⟩
  | 125 => ⟨S4096x512, .f32⟩
  | 126 => ⟨S4096x512, .f32⟩
  | 127 => ⟨S1x512, .f32⟩
  | _ => ⟨S4096x8704, .f32⟩

abbrev hbmTy0_1 (i : Nat) : BufTy := match i % 128 with
  | 0 => ⟨S512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S1x512, .f32⟩
  | 7 => ⟨S512, .f32⟩
  | 8 => ⟨S4096x512, .f32⟩
  | 9 => ⟨S1x512, .f32⟩
  | 10 => ⟨S4096x512, .f32⟩
  | 11 => ⟨S4096x512, .f32⟩
  | 12 => ⟨S4096x512, .f32⟩
  | 13 => ⟨S1x512, .f32⟩
  | 14 => ⟨S512, .f32⟩
  | 15 => ⟨S4096x512, .f32⟩
  | 16 => ⟨S1x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S4096x512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S4096x512, .f32⟩
  | 120 => ⟨S4096x512, .f32⟩
  | 121 => ⟨S4096x512, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x8704, .f32⟩

abbrev hbmTy0_2 (i : Nat) : BufTy := match i % 128 with
  | 0 => ⟨S4096x512, .f32⟩
  | 1 => ⟨S4096x512, .f32⟩
  | 2 => ⟨S_, .f32⟩
  | 3 => ⟨S4096x1, .f32⟩
  | 4 => ⟨S4096x1, .f32⟩
  | 5 => ⟨S4096x1, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S4096x512, .bf16⟩
  | _ => ⟨S4096x8704, .f32⟩

abbrev hbmTy (i : Nat) : BufTy := match i / 128 with
  | 0 => hbmTy0_0 i
  | 1 => hbmTy0_1 i
  | 2 => hbmTy0_2 i
  | _ => ⟨S4096x8704, .f32⟩

abbrev bufTy : (tb : Table) → Fin (tcTables nBuf tb) → BufTy
  | .hbm, ⟨i, _⟩ => hbmTy i
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_cst_5 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v253 : Ref sig .tc := ⟨.hbm, 276, rfl⟩
abbrev main_v254 : Ref sig .tc := ⟨.hbm, 277, rfl⟩

abbrev nD : Nat := 1
abbrev τ : Topo := Topo.v7x

variable {F : FTy → Type} [FloatOps F]
-- ==== Proof.MergeSpec.lean ====
/- The gradient of the gated merge, entry by entry, over the extended reals: for any number of rows, so that it is said
   once for the whole arrays (4096 rows) and for the kernel's blocks (256 rows). Every entry except those of the gate
   bias's gradient depends on one row. -/
module

public import Idealize.ShloMosaic.Lib.Pointwise

@[expose] public section

set_option maxRecDepth 16384

noncomputable section

namespace Cert.Merge

open Idealize.ShloMosaic
open scoped BigOperators

/-- What the gradient is computed from: the cotangent of the block's output, the four mixers' outputs, the gates before
    their bias, the gate bias, the weights up from a mixer's width and the output projection. -/
structure Ins (n : Nat) where
  dxo : Fin n → Fin 1024 → EReal
  br : Fin 4 → Fin n → Fin 512 → EReal
  pre : Fin 4 → Fin n → Fin 1024 → EReal
  bias : Fin 4 → Fin 1024 → EReal
  wb : Fin 4 → Fin 512 → Fin 1024 → EReal
  wo : Fin 1024 → Fin 1024 → EReal

variable {n : Nat} (A : Ins n)

/-- The rows `f` picks. -/
def Ins.rows {l : Nat} (f : Fin l → Fin n) : Ins l where
  dxo r := A.dxo (f r)
  br k r := A.br k (f r)
  pre k r := A.pre k (f r)
  bias := A.bias
  wb := A.wb
  wo := A.wo

/-- Mixer `k`'s output taken up to the model's width. -/
def up (k : Fin 4) (r : Fin n) (d : Fin 1024) : EReal := ∑ j : Fin 512, A.br k r j * A.wb k j d

/-- The gate of mixer `k`: the logistic function of its column plus bias. -/
def gate (k : Fin 4) (r : Fin n) (d : Fin 1024) : EReal :=
  Ideal.div 1 (1 + Ideal.exp (-(A.pre k r d + A.bias k d)))

/-- The gated sum of the four. -/
def merged (r : Fin n) (d : Fin 1024) : EReal := ∑ k : Fin 4, gate A k r d * up A k r d

/-- Its cotangent, back through the output projection. -/
def dm (r : Fin n) (d : Fin 1024) : EReal := ∑ e : Fin 1024, A.dxo r e * A.wo d e

/-- The cotangent of `up`. -/
def dup (k : Fin 4) (r : Fin n) (d : Fin 1024) : EReal := dm A r d * gate A k r d

/-- The cotangent of the gate before the logistic function. -/
def dgp (k : Fin 4) (r : Fin n) (d : Fin 1024) : EReal :=
  dm A r d * up A k r d * gate A k r d * (1 - gate A k r d)

/-- The cotangent of the gate bias: the sum over the rows. -/
def dbias (k : Fin 4) (d : Fin 1024) : EReal := ∑ r : Fin n, dgp A k r d

/-- The cotangent of mixer `k`'s output. -/
def db (k : Fin 4) (r : Fin n) (j : Fin 512) : EReal := ∑ d : Fin 1024, dup A k r d * A.wb k j d

abbrev TRow : Shape := ⟨2, ![4096, 1024]⟩
abbrev TBranch : Shape := ⟨2, ![4096, 512]⟩
abbrev TProj : Shape := ⟨2, ![4096, 8704]⟩
abbrev TBias : Shape := ⟨2, ![4, 1024]⟩
abbrev TUp : Shape := ⟨4, ![4, 4, 512, 1024]⟩
abbrev TOut : Shape := ⟨3, ![4, 1024, 1024]⟩

/-- The argument arrays: the cotangent of the block's output, the four mixers' outputs, the input projection (whose last
    4096 columns are the gates before their bias), the gate bias, and the two weights of every layer. -/
structure Args where
  dxo : FVec Ideal TRow .f32
  b0 : FVec Ideal TBranch .bf16
  b1 : FVec Ideal TBranch .bf16
  b2 : FVec Ideal TBranch .bf16
  b3 : FVec Ideal TBranch .bf16
  proj : FVec Ideal TProj .f32
  bias : FVec Ideal TBias .f32
  wb : FVec Ideal TUp .bf16
  wo : FVec Ideal TOut .bf16

/-- What the arrays give the gradient; layer 0's weights. -/
def Args.ins (A : Args) : Ins 4096 where
  dxo r e := A.dxo (ix2 r e)
  br k r j := match k with
    | 0 => A.b0 (ix2 r j)
    | 1 => A.b1 (ix2 r j)
    | 2 => A.b2 (ix2 r j)
    | 3 => A.b3 (ix2 r j)
  pre k r d := A.proj (ix2 r ⟨4608 + (1024 * k.val + d.val), by omega⟩)
  bias k d := A.bias (ix2 k d)
  wb k j d := A.wb (ix4 0 k j d)
  wo d e := A.wo (ix3 0 d e)

/-! ## The results as arrays -/

/-- The cotangent of mixer `k`'s output. -/
def rDb (A : Args) (k : Fin 4) : FVec Ideal TBranch .f32 := fun i => db A.ins k (i 0) (i 1)

abbrev TWide : Shape := ⟨2, ![4096, 4096]⟩

/-- The gates' cotangents, mixer `k`'s in columns `1024 k` to `1024 k + 1023`. -/
def rDgp (A : Args) : FVec Ideal TWide .bf16 := fun i =>
  dgp A.ins ⟨(i 1).val / 1024, by have : (i 1).val < 4096 := (i 1).isLt; omega⟩ (i 0) ⟨(i 1).val % 1024, by omega⟩

/-- The cotangents of the four `up`s, laid out likewise. -/
def rDup (A : Args) : FVec Ideal TWide .bf16 := fun i =>
  dup A.ins ⟨(i 1).val / 1024, by have : (i 1).val < 4096 := (i 1).isLt; omega⟩ (i 0) ⟨(i 1).val % 1024, by omega⟩

/-- The gated sum. -/
def rMerged (A : Args) : FVec Ideal TRow .bf16 := fun i => merged A.ins (i 0) (i 1)

/-- The cotangent of the block's output, rounded for the product with the output projection's gradient. -/
def rDxo (A : Args) : FVec Ideal TRow .bf16 := fun i => A.dxo (ix2 (i 0) (i 1))

/-- The gate bias's cotangent. -/
def rDbias (A : Args) : FVec Ideal TBias .f32 := fun i => dbias A.ins (i 0) (i 1)

end Cert.Merge

end
-- ==== Proof.MergeBlock.lean ====
/- What one grid point of the kernel computes: block `t` holds 256 rows of each array, and every entry the body stores is
   the function of `MergeSpec` at those rows. -/
module

public import proofs.«01_k».proof.Proof.MergeSpec
public import proofs.«01_k».proof.Proof.Gen.KernelIdeal.Frame
public import Idealize.ShloMosaic.Lib.Pipeline.ValueKit

@[expose] public section

set_option maxRecDepth 16384

noncomputable section

namespace Cert.Merge.Kern

open Cert.KernelIdeal Cert.KernelIdeal.Gen Cert.Merge
open Idealize.ShloMosaic Idealize.ShloMosaic.TcCoe Idealize.SL.Sem
open Idealize.ShloMosaic.Pipeline (Dat)
open scoped BigOperators

variable (m : (ℓ : Loc nD τ sig) → Buf (Elt Ideal) ℓ)

/-- The argument arrays as the call finds them. -/
def args (c : Dev nD) : Args where
  dxo := m ((c : Thread nD τ).loc main_arg0)
  b0 := m ((c : Thread nD τ).loc main_arg1)
  b1 := m ((c : Thread nD τ).loc main_arg2)
  b2 := m ((c : Thread nD τ).loc main_arg3)
  b3 := m ((c : Thread nD τ).loc main_arg4)
  proj := m ((c : Thread nD τ).loc main_arg5)
  bias := m ((c : Thread nD τ).loc main_arg6)
  wb := m ((c : Thread nD τ).loc main_arg7)
  wo := m ((c : Thread nD τ).loc main_arg8)

/-- Row `r` of block `t`. -/
def row (t : Fin cfg0.N) (r : Fin 256) : Fin 4096 := ⟨256 * t.val + r.val, by have : cfg0.N = 16 := N_0; omega⟩

/-- The inputs' rows in block `t`. -/
abbrev rows (c : Dev nD) (t : Fin cfg0.N) : Ins 256 := (args m c).ins.rows (row t)

/-- Which block of its array each input window holds at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 9] ∧ win0_6.index t = ![t.val, 10] ∧ win0_7.index t = ![t.val, 11] ∧ win0_8.index t = ![t.val, 12] ∧ win0_9.index t = ![t.val, 13] ∧ win0_10.index t = ![t.val, 14] ∧ win0_11.index t = ![t.val, 15] ∧ win0_12.index t = ![t.val, 16] ∧ win0_13.index t = ![0, 0] ∧ win0_14.index t = ![0, 0, 0, 0] ∧ win0_15.index t = ![0, 0, 0] :=
  (by decide +kernel : ∀ t : Fin grid0.N, _)

variable (c : Dev nD) (t : Fin cfg0.N)

/-! ## The blocks -/

theorem in0 (r : Fin 256) (e : Fin 1024) : iblk m c 0 t (ix2 r e) = (rows m c t).dxo r e := by
  simp only [rows, Ins.rows, Args.ins, args, row]; blk_point [iblk, V, idx t]

theorem in1 (r : Fin 256) (j : Fin 512) : iblk m c 1 t (ix2 r j) = (rows m c t).br 0 r j := by
  simp only [rows, Ins.rows, Args.ins, args, row]; blk_point [iblk, V, idx t]

theorem in2 (r : Fin 256) (j : Fin 512) : iblk m c 2 t (ix2 r j) = (rows m c t).br 1 r j := by
  simp only [rows, Ins.rows, Args.ins, args, row]; blk_point [iblk, V, idx t]

theorem in3 (r : Fin 256) (j : Fin 512) : iblk m c 3 t (ix2 r j) = (rows m c t).br 2 r j := by
  simp only [rows, Ins.rows, Args.ins, args, row]; blk_point [iblk, V, idx t]

theorem in4 (r : Fin 256) (j : Fin 512) : iblk m c 4 t (ix2 r j) = (rows m c t).br 3 r j := by
  simp only [rows, Ins.rows, Args.ins, args, row]; blk_point [iblk, V, idx t]

theorem in5 (r : Fin 256) (d : Fin 512) : iblk m c 5 t (ix2 r d) = (rows m c t).pre 0 r ⟨d.val, by omega⟩ := by
  simp only [rows, Ins.rows, Args.ins, args, row]; blk_point [iblk, V, idx t]

theorem in6 (r : Fin 256) (d : Fin 512) : iblk m c 6 t (ix2 r d) = (rows m c t).pre 0 r ⟨512 + d.val, by omega⟩ := by
  simp only [rows, Ins.rows, Args.ins, args, row]; blk_point [iblk, V, idx t]

theorem in7 (r : Fin 256) (d : Fin 512) : iblk m c 7 t (ix2 r d) = (rows m c t).pre 1 r ⟨d.val, by omega⟩ := by
  simp only [rows, Ins.rows, Args.ins, args, row]; blk_point [iblk, V, idx t]

theorem in8 (r : Fin 256) (d : Fin 512) : iblk m c 8 t (ix2 r d) = (rows m c t).pre 1 r ⟨512 + d.val, by omega⟩ := by
  simp only [rows, Ins.rows, Args.ins, args, row]; blk_point [iblk, V, idx t]

theorem in9 (r : Fin 256) (d : Fin 512) : iblk m c 9 t (ix2 r d) = (rows m c t).pre 2 r ⟨d.val, by omega⟩ := by
  simp only [rows, Ins.rows, Args.ins, args, row]; blk_point [iblk, V, idx t]

theorem in10 (r : Fin 256) (d : Fin 512) : iblk m c 10 t (ix2 r d) = (rows m c t).pre 2 r ⟨512 + d.val, by omega⟩ := by
  simp only [rows, Ins.rows, Args.ins, args, row]; blk_point [iblk, V, idx t]

theorem in11 (r : Fin 256) (d : Fin 512) : iblk m c 11 t (ix2 r d) = (rows m c t).pre 3 r ⟨d.val, by omega⟩ := by
  simp only [rows, Ins.rows, Args.ins, args, row]; blk_point [iblk, V, idx t]

theorem in12 (r : Fin 256) (d : Fin 512) : iblk m c 12 t (ix2 r d) = (rows m c t).pre 3 r ⟨512 + d.val, by omega⟩ := by
  simp only [rows, Ins.rows, Args.ins, args, row]; blk_point [iblk, V, idx t]

theorem in13 (k : Fin 4) (d : Fin 1024) : iblk m c 13 t (ix2 k d) = (rows m c t).bias k d := by
  simp only [rows, Ins.rows, Args.ins, args, row]; blk_point [iblk, V, idx t]

theorem in14 (k : Fin 4) (j : Fin 512) (d : Fin 1024) : iblk m c 14 t (ix4 0 k j d) = (rows m c t).wb k j d := by
  simp only [rows, Ins.rows, Args.ins, args, row]; blk_point [iblk, V, idx t]

theorem in15 (d e : Fin 1024) : iblk m c 15 t (ix3 0 d e) = (rows m c t).wo d e := by
  simp only [rows, Ins.rows, Args.ins, args, row]; blk_point [iblk, V, idx t]

/-! ## The payloads -/

theorem dm_eq (r : Fin 256) (d : Fin 1024) : k0_pay5 (iblk m c 0 t) (iblk m c 15 t) (ix2 r d) = dm (rows m c t) r d := by
  pointwise [k0_pay5, k0_pay4, in0, in15]
  rfl

theorem gate0 (r : Fin 256) (d : Fin 1024) :
    k0_pay7 (iblk m c 5 t) (iblk m c 6 t) (View.ld (iblk m c 13 t) (Rect.unit ![0, 0] ![1, 1024] inb_S4x1024_S1x1024_0_0)) (ix2 r d)
      = gate (rows m c t) 0 r d := by
  pointwise [k0_pay7, in5, in6, in13]
  rw [zero_sub]
  split
  · rfl
  · simp only [show 512 + (d.val - 512) = d.val by omega]
    rfl

theorem up0 (r : Fin 256) (d : Fin 1024) :
    k0_pay8 (iblk m c 1 t) (View.ld (iblk m c 14 t) (Rect.unit ![0, 0, 0, 0] ![1, 1, 512, 1024] inb_S1x4x512x1024_S1x1x512x1024_0_0_0_0)) (ix2 r d)
      = up (rows m c t) 0 r d := by
  pointwise [k0_pay8, in1, in14]
  rfl

theorem gate1 (r : Fin 256) (d : Fin 1024) :
    k0_pay17 (k0_pay16 (iblk m c 7 t) (iblk m c 8 t) (View.ld (iblk m c 13 t) (Rect.unit ![1, 0] ![1, 1024] inb_S4x1024_S1x1024_1_0))) (1 : EReal) (ix2 r d)
      = gate (rows m c t) 1 r d := by
  pointwise [k0_pay17, k0_pay16, in7, in8, in13]
  rw [zero_sub]
  split
  · rfl
  · simp only [show 512 + (d.val - 512) = d.val by omega]
    rfl

theorem up1 (r : Fin 256) (d : Fin 1024) :
    k0_pay18 (iblk m c 2 t) (View.ld (iblk m c 14 t) (Rect.unit ![0, 1, 0, 0] ![1, 1, 512, 1024] inb_S1x4x512x1024_S1x1x512x1024_0_1_0_0)) (ix2 r d)
      = up (rows m c t) 1 r d := by
  pointwise [k0_pay18, in2, in14]
  rfl

theorem gate2 (r : Fin 256) (d : Fin 1024) :
    k0_pay25 (iblk m c 9 t) (iblk m c 10 t) (View.ld (iblk m c 13 t) (Rect.unit ![2, 0] ![1, 1024] inb_S4x1024_S1x1024_2_0)) (ix2 r d)
      = gate (rows m c t) 2 r d := by
  pointwise [k0_pay25, in9, in10, in13]
  rw [zero_sub]
  split
  · rfl
  · simp only [show 512 + (d.val - 512) = d.val by omega]
    rfl

theorem up2 (r : Fin 256) (d : Fin 1024) :
    k0_pay26 (iblk m c 3 t) (View.ld (iblk m c 14 t) (Rect.unit ![0, 2, 0, 0] ![1, 1, 512, 1024] inb_S1x4x512x1024_S1x1x512x1024_0_2_0_0)) (ix2 r d)
      = up (rows m c t) 2 r d := by
  pointwise [k0_pay26, in3, in14]
  rfl

theorem gate3 (r : Fin 256) (d : Fin 1024) :
    k0_pay33 (iblk m c 11 t) (iblk m c 12 t) (View.ld (iblk m c 13 t) (Rect.unit ![3, 0] ![1, 1024] inb_S4x1024_S1x1024_3_0)) (ix2 r d)
      = gate (rows m c t) 3 r d := by
  pointwise [k0_pay33, in11, in12, in13]
  rw [zero_sub]
  split
  · rfl
  · simp only [show 512 + (d.val - 512) = d.val by omega]
    rfl

theorem up3 (r : Fin 256) (d : Fin 1024) :
    k0_pay34 (iblk m c 4 t) (View.ld (iblk m c 14 t) (Rect.unit ![0, 3, 0, 0] ![1, 1, 512, 1024] inb_S1x4x512x1024_S1x1x512x1024_0_3_0_0)) (ix2 r d)
      = up (rows m c t) 3 r d := by
  pointwise [k0_pay34, in4, in14]
  rfl

theorem dup0 (r : Fin 256) (d : Fin 1024) :
    k0_pay11 (k0_pay10 (iblk m c 0 t) (iblk m c 15 t) (iblk m c 5 t) (iblk m c 6 t) (View.ld (iblk m c 13 t) (Rect.unit ![0, 0] ![1, 1024] inb_S4x1024_S1x1024_0_0))) (ix2 r d)
      = dup (rows m c t) 0 r d := by
  pointwise [k0_pay11, k0_pay10, dm_eq, gate0]
  rfl

theorem dgp0 (r : Fin 256) (d : Fin 1024) :
    k0_pay12 (k0_pay5 (iblk m c 0 t) (iblk m c 15 t)) (k0_pay7 (iblk m c 5 t) (iblk m c 6 t) (View.ld (iblk m c 13 t) (Rect.unit ![0, 0] ![1, 1024] inb_S4x1024_S1x1024_0_0))) (k0_pay8 (iblk m c 1 t) (View.ld (iblk m c 14 t) (Rect.unit ![0, 0, 0, 0] ![1, 1, 512, 1024] inb_S1x4x512x1024_S1x1x512x1024_0_0_0_0))) (ix2 r d)
      = dgp (rows m c t) 0 r d := by
  pointwise [k0_pay12, dm_eq, gate0, up0]
  rfl

theorem dgp16_0 (r : Fin 256) (d : Fin 1024) :
    k0_pay13 (k0_pay5 (iblk m c 0 t) (iblk m c 15 t)) (k0_pay7 (iblk m c 5 t) (iblk m c 6 t) (View.ld (iblk m c 13 t) (Rect.unit ![0, 0] ![1, 1024] inb_S4x1024_S1x1024_0_0))) (k0_pay8 (iblk m c 1 t) (View.ld (iblk m c 14 t) (Rect.unit ![0, 0, 0, 0] ![1, 1, 512, 1024] inb_S1x4x512x1024_S1x1x512x1024_0_0_0_0))) (ix2 r d)
      = dgp (rows m c t) 0 r d := by
  pointwise [k0_pay13, dgp0]

theorem db0 (r : Fin 256) (j : Fin 512) :
    k0_pay15 (k0_pay10 (iblk m c 0 t) (iblk m c 15 t) (iblk m c 5 t) (iblk m c 6 t) (View.ld (iblk m c 13 t) (Rect.unit ![0, 0] ![1, 1024] inb_S4x1024_S1x1024_0_0))) (View.ld (iblk m c 14 t) (Rect.unit ![0, 0, 0, 0] ![1, 1, 512, 1024] inb_S1x4x512x1024_S1x1x512x1024_0_0_0_0)) (ix2 r j)
      = db (rows m c t) 0 r j := by
  pointwise [k0_pay15, dup0, in14]
  rfl

theorem dup1 (r : Fin 256) (d : Fin 1024) :
    k0_pay20 (k0_pay5 (iblk m c 0 t) (iblk m c 15 t)) (k0_pay16 (iblk m c 7 t) (iblk m c 8 t) (View.ld (iblk m c 13 t) (Rect.unit ![1, 0] ![1, 1024] inb_S4x1024_S1x1024_1_0))) (1 : EReal) (ix2 r d)
      = dup (rows m c t) 1 r d := by
  pointwise [k0_pay20, dm_eq, gate1]
  rfl

theorem dgp1 (r : Fin 256) (d : Fin 1024) :
    k0_pay21 (k0_pay5 (iblk m c 0 t) (iblk m c 15 t)) (k0_pay16 (iblk m c 7 t) (iblk m c 8 t) (View.ld (iblk m c 13 t) (Rect.unit ![1, 0] ![1, 1024] inb_S4x1024_S1x1024_1_0))) (1 : EReal) (iblk m c 2 t) (View.ld (iblk m c 14 t) (Rect.unit ![0, 1, 0, 0] ![1, 1, 512, 1024] inb_S1x4x512x1024_S1x1x512x1024_0_1_0_0)) (ix2 r d)
      = dgp (rows m c t) 1 r d := by
  pointwise [k0_pay21, dm_eq, gate1, up1]
  rfl

theorem dgp16_1 (r : Fin 256) (d : Fin 1024) :
    k0_pay22 (k0_pay5 (iblk m c 0 t) (iblk m c 15 t)) (k0_pay16 (iblk m c 7 t) (iblk m c 8 t) (View.ld (iblk m c 13 t) (Rect.unit ![1, 0] ![1, 1024] inb_S4x1024_S1x1024_1_0))) (1 : EReal) (iblk m c 2 t) (View.ld (iblk m c 14 t) (Rect.unit ![0, 1, 0, 0] ![1, 1, 512, 1024] inb_S1x4x512x1024_S1x1x512x1024_0_1_0_0)) (ix2 r d)
      = dgp (rows m c t) 1 r d := by
  pointwise [k0_pay22, dgp1]

theorem db1 (r : Fin 256) (j : Fin 512) :
    k0_pay24 (k0_pay5 (iblk m c 0 t) (iblk m c 15 t)) (k0_pay16 (iblk m c 7 t) (iblk m c 8 t) (View.ld (iblk m c 13 t) (Rect.unit ![1, 0] ![1, 1024] inb_S4x1024_S1x1024_1_0))) (1 : EReal) (View.ld (iblk m c 14 t) (Rect.unit ![0, 1, 0, 0] ![1, 1, 512, 1024] inb_S1x4x512x1024_S1x1x512x1024_0_1_0_0)) (ix2 r j)
      = db (rows m c t) 1 r j := by
  pointwise [k0_pay24, dup1, in14]
  rfl

theorem dup2 (r : Fin 256) (d : Fin 1024) :
    k0_pay28 (k0_pay5 (iblk m c 0 t) (iblk m c 15 t)) (iblk m c 9 t) (iblk m c 10 t) (View.ld (iblk m c 13 t) (Rect.unit ![2, 0] ![1, 1024] inb_S4x1024_S1x1024_2_0)) (ix2 r d)
      = dup (rows m c t) 2 r d := by
  pointwise [k0_pay28, dm_eq, gate2]
  rfl

theorem dgp2 (r : Fin 256) (d : Fin 1024) :
    k0_pay29 (k0_pay5 (iblk m c 0 t) (iblk m c 15 t)) (iblk m c 9 t) (iblk m c 10 t) (View.ld (iblk m c 13 t) (Rect.unit ![2, 0] ![1, 1024] inb_S4x1024_S1x1024_2_0)) (iblk m c 3 t) (View.ld (iblk m c 14 t) (Rect.unit ![0, 2, 0, 0] ![1, 1, 512, 1024] inb_S1x4x512x1024_S1x1x512x1024_0_2_0_0)) (ix2 r d)
      = dgp (rows m c t) 2 r d := by
  pointwise [k0_pay29, dm_eq, gate2, up2]
  rfl

theorem dgp16_2 (r : Fin 256) (d : Fin 1024) :
    k0_pay30 (k0_pay5 (iblk m c 0 t) (iblk m c 15 t)) (iblk m c 9 t) (iblk m c 10 t) (View.ld (iblk m c 13 t) (Rect.unit ![2, 0] ![1, 1024] inb_S4x1024_S1x1024_2_0)) (iblk m c 3 t) (View.ld (iblk m c 14 t) (Rect.unit ![0, 2, 0, 0] ![1, 1, 512, 1024] inb_S1x4x512x1024_S1x1x512x1024_0_2_0_0)) (ix2 r d)
      = dgp (rows m c t) 2 r d := by
  pointwise [k0_pay30, dgp2]

theorem db2 (r : Fin 256) (j : Fin 512) :
    k0_pay32 (k0_pay28 (k0_pay5 (iblk m c 0 t) (iblk m c 15 t)) (iblk m c 9 t) (iblk m c 10 t) (View.ld (iblk m c 13 t) (Rect.unit ![2, 0] ![1, 1024] inb_S4x1024_S1x1024_2_0))) (View.ld (iblk m c 14 t) (Rect.unit ![0, 2, 0, 0] ![1, 1, 512, 1024] inb_S1x4x512x1024_S1x1x512x1024_0_2_0_0)) (ix2 r j)
      = db (rows m c t) 2 r j := by
  pointwise [k0_pay32, dup2, in14]
  rfl

theorem dup3 (r : Fin 256) (d : Fin 1024) :
    k0_pay36 (k0_pay5 (iblk m c 0 t) (iblk m c 15 t)) (iblk m c 11 t) (iblk m c 12 t) (View.ld (iblk m c 13 t) (Rect.unit ![3, 0] ![1, 1024] inb_S4x1024_S1x1024_3_0)) (ix2 r d)
      = dup (rows m c t) 3 r d := by
  pointwise [k0_pay36, dm_eq, gate3]
  rfl

theorem dgp3 (r : Fin 256) (d : Fin 1024) :
    k0_pay37 (k0_pay5 (iblk m c 0 t) (iblk m c 15 t)) (iblk m c 11 t) (iblk m c 12 t) (View.ld (iblk m c 13 t) (Rect.unit ![3, 0] ![1, 1024] inb_S4x1024_S1x1024_3_0)) (iblk m c 4 t) (View.ld (iblk m c 14 t) (Rect.unit ![0, 3, 0, 0] ![1, 1, 512, 1024] inb_S1x4x512x1024_S1x1x512x1024_0_3_0_0)) (ix2 r d)
      = dgp (rows m c t) 3 r d := by
  pointwise [k0_pay37, dm_eq, gate3, up3]
  rfl

theorem dgp16_3 (r : Fin 256) (d : Fin 1024) :
    k0_pay38 (k0_pay5 (iblk m c 0 t) (iblk m c 15 t)) (iblk m c 11 t) (iblk m c 12 t) (View.ld (iblk m c 13 t) (Rect.unit ![3, 0] ![1, 1024] inb_S4x1024_S1x1024_3_0)) (iblk m c 4 t) (View.ld (iblk m c 14 t) (Rect.unit ![0, 3, 0, 0] ![1, 1, 512, 1024] inb_S1x4x512x1024_S1x1x512x1024_0_3_0_0)) (ix2 r d)
      = dgp (rows m c t) 3 r d := by
  pointwise [k0_pay38, dgp3]

theorem db3 (r : Fin 256) (j : Fin 512) :
    k0_pay2 (k0_pay36 (k0_pay5 (iblk m c 0 t) (iblk m c 15 t)) (iblk m c 11 t) (iblk m c 12 t) (View.ld (iblk m c 13 t) (Rect.unit ![3, 0] ![1, 1024] inb_S4x1024_S1x1024_3_0))) (View.ld (iblk m c 14 t) (Rect.unit ![0, 3, 0, 0] ![1, 1, 512, 1024] inb_S1x4x512x1024_S1x1x512x1024_0_3_0_0)) (ix2 r j)
      = db (rows m c t) 3 r j := by
  pointwise [k0_pay2, dup3, in14]
  rfl

theorem merged_eq (r : Fin 256) (d : Fin 1024) :
    k0_pay3 (k0_pay35 (k0_pay27 (k0_pay19 (k0_pay9 (iblk m c 5 t) (iblk m c 6 t) (View.ld (iblk m c 13 t) (Rect.unit ![0, 0] ![1, 1024] inb_S4x1024_S1x1024_0_0)) (iblk m c 1 t) (View.ld (iblk m c 14 t) (Rect.unit ![0, 0, 0, 0] ![1, 1, 512, 1024] inb_S1x4x512x1024_S1x1x512x1024_0_0_0_0))) (k0_pay16 (iblk m c 7 t) (iblk m c 8 t) (View.ld (iblk m c 13 t) (Rect.unit ![1, 0] ![1, 1024] inb_S4x1024_S1x1024_1_0))) (1 : EReal) (iblk m c 2 t) (View.ld (iblk m c 14 t) (Rect.unit ![0, 1, 0, 0] ![1, 1, 512, 1024] inb_S1x4x512x1024_S1x1x512x1024_0_1_0_0))) (iblk m c 9 t) (iblk m c 10 t) (View.ld (iblk m c 13 t) (Rect.unit ![2, 0] ![1, 1024] inb_S4x1024_S1x1024_2_0)) (iblk m c 3 t) (View.ld (iblk m c 14 t) (Rect.unit ![0, 2, 0, 0] ![1, 1, 512, 1024] inb_S1x4x512x1024_S1x1x512x1024_0_2_0_0))) (iblk m c 11 t) (iblk m c 12 t) (View.ld (iblk m c 13 t) (Rect.unit ![3, 0] ![1, 1024] inb_S4x1024_S1x1024_3_0)) (iblk m c 4 t) (View.ld (iblk m c 14 t) (Rect.unit ![0, 3, 0, 0] ![1, 1, 512, 1024] inb_S1x4x512x1024_S1x1x512x1024_0_3_0_0))) (ix2 r d)
      = merged (rows m c t) r d := by
  pointwise [k0_pay3, k0_pay35, k0_pay27, k0_pay19, k0_pay9, gate0, gate1, gate2, gate3, up0, up1, up2, up3]
  exact (Fin.sum_univ_four (fun k => gate (rows m c t) k r d * up (rows m c t) k r d)).symm

theorem dxo_eq (r : Fin 256) (d : Fin 1024) : k0_pay4 (iblk m c 0 t) (ix2 r d) = (rows m c t).dxo r d := by
  pointwise [k0_pay4, in0]

end Cert.Merge.Kern

end
-- ==== Proof.MergeKernel.lean ====
/- What the kernel's result arrays hold when it ends: block `t` of each holds the rows of block `t`, and the gate bias's gradient,
   one block kept over the sixteen points, is the sum over all rows. -/
module

public import proofs.«01_k».proof.Proof.MergeBlock
public import Idealize.ShloMosaic.Lib.Pipeline.ReadBack

@[expose] public section

set_option maxRecDepth 16384

noncomputable section

namespace Cert.Merge.Kern

open Cert.KernelIdeal Cert.KernelIdeal.Gen Cert.Merge
open Idealize.ShloMosaic Idealize.ShloMosaic.TcCoe Idealize.SL.Sem
open Idealize.ShloMosaic.Pipeline (Dat)
open scoped BigOperators

variable (m : (ℓ : Loc nD τ sig) → Buf (Elt Ideal) ℓ)

/-- Which block of its array each output window holds at a point. -/
theorem idxOut : ∀ t : Fin cfg0.N, win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![t.val, 0] :=
  (by decide +kernel : ∀ t : Fin grid0.N, _)

variable (c : Dev nD)

theorem final16 : (dats m 0 c).arrAt 16 (cfgs 0).N = rDb (args m c) 0 := by
  refine (dats m 0 c).arrAt_eq_of_covers 16 _ (by decide +kernel) fun t _ y => ?_
  blk_simp
  rw [after0_16]
  have e : ∀ r j, db (rows m c t) 0 r j = rDb (args m c) 0 ((win0_16.blk t).view.emb (ix2 r j)) := fun r j => by
    rw [show (win0_16.blk t).view.emb (ix2 r j) = ix2 (row t r) j by unfold row; blk_ext [idxOut t]]
    rfl
  by_cases h : t.val % 16 = 0
  · rw [outsAt0_A m c t h]; frame_out; idx_vars y
    refine Eq.trans ?_ (e y0 y1)
    exact db0 m c t y0 y1
  · rw [outsAt0_B m c t h]; frame_out; idx_vars y
    refine Eq.trans ?_ (e y0 y1)
    exact db0 m c t y0 y1

theorem final17 : (dats m 0 c).arrAt 17 (cfgs 0).N = rDb (args m c) 1 := by
  refine (dats m 0 c).arrAt_eq_of_covers 17 _ (by decide +kernel) fun t _ y => ?_
  blk_simp
  rw [after0_17]
  have e : ∀ r j, db (rows m c t) 1 r j = rDb (args m c) 1 ((win0_17.blk t).view.emb (ix2 r j)) := fun r j => by
    rw [show (win0_17.blk t).view.emb (ix2 r j) = ix2 (row t r) j by unfold row; blk_ext [idxOut t]]
    rfl
  by_cases h : t.val % 16 = 0
  · rw [outsAt0_A m c t h]; frame_out; idx_vars y
    refine Eq.trans ?_ (e y0 y1)
    pointwise [db1]; exact db1 m c t y0 y1
  · rw [outsAt0_B m c t h]; frame_out; idx_vars y
    refine Eq.trans ?_ (e y0 y1)
    pointwise [db1]; exact db1 m c t y0 y1

theorem final18 : (dats m 0 c).arrAt 18 (cfgs 0).N = rDb (args m c) 2 := by
  refine (dats m 0 c).arrAt_eq_of_covers 18 _ (by decide +kernel) fun t _ y => ?_
  blk_simp
  rw [after0_18]
  have e : ∀ r j, db (rows m c t) 2 r j = rDb (args m c) 2 ((win0_18.blk t).view.emb (ix2 r j)) := fun r j => by
    rw [show (win0_18.blk t).view.emb (ix2 r j) = ix2 (row t r) j by unfold row; blk_ext [idxOut t]]
    rfl
  by_cases h : t.val % 16 = 0
  · rw [outsAt0_A m c t h]; frame_out; idx_vars y
    refine Eq.trans ?_ (e y0 y1)
    exact db2 m c t y0 y1
  · rw [outsAt0_B m c t h]; frame_out; idx_vars y
    refine Eq.trans ?_ (e y0 y1)
    exact db2 m c t y0 y1

theorem final19 : (dats m 0 c).arrAt 19 (cfgs 0).N = rDb (args m c) 3 := by
  refine (dats m 0 c).arrAt_eq_of_covers 19 _ (by decide +kernel) fun t _ y => ?_
  blk_simp
  rw [after0_19]
  have e : ∀ r j, db (rows m c t) 3 r j = rDb (args m c) 3 ((win0_19.blk t).view.emb (ix2 r j)) := fun r j => by
    rw [show (win0_19.blk t).view.emb (ix2 r j) = ix2 (row t r) j by unfold row; blk_ext [idxOut t]]
    rfl
  by_cases h : t.val % 16 = 0
  · rw [outsAt0_A m c t h]; frame_out; idx_vars y
    refine Eq.trans ?_ (e y0 y1)
    exact db3 m c t y0 y1
  · rw [outsAt0_B m c t h]; frame_out; idx_vars y
    refine Eq.trans ?_ (e y0 y1)
    exact db3 m c t y0 y1

theorem final22 : (dats m 0 c).arrAt 22 (cfgs 0).N = rMerged (args m c) := by
  refine (dats m 0 c).arrAt_eq_of_covers 22 _ (by decide +kernel) fun t _ y => ?_
  blk_simp
  rw [after0_22]
  have e : ∀ r j, merged (rows m c t) r j = rMerged (args m c) ((win0_22.blk t).view.emb (ix2 r j)) := fun r j => by
    rw [show (win0_22.blk t).view.emb (ix2 r j) = ix2 (row t r) j by unfold row; blk_ext [idxOut t]]
    rfl
  by_cases h : t.val % 16 = 0
  · rw [outsAt0_A m c t h]; frame_out; idx_vars y
    refine Eq.trans ?_ (e y0 y1)
    pointwise [merged_eq]; exact merged_eq m c t y0 y1
  · rw [outsAt0_B m c t h]; frame_out; idx_vars y
    refine Eq.trans ?_ (e y0 y1)
    pointwise [merged_eq]; exact merged_eq m c t y0 y1

theorem final23 : (dats m 0 c).arrAt 23 (cfgs 0).N = rDxo (args m c) := by
  refine (dats m 0 c).arrAt_eq_of_covers 23 _ (by decide +kernel) fun t _ y => ?_
  blk_simp
  rw [after0_23]
  have e : ∀ r j, (rows m c t).dxo r j = rDxo (args m c) ((win0_23.blk t).view.emb (ix2 r j)) := fun r j => by
    rw [show (win0_23.blk t).view.emb (ix2 r j) = ix2 (row t r) j by unfold row; blk_ext [idxOut t]]
    rfl
  by_cases h : t.val % 16 = 0
  · rw [outsAt0_A m c t h]; frame_out; idx_vars y
    refine Eq.trans ?_ (e y0 y1)
    exact dxo_eq m c t y0 y1
  · rw [outsAt0_B m c t h]; frame_out; idx_vars y
    refine Eq.trans ?_ (e y0 y1)
    exact dxo_eq m c t y0 y1

theorem final20 : (dats m 0 c).arrAt 20 (cfgs 0).N = rDgp (args m c) := by
  refine (dats m 0 c).arrAt_eq_of_covers 20 _ (by decide +kernel) fun t _ y => ?_
  blk_simp
  rw [after0_20]
  have e : ∀ (k : Fin 4) (x : S256x1024.Idx), (y 0).val = (x 0).val → (y 1).val = 1024 * k.val + (x 1).val →
      dgp (rows m c t) k (x 0) (x 1) = rDgp (args m c) ((win0_20.blk t).view.emb y) := fun k x h0 h1 => by
    have hx : (x 1).val < 1024 := (x 1).isLt
    have e0 : (win0_20.blk t).view.emb y = ix2 (row t (x 0)) (⟨1024 * k.val + (x 1).val, by omega⟩ : Fin 4096) := by
      unfold row; blk_ext [idxOut t]
    rw [e0]
    refine (congrArg₂ (fun k d => dgp (args m c).ins k (row t (x 0)) d) (Fin.ext ?_) (Fin.ext ?_) : _ = dgp (args m c).ins _ _ _)
    · show k.val = (1024 * k.val + (x 1).val) / 1024; omega
    · show (x 1).val = (1024 * k.val + (x 1).val) % 1024; omega
  by_cases h : t.val % 16 = 0
  · rw [outsAt0_A m c t h]; frame_out
    canon_tiles x hx
    · refine Eq.trans ?_ (e 3 x hx0 (by show _ = 1024 * 3 + _; omega))
      idx_vars x; exact dgp16_3 m c t x0 x1
    · refine Eq.trans ?_ (e 2 x hx0 (by show _ = 1024 * 2 + _; omega))
      idx_vars x; exact dgp16_2 m c t x0 x1
    · refine Eq.trans ?_ (e 1 x hx0 (by show _ = 1024 * 1 + _; omega))
      idx_vars x; pointwise [dgp16_1]; exact dgp16_1 m c t x0 x1
    · refine Eq.trans ?_ (e 0 x hx0 (by show _ = 1024 * 0 + _; omega))
      idx_vars x; exact dgp16_0 m c t x0 x1
  · rw [outsAt0_B m c t h]; frame_out
    canon_tiles x hx
    · refine Eq.trans ?_ (e 3 x hx0 (by show _ = 1024 * 3 + _; omega))
      idx_vars x; exact dgp16_3 m c t x0 x1
    · refine Eq.trans ?_ (e 2 x hx0 (by show _ = 1024 * 2 + _; omega))
      idx_vars x; exact dgp16_2 m c t x0 x1
    · refine Eq.trans ?_ (e 1 x hx0 (by show _ = 1024 * 1 + _; omega))
      idx_vars x; pointwise [dgp16_1]; exact dgp16_1 m c t x0 x1
    · refine Eq.trans ?_ (e 0 x hx0 (by show _ = 1024 * 0 + _; omega))
      idx_vars x; exact dgp16_0 m c t x0 x1

theorem final21 : (dats m 0 c).arrAt 21 (cfgs 0).N = rDup (args m c) := by
  refine (dats m 0 c).arrAt_eq_of_covers 21 _ (by decide +kernel) fun t _ y => ?_
  blk_simp
  rw [after0_21]
  have e : ∀ (k : Fin 4) (x : S256x1024.Idx), (y 0).val = (x 0).val → (y 1).val = 1024 * k.val + (x 1).val →
      dup (rows m c t) k (x 0) (x 1) = rDup (args m c) ((win0_21.blk t).view.emb y) := fun k x h0 h1 => by
    have hx : (x 1).val < 1024 := (x 1).isLt
    have e0 : (win0_21.blk t).view.emb y = ix2 (row t (x 0)) (⟨1024 * k.val + (x 1).val, by omega⟩ : Fin 4096) := by
      unfold row; blk_ext [idxOut t]
    rw [e0]
    refine (congrArg₂ (fun k d => dup (args m c).ins k (row t (x 0)) d) (Fin.ext ?_) (Fin.ext ?_) : _ = dup (args m c).ins _ _ _)
    · show k.val = (1024 * k.val + (x 1).val) / 1024; omega
    · show (x 1).val = (1024 * k.val + (x 1).val) % 1024; omega
  by_cases h : t.val % 16 = 0
  · rw [outsAt0_A m c t h]; frame_out
    canon_tiles x hx
    · refine Eq.trans ?_ (e 3 x hx0 (by show _ = 1024 * 3 + _; omega))
      idx_vars x; exact dup3 m c t x0 x1
    · refine Eq.trans ?_ (e 2 x hx0 (by show _ = 1024 * 2 + _; omega))
      idx_vars x; exact dup2 m c t x0 x1
    · refine Eq.trans ?_ (e 1 x hx0 (by show _ = 1024 * 1 + _; omega))
      idx_vars x; pointwise [dup1]; exact dup1 m c t x0 x1
    · refine Eq.trans ?_ (e 0 x hx0 (by show _ = 1024 * 0 + _; omega))
      idx_vars x; exact dup0 m c t x0 x1
  · rw [outsAt0_B m c t h]; frame_out
    canon_tiles x hx
    · refine Eq.trans ?_ (e 3 x hx0 (by show _ = 1024 * 3 + _; omega))
      idx_vars x; exact dup3 m c t x0 x1
    · refine Eq.trans ?_ (e 2 x hx0 (by show _ = 1024 * 2 + _; omega))
      idx_vars x; exact dup2 m c t x0 x1
    · refine Eq.trans ?_ (e 1 x hx0 (by show _ = 1024 * 1 + _; omega))
      idx_vars x; pointwise [dup1]; exact dup1 m c t x0 x1
    · refine Eq.trans ?_ (e 0 x hx0 (by show _ = 1024 * 0 + _; omega))
      idx_vars x; exact dup0 m c t x0 x1

end Cert.Merge.Kern

end
-- ==== Proof.MergeBias.lean ====
/- The gate bias's gradient, one block of the kernel kept over the sixteen points: the first point clears it, every point
   adds its 256 rows' part to each of the four mixers' rows, and the last leaves the sum over all 4096 rows. -/
module

public import proofs.«01_k».proof.Proof.MergeBlock
public import Idealize.ShloMosaic.Lib.Pipeline.ReadBack

@[expose] public section

set_option maxRecDepth 16384

noncomputable section

namespace Cert.Merge.Kern

open Cert.KernelIdeal Cert.KernelIdeal.Gen Cert.Merge
open Idealize.ShloMosaic Idealize.ShloMosaic.TcCoe Idealize.SL.Sem
open Idealize.ShloMosaic.Pipeline (Dat)
open scoped BigOperators

variable (m : (ℓ : Loc nD τ sig) → Buf (Elt Ideal) ℓ)

variable (c : Dev nD)

/-- Mixer `0`'s row after a point: what it was, and that point's part. -/
theorem row0 (t : Fin cfg0.N) (z : FVec Ideal S1x1024 .f32) (a : Fin 1) (d : Fin 1024) :
    k0_pay14 (k0_pay5 (iblk m c 0 t) (iblk m c 15 t)) (k0_pay7 (iblk m c 5 t) (iblk m c 6 t) (View.ld (iblk m c 13 t) (Rect.unit ![0, 0] ![1, 1024] inb_S4x1024_S1x1024_0_0))) (k0_pay8 (iblk m c 1 t) (View.ld (iblk m c 14 t) (Rect.unit ![0, 0, 0, 0] ![1, 1, 512, 1024] inb_S1x4x512x1024_S1x1x512x1024_0_0_0_0))) z (ix2 a d)
      = z (ix2 a d) + dbias (rows m c t) 0 d := by
  pointwise [k0_pay14, dgp0]
  rfl

/-- The constant one, as its bits are read. -/
theorem one_bits : (FloatOps.ofBits FTy.f32 1065353216#32 : Ideal .f32) = (1 : EReal) := by
  pointwise []

/-- Mixer `1`'s. -/
theorem row1 (t : Fin cfg0.N) (u : EReal) (hu : u = 1) (z : FVec Ideal S1x1024 .f32) (a : Fin 1) (d : Fin 1024) :
    k0_pay23 (k0_pay5 (iblk m c 0 t) (iblk m c 15 t)) (k0_pay16 (iblk m c 7 t) (iblk m c 8 t) (View.ld (iblk m c 13 t) (Rect.unit ![1, 0] ![1, 1024] inb_S4x1024_S1x1024_1_0))) u (iblk m c 2 t) (View.ld (iblk m c 14 t) (Rect.unit ![0, 1, 0, 0] ![1, 1, 512, 1024] inb_S1x4x512x1024_S1x1x512x1024_0_1_0_0)) z (ix2 a d)
      = z (ix2 a d) + dbias (rows m c t) 1 d := by
  subst hu
  pointwise [k0_pay23, dgp1]
  rfl

/-- Mixer `2`'s. -/
theorem row2 (t : Fin cfg0.N) (z : FVec Ideal S1x1024 .f32) (a : Fin 1) (d : Fin 1024) :
    k0_pay31 (k0_pay5 (iblk m c 0 t) (iblk m c 15 t)) (iblk m c 9 t) (iblk m c 10 t) (View.ld (iblk m c 13 t) (Rect.unit ![2, 0] ![1, 1024] inb_S4x1024_S1x1024_2_0)) (iblk m c 3 t) (View.ld (iblk m c 14 t) (Rect.unit ![0, 2, 0, 0] ![1, 1, 512, 1024] inb_S1x4x512x1024_S1x1x512x1024_0_2_0_0)) z (ix2 a d)
      = z (ix2 a d) + dbias (rows m c t) 2 d := by
  pointwise [k0_pay31, dgp2]
  rfl

/-- Mixer `3`'s. -/
theorem row3 (t : Fin cfg0.N) (z : FVec Ideal S1x1024 .f32) (a : Fin 1) (d : Fin 1024) :
    k0_pay1 (k0_pay37 (k0_pay5 (iblk m c 0 t) (iblk m c 15 t)) (iblk m c 11 t) (iblk m c 12 t) (View.ld (iblk m c 13 t) (Rect.unit ![3, 0] ![1, 1024] inb_S4x1024_S1x1024_3_0)) (iblk m c 4 t) (View.ld (iblk m c 14 t) (Rect.unit ![0, 3, 0, 0] ![1, 1, 512, 1024] inb_S1x4x512x1024_S1x1x512x1024_0_3_0_0))) z (ix2 a d)
      = z (ix2 a d) + dbias (rows m c t) 3 d := by
  pointwise [k0_pay1, dgp3]
  rfl

/-- The first point's part over the cleared block. -/
theorem bias_first (t : Fin cfg0.N) (h : t.val % 16 = 0) (i : Fin 4) (d : Fin 1024) :
    (outsAt0 m c t.val t.isLt).2.2.2.2.2.2.2.2 (ix2 i d) = 0 + dbias (rows m c t) i d := by
  rw [outsAt0_A m c t h]
  frame_out
  simp (disch := decide) only [↓View.readCov_skip]
  simp (disch := decide) only [View.readCov_fill]
  refine (View.canon_append_of_piecesOf (fun y => 0 + dbias (rows m c t) (y 0) (y 1)) [_] [_, _, _, _] ?_ (ix2 i d) ?_).trans ?_
  · refine ⟨?_, ?_, ?_, ?_, trivial⟩ <;> intro x <;> idx_vars x
    · refine (row3 m c t _ x0 x1).trans (congrArg₂ (· + ·) ?_ (congrArg₂ (dbias (rows m c t)) (Fin.ext ?_) (Fin.ext ?_)))
      · pointwise [k0_pay6]
      · show 3 = 3 + 1 * x0.val; omega
      · show x1.val = 0 + 1 * x1.val; omega
    · refine (row2 m c t _ x0 x1).trans (congrArg₂ (· + ·) ?_ (congrArg₂ (dbias (rows m c t)) (Fin.ext ?_) (Fin.ext ?_)))
      · pointwise [k0_pay6]
      · show 2 = 2 + 1 * x0.val; omega
      · show x1.val = 0 + 1 * x1.val; omega
    · refine (row1 m c t _ one_bits _ x0 x1).trans (congrArg₂ (· + ·) ?_ (congrArg₂ (dbias (rows m c t)) (Fin.ext ?_) (Fin.ext ?_)))
      · pointwise [k0_pay6]
      · show 1 = 1 + 1 * x0.val; omega
      · show x1.val = 0 + 1 * x1.val; omega
    · refine (row0 m c t _ x0 x1).trans (congrArg₂ (· + ·) ?_ (congrArg₂ (dbias (rows m c t)) (Fin.ext ?_) (Fin.ext ?_)))
      · pointwise [k0_pay6]
      · show 0 = 0 + 1 * x0.val; omega
      · show x1.val = 0 + 1 * x1.val; omega
  · have mem : ∀ (k : Nat) (inb), i.val = k → (ix2 i d : S4x1024.Idx) ∈ (Rect.unit (s := S4x1024) ![k, 0] ![1, 1024] inb).set := by
      intro k inb hk
      rw [Rect.mem_set_unit]
      intro a
      refine Fin.cases ?_ (fun a => Fin.cases ?_ (fun a => a.elim0) a) a
      · show k ≤ i.val ∧ i.val < k + 1; omega
      · show 0 ≤ d.val ∧ d.val < 0 + 1024; omega
    obtain h | h | h | h : i.val = 3 ∨ i.val = 2 ∨ i.val = 1 ∨ i.val = 0 := by omega
    · exact ⟨_, .head _, mem 3 inb_S4x1024_S1x1024_3_0 h⟩
    · exact ⟨_, .tail _ (.head _), mem 2 inb_S4x1024_S1x1024_2_0 h⟩
    · exact ⟨_, .tail _ (.tail _ (.head _)), mem 1 inb_S4x1024_S1x1024_1_0 h⟩
    · exact ⟨_, .tail _ (.tail _ (.tail _ (.head _))), mem 0 inb_S4x1024_S1x1024_0_0 h⟩
  · rfl

/-- A later point adds its part to what the point before left. -/
theorem bias_next (t : Fin cfg0.N) (h : ¬t.val % 16 = 0) (i : Fin 4) (d : Fin 1024) :
    (outsAt0 m c t.val t.isLt).2.2.2.2.2.2.2.2 (ix2 i d)
      = (outsAt0 m c (t.val - 1) (Nat.lt_of_le_of_lt (Nat.sub_le _ _) t.isLt)).2.2.2.2.2.2.2.2 (ix2 i d) + dbias (rows m c t) i d := by
  rw [outsAt0_B m c t h]; frame_out
  generalize (outsAt0 m c (t.val - 1) (Nat.lt_of_le_of_lt (Nat.sub_le _ _) t.isLt)).2.2.2.2.2.2.2.2 = prev
  canon_tiles x hx <;> idx_vars x
  · obtain rfl : i = 3 := Fin.ext (by have : i.val = 3 + x0.val := hx0; show i.val = 3; omega)
    obtain rfl : d = x1 := Fin.ext hx1
    refine (row3 m c t _ x0 d).trans (congrArg (· + dbias (rows m c t) 3 d) (congrArg prev ?_))
    rw [show x0 = 0 from Subsingleton.elim _ _]
    refine (eq_ix2 _).trans (congrArg₂ ix2 rfl (Fin.ext ?_))
    show 0 + 1 * d.val = d.val; omega
  · obtain rfl : i = 2 := Fin.ext (by have : i.val = 2 + x0.val := hx0; show i.val = 2; omega)
    obtain rfl : d = x1 := Fin.ext hx1
    refine (row2 m c t _ x0 d).trans (congrArg (· + dbias (rows m c t) 2 d) (congrArg prev ?_))
    rw [show x0 = 0 from Subsingleton.elim _ _]
    refine (eq_ix2 _).trans (congrArg₂ ix2 rfl (Fin.ext ?_))
    show 0 + 1 * d.val = d.val; omega
  · obtain rfl : i = 1 := Fin.ext (by have : i.val = 1 + x0.val := hx0; show i.val = 1; omega)
    obtain rfl : d = x1 := Fin.ext hx1
    refine (row1 m c t _ one_bits _ x0 d).trans (congrArg (· + dbias (rows m c t) 1 d) (congrArg prev ?_))
    rw [show x0 = 0 from Subsingleton.elim _ _]
    refine (eq_ix2 _).trans (congrArg₂ ix2 rfl (Fin.ext ?_))
    show 0 + 1 * d.val = d.val; omega
  · obtain rfl : i = 0 := Fin.ext (by have : i.val = x0.val := hx0; show i.val = 0; omega)
    obtain rfl : d = x1 := Fin.ext hx1
    refine (row0 m c t _ x0 d).trans (congrArg (· + dbias (rows m c t) 0 d) (congrArg prev ?_))
    rw [show x0 = 0 from Subsingleton.elim _ _]
    refine (eq_ix2 _).trans (congrArg₂ ix2 rfl (Fin.ext ?_))
    show 0 + 1 * d.val = d.val; omega
theorem N_16 : cfg0.N = 16 := rfl

/-- The gate bias's gradient at the end. -/
theorem final24 : (dats m 0 c).arrAt 24 (cfgs 0).N = rDbias (args m c) := by
  refine (dats m 0 c).arrAt_eq_of_after_last 24 t0_15 (by decide +kernel) _ fun j => ?_
  blk_simp
  rw [after0_24]
  idx_vars j
  rw [Pipeline.eq_sum_fin_of_reset_step_apply_last (fun n h => (outsAt0 m c n h).2.2.2.2.2.2.2.2) 16 (fun _ => 0)
    (fun t j => dbias (rows m c t) (j 0) (j 1))
    (fun t h j => by idx_vars j; exact bias_first m c t h j0 j1)
    (fun t h j => by idx_vars j; exact bias_next m c t h j0 j1) (le_of_eq N_16) t0_15 rfl (ix2 j0 j1), zero_add]
  show _ = dbias (args m c).ins j0 j1
  unfold dbias
  exact Fin.sum_mul_add_congr (L := 4096) (S := 16) (n := 256) (f := fun r => dgp (args m c).ins j0 r j1) fun s k hl =>
    congrArg (fun r => dgp (args m c).ins j0 r j1) (Fin.ext (show 256 * s.val + k.val = s.val * 256 + k.val by omega))

end Cert.Merge.Kern

end
-- ==== Proof.MergeRef.lean ====
/- What the reference computes, entry by entry: each of its nine results is the function of `MergeSpec` named beside it. -/
module

public import proofs.«01_k».proof.Proof.MergeSpec
public import proofs.«01_k».proof.Proof.Gen.ReferenceIdeal.Read

@[expose] public section

set_option maxRecDepth 16384

noncomputable section

namespace Cert.Merge.Ref

open Idealize.ShloMosaic Cert.ReferenceIdeal Cert.ReferenceIdeal.Gen Cert.ReferenceIdeal.Read Cert.Merge
open scoped BigOperators

variable (A : Args)

theorem v14 (r : Fin 4096) (k : Fin 4) (j : Fin 512) :
    val_main_v14 (F := Ideal) A.b0 A.b1 A.b2 A.b3 (ix3 r k j) = A.ins.br k r j := by
  pointwise [val_main_v14, val_main_v10, val_main_v11, val_main_v12, val_main_v13, val_main_v0, val_main_v1, val_main_v2, val_main_v3]
  fin_cases k <;> simp [Args.ins]

theorem v6 (k : Fin 4) (j : Fin 512) (d : Fin 1024) : val_main_v6 (F := Ideal) A.wb (ix3 k j d) = A.wb (ix4 0 k j d) := by
  pointwise [val_main_v6, val_main_v5, val_main_v4]

theorem v9 (d e : Fin 1024) : val_main_v9 (F := Ideal) A.wo (ix2 d e) = A.wo (ix3 0 d e) := by
  pointwise [val_main_v9, val_main_v8, val_main_v7]

theorem v16 (r : Fin 4096) (k : Fin 4) (d : Fin 1024) :
    val_main_v16 (F := Ideal) A.b0 A.b1 A.b2 A.b3 A.wb (ix3 r k d) = up A.ins k r d := by
  pointwise [val_main_v16, val_main_v15, v14, v6]
  unfold up Args.ins
  exact Finset.sum_congr rfl fun j _ => mul_comm _ _

theorem v27 (r : Fin 4096) (k : Fin 4) (d : Fin 1024) :
    val_main_v27 (F := Ideal) A.proj A.bias (ix3 r k d) = gate A.ins k r d := by
  pointwise [val_main_v27, val_main_v26, val_main_cst_0, val_main_v25, val_main_v24, val_main_cst, val_main_v23, val_main_v22, val_main_v21,
    val_main_v20, val_main_v19, val_main_v18, val_main_v17]
  unfold gate Args.ins
  simp only [mul_comm k.val 1024]

theorem v34 (r : Fin 4096) (d : Fin 1024) : val_main_v34 (F := Ideal) A.dxo A.wo (ix2 r d) = dm A.ins r d := by
  pointwise [val_main_v34, v9]
  rfl

theorem v32 (r : Fin 4096) (d : Fin 1024) :
    val_main_v32 (F := Ideal) A.b0 A.b1 A.b2 A.b3 A.proj A.bias A.wb (ix2 r d) = merged A.ins r d := by
  pointwise [val_main_v32, val_main_cst_2, val_main_v31, v27, v16]
  rfl

theorem v36 (r : Fin 4096) (k : Fin 4) (d : Fin 1024) :
    val_main_v36 (F := Ideal) A.dxo A.proj A.bias A.wo (ix3 r k d) = dup A.ins k r d := by
  pointwise [val_main_v36, v27, val_main_v35, v34]
  exact mul_comm _ _

theorem v38 (r : Fin 4096) (k : Fin 4) (d : Fin 1024) :
    val_main_v38 (F := Ideal) A.dxo A.b0 A.b1 A.b2 A.b3 A.proj A.bias A.wb A.wo (ix3 r k d) = dgp A.ins k r d := by
  pointwise [val_main_v38, val_main_v37, val_main_v35, v34, v16, val_main_v30, v27, val_main_v29, val_main_v28, val_main_cst_1]
  exact (mul_assoc _ _ _).symm

theorem v41 (k : Fin 4) (d : Fin 1024) :
    val_main_v41 (F := Ideal) A.dxo A.b0 A.b1 A.b2 A.b3 A.proj A.bias A.wb A.wo (ix2 k d) = dbias A.ins k d := by
  pointwise [val_main_v41, val_main_cst_4, val_main_v40, val_main_v39, val_main_cst_3, v38]
  rw [Fin.sum_univ_one]
  rfl

theorem v45 (r : Fin 4096) (k : Fin 4) (j : Fin 512) :
    val_main_v45 (F := Ideal) A.dxo A.proj A.bias A.wb A.wo (ix3 r k j) = db A.ins k r j := by
  pointwise [val_main_v45, val_main_v44, val_main_v43, v36, v6]
  rfl

theorem v47 (r : Fin 4096) (j : Fin 512) : val_main_v47 (F := Ideal) A.dxo A.proj A.bias A.wb A.wo (ix2 r j) = db A.ins 0 r j := by
  pointwise [val_main_v47, val_main_v46, v45]

theorem v49 (r : Fin 4096) (j : Fin 512) : val_main_v49 (F := Ideal) A.dxo A.proj A.bias A.wb A.wo (ix2 r j) = db A.ins 1 r j := by
  pointwise [val_main_v49, val_main_v48, v45]

theorem v51 (r : Fin 4096) (j : Fin 512) : val_main_v51 (F := Ideal) A.dxo A.proj A.bias A.wb A.wo (ix2 r j) = db A.ins 2 r j := by
  pointwise [val_main_v51, val_main_v50, v45]

theorem v53 (r : Fin 4096) (j : Fin 512) : val_main_v53 (F := Ideal) A.dxo A.proj A.bias A.wb A.wo (ix2 r j) = db A.ins 3 r j := by
  pointwise [val_main_v53, val_main_v52, v45]

/-- Column `c` of the gates' array belongs to mixer `c / 1024`, channel `c % 1024`. -/
theorem v54 (r c : Fin 4096) :
    val_main_v54 (F := Ideal) A.dxo A.b0 A.b1 A.b2 A.b3 A.proj A.bias A.wb A.wo (ix2 r c)
      = dgp A.ins ⟨c.val / 1024, by omega⟩ r ⟨c.val % 1024, by omega⟩ := by
  pointwise [val_main_v54, val_main_v42, v38]

theorem v56 (r c : Fin 4096) :
    val_main_v56 (F := Ideal) A.dxo A.proj A.bias A.wo (ix2 r c) = dup A.ins ⟨c.val / 1024, by omega⟩ r ⟨c.val % 1024, by omega⟩ := by
  pointwise [val_main_v56, val_main_v55, v36]

theorem v57 (r : Fin 4096) (d : Fin 1024) :
    val_main_v57 (F := Ideal) A.b0 A.b1 A.b2 A.b3 A.proj A.bias A.wb (ix2 r d) = merged A.ins r d := by
  pointwise [val_main_v57, v32]

theorem v58 (r : Fin 4096) (d : Fin 1024) : val_main_v58 (F := Ideal) A.dxo (ix2 r d) = A.dxo (ix2 r d) := by
  pointwise [val_main_v58]

/-! ## The results as arrays -/

theorem eq_rDb0 : val_main_v47 (F := Ideal) A.dxo A.proj A.bias A.wb A.wo = rDb A 0 := by
  funext y
  idx_vars y
  exact v47 A y0 y1

theorem eq_rDb1 : val_main_v49 (F := Ideal) A.dxo A.proj A.bias A.wb A.wo = rDb A 1 := by
  funext y
  idx_vars y
  exact v49 A y0 y1

theorem eq_rDb2 : val_main_v51 (F := Ideal) A.dxo A.proj A.bias A.wb A.wo = rDb A 2 := by
  funext y
  idx_vars y
  exact v51 A y0 y1

theorem eq_rDb3 : val_main_v53 (F := Ideal) A.dxo A.proj A.bias A.wb A.wo = rDb A 3 := by
  funext y
  idx_vars y
  exact v53 A y0 y1

theorem eq_rDgp : val_main_v54 (F := Ideal) A.dxo A.b0 A.b1 A.b2 A.b3 A.proj A.bias A.wb A.wo = rDgp A := by
  funext y
  idx_vars y
  exact v54 A y0 y1

theorem eq_rDup : val_main_v56 (F := Ideal) A.dxo A.proj A.bias A.wo = rDup A := by
  funext y
  idx_vars y
  exact v56 A y0 y1

theorem eq_rMerged : val_main_v57 (F := Ideal) A.b0 A.b1 A.b2 A.b3 A.proj A.bias A.wb = rMerged A := by
  funext y
  idx_vars y
  exact v57 A y0 y1

theorem eq_rDxo : val_main_v58 (F := Ideal) A.dxo = rDxo A := by
  funext y
  idx_vars y
  exact v58 A y0 y1

theorem eq_rDbias : val_main_v41 (F := Ideal) A.dxo A.b0 A.b1 A.b2 A.b3 A.proj A.bias A.wb A.wo = rDbias A := by
  funext y
  idx_vars y
  exact v41 A y0 y1

end Cert.Merge.Ref

end
-- ==== Proof.MergeClaim.lean ====
/- The gradient of the gated merge: the kernel's nine results are the reference's. -/
module

public import proofs.«01_k».proof.Defs
public import proofs.«01_k».proof.Proof.MergeKernel
public import proofs.«01_k».proof.Proof.MergeBias
public import proofs.«01_k».proof.Proof.MergeRef
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.Merge

open Idealize.ShloMosaic Idealize.SL.Sem

/-- The reference's arguments, as it finds them. -/
def Ref.args (m : (ℓ : Loc Cert.ReferenceIdeal.nD Cert.ReferenceIdeal.τ Cert.ReferenceIdeal.sig) → Buf (Elt Ideal) ℓ) (c : Dev Cert.ReferenceIdeal.nD) : Args :=
  ⟨m ((c.tc : Thread Cert.ReferenceIdeal.nD Cert.ReferenceIdeal.τ).loc Cert.ReferenceIdeal.main_arg0), m ((c.tc : Thread Cert.ReferenceIdeal.nD Cert.ReferenceIdeal.τ).loc Cert.ReferenceIdeal.main_arg1), m ((c.tc : Thread Cert.ReferenceIdeal.nD Cert.ReferenceIdeal.τ).loc Cert.ReferenceIdeal.main_arg2), m ((c.tc : Thread Cert.ReferenceIdeal.nD Cert.ReferenceIdeal.τ).loc Cert.ReferenceIdeal.main_arg3), m ((c.tc : Thread Cert.ReferenceIdeal.nD Cert.ReferenceIdeal.τ).loc Cert.ReferenceIdeal.main_arg4), m ((c.tc : Thread Cert.ReferenceIdeal.nD Cert.ReferenceIdeal.τ).loc Cert.ReferenceIdeal.main_arg5), m ((c.tc : Thread Cert.ReferenceIdeal.nD Cert.ReferenceIdeal.τ).loc Cert.ReferenceIdeal.main_arg6), m ((c.tc : Thread Cert.ReferenceIdeal.nD Cert.ReferenceIdeal.τ).loc Cert.ReferenceIdeal.main_arg7), m ((c.tc : Thread Cert.ReferenceIdeal.nD Cert.ReferenceIdeal.τ).loc Cert.ReferenceIdeal.main_arg8)⟩

/-- The reference ends with the nine arrays of `MergeSpec`, its arguments as they were. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v47) = rDb (Ref.args m c) 0
      ∧ r.2.mem ((c.tc : Thread Cert.ReferenceIdeal.nD Cert.ReferenceIdeal.τ).loc Cert.ReferenceIdeal.main_v49) = rDb (Ref.args m c) 1
      ∧ r.2.mem ((c.tc : Thread Cert.ReferenceIdeal.nD Cert.ReferenceIdeal.τ).loc Cert.ReferenceIdeal.main_v51) = rDb (Ref.args m c) 2
      ∧ r.2.mem ((c.tc : Thread Cert.ReferenceIdeal.nD Cert.ReferenceIdeal.τ).loc Cert.ReferenceIdeal.main_v53) = rDb (Ref.args m c) 3
      ∧ r.2.mem ((c.tc : Thread Cert.ReferenceIdeal.nD Cert.ReferenceIdeal.τ).loc Cert.ReferenceIdeal.main_v54) = rDgp (Ref.args m c)
      ∧ r.2.mem ((c.tc : Thread Cert.ReferenceIdeal.nD Cert.ReferenceIdeal.τ).loc Cert.ReferenceIdeal.main_v56) = rDup (Ref.args m c)
      ∧ r.2.mem ((c.tc : Thread Cert.ReferenceIdeal.nD Cert.ReferenceIdeal.τ).loc Cert.ReferenceIdeal.main_v57) = rMerged (Ref.args m c)
      ∧ r.2.mem ((c.tc : Thread Cert.ReferenceIdeal.nD Cert.ReferenceIdeal.τ).loc Cert.ReferenceIdeal.main_v58) = rDxo (Ref.args m c)
      ∧ r.2.mem ((c.tc : Thread Cert.ReferenceIdeal.nD Cert.ReferenceIdeal.τ).loc Cert.ReferenceIdeal.main_v41) = rDbias (Ref.args m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) := by
  refine (θ_run _ _ _).mono (fun r h c => ?_) (Cert.ReferenceIdeal.Value.run m g)
  obtain ⟨h0, h1, h2, h3, h4, h5, h6, h7, h8, ha⟩ := h c
  exact ⟨h0.trans ((Cert.ReferenceIdeal.Read.val_main_v47_eq ..).trans (Ref.eq_rDb0 (Ref.args m c))), h1.trans ((Cert.ReferenceIdeal.Read.val_main_v49_eq ..).trans (Ref.eq_rDb1 (Ref.args m c))), h2.trans ((Cert.ReferenceIdeal.Read.val_main_v51_eq ..).trans (Ref.eq_rDb2 (Ref.args m c))), h3.trans ((Cert.ReferenceIdeal.Read.val_main_v53_eq ..).trans (Ref.eq_rDb3 (Ref.args m c))), h4.trans ((Cert.ReferenceIdeal.Read.val_main_v54_eq ..).trans (Ref.eq_rDgp (Ref.args m c))), h5.trans ((Cert.ReferenceIdeal.Read.val_main_v56_eq ..).trans (Ref.eq_rDup (Ref.args m c))), h6.trans ((Cert.ReferenceIdeal.Read.val_main_v57_eq ..).trans (Ref.eq_rMerged (Ref.args m c))), h7.trans ((Cert.ReferenceIdeal.Read.val_main_v58_eq ..).trans (Ref.eq_rDxo (Ref.args m c))), h8.trans ((Cert.ReferenceIdeal.Read.val_main_v41_eq ..).trans (Ref.eq_rDbias (Ref.args m c))), ha⟩

/-- So does the kernel. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = rDb (Kern.args m c) 0
      ∧ r.2.mem ((c.tc : Thread Cert.KernelIdeal.nD Cert.KernelIdeal.τ).loc Cert.KernelIdeal.main_v0_1) = rDb (Kern.args m c) 1
      ∧ r.2.mem ((c.tc : Thread Cert.KernelIdeal.nD Cert.KernelIdeal.τ).loc Cert.KernelIdeal.main_v0_2) = rDb (Kern.args m c) 2
      ∧ r.2.mem ((c.tc : Thread Cert.KernelIdeal.nD Cert.KernelIdeal.τ).loc Cert.KernelIdeal.main_v0_3) = rDb (Kern.args m c) 3
      ∧ r.2.mem ((c.tc : Thread Cert.KernelIdeal.nD Cert.KernelIdeal.τ).loc Cert.KernelIdeal.main_v0_4) = rDgp (Kern.args m c)
      ∧ r.2.mem ((c.tc : Thread Cert.KernelIdeal.nD Cert.KernelIdeal.τ).loc Cert.KernelIdeal.main_v0_5) = rDup (Kern.args m c)
      ∧ r.2.mem ((c.tc : Thread Cert.KernelIdeal.nD Cert.KernelIdeal.τ).loc Cert.KernelIdeal.main_v0_6) = rMerged (Kern.args m c)
      ∧ r.2.mem ((c.tc : Thread Cert.KernelIdeal.nD Cert.KernelIdeal.τ).loc Cert.KernelIdeal.main_v0_7) = rDxo (Kern.args m c)
      ∧ r.2.mem ((c.tc : Thread Cert.KernelIdeal.nD Cert.KernelIdeal.τ).loc Cert.KernelIdeal.main_v0_8) = rDbias (Kern.args m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) := by
  refine (θ_run _ _ _).mono (fun r h c => ?_) (θ_run_and (Cert.KernelIdeal.Gen.unchanged m g) (Cert.KernelIdeal.Gen.run_main m g))
  exact ⟨((h.2 c).1 16).trans (Kern.final16 m c), ((h.2 c).1 17).trans (Kern.final17 m c), ((h.2 c).1 18).trans (Kern.final18 m c), ((h.2 c).1 19).trans (Kern.final19 m c), ((h.2 c).1 20).trans (Kern.final20 m c), ((h.2 c).1 21).trans (Kern.final21 m c), ((h.2 c).1 22).trans (Kern.final22 m c), ((h.2 c).1 23).trans (Kern.final23 m c), ((h.2 c).1 24).trans (Kern.final24 m c), h.1 c⟩

/-- The reference alone: it keeps its arguments, and has no semaphore. -/
theorem ref_frame : Cert.quiescent_ReferenceIdeal := fun m g _ =>
  (θ_run _ _ _).mono (fun r h => ⟨fun c => (h c).2.2.2.2.2.2.2.2.2, sem_eq_zero_of_no_sems (by decide) r.2⟩) (Cert.ReferenceIdeal.Value.run m g)

/-- From the same arguments both end with the same nine arrays. -/
theorem algebraic : Cert.algebraic_KernelIdeal_ReferenceIdeal := by
  intro m g m' g' _ hagree
  refine ⟨fun c => rDb (Kern.args m c) 0, fun c => rDb (Kern.args m c) 1, fun c => rDb (Kern.args m c) 2, fun c => rDb (Kern.args m c) 3, fun c => rDgp (Kern.args m c), fun c => rDup (Kern.args m c), fun c => rMerged (Kern.args m c), fun c => rDxo (Kern.args m c), fun c => rDbias (Kern.args m c), kernel_run m g, ?_⟩
  refine (θ_run _ _ _).mono (fun r h c => ?_) (ref_run m' g')
  obtain ⟨e0, e1, e2, e3, e4, e5, e6, e7, e8, e9⟩ := hagree c
  have e : Kern.args m c = Ref.args m' c := by
    unfold Kern.args Ref.args
    rw [e0, e1, e2, e3, e4, e5, e6, e7, e8]
  beta_reduce
  rw [e]
  exact h c

end Cert.Merge

end
-- ==== Proof.PieceSpec.lean ====
/- The five cotangents of the projection's columns, side by side, and the two products taken of them. -/
module

public import Idealize.ShloMosaic.Lib.Pointwise

@[expose] public section

noncomputable section

namespace Cert.Piece

open Idealize.ShloMosaic
open scoped BigOperators

variable (h : FVec Ideal ⟨2, ![4096, 1024]⟩ .bf16)
variable (a0 : FVec Ideal ⟨2, ![4096, 2048]⟩ .bf16)
variable (a1 : FVec Ideal ⟨2, ![4096, 1024]⟩ .bf16)
variable (a2 : FVec Ideal ⟨2, ![4096, 512]⟩ .bf16)
variable (a3 : FVec Ideal ⟨2, ![4096, 1024]⟩ .bf16)
variable (a4 : FVec Ideal ⟨2, ![4096, 4096]⟩ .bf16)
variable (w : FVec Ideal ⟨3, ![4, 1024, 8704]⟩ .bf16)

/-- The cotangents side by side: the columns of `a0`, then those of `a1`, up to `a4`. -/
def side (i : Fin 4096) (x : Fin 8704) : EReal :=
  if h : x.val < 2048 then a0 (ix2 i ⟨x.val, h⟩)
  else if h : x.val - 2048 < 1024 then a1 (ix2 i ⟨x.val - 2048, h⟩)
  else if h : x.val - 2048 - 1024 < 512 then a2 (ix2 i ⟨x.val - 2048 - 1024, h⟩)
  else if h : x.val - 2048 - 1024 - 512 < 1024 then a3 (ix2 i ⟨x.val - 2048 - 1024 - 512, h⟩)
  else a4 (ix2 i ⟨x.val - 2048 - 1024 - 512 - 1024, by have := x.isLt; omega⟩)

theorem side0 (i : Fin 4096) (x : Fin 2048) (y : Fin 8704) (e : y.val = 0 + x.val) : side a0 a1 a2 a3 a4 i y = a0 (ix2 i x) := by
  have := x.isLt
  unfold side
  rw [dif_pos (by omega)]
  exact congrArg (fun z => a0 (ix2 i z)) (Fin.ext (by simp only []; omega))

theorem side1 (i : Fin 4096) (x : Fin 1024) (y : Fin 8704) (e : y.val = 2048 + x.val) : side a0 a1 a2 a3 a4 i y = a1 (ix2 i x) := by
  have := x.isLt
  unfold side
  repeat rw [dif_neg (by omega)]
  rw [dif_pos (by omega)]
  exact congrArg (fun z => a1 (ix2 i z)) (Fin.ext (by simp only []; omega))

theorem side2 (i : Fin 4096) (x : Fin 512) (y : Fin 8704) (e : y.val = 3072 + x.val) : side a0 a1 a2 a3 a4 i y = a2 (ix2 i x) := by
  have := x.isLt
  unfold side
  repeat rw [dif_neg (by omega)]
  rw [dif_pos (by omega)]
  exact congrArg (fun z => a2 (ix2 i z)) (Fin.ext (by simp only []; omega))

theorem side3 (i : Fin 4096) (x : Fin 1024) (y : Fin 8704) (e : y.val = 3584 + x.val) : side a0 a1 a2 a3 a4 i y = a3 (ix2 i x) := by
  have := x.isLt
  unfold side
  repeat rw [dif_neg (by omega)]
  rw [dif_pos (by omega)]
  exact congrArg (fun z => a3 (ix2 i z)) (Fin.ext (by simp only []; omega))

theorem side4 (i : Fin 4096) (x : Fin 4096) (y : Fin 8704) (e : y.val = 4608 + x.val) : side a0 a1 a2 a3 a4 i y = a4 (ix2 i x) := by
  have := x.isLt
  unfold side
  repeat rw [dif_neg (by omega)]
  exact congrArg (fun z => a4 (ix2 i z)) (Fin.ext (by simp only []; omega))

/-- The gradient of the projection's weight. -/
def dw : FVec Ideal ⟨2, ![1024, 8704]⟩ .bf16 := fun y =>
  ∑ l : Fin 4096, h (ix2 l (y 0)) * side a0 a1 a2 a3 a4 l (y 1)

/-- The gradient of its input, with layer 0's weight. -/
def dh : FVec Ideal ⟨2, ![4096, 1024]⟩ .f32 := fun y =>
  ∑ x : Fin 8704, side a0 a1 a2 a3 a4 (y 0) x * w (ix3 0 (y 1) x)

/-- A sum over the columns is the sum over each part. -/
theorem sum_parts (f : Fin 8704 → EReal) :
    ∑ x, f x = ∑ x : Fin 2048, f ⟨x.val, by omega⟩ + ∑ x : Fin 1024, f ⟨2048 + x.val, by omega⟩ + ∑ x : Fin 512, f ⟨3072 + x.val, by omega⟩
      + ∑ x : Fin 1024, f ⟨3584 + x.val, by omega⟩ + ∑ x : Fin 4096, f ⟨4608 + x.val, by omega⟩ := by
  refine (Fin.sum_univ_add (a := 4608) (b := 4096) f).trans (congrArg₂ (· + ·) ?_ rfl)
  refine (Fin.sum_univ_add (a := 3584) (b := 1024) _).trans (congrArg₂ (· + ·) ?_ rfl)
  refine (Fin.sum_univ_add (a := 3072) (b := 512) _).trans (congrArg₂ (· + ·) ?_ rfl)
  exact Fin.sum_univ_add (a := 2048) (b := 1024) _

/-- `dh`, as the sum of five products. -/
theorem dh_parts (i : Fin 4096) (j : Fin 1024) :
    dh a0 a1 a2 a3 a4 w (ix2 i j) = ∑ x : Fin 2048, a0 (ix2 i x) * w (ix3 0 j ⟨x.val, by omega⟩) + ∑ x : Fin 1024, a1 (ix2 i x) * w (ix3 0 j ⟨2048 + x.val, by omega⟩) + ∑ x : Fin 512, a2 (ix2 i x) * w (ix3 0 j ⟨3072 + x.val, by omega⟩) + ∑ x : Fin 1024, a3 (ix2 i x) * w (ix3 0 j ⟨3584 + x.val, by omega⟩) + ∑ x : Fin 4096, a4 (ix2 i x) * w (ix3 0 j ⟨4608 + x.val, by omega⟩) := by
  refine (sum_parts _).trans ?_
  refine congrArg₂ (· + ·) (congrArg₂ (· + ·) (congrArg₂ (· + ·) (congrArg₂ (· + ·) ?_ ?_) ?_) ?_) ?_
  · exact Finset.sum_congr rfl fun x _ => congrArg (· * _) (side0 a0 a1 a2 a3 a4 i x _ (Nat.zero_add _).symm)
  · exact Finset.sum_congr rfl fun x _ => congrArg (· * _) (side1 a0 a1 a2 a3 a4 i x _ rfl)
  · exact Finset.sum_congr rfl fun x _ => congrArg (· * _) (side2 a0 a1 a2 a3 a4 i x _ rfl)
  · exact Finset.sum_congr rfl fun x _ => congrArg (· * _) (side3 a0 a1 a2 a3 a4 i x _ rfl)
  · exact Finset.sum_congr rfl fun x _ => congrArg (· * _) (side4 a0 a1 a2 a3 a4 i x _ rfl)

end Cert.Piece

end
-- ==== Proof.DwIn.lean ====
/- The gradient of the mixers' projection: the kernel's is the reference's. -/
module

public import proofs.«01_k».proof.Defs
public import proofs.«01_k».proof.Proof.PieceSpec
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Claim

@[expose] public section

set_option maxRecDepth 16384

noncomputable section

namespace Cert.DwIn

open Idealize.ShloMosaic Idealize.ShloMosaic.TcCoe Idealize.SL.Sem
open Idealize.ShloMosaic.Pipeline (Dat)
open scoped BigOperators

namespace Kern

open Cert.Kernel2Ideal Cert.Kernel2Ideal.Gen

variable (m : (ℓ : Loc nD τ sig) → Buf (Elt Ideal) ℓ)

/-- Which block of its array each window holds at a point: a part's window stays at its ends outside the part. -/
theorem idx : ∀ t : Fin cfg0.N, win0_0.index t = ![0, 0] ∧ win0_1.index t = ![0, min (t.val - 0) 3] ∧ win0_2.index t = ![0, min (t.val - 4) 1] ∧ win0_3.index t = ![0, min (t.val - 6) 0] ∧ win0_4.index t = ![0, min (t.val - 7) 1] ∧ win0_5.index t = ![0, min (t.val - 9) 7] ∧ win0_6.index t = ![0, t.val] :=
  (by decide +kernel : ∀ t : Fin grid0.N, _)

theorem lt (t : Fin cfg0.N) : t.val < 17 := lt_of_lt_of_eq t.isLt N_0

/-- The array's column that column `j` of block `t` is. -/
def col (t : Fin cfg0.N) (j : Fin 512) : Fin 8704 := ⟨512 * t.val + j.val, by have := lt t; omega⟩

variable (c : Dev nD) (t : Fin cfg0.N)

abbrev A0 : FVec Ideal ⟨2, ![4096, 1024]⟩ .bf16 := m ((c : Thread nD τ).loc main_arg0)
abbrev A1 : FVec Ideal ⟨2, ![4096, 2048]⟩ .bf16 := m ((c : Thread nD τ).loc main_arg1)
abbrev A2 : FVec Ideal ⟨2, ![4096, 1024]⟩ .bf16 := m ((c : Thread nD τ).loc main_arg2)
abbrev A3 : FVec Ideal ⟨2, ![4096, 512]⟩ .bf16 := m ((c : Thread nD τ).loc main_arg3)
abbrev A4 : FVec Ideal ⟨2, ![4096, 1024]⟩ .bf16 := m ((c : Thread nD τ).loc main_arg4)
abbrev A5 : FVec Ideal ⟨2, ![4096, 4096]⟩ .bf16 := m ((c : Thread nD τ).loc main_arg5)

theorem in0 (l : Fin 4096) (i : Fin 1024) : iblk m c 0 t (ix2 l i) = A0 m c (ix2 l i) := by
  blk_point [iblk, V, (idx t).1]

theorem in1 (h : 0 ≤ t.val ∧ t.val < 4) (l : Fin 4096) (j : Fin 512) :
    iblk m c 1 t (ix2 l j) = A1 m c (ix2 l ⟨512 * (t.val - 0) + j.val, by omega⟩) := by
  have e : win0_1.index t = ![0, t.val - 0] := (idx t).2.1.trans (by rw [Nat.min_eq_left (by omega)])
  blk_point [iblk, V, e]

/-- What a point of part 1 stores. -/
theorem block1 (h : 0 ≤ t.val ∧ t.val < 4) (i : Fin 1024) (j : Fin 512) :
    k0_pay1 (iblk m c 0 t) (iblk m c 1 t) (ix2 i j) = Piece.dw (A0 m c) (A1 m c) (A2 m c) (A3 m c) (A4 m c) (A5 m c) (ix2 i (col t j)) := by
  pointwise [k0_pay1, in0, in1 m c t h]
  exact Finset.sum_congr rfl fun l _ => congrArg (A0 m c (ix2 l i) * ·) (Piece.side0 (A1 m c) (A2 m c) (A3 m c) (A4 m c) (A5 m c) l ⟨512 * (t.val - 0) + j.val, by omega⟩ (col t j) (by unfold col; simp only []; omega)).symm

theorem in2 (h : 4 ≤ t.val ∧ t.val < 6) (l : Fin 4096) (j : Fin 512) :
    iblk m c 2 t (ix2 l j) = A2 m c (ix2 l ⟨512 * (t.val - 4) + j.val, by omega⟩) := by
  have e : win0_2.index t = ![0, t.val - 4] := (idx t).2.2.1.trans (by rw [Nat.min_eq_left (by omega)])
  blk_point [iblk, V, e]

/-- What a point of part 2 stores. -/
theorem block2 (h : 4 ≤ t.val ∧ t.val < 6) (i : Fin 1024) (j : Fin 512) :
    k0_pay2 (iblk m c 0 t) (iblk m c 2 t) (ix2 i j) = Piece.dw (A0 m c) (A1 m c) (A2 m c) (A3 m c) (A4 m c) (A5 m c) (ix2 i (col t j)) := by
  pointwise [k0_pay2, in0, in2 m c t h]
  exact Finset.sum_congr rfl fun l _ => congrArg (A0 m c (ix2 l i) * ·) (Piece.side1 (A1 m c) (A2 m c) (A3 m c) (A4 m c) (A5 m c) l ⟨512 * (t.val - 4) + j.val, by omega⟩ (col t j) (by unfold col; simp only []; omega)).symm

theorem in3 (h : 6 ≤ t.val ∧ t.val < 7) (l : Fin 4096) (j : Fin 512) :
    iblk m c 3 t (ix2 l j) = A3 m c (ix2 l ⟨512 * (t.val - 6) + j.val, by omega⟩) := by
  have e : win0_3.index t = ![0, t.val - 6] := (idx t).2.2.2.1.trans (by rw [Nat.min_eq_left (by omega)])
  blk_point [iblk, V, e]

/-- What a point of part 3 stores. -/
theorem block3 (h : 6 ≤ t.val ∧ t.val < 7) (i : Fin 1024) (j : Fin 512) :
    k0_pay3 (iblk m c 0 t) (iblk m c 3 t) (ix2 i j) = Piece.dw (A0 m c) (A1 m c) (A2 m c) (A3 m c) (A4 m c) (A5 m c) (ix2 i (col t j)) := by
  pointwise [k0_pay3, in0, in3 m c t h]
  exact Finset.sum_congr rfl fun l _ => congrArg (A0 m c (ix2 l i) * ·) (Piece.side2 (A1 m c) (A2 m c) (A3 m c) (A4 m c) (A5 m c) l ⟨512 * (t.val - 6) + j.val, by omega⟩ (col t j) (by unfold col; simp only []; omega)).symm

theorem in4 (h : 7 ≤ t.val ∧ t.val < 9) (l : Fin 4096) (j : Fin 512) :
    iblk m c 4 t (ix2 l j) = A4 m c (ix2 l ⟨512 * (t.val - 7) + j.val, by omega⟩) := by
  have e : win0_4.index t = ![0, t.val - 7] := (idx t).2.2.2.2.1.trans (by rw [Nat.min_eq_left (by omega)])
  blk_point [iblk, V, e]

/-- What a point of part 4 stores. -/
theorem block4 (h : 7 ≤ t.val ∧ t.val < 9) (i : Fin 1024) (j : Fin 512) :
    k0_pay4 (iblk m c 0 t) (iblk m c 4 t) (ix2 i j) = Piece.dw (A0 m c) (A1 m c) (A2 m c) (A3 m c) (A4 m c) (A5 m c) (ix2 i (col t j)) := by
  pointwise [k0_pay4, in0, in4 m c t h]
  exact Finset.sum_congr rfl fun l _ => congrArg (A0 m c (ix2 l i) * ·) (Piece.side3 (A1 m c) (A2 m c) (A3 m c) (A4 m c) (A5 m c) l ⟨512 * (t.val - 7) + j.val, by omega⟩ (col t j) (by unfold col; simp only []; omega)).symm

theorem in5 (h : 9 ≤ t.val ∧ t.val < 17) (l : Fin 4096) (j : Fin 512) :
    iblk m c 5 t (ix2 l j) = A5 m c (ix2 l ⟨512 * (t.val - 9) + j.val, by omega⟩) := by
  have e : win0_5.index t = ![0, t.val - 9] := (idx t).2.2.2.2.2.1.trans (by rw [Nat.min_eq_left (by omega)])
  blk_point [iblk, V, e]

/-- What a point of part 5 stores. -/
theorem block5 (h : 9 ≤ t.val ∧ t.val < 17) (i : Fin 1024) (j : Fin 512) :
    k0_pay5 (iblk m c 0 t) (iblk m c 5 t) (ix2 i j) = Piece.dw (A0 m c) (A1 m c) (A2 m c) (A3 m c) (A4 m c) (A5 m c) (ix2 i (col t j)) := by
  pointwise [k0_pay5, in0, in5 m c t h]
  exact Finset.sum_congr rfl fun l _ => congrArg (A0 m c (ix2 l i) * ·) (Piece.side4 (A1 m c) (A2 m c) (A3 m c) (A4 m c) (A5 m c) l ⟨512 * (t.val - 9) + j.val, by omega⟩ (col t j) (by unfold col; simp only []; omega)).symm

theorem final : (dats m 0 c).arrAt 6 (cfgs 0).N = Piece.dw (A0 m c) (A1 m c) (A2 m c) (A3 m c) (A4 m c) (A5 m c) := by
  refine (dats m 0 c).arrAt_eq_of_covers 6 _ (by decide +kernel) fun t _ y => ?_
  blk_simp
  rw [after0_6]
  have b := lt t
  have e : ∀ (i : Fin 1024) (j : Fin 512), (win0_6.blk t).view.emb (ix2 i j) = ix2 i (col t j) := fun i j => by
    unfold col; blk_ext [(idx t).2.2.2.2.2.2]
  by_cases h0 : t.val < 4
  · rw [outsAt0_A m c t (by omega) (by omega) (by omega) (by omega) (by omega)]
    frame_out
    idx_vars y
    rw [e y0 y1]
    exact block1 m c t (by omega) y0 y1
  by_cases h1 : t.val < 6
  · rw [outsAt0_B m c t (by omega) (by omega) (by omega) (by omega) (by omega)]
    frame_out
    idx_vars y
    rw [e y0 y1]
    exact block2 m c t (by omega) y0 y1
  by_cases h2 : t.val < 7
  · rw [outsAt0_C m c t (by omega) (by omega) (by omega) (by omega) (by omega)]
    frame_out
    idx_vars y
    rw [e y0 y1]
    exact block3 m c t (by omega) y0 y1
  by_cases h3 : t.val < 9
  · rw [outsAt0_D m c t (by omega) (by omega) (by omega) (by omega) (by omega)]
    frame_out
    idx_vars y
    rw [e y0 y1]
    exact block4 m c t (by omega) y0 y1
  rw [outsAt0_E m c t (by omega) (by omega) (by omega) (by omega) (by omega)]
  frame_out
  idx_vars y
  rw [e y0 y1]
  exact block5 m c t (by omega) y0 y1

end Kern

namespace Ref

open Cert.Reference2Ideal Cert.Reference2Ideal.Read

theorem value (h : FVec Ideal ⟨2, ![4096, 1024]⟩ .bf16) (a0 : FVec Ideal ⟨2, ![4096, 2048]⟩ .bf16) (a1 : FVec Ideal ⟨2, ![4096, 1024]⟩ .bf16) (a2 : FVec Ideal ⟨2, ![4096, 512]⟩ .bf16) (a3 : FVec Ideal ⟨2, ![4096, 1024]⟩ .bf16) (a4 : FVec Ideal ⟨2, ![4096, 4096]⟩ .bf16) :
    val_main_v5 (F := Ideal) h a0 a1 a2 a3 a4 = Piece.dw h a0 a1 a2 a3 a4 := by
  funext y
  idx_vars y
  pointwise [val_main_v5, val_main_v4, val_main_v3, val_main_v2, val_main_v1, val_main_v0]
  exact Finset.sum_congr rfl fun l _ => mul_comm _ _

end Ref

/-- The reference alone: it keeps its arguments, and has no semaphore. -/
theorem ref_frame : Cert.quiescent_Reference2Ideal := fun m g _ =>
  (θ_run _ _ _).mono (fun r h => ⟨fun c => (h c).2, sem_eq_zero_of_no_sems (by decide) r.2⟩) (Cert.Reference2Ideal.Value.run m g)

/-- From the same arguments both end with the same array. -/
theorem algebraic : Cert.algebraic_Kernel2Ideal_Reference2Ideal := by
  intro m g m' g' _ hagree
  refine ⟨fun c => Piece.dw (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)), ?_, ?_⟩
  · refine (θ_run _ _ _).mono (fun r h c => ?_) (θ_run_and (Cert.Kernel2Ideal.Gen.unchanged m g) (Cert.Kernel2Ideal.Gen.run_main m g))
    exact ⟨((h.2 c).1 6).trans (Kern.final m c), h.1 c⟩
  · refine (θ_run _ _ _).mono (fun r h c => ?_) (Cert.Reference2Ideal.Value.run m' g')
    obtain ⟨e0, e1, e2, e3, e4, e5⟩ := hagree c
    refine ⟨(h c).1.trans ((Cert.Reference2Ideal.Read.val_main_v5_eq ..).trans ((Ref.value _ _ _ _ _ _ ).trans ?_)), (h c).2⟩
    beta_reduce
    rw [← e0, ← e1, ← e2, ← e3, ← e4, ← e5]

end Cert.DwIn

end
-- ==== Proof.DhMix.lean ====
/- The gradient of the input of the mixers' projection: the kernel's is the reference's. -/
module

public import proofs.«01_k».proof.Defs
public import proofs.«01_k».proof.Proof.PieceSpec
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.DhMix

open Idealize.ShloMosaic Idealize.ShloMosaic.TcCoe Idealize.SL.Sem
open Idealize.ShloMosaic.Pipeline (Dat)
open scoped BigOperators

namespace Kern

open Cert.Kernel3Ideal Cert.Kernel3Ideal.Gen

variable (m : (ℓ : Loc nD τ sig) → Buf (Elt Ideal) ℓ)

/-- Which block of its array each window holds at a point. -/
theorem idx : ∀ t : Fin cfg0.N, win0_0.index t = ![t.val % 16, 0] ∧ win0_1.index t = ![t.val % 16, 0] ∧ win0_2.index t = ![t.val % 16, 0] ∧ win0_3.index t = ![t.val % 16, 0] ∧ win0_4.index t = ![t.val % 16, 0] ∧ win0_5.index t = ![0, t.val / 16, 0] ∧ win0_6.index t = ![t.val % 16, t.val / 16] :=
  (by decide +kernel : ∀ t : Fin grid0.N, _)

theorem idx0 (t : Fin cfg0.N) : win0_0.index t = ![t.val % 16, 0] := (idx t).1
theorem idx1 (t : Fin cfg0.N) : win0_1.index t = ![t.val % 16, 0] := (idx t).2.1
theorem idx2 (t : Fin cfg0.N) : win0_2.index t = ![t.val % 16, 0] := (idx t).2.2.1
theorem idx3 (t : Fin cfg0.N) : win0_3.index t = ![t.val % 16, 0] := (idx t).2.2.2.1
theorem idx4 (t : Fin cfg0.N) : win0_4.index t = ![t.val % 16, 0] := (idx t).2.2.2.2.1
theorem idx5 (t : Fin cfg0.N) : win0_5.index t = ![0, t.val / 16, 0] := (idx t).2.2.2.2.2.1
theorem idx6 (t : Fin cfg0.N) : win0_6.index t = ![t.val % 16, t.val / 16] := (idx t).2.2.2.2.2.2

/-- The array's row that row `i` of block `t` is. -/
def row (t : Fin cfg0.N) (i : Fin 256) : Fin 4096 := ⟨256 * (t.val % 16) + i.val, by omega⟩

/-- Its column. -/
def col (t : Fin cfg0.N) (j : Fin 512) : Fin 1024 := ⟨512 * (t.val / 16) + j.val, by have : t.val < 32 := lt_of_lt_of_eq t.isLt N_0; omega⟩

variable (c : Dev nD) (t : Fin cfg0.N)

abbrev A0 : FVec Ideal ⟨2, ![4096, 2048]⟩ .bf16 := m ((c : Thread nD τ).loc main_arg0)
abbrev A1 : FVec Ideal ⟨2, ![4096, 1024]⟩ .bf16 := m ((c : Thread nD τ).loc main_arg1)
abbrev A2 : FVec Ideal ⟨2, ![4096, 512]⟩ .bf16 := m ((c : Thread nD τ).loc main_arg2)
abbrev A3 : FVec Ideal ⟨2, ![4096, 1024]⟩ .bf16 := m ((c : Thread nD τ).loc main_arg3)
abbrev A4 : FVec Ideal ⟨2, ![4096, 4096]⟩ .bf16 := m ((c : Thread nD τ).loc main_arg4)
abbrev A5 : FVec Ideal ⟨3, ![4, 1024, 8704]⟩ .bf16 := m ((c : Thread nD τ).loc main_arg5)

theorem in0 (i : Fin 256) (l : Fin 2048) : iblk m c 0 t (ix2 i l) = A0 m c (ix2 (row t i) l) := by
  unfold row; blk_point [iblk, V, idx0 t]

theorem in1 (i : Fin 256) (l : Fin 1024) : iblk m c 1 t (ix2 i l) = A1 m c (ix2 (row t i) l) := by
  unfold row; blk_point [iblk, V, idx1 t]

theorem in2 (i : Fin 256) (l : Fin 512) : iblk m c 2 t (ix2 i l) = A2 m c (ix2 (row t i) l) := by
  unfold row; blk_point [iblk, V, idx2 t]

theorem in3 (i : Fin 256) (l : Fin 1024) : iblk m c 3 t (ix2 i l) = A3 m c (ix2 (row t i) l) := by
  unfold row; blk_point [iblk, V, idx3 t]

theorem in4 (i : Fin 256) (l : Fin 4096) : iblk m c 4 t (ix2 i l) = A4 m c (ix2 (row t i) l) := by
  unfold row; blk_point [iblk, V, idx4 t]

theorem in5 (j : Fin 512) (l : Fin 8704) : iblk m c 5 t (ix3 0 j l) = A5 m c (ix3 0 (col t j) l) := by
  unfold col; blk_point [iblk, V, idx5 t]

/-- What a point stores. -/
theorem block (i : Fin 256) (j : Fin 512) :
    k0_pay1 (iblk m c 0 t) (View.ld (iblk m c 5 t) r0_1) (iblk m c 1 t) (View.ld (iblk m c 5 t) r0_3) (iblk m c 2 t)
      (View.ld (iblk m c 5 t) r0_5) (iblk m c 3 t) (View.ld (iblk m c 5 t) r0_6) (iblk m c 4 t) (View.ld (iblk m c 5 t) r0_8) (ix2 i j)
      = Piece.dh (A0 m c) (A1 m c) (A2 m c) (A3 m c) (A4 m c) (A5 m c) (ix2 (row t i) (col t j)) := by
  refine Eq.trans ?_ (Piece.dh_parts (A0 m c) (A1 m c) (A2 m c) (A3 m c) (A4 m c) (A5 m c) (row t i) (col t j)).symm
  pointwise [k0_pay1, in0, in1, in2, in3, in4, in5]

theorem final : (dats m 0 c).arrAt 6 (cfgs 0).N = Piece.dh (A0 m c) (A1 m c) (A2 m c) (A3 m c) (A4 m c) (A5 m c) := by
  refine (dats m 0 c).arrAt_eq_of_covers 6 _ (by decide +kernel) fun t _ y => ?_
  blk_simp
  rw [after0_6]
  have e : ∀ (i : Fin 256) (j : Fin 512), (win0_6.blk t).view.emb (ix2 i j) = ix2 (row t i) (col t j) := fun i j => by
    unfold row col; blk_ext [idx6 t]
  frame_out
  idx_vars y
  rw [e y0 y1]
  exact block m c t y0 y1

end Kern

namespace Ref

open Cert.Reference3Ideal Cert.Reference3Ideal.Read

theorem value (a0 : FVec Ideal ⟨2, ![4096, 2048]⟩ .bf16) (a1 : FVec Ideal ⟨2, ![4096, 1024]⟩ .bf16) (a2 : FVec Ideal ⟨2, ![4096, 512]⟩ .bf16) (a3 : FVec Ideal ⟨2, ![4096, 1024]⟩ .bf16) (a4 : FVec Ideal ⟨2, ![4096, 4096]⟩ .bf16) (w : FVec Ideal ⟨3, ![4, 1024, 8704]⟩ .bf16) :
    val_main_v5 (F := Ideal) a0 a1 a2 a3 a4 w = Piece.dh a0 a1 a2 a3 a4 w := by
  funext y
  idx_vars y
  pointwise [val_main_v5, val_main_v4, val_main_v3, val_main_v2, val_main_v1, val_main_v0]
  rfl

end Ref

/-- The reference alone: it keeps its arguments, and has no semaphore. -/
theorem ref_frame : Cert.quiescent_Reference3Ideal := fun m g _ =>
  (θ_run _ _ _).mono (fun r h => ⟨fun c => (h c).2, sem_eq_zero_of_no_sems (by decide) r.2⟩) (Cert.Reference3Ideal.Value.run m g)

/-- From the same arguments both end with the same array. -/
theorem algebraic : Cert.algebraic_Kernel3Ideal_Reference3Ideal := by
  intro m g m' g' _ hagree
  refine ⟨fun c => Piece.dh (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)), ?_, ?_⟩
  · refine (θ_run _ _ _).mono (fun r h c => ?_) (θ_run_and (Cert.Kernel3Ideal.Gen.unchanged m g) (Cert.Kernel3Ideal.Gen.run_main m g))
    exact ⟨((h.2 c).1 6).trans (Kern.final m c), h.1 c⟩
  · refine (θ_run _ _ _).mono (fun r h c => ?_) (Cert.Reference3Ideal.Value.run m' g')
    obtain ⟨e0, e1, e2, e3, e4, e5⟩ := hagree c
    refine ⟨(h c).1.trans ((Cert.Reference3Ideal.Read.val_main_v5_eq ..).trans ((Ref.value _ _ _ _ _ _ ).trans ?_)), (h c).2⟩
    beta_reduce
    rw [← e0, ← e1, ← e2, ← e3, ← e4, ← e5]

end Cert.DhMix

end
-- ==== Proof.ProductSpec.lean ====
/- The products of the step, entry by entry, over the extended reals. -/
module

public import Idealize.ShloMosaic.Lib.Pointwise

@[expose] public section

noncomputable section

namespace Cert.Product

open Idealize.ShloMosaic
open scoped BigOperators

variable {k m n : Nat}

/-- The gradient of a weight: the rows' inputs against the rows' cotangents, summed over the rows. -/
def tn (a : FVec Ideal ⟨2, ![k, m]⟩ .bf16) (b : FVec Ideal ⟨2, ![k, n]⟩ .bf16) : FVec Ideal ⟨2, ![m, n]⟩ .bf16 := fun i =>
  ∑ l : Fin k, a (ix2 l (i 0)) * b (ix2 l (i 1))

/-- A product with layer 0's weight. -/
def nn (a : FVec Ideal ⟨2, ![m, k]⟩ .bf16) (w : FVec Ideal ⟨3, ![4, k, n]⟩ .bf16) : FVec Ideal ⟨2, ![m, n]⟩ .f32 := fun i =>
  ∑ l : Fin k, a (ix2 (i 0) l) * w (ix3 0 l (i 1))

end Cert.Product

end
-- ==== Proof.DwFfn1.lean ====
/- The gradient of the feed-forward block's first weight: the kernel's is the reference's. -/
module

public import proofs.«01_k».proof.Defs
public import proofs.«01_k».proof.Proof.ProductSpec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.DwFfn1

open Idealize.ShloMosaic Idealize.ShloMosaic.TcCoe Idealize.SL.Sem
open Idealize.ShloMosaic.Pipeline (Dat)
open scoped BigOperators

namespace Kern

open Cert.Kernel4Ideal Cert.Kernel4Ideal.Gen

variable (m : (ℓ : Loc nD τ sig) → Buf (Elt Ideal) ℓ)

/-- Which block of its array each window holds at a point. -/
theorem idx : ∀ t : Fin cfg0.N, win0_0.index t = ![0, 0] ∧ win0_1.index t = ![0, t.val] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, t.val] := (idx t).2.1
theorem idx2 (t : Fin cfg0.N) : win0_2.index t = ![0, t.val] := (idx t).2.2

/-- The array's row that row `i` of block `t` is. -/
def row (t : Fin cfg0.N) (i : Fin 1024) : Fin 1024 := ⟨1024 * (0) + i.val, by have : t.val < 8 := lt_of_lt_of_eq t.isLt N_0; omega⟩

/-- Its column. -/
def col (t : Fin cfg0.N) (j : Fin 512) : Fin 4096 := ⟨512 * (t.val) + j.val, by have : t.val < 8 := lt_of_lt_of_eq t.isLt N_0; omega⟩

variable (c : Dev nD) (t : Fin cfg0.N)

abbrev A0 : FVec Ideal ⟨2, ![4096, 1024]⟩ .bf16 := m ((c : Thread nD τ).loc main_arg0)
abbrev A1 : FVec Ideal ⟨2, ![4096, 4096]⟩ .bf16 := m ((c : Thread nD τ).loc main_arg1)

theorem in0 (l : Fin 4096) (i : Fin 1024) : iblk m c 0 t (ix2 l i) = A0 m c (ix2 l (row t i)) := by
  unfold row; blk_point [iblk, V, idx0 t]

theorem in1 (l : Fin 4096) (j : Fin 512) : iblk m c 1 t (ix2 l j) = A1 m c (ix2 l (col t j)) := by
  unfold col; blk_point [iblk, V, idx1 t]

/-- What a point stores. -/
theorem block (i : Fin 1024) (j : Fin 512) : k0_pay1 (iblk m c 0 t) (iblk m c 1 t) (ix2 i j) = Product.tn (A0 m c) (A1 m c) (ix2 (row t i) (col t j)) := by
  pointwise [k0_pay1, in0, in1]
  rfl

theorem final : (dats m 0 c).arrAt 2 (cfgs 0).N = Product.tn (A0 m c) (A1 m c) := by
  refine (dats m 0 c).arrAt_eq_of_covers 2 _ (by decide +kernel) fun t _ y => ?_
  blk_simp
  rw [after0_2]
  have e : ∀ (i : Fin 1024) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference4Ideal Cert.Reference4Ideal.Read

theorem value (a : FVec Ideal ⟨2, ![4096, 1024]⟩ .bf16) (b : FVec Ideal ⟨2, ![4096, 4096]⟩ .bf16) : val_main_v4 (F := Ideal) a b = Product.tn a b := by
  funext y
  idx_vars y
  pointwise [val_main_v4, val_main_v3, val_main_v2, val_main_v1, val_main_v0]
  exact Finset.sum_congr rfl fun l _ => mul_comm _ _

end Ref

/-- The reference alone: it keeps its arguments, and has no semaphore. -/
theorem ref_frame : Cert.quiescent_Reference4Ideal := fun m g _ =>
  (θ_run _ _ _).mono (fun r h => ⟨fun c => (h c).2, sem_eq_zero_of_no_sems (by decide) r.2⟩) (Cert.Reference4Ideal.Value.run m g)

/-- From the same arguments both end with the same array. -/
theorem algebraic : Cert.algebraic_Kernel4Ideal_Reference4Ideal := by
  intro m g m' g' _ hagree
  refine ⟨fun c => Product.tn (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run _ _ _).mono (fun r h c => ?_) (θ_run_and (Cert.Kernel4Ideal.Gen.unchanged m g) (Cert.Kernel4Ideal.Gen.run_main m g))
    exact ⟨((h.2 c).1 2).trans (Kern.final m c), h.1 c⟩
  · refine (θ_run _ _ _).mono (fun r h c => ?_) (Cert.Reference4Ideal.Value.run m' g')
    obtain ⟨e0, e1⟩ := hagree c
    refine ⟨(h c).1.trans ((Cert.Reference4Ideal.Read.val_main_v4_eq ..).trans ((Ref.value _ _ ).trans ?_)), (h c).2⟩
    beta_reduce
    rw [← e0, ← e1]

end Cert.DwFfn1

end
-- ==== Proof.DwFfn2.lean ====
/- The gradient of the feed-forward block's second weight: the kernel's is the reference's. -/
module

public import proofs.«01_k».proof.Defs
public import proofs.«01_k».proof.Proof.ProductSpec
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.DwFfn2

open Idealize.ShloMosaic Idealize.ShloMosaic.TcCoe Idealize.SL.Sem
open Idealize.ShloMosaic.Pipeline (Dat)
open scoped BigOperators

namespace Kern

open Cert.Kernel5Ideal Cert.Kernel5Ideal.Gen

variable (m : (ℓ : Loc nD τ sig) → Buf (Elt Ideal) ℓ)

/-- Which block of its array each window holds at a point. -/
theorem idx : ∀ t : Fin cfg0.N, win0_0.index t = ![0, t.val] ∧ win0_1.index t = ![0, 0] ∧ win0_2.index t = ![t.val, 0] :=
  (by decide +kernel : ∀ t : Fin grid0.N, _)

theorem idx0 (t : Fin cfg0.N) : win0_0.index t = ![0, t.val] := (idx t).1
theorem idx1 (t : Fin cfg0.N) : win0_1.index t = ![0, 0] := (idx t).2.1
theorem idx2 (t : Fin cfg0.N) : win0_2.index t = ![t.val, 0] := (idx t).2.2

/-- The array's row that row `i` of block `t` is. -/
def row (t : Fin cfg0.N) (i : Fin 512) : Fin 4096 := ⟨512 * (t.val) + i.val, by have : t.val < 8 := lt_of_lt_of_eq t.isLt N_0; omega⟩

/-- Its column. -/
def col (t : Fin cfg0.N) (j : Fin 1024) : Fin 1024 := ⟨1024 * (0) + j.val, by have : t.val < 8 := lt_of_lt_of_eq t.isLt N_0; omega⟩

variable (c : Dev nD) (t : Fin cfg0.N)

abbrev A0 : FVec Ideal ⟨2, ![4096, 4096]⟩ .bf16 := m ((c : Thread nD τ).loc main_arg0)
abbrev A1 : FVec Ideal ⟨2, ![4096, 1024]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 1024) : iblk m c 1 t (ix2 l j) = A1 m c (ix2 l (col t j)) := by
  unfold col; blk_point [iblk, V, idx1 t]

/-- What a point stores. -/
theorem block (i : Fin 512) (j : Fin 1024) : k0_pay1 (iblk m c 0 t) (iblk m c 1 t) (ix2 i j) = Product.tn (A0 m c) (A1 m c) (ix2 (row t i) (col t j)) := by
  pointwise [k0_pay1, in0, in1]
  rfl

theorem final : (dats m 0 c).arrAt 2 (cfgs 0).N = Product.tn (A0 m c) (A1 m c) := by
  refine (dats m 0 c).arrAt_eq_of_covers 2 _ (by decide +kernel) fun t _ y => ?_
  blk_simp
  rw [after0_2]
  have e : ∀ (i : Fin 512) (j : Fin 1024), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference5Ideal Cert.Reference5Ideal.Read

theorem value (a : FVec Ideal ⟨2, ![4096, 4096]⟩ .bf16) (b : FVec Ideal ⟨2, ![4096, 1024]⟩ .bf16) : val_main_v4 (F := Ideal) a b = Product.tn a b := by
  funext y
  idx_vars y
  pointwise [val_main_v4, val_main_v3, val_main_v2, val_main_v1, val_main_v0]
  exact Finset.sum_congr rfl fun l _ => mul_comm _ _

end Ref

/-- The reference alone: it keeps its arguments, and has no semaphore. -/
theorem ref_frame : Cert.quiescent_Reference5Ideal := fun m g _ =>
  (θ_run _ _ _).mono (fun r h => ⟨fun c => (h c).2, sem_eq_zero_of_no_sems (by decide) r.2⟩) (Cert.Reference5Ideal.Value.run m g)

/-- From the same arguments both end with the same array. -/
theorem algebraic : Cert.algebraic_Kernel5Ideal_Reference5Ideal := by
  intro m g m' g' _ hagree
  refine ⟨fun c => Product.tn (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run _ _ _).mono (fun r h c => ?_) (θ_run_and (Cert.Kernel5Ideal.Gen.unchanged m g) (Cert.Kernel5Ideal.Gen.run_main m g))
    exact ⟨((h.2 c).1 2).trans (Kern.final m c), h.1 c⟩
  · refine (θ_run _ _ _).mono (fun r h c => ?_) (Cert.Reference5Ideal.Value.run m' g')
    obtain ⟨e0, e1⟩ := hagree c
    refine ⟨(h c).1.trans ((Cert.Reference5Ideal.Read.val_main_v4_eq ..).trans ((Ref.value _ _ ).trans ?_)), (h c).2⟩
    beta_reduce
    rw [← e0, ← e1]

end Cert.DwFfn2

end
-- ==== Proof.Proj.lean ====
/- The input projection of the mixers: the kernel's is the reference's. -/
module

public import proofs.«01_k».proof.Defs
public import proofs.«01_k».proof.Proof.ProductSpec
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.Proj

open Idealize.ShloMosaic Idealize.ShloMosaic.TcCoe Idealize.SL.Sem
open Idealize.ShloMosaic.Pipeline (Dat)
open scoped BigOperators

namespace Kern

open Cert.Kernel6Ideal Cert.Kernel6Ideal.Gen

variable (m : (ℓ : Loc nD τ sig) → Buf (Elt Ideal) ℓ)

/-- Which block of its array each window holds at a point. -/
theorem idx : ∀ t : Fin cfg0.N, win0_0.index t = ![0, 0] ∧ win0_1.index t = ![0, 0, t.val] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, 0, t.val] := (idx t).2.1
theorem idx2 (t : Fin cfg0.N) : win0_2.index t = ![0, t.val] := (idx t).2.2

/-- The array's column that column `j` of block `t` is. -/
def col (t : Fin cfg0.N) (j : Fin 512) : Fin 8704 := ⟨512 * t.val + j.val, by have : t.val < 17 := lt_of_lt_of_eq t.isLt N_0; omega⟩

variable (c : Dev nD) (t : Fin cfg0.N)

abbrev A0 : FVec Ideal ⟨2, ![4096, 1024]⟩ .bf16 := m ((c : Thread nD τ).loc main_arg0)
abbrev A1 : FVec Ideal ⟨3, ![4, 1024, 8704]⟩ .bf16 := m ((c : Thread nD τ).loc main_arg1)

theorem in0 (i : Fin 4096) (l : Fin 1024) : iblk m c 0 t (ix2 i l) = A0 m c (ix2 i l) := by
  blk_point [iblk, V, idx0 t]

theorem in1 (l : Fin 1024) (j : Fin 512) : iblk m c 1 t (ix3 0 l j) = A1 m c (ix3 0 l (col t j)) := by
  unfold col; blk_point [iblk, V, idx1 t]

/-- What a point stores. -/
theorem block (i : Fin 4096) (j : Fin 512) : k0_pay1 (iblk m c 0 t) (iblk m c 1 t) (ix2 i j) = Product.nn (A0 m c) (A1 m c) (ix2 i (col t j)) := by
  pointwise [k0_pay1, in0, in1]
  rfl

theorem final : (dats m 0 c).arrAt 2 (cfgs 0).N = Product.nn (A0 m c) (A1 m c) := by
  refine (dats m 0 c).arrAt_eq_of_covers 2 _ (by decide +kernel) fun t _ y => ?_
  blk_simp
  rw [after0_2]
  have e : ∀ (i : Fin 4096) (j : Fin 512), (win0_2.blk t).view.emb (ix2 i j) = ix2 i (col t j) := fun i j => by
    unfold col; blk_ext [idx2 t]
  frame_out
  idx_vars y
  rw [e y0 y1]
  exact block m c t y0 y1

end Kern

namespace Ref

open Cert.Reference6Ideal Cert.Reference6Ideal.Read

theorem value (a : FVec Ideal ⟨2, ![4096, 1024]⟩ .bf16) (w : FVec Ideal ⟨3, ![4, 1024, 8704]⟩ .bf16) : val_main_v4 (F := Ideal) a w = Product.nn a w := by
  funext y
  idx_vars y
  pointwise [val_main_v4, val_main_v3, val_main_v2, val_main_v1, val_main_v0]
  rfl

end Ref

/-- The reference alone: it keeps its arguments, and has no semaphore. -/
theorem ref_frame : Cert.quiescent_Reference6Ideal := fun m g _ =>
  (θ_run _ _ _).mono (fun r h => ⟨fun c => (h c).2, sem_eq_zero_of_no_sems (by decide) r.2⟩) (Cert.Reference6Ideal.Value.run m g)

/-- From the same arguments both end with the same array. -/
theorem algebraic : Cert.algebraic_Kernel6Ideal_Reference6Ideal := by
  intro m g m' g' _ hagree
  refine ⟨fun c => Product.nn (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run _ _ _).mono (fun r h c => ?_) (θ_run_and (Cert.Kernel6Ideal.Gen.unchanged m g) (Cert.Kernel6Ideal.Gen.run_main m g))
    exact ⟨((h.2 c).1 2).trans (Kern.final m c), h.1 c⟩
  · refine (θ_run _ _ _).mono (fun r h c => ?_) (Cert.Reference6Ideal.Value.run m' g')
    obtain ⟨e0, e1⟩ := hagree c
    refine ⟨(h c).1.trans ((Cert.Reference6Ideal.Read.val_main_v4_eq ..).trans ((Ref.value _ _ ).trans ?_)), (h c).2⟩
    beta_reduce
    rw [← e0, ← e1]

end Cert.Proj

end
-- ==== Proof.FfnSpec.lean ====
/- The feed-forward block of one layer, entry by entry, over the extended reals. -/
module

public import Idealize.ShloMosaic.Lib.Pointwise

@[expose] public section

noncomputable section

namespace Cert.Ffn

open Idealize.ShloMosaic
open scoped BigOperators

variable (x : FVec Ideal ⟨2, ![4096, 1024]⟩ .f32) (nw : FVec Ideal ⟨2, ![1, 1024]⟩ .f32)
variable (w1 : FVec Ideal ⟨3, ![4, 1024, 4096]⟩ .bf16) (w2 : FVec Ideal ⟨3, ![4, 4096, 1024]⟩ .bf16)

/-- A row normalised by the root of its mean square (1024 entries, plus the small constant), and scaled. -/
def normed (i : Fin 4096) (d : Fin 1024) : EReal :=
  x (ix2 i d) * Ideal.rsqrt (Ideal.div (∑ e, x (ix2 i e) * x (ix2 i e)) (Ideal.ofBits FTy.f32 1149239296#32) + Ideal.ofBits FTy.f32 897988541#32)
    * nw (ix2 0 d)

/-- What hidden unit `f` is before its square. -/
def hidden (i : Fin 4096) (f : Fin 4096) : EReal :=
  max (∑ d, normed x nw i d * w1 (ix3 0 d f)) 0

/-- A quarter of the second product: the hidden units of chunk `q`. -/
def part (i : Fin 4096) (q : Fin 4) (j : Fin 1024) : EReal :=
  ∑ f : Fin 1024, hidden x nw w1 i ⟨1024 * q.val + f.val, by omega⟩ * hidden x nw w1 i ⟨1024 * q.val + f.val, by omega⟩
    * w2 (ix3 0 ⟨1024 * q.val + f.val, by omega⟩ j)

/-- The block's output. -/
def out : FVec Ideal ⟨2, ![4096, 1024]⟩ .f32 := fun y =>
  x (ix2 (y 0) (y 1)) + ∑ f : Fin 4096, hidden x nw w1 (y 0) f * hidden x nw w1 (y 0) f * w2 (ix3 0 f (y 1))

/-- A sum over the hidden units is the sum over each quarter. -/
theorem sum_quarters (g : Fin 4096 → EReal) :
    ∑ f, g f = ∑ f : Fin 1024, g ⟨1024 * 0 + f.val, by omega⟩ + ∑ f : Fin 1024, g ⟨1024 * 1 + f.val, by omega⟩
      + ∑ f : Fin 1024, g ⟨1024 * 2 + f.val, by omega⟩ + ∑ f : Fin 1024, g ⟨1024 * 3 + f.val, by omega⟩ := by
  refine (Fin.sum_univ_add (a := 3072) (b := 1024) g).trans (congrArg₂ (· + ·) ?_ rfl)
  refine (Fin.sum_univ_add (a := 2048) (b := 1024) _).trans (congrArg₂ (· + ·) ?_ rfl)
  refine (Fin.sum_univ_add (a := 1024) (b := 1024) _).trans (congrArg₂ (· + ·) ?_ rfl)
  exact Finset.sum_congr rfl fun f _ => congrArg g (Fin.ext (by simp))

theorem out_parts (i : Fin 4096) (j : Fin 1024) :
    out x nw w1 w2 (ix2 i j) = x (ix2 i j) + (part x nw w1 w2 i 0 j + part x nw w1 w2 i 1 j + part x nw w1 w2 i 2 j + part x nw w1 w2 i 3 j) :=
  congrArg (x (ix2 i j) + ·) (sum_quarters _)

end Cert.Ffn

end
-- ==== Proof.FfnFwd.lean ====
/- The feed-forward block: the kernel's is the reference's. -/
module

public import proofs.«01_k».proof.Defs
public import proofs.«01_k».proof.Proof.FfnSpec
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnFwd

open Idealize.ShloMosaic Idealize.ShloMosaic.TcCoe Idealize.SL.Sem
open Idealize.ShloMosaic.Pipeline (Dat)
open scoped BigOperators

namespace Kern

open Cert.Kernel7Ideal Cert.Kernel7Ideal.Gen

variable (m : (ℓ : Loc nD τ sig) → Buf (Elt Ideal) ℓ)

/-- Which block of its array each window holds at a point. -/
theorem idx : ∀ t : Fin cfg0.N, win0_0.index t = ![t.val / 4, 0] ∧ win0_1.index t = ![0, 0] ∧ win0_2.index t = ![0, 0, t.val % 4] ∧ win0_3.index t = ![0, t.val % 4, 0] ∧ win0_4.index t = ![t.val / 4, 0] :=
  (by decide +kernel : ∀ t : Fin grid0.N, _)

theorem lt (t : Fin cfg0.N) : t.val < 16 := lt_of_lt_of_eq t.isLt N_0

/-- The array's row that row `i` of block `t` is. -/
def row (t : Fin cfg0.N) (i : Fin 1024) : Fin 4096 := ⟨1024 * (t.val / 4) + i.val, by have := lt t; omega⟩

/-- The chunk of hidden units that the point takes. -/
def chunk (t : Fin cfg0.N) : Fin 4 := ⟨t.val % 4, by omega⟩

variable (c : Dev nD) (t : Fin cfg0.N)

abbrev A0 : FVec Ideal ⟨2, ![4096, 1024]⟩ .f32 := m ((c : Thread nD τ).loc main_arg0)
abbrev A1 : FVec Ideal ⟨2, ![1, 1024]⟩ .f32 := m ((c : Thread nD τ).loc main_arg1)
abbrev A2 : FVec Ideal ⟨3, ![4, 1024, 4096]⟩ .bf16 := m ((c : Thread nD τ).loc main_arg2)
abbrev A3 : FVec Ideal ⟨3, ![4, 4096, 1024]⟩ .bf16 := m ((c : Thread nD τ).loc main_arg3)

theorem in0 (i d : Fin 1024) : iblk m c 0 t (ix2 i d) = A0 m c (ix2 (row t i) d) := by
  unfold row; blk_point [iblk, V, (idx t).1]

theorem in1 (d : Fin 1024) : iblk m c 1 t (ix2 0 d) = A1 m c (ix2 0 d) := by
  blk_point [iblk, V, (idx t).2.1]

theorem in2 (d f : Fin 1024) : iblk m c 2 t (ix3 0 d f) = A2 m c (ix3 0 d ⟨1024 * (chunk t).val + f.val, by omega⟩) := by
  unfold chunk; blk_point [iblk, V, (idx t).2.2.1]

theorem in3 (f j : Fin 1024) : iblk m c 3 t (ix3 0 f j) = A3 m c (ix3 0 ⟨1024 * (chunk t).val + f.val, by omega⟩ j) := by
  unfold chunk; blk_point [iblk, V, (idx t).2.2.2.1]

/-- The normalised rows a point of chunk 0 saves. -/
theorem norm_block (i d : Fin 1024) : k0_pay1 (iblk m c 0 t) (iblk m c 1 t) (ix2 i d) = Ffn.normed (A0 m c) (A1 m c) (row t i) d := by
  pointwise [k0_pay1, in0, in1]
  rfl

/-- What a point adds to the running sum, from saved rows that are the normalised ones. -/
theorem add_block (h : Vec Ideal S1024x1024 .bf16) (a : Vec Ideal S1024x1024 .f32)
    (hh : ∀ i d : Fin 1024, h (ix2 i d) = Ffn.normed (A0 m c) (A1 m c) (row t i) d) (i j : Fin 1024) :
    k0_pay3 h (iblk m c 2 t) a (iblk m c 3 t) (ix2 i j) = a (ix2 i j) + Ffn.part (A0 m c) (A1 m c) (A2 m c) (A3 m c) (row t i) (chunk t) j := by
  pointwise [k0_pay3, hh, in2, in3]
  rfl

theorem zero_block (i j : Fin 1024) : k0_pay2 (F := Ideal) (ix2 i j) = 0 := by
  pointwise [k0_pay2]

/-- Chunk 0: the rows are saved and the sum begins. -/
theorem first (h0 : t.val % 4 = 0) :
    (∀ i d : Fin 1024, (outsAt0 m c t.val t.isLt).2.1 (ix2 i d) = Ffn.normed (A0 m c) (A1 m c) (row t i) d) ∧
      ∀ i j : Fin 1024, (outsAt0 m c t.val t.isLt).2.2 (ix2 i j) = Ffn.part (A0 m c) (A1 m c) (A2 m c) (A3 m c) (row t i) (chunk t) j := by
  rw [outsAt0_A m c t h0 (by omega)]
  refine ⟨fun i d => ?_, fun i j => ?_⟩ <;> dsimp only <;> frame_out
  · exact norm_block m c t i d
  · refine (add_block m c t _ _ (norm_block m c t) i j).trans ?_
    rw [zero_block, zero_add]

/-- What the point before left. -/
abbrev prev := outsAt0 m c (t.val - 1) (Nat.lt_of_le_of_lt (Nat.sub_le _ _) t.isLt)

/-- A later chunk: the rows stay, and the sum goes on. -/
theorem next (h0 : ¬t.val % 4 = 0) (h1 : ¬t.val % 4 = 3) (hh : ∀ i d : Fin 1024, (prev m c t).2.1 (ix2 i d) = Ffn.normed (A0 m c) (A1 m c) (row t i) d) :
    (∀ i d : Fin 1024, (outsAt0 m c t.val t.isLt).2.1 (ix2 i d) = Ffn.normed (A0 m c) (A1 m c) (row t i) d) ∧
      ∀ i j : Fin 1024, (outsAt0 m c t.val t.isLt).2.2 (ix2 i j) = (prev m c t).2.2 (ix2 i j) + Ffn.part (A0 m c) (A1 m c) (A2 m c) (A3 m c) (row t i) (chunk t) j := by
  rw [outsAt0_B m c t h0 h1]
  refine ⟨fun i d => ?_, fun i j => ?_⟩ <;> dsimp only
  · exact hh i d
  · frame_out
    rw [read_unread_whole, read_unread_whole]
    exact add_block m c t _ _ hh i j

/-- The last chunk: the rows' output. -/
theorem last (h1 : t.val % 4 = 3) (hh : ∀ i d : Fin 1024, (prev m c t).2.1 (ix2 i d) = Ffn.normed (A0 m c) (A1 m c) (row t i) d) (i j : Fin 1024) :
    (outsAt0 m c t.val t.isLt).1 (ix2 i j)
      = A0 m c (ix2 (row t i) j) + ((prev m c t).2.2 (ix2 i j) + Ffn.part (A0 m c) (A1 m c) (A2 m c) (A3 m c) (row t i) (chunk t) j) := by
  rw [outsAt0_C m c t (by omega) h1]
  dsimp only
  frame_out
  rw [read_unread_whole, read_unread_whole]
  pointwise [k0_pay4, in0]
  exact congrArg (_ + ·) (add_block m c t _ _ hh i j)

/-- The four chunks of a row block, one after the other. -/
theorem point (h1 : t.val % 4 = 3) (i j : Fin 1024) :
    (outsAt0 m c t.val t.isLt).1 (ix2 i j) = Ffn.out (A0 m c) (A1 m c) (A2 m c) (A3 m c) (ix2 (row t i) j) := by
  have b := lt t
  have hN : cfg0.N = 16 := N_0
  let t0 : Fin cfg0.N := ⟨t.val - 1 - 1 - 1, by omega⟩
  let t1 : Fin cfg0.N := ⟨t.val - 1 - 1, by omega⟩
  let t2 : Fin cfg0.N := ⟨t.val - 1, by omega⟩
  have r0 : ∀ i, row t0 i = row t i := fun i => Fin.ext (by simp only [row, t0]; omega)
  have r1 : ∀ i, row t1 i = row t i := fun i => Fin.ext (by simp only [row, t1]; omega)
  have r2 : ∀ i, row t2 i = row t i := fun i => Fin.ext (by simp only [row, t2]; omega)
  obtain ⟨n0, s0⟩ := first m c t0 (by simp only [t0]; omega)
  obtain ⟨n1, s1⟩ := next m c t1 (by simp only [t1]; omega) (by simp only [t1]; omega) (fun i d => (n0 i d).trans (by rw [r0, r1]))
  obtain ⟨n2, s2⟩ := next m c t2 (by simp only [t2]; omega) (by simp only [t2]; omega) (fun i d => (n1 i d).trans (by rw [r1, r2]))
  refine (last m c t h1 (fun i d => (n2 i d).trans (by rw [r2])) i j).trans ?_
  rw [Ffn.out_parts]
  refine congrArg (_ + ·) ?_
  have c0 : chunk t0 = 0 := Fin.ext (by simp only [chunk, t0]; omega)
  have c1 : chunk t1 = 1 := Fin.ext (by simp only [chunk, t1]; omega)
  have c2 : chunk t2 = 2 := Fin.ext (by simp only [chunk, t2]; omega)
  have c3 : chunk t = 3 := Fin.ext (by simp only [chunk]; omega)
  refine congrArg₂ (· + ·) ?_ (by rw [c3])
  refine (s2 i j).trans (congrArg₂ (· + ·) ?_ (by rw [c2, r2]))
  refine (s1 i j).trans (congrArg₂ (· + ·) ?_ (by rw [c1, r1]))
  exact (s0 i j).trans (by rw [c0, r0])

theorem final : (dats m 0 c).arrAt 4 (cfgs 0).N = Ffn.out (A0 m c) (A1 m c) (A2 m c) (A3 m c) := by
  refine (dats m 0 c).arrAt_eq_of_covers 4 _ (by decide +kernel) fun t h y => ?_
  have h1 := (flush0_4 t).mp h
  blk_simp
  rw [after0_4]
  have e : ∀ (i j : Fin 1024), (win0_4.blk t).view.emb (ix2 i j) = ix2 (row t i) j := fun i j => by
    unfold row; blk_ext [(idx t).2.2.2.2]
  idx_vars y
  rw [e y0 y1]
  exact point m c t h1 y0 y1

end Kern

namespace Ref

open Cert.Reference7Ideal Cert.Reference7Ideal.Read

theorem value (x : FVec Ideal ⟨2, ![4096, 1024]⟩ .f32) (nw : FVec Ideal ⟨2, ![1, 1024]⟩ .f32)
    (w1 : FVec Ideal ⟨3, ![4, 1024, 4096]⟩ .bf16) (w2 : FVec Ideal ⟨3, ![4, 4096, 1024]⟩ .bf16) :
    val_main_v22 (F := Ideal) x nw w1 w2 = Ffn.out x nw w1 w2 := by
  funext y
  idx_vars y
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_cst]
  rfl

end Ref

/-- The reference alone: it keeps its arguments, and has no semaphore. -/
theorem ref_frame : Cert.quiescent_Reference7Ideal := fun m g _ =>
  (θ_run _ _ _).mono (fun r h => ⟨fun c => (h c).2, sem_eq_zero_of_no_sems (by decide) r.2⟩) (Cert.Reference7Ideal.Value.run m g)

/-- From the same arguments both end with the same array. -/
theorem algebraic : Cert.algebraic_Kernel7Ideal_Reference7Ideal := by
  intro m g m' g' _ hagree
  refine ⟨fun c => Ffn.out (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)), ?_, ?_⟩
  · refine (θ_run _ _ _).mono (fun r h c => ?_) (θ_run_and (Cert.Kernel7Ideal.Gen.unchanged m g) (Cert.Kernel7Ideal.Gen.run_main m g))
    exact ⟨((h.2 c).1 4).trans (Kern.final m c), h.1 c⟩
  · refine (θ_run _ _ _).mono (fun r h c => ?_) (Cert.Reference7Ideal.Value.run m' g')
    obtain ⟨e0, e1, e2, e3⟩ := hagree c
    refine ⟨(h c).1.trans ((Cert.Reference7Ideal.Read.val_main_v22_eq ..).trans ((Ref.value _ _ _ _ ).trans ?_)), (h c).2⟩
    beta_reduce
    rw [← e0, ← e1, ← e2, ← e3]

end Cert.FfnFwd

end
-- ==== Proof.MergeFwd.lean ====
/- The gated merge of the four mixers: the kernel's is the reference's. Its first argument is the layer's input, which
   `MergeSpec` has in the place of the cotangent. -/
module

public import proofs.«01_k».proof.Defs
public import proofs.«01_k».proof.Proof.MergeSpec
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Claim

@[expose] public section

set_option maxRecDepth 16384

noncomputable section

namespace Cert.MergeFwd

open Idealize.ShloMosaic Idealize.ShloMosaic.TcCoe Idealize.SL.Sem
open Idealize.ShloMosaic.Pipeline (Dat)
open scoped BigOperators
open Cert.Merge

/-- The layer's output after the merge: the input, and the gated sum through the output projection. -/
def out (A : Args) : FVec Ideal TRow .f32 := fun y =>
  A.dxo (ix2 (y 0) (y 1)) + ∑ e : Fin 1024, merged A.ins (y 0) e * A.wo (ix3 0 e (y 1))

/-- The same, of the nine arrays. -/
def spec (a0 : FVec Ideal TRow .f32) (a1 : FVec Ideal TBranch .bf16) (a2 : FVec Ideal TBranch .bf16) (a3 : FVec Ideal TBranch .bf16) (a4 : FVec Ideal TBranch .bf16) (a5 : FVec Ideal TProj .f32) (a6 : FVec Ideal TBias .f32) (a7 : FVec Ideal TUp .bf16) (a8 : FVec Ideal TOut .bf16) : FVec Ideal TRow .f32 :=
  out ⟨a0, a1, a2, a3, a4, a5, a6, a7, a8⟩

namespace Kern

open Cert.Kernel8Ideal Cert.Kernel8Ideal.Gen

variable (m : (ℓ : Loc nD τ sig) → Buf (Elt Ideal) ℓ)

/-- The argument arrays as the call finds them. -/
def args (c : Dev nD) : Args where
  dxo := m ((c : Thread nD τ).loc main_arg0)
  b0 := m ((c : Thread nD τ).loc main_arg1)
  b1 := m ((c : Thread nD τ).loc main_arg2)
  b2 := m ((c : Thread nD τ).loc main_arg3)
  b3 := m ((c : Thread nD τ).loc main_arg4)
  proj := m ((c : Thread nD τ).loc main_arg5)
  bias := m ((c : Thread nD τ).loc main_arg6)
  wb := m ((c : Thread nD τ).loc main_arg7)
  wo := m ((c : Thread nD τ).loc main_arg8)

/-- Row `r` of block `t`. -/
def row (t : Fin cfg0.N) (r : Fin 256) : Fin 4096 := ⟨256 * t.val + r.val, by have : cfg0.N = 16 := N_0; omega⟩

/-- The inputs' rows in block `t`. -/
abbrev rows (c : Dev nD) (t : Fin cfg0.N) : Ins 256 := (args m c).ins.rows (row t)

/-- Which block of its array each input window holds at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 9] ∧ win0_6.index t = ![t.val, 10] ∧ win0_7.index t = ![t.val, 11] ∧ win0_8.index t = ![t.val, 12] ∧ win0_9.index t = ![t.val, 13] ∧ win0_10.index t = ![t.val, 14] ∧ win0_11.index t = ![t.val, 15] ∧ win0_12.index t = ![t.val, 16] ∧ win0_13.index t = ![0, 0] ∧ win0_14.index t = ![0, 0, 0, 0] ∧ win0_15.index t = ![0, 0, 0] :=
  (by decide +kernel : ∀ t : Fin grid0.N, _)

variable (c : Dev nD) (t : Fin cfg0.N)

/-! ## The blocks -/

theorem in0 (r : Fin 256) (e : Fin 1024) : iblk m c 0 t (ix2 r e) = (rows m c t).dxo r e := by
  simp only [rows, Ins.rows, Args.ins, args, row]; blk_point [iblk, V, idx t]

theorem in1 (r : Fin 256) (j : Fin 512) : iblk m c 1 t (ix2 r j) = (rows m c t).br 0 r j := by
  simp only [rows, Ins.rows, Args.ins, args, row]; blk_point [iblk, V, idx t]

theorem in2 (r : Fin 256) (j : Fin 512) : iblk m c 2 t (ix2 r j) = (rows m c t).br 1 r j := by
  simp only [rows, Ins.rows, Args.ins, args, row]; blk_point [iblk, V, idx t]

theorem in3 (r : Fin 256) (j : Fin 512) : iblk m c 3 t (ix2 r j) = (rows m c t).br 2 r j := by
  simp only [rows, Ins.rows, Args.ins, args, row]; blk_point [iblk, V, idx t]

theorem in4 (r : Fin 256) (j : Fin 512) : iblk m c 4 t (ix2 r j) = (rows m c t).br 3 r j := by
  simp only [rows, Ins.rows, Args.ins, args, row]; blk_point [iblk, V, idx t]

theorem in5 (r : Fin 256) (d : Fin 512) : iblk m c 5 t (ix2 r d) = (rows m c t).pre 0 r ⟨d.val, by omega⟩ := by
  simp only [rows, Ins.rows, Args.ins, args, row]; blk_point [iblk, V, idx t]

theorem in6 (r : Fin 256) (d : Fin 512) : iblk m c 6 t (ix2 r d) = (rows m c t).pre 0 r ⟨512 + d.val, by omega⟩ := by
  simp only [rows, Ins.rows, Args.ins, args, row]; blk_point [iblk, V, idx t]

theorem in7 (r : Fin 256) (d : Fin 512) : iblk m c 7 t (ix2 r d) = (rows m c t).pre 1 r ⟨d.val, by omega⟩ := by
  simp only [rows, Ins.rows, Args.ins, args, row]; blk_point [iblk, V, idx t]

theorem in8 (r : Fin 256) (d : Fin 512) : iblk m c 8 t (ix2 r d) = (rows m c t).pre 1 r ⟨512 + d.val, by omega⟩ := by
  simp only [rows, Ins.rows, Args.ins, args, row]; blk_point [iblk, V, idx t]

theorem in9 (r : Fin 256) (d : Fin 512) : iblk m c 9 t (ix2 r d) = (rows m c t).pre 2 r ⟨d.val, by omega⟩ := by
  simp only [rows, Ins.rows, Args.ins, args, row]; blk_point [iblk, V, idx t]

theorem in10 (r : Fin 256) (d : Fin 512) : iblk m c 10 t (ix2 r d) = (rows m c t).pre 2 r ⟨512 + d.val, by omega⟩ := by
  simp only [rows, Ins.rows, Args.ins, args, row]; blk_point [iblk, V, idx t]

theorem in11 (r : Fin 256) (d : Fin 512) : iblk m c 11 t (ix2 r d) = (rows m c t).pre 3 r ⟨d.val, by omega⟩ := by
  simp only [rows, Ins.rows, Args.ins, args, row]; blk_point [iblk, V, idx t]

theorem in12 (r : Fin 256) (d : Fin 512) : iblk m c 12 t (ix2 r d) = (rows m c t).pre 3 r ⟨512 + d.val, by omega⟩ := by
  simp only [rows, Ins.rows, Args.ins, args, row]; blk_point [iblk, V, idx t]

theorem in13 (k : Fin 4) (d : Fin 1024) : iblk m c 13 t (ix2 k d) = (rows m c t).bias k d := by
  simp only [rows, Ins.rows, Args.ins, args, row]; blk_point [iblk, V, idx t]

theorem in14 (k : Fin 4) (j : Fin 512) (d : Fin 1024) : iblk m c 14 t (ix4 0 k j d) = (rows m c t).wb k j d := by
  simp only [rows, Ins.rows, Args.ins, args, row]; blk_point [iblk, V, idx t]

theorem in15 (d e : Fin 1024) : iblk m c 15 t (ix3 0 d e) = (rows m c t).wo d e := by
  simp only [rows, Ins.rows, Args.ins, args, row]; blk_point [iblk, V, idx t]

/-! ## The payloads -/

/-- The two halves of a gate's row, put together. -/
theorem both (f : Fin 1024 → EReal) (d : Fin 1024) :
    (if h : d.val < 512 then f ⟨d.val, by omega⟩ else f ⟨512 + (d.val - 512), by omega⟩) = f d := by
  split
  · rfl
  · exact congrArg f (Fin.ext (by simp only []; omega))

theorem first (r : Fin 256) (d : Fin 1024) :
    k0_pay2 (iblk m c 5 t) (iblk m c 6 t) (View.ld (iblk m c 13 t) r0_1) (iblk m c 1 t) (View.ld (iblk m c 14 t) r0_2) (ix2 r d)
      = gate (rows m c t) 0 r d * up (rows m c t) 0 r d := by
  pointwise [k0_pay2, in5, in6, in13, in1, in14]
  rw [zero_sub, both ((rows m c t).pre 0 r) d]
  rfl

theorem gate1 (r : Fin 256) (d : Fin 1024) : k0_pay3 (iblk m c 7 t) (iblk m c 8 t) (View.ld (iblk m c 13 t) r0_3) (ix2 r d) = gate (rows m c t) 1 r d := by
  pointwise [k0_pay3, in7, in8, in13]
  rw [zero_sub, both ((rows m c t).pre 1 r) d]
  rfl

theorem third (r : Fin 256) (d : Fin 1024) :
    k0_pay4 (k0_pay2 (iblk m c 5 t) (iblk m c 6 t) (View.ld (iblk m c 13 t) r0_1) (iblk m c 1 t) (View.ld (iblk m c 14 t) r0_2)) (k0_pay3 (iblk m c 7 t) (iblk m c 8 t) (View.ld (iblk m c 13 t) r0_3)) (iblk m c 2 t) (View.ld (iblk m c 14 t) r0_4) (iblk m c 9 t) (iblk m c 10 t) (View.ld (iblk m c 13 t) r0_5) (iblk m c 3 t) (View.ld (iblk m c 14 t) r0_6) (ix2 r d)
      = gate (rows m c t) 0 r d * up (rows m c t) 0 r d + gate (rows m c t) 1 r d * up (rows m c t) 1 r d + gate (rows m c t) 2 r d * up (rows m c t) 2 r d := by
  pointwise [k0_pay4, first, gate1, in9, in10, in13, in2, in3, in14]
  rw [zero_sub, both ((rows m c t).pre 2 r) d]
  rfl

theorem pre3 (r : Fin 256) (d : Fin 1024) : k0_pay5 (iblk m c 11 t) (iblk m c 12 t) (View.ld (iblk m c 13 t) r0_7) (ix2 r d) = (rows m c t).pre 3 r d + (rows m c t).bias 3 d := by
  pointwise [k0_pay5, in11, in12, in13]
  rw [both ((rows m c t).pre 3 r) d]

/-- What a point stores. -/
theorem block (r : Fin 256) (d : Fin 1024) :
    k0_pay1 (k0_pay4 (k0_pay2 (iblk m c 5 t) (iblk m c 6 t) (View.ld (iblk m c 13 t) r0_1) (iblk m c 1 t) (View.ld (iblk m c 14 t) r0_2)) (k0_pay3 (iblk m c 7 t) (iblk m c 8 t) (View.ld (iblk m c 13 t) r0_3)) (iblk m c 2 t) (View.ld (iblk m c 14 t) r0_4) (iblk m c 9 t) (iblk m c 10 t) (View.ld (iblk m c 13 t) r0_5) (iblk m c 3 t) (View.ld (iblk m c 14 t) r0_6)) (k0_pay5 (iblk m c 11 t) (iblk m c 12 t) (View.ld (iblk m c 13 t) r0_7)) (iblk m c 4 t) (View.ld (iblk m c 14 t) r0_8) (iblk m c 0 t) (iblk m c 15 t) (ix2 r d)
      = out (args m c) (ix2 (row t r) d) := by
  pointwise [k0_pay1, third, pre3, in4, in14, in0, in15]
  refine congrArg (_ + ·) (Finset.sum_congr rfl fun e _ => congrArg (· * _) ?_)
  rw [zero_sub]
  show _ = ∑ k : Fin 4, gate (rows m c t) k r e * up (rows m c t) k r e
  rw [Fin.sum_univ_four]
  rfl

theorem idx16 : ∀ t : Fin cfg0.N, win0_16.index t = ![t.val, 0] :=
  (by decide +kernel : ∀ t : Fin grid0.N, _)

theorem final : (dats m 0 c).arrAt 16 (cfgs 0).N = out (args m c) := by
  refine (dats m 0 c).arrAt_eq_of_covers 16 _ (by decide +kernel) fun t h y => ?_
  blk_simp
  rw [after0_16]
  have e : ∀ (r : Fin 256) (d : Fin 1024), (win0_16.blk t).view.emb (ix2 r d) = ix2 (row t r) d := fun r d => by
    unfold row; blk_ext [idx16 t]
  frame_out
  idx_vars y
  rw [e y0 y1]
  exact block m c t y0 y1

end Kern

namespace Ref

open Cert.Reference8Ideal Cert.Reference8Ideal.Read

variable (A : Args)

theorem branches (r : Fin 4096) (k : Fin 4) (j : Fin 512) :
    val_main_v8 (F := Ideal) A.b0 A.b1 A.b2 A.b3 (ix3 r k j) = A.ins.br k r j := by
  pointwise [val_main_v8, val_main_v7, val_main_v6, val_main_v5, val_main_v4, val_main_v3, val_main_v2, val_main_v1, val_main_v0]
  fin_cases k <;> simp [Args.ins]

theorem ups (r : Fin 4096) (k : Fin 4) (d : Fin 1024) :
    val_main_v13 (F := Ideal) A.b0 A.b1 A.b2 A.b3 A.wb (ix3 r k d) = up A.ins k r d := by
  pointwise [val_main_v13, val_main_v12, branches, val_main_v11, val_main_v10, val_main_v9]
  unfold up Args.ins
  exact Finset.sum_congr rfl fun j _ => mul_comm _ _

theorem gates (r : Fin 4096) (k : Fin 4) (d : Fin 1024) :
    val_main_v24 (F := Ideal) A.proj A.bias (ix3 r k d) = gate A.ins k r d := by
  pointwise [val_main_v24, val_main_v23, val_main_v22, val_main_v21, val_main_v20, val_main_v19, val_main_v18, val_main_v17, val_main_v16, val_main_v15, val_main_v14, val_main_cst_0, val_main_cst]
  unfold gate Args.ins
  simp only [mul_comm k.val 1024]

theorem sum (r : Fin 4096) (d : Fin 1024) :
    val_main_v26 (F := Ideal) A.b0 A.b1 A.b2 A.b3 A.proj A.bias A.wb (ix2 r d) = merged A.ins r d := by
  pointwise [val_main_v26, val_main_cst_1, val_main_v25, gates, ups]
  rfl

theorem value : val_main_v31 (F := Ideal) A.dxo A.b0 A.b1 A.b2 A.b3 A.proj A.bias A.wb A.wo = out A := by
  funext y
  idx_vars y
  pointwise [val_main_v31, val_main_v30, sum, val_main_v29, val_main_v28, val_main_v27]
  rfl

end Ref

/-- The reference alone: it keeps its arguments, and has no semaphore. -/
theorem ref_frame : Cert.quiescent_Reference8Ideal := fun m g _ =>
  (θ_run _ _ _).mono (fun r h => ⟨fun c => (h c).2, sem_eq_zero_of_no_sems (by decide) r.2⟩) (Cert.Reference8Ideal.Value.run m g)

/-- From the same arguments both end with the same array. -/
theorem algebraic : Cert.algebraic_Kernel8Ideal_Reference8Ideal := by
  intro m g m' g' _ hagree
  refine ⟨fun c => spec (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)), ?_, ?_⟩
  · refine (θ_run _ _ _).mono (fun r h c => ?_) (θ_run_and (Cert.Kernel8Ideal.Gen.unchanged m g) (Cert.Kernel8Ideal.Gen.run_main m g))
    exact ⟨((h.2 c).1 16).trans (Kern.final m c), h.1 c⟩
  · refine (θ_run _ _ _).mono (fun r h c => ?_) (Cert.Reference8Ideal.Value.run m' g')
    obtain ⟨e0, e1, e2, e3, e4, e5, e6, e7, e8⟩ := hagree c
    refine ⟨(h c).1.trans ((Cert.Reference8Ideal.Read.val_main_v31_eq ..).trans ((Ref.value ⟨_, _, _, _, _, _, _, _, _⟩).trans ?_)), (h c).2⟩
    beta_reduce
    unfold spec
    rw [← e0, ← e1, ← e2, ← e3, ← e4, ← e5, ← e6, ← e7, ← e8]

end Cert.MergeFwd

end
-- ==== Proof.DwOut.lean ====
/- The gradient of the mixers' output projection: the kernel's is the reference's. -/
module

public import proofs.«01_k».proof.Defs
public import proofs.«01_k».proof.Proof.ProductSpec
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Claim

@[expose] public section

set_option maxRecDepth 16384

noncomputable section

namespace Cert.DwOut

open Idealize.ShloMosaic Idealize.ShloMosaic.TcCoe Idealize.SL.Sem
open Idealize.ShloMosaic.Pipeline (Dat)
open scoped BigOperators

namespace Kern

open Cert.Kernel9Ideal Cert.Kernel9Ideal.Gen

variable (m : (ℓ : Loc nD τ sig) → Buf (Elt Ideal) ℓ)

/-- Which block of its array each window holds at a point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem idx0 (t : Fin cfg0.N) : win0_0.index t = ![0, t.val / 2] := (idx t).1
theorem idx1 (t : Fin cfg0.N) : win0_1.index t = ![0, t.val % 2] := (idx t).2.1
theorem idx2 (t : Fin cfg0.N) : win0_2.index t = ![t.val / 2, t.val % 2] := (idx t).2.2

/-- The array's row that row `i` of block `t` is. -/
def row (t : Fin cfg0.N) (i : Fin 512) : Fin 1024 := ⟨512 * (t.val / 2) + i.val, by have : t.val < 4 := lt_of_lt_of_eq t.isLt N_0; omega⟩

/-- Its column. -/
def col (t : Fin cfg0.N) (j : Fin 512) : Fin 1024 := ⟨512 * (t.val % 2) + j.val, by have : t.val < 4 := lt_of_lt_of_eq t.isLt N_0; omega⟩

variable (c : Dev nD) (t : Fin cfg0.N)

abbrev A0 : FVec Ideal ⟨2, ![4096, 1024]⟩ .bf16 := m ((c : Thread nD τ).loc main_arg0)
abbrev A1 : FVec Ideal ⟨2, ![4096, 1024]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 512) : iblk m c 1 t (ix2 l j) = A1 m c (ix2 l (col t j)) := by
  unfold col; blk_point [iblk, V, idx1 t]

/-- What a point stores. -/
theorem block (i : Fin 512) (j : Fin 512) : k0_pay1 (iblk m c 0 t) (iblk m c 1 t) (ix2 i j) = Product.tn (A0 m c) (A1 m c) (ix2 (row t i) (col t j)) := by
  pointwise [k0_pay1, in0, in1]
  rfl

theorem final : (dats m 0 c).arrAt 2 (cfgs 0).N = Product.tn (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference9Ideal Cert.Reference9Ideal.Read

theorem value (a : FVec Ideal ⟨2, ![4096, 1024]⟩ .bf16) (b : FVec Ideal ⟨2, ![4096, 1024]⟩ .bf16) : val_main_v4 (F := Ideal) a b = Product.tn a b := by
  funext y
  idx_vars y
  pointwise [val_main_v4, val_main_v3, val_main_v2, val_main_v1, val_main_v0]
  exact Finset.sum_congr rfl fun l _ => mul_comm _ _

end Ref

/-- The reference alone: it keeps its arguments, and has no semaphore. -/
theorem ref_frame : Cert.quiescent_Reference9Ideal := fun m g _ =>
  (θ_run _ _ _).mono (fun r h => ⟨fun c => (h c).2, sem_eq_zero_of_no_sems (by decide) r.2⟩) (Cert.Reference9Ideal.Value.run m g)

/-- From the same arguments both end with the same array. -/
theorem algebraic : Cert.algebraic_Kernel9Ideal_Reference9Ideal := by
  intro m g m' g' _ hagree
  refine ⟨fun c => Product.tn (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine (θ_run _ _ _).mono (fun r h c => ?_) (θ_run_and (Cert.Kernel9Ideal.Gen.unchanged m g) (Cert.Kernel9Ideal.Gen.run_main m g))
    exact ⟨((h.2 c).1 2).trans (Kern.final m c), h.1 c⟩
  · refine (θ_run _ _ _).mono (fun r h c => ?_) (Cert.Reference9Ideal.Value.run m' g')
    obtain ⟨e0, e1⟩ := hagree c
    refine ⟨(h c).1.trans ((Cert.Reference9Ideal.Read.val_main_v4_eq ..).trans ((Ref.value _ _ ).trans ?_)), (h c).2⟩
    beta_reduce
    rw [← e0, ← e1]

end Cert.DwOut

end
-- ==== Proof.DwBranch3.lean ====
/- The gradient of the last mixer's projection up: the kernel's is the reference's. -/
module

public import proofs.«01_k».proof.Defs
public import proofs.«01_k».proof.Proof.ProductSpec
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Claim

@[expose] public section

set_option maxRecDepth 16384

noncomputable section

namespace Cert.DwBranch3

open Idealize.ShloMosaic Idealize.ShloMosaic.TcCoe Idealize.SL.Sem
open Idealize.ShloMosaic.Pipeline (Dat)
open scoped BigOperators

/-- This mixer's columns. -/
def cols (b : FVec Ideal ⟨2, ![4096, 4096]⟩ .bf16) : FVec Ideal ⟨2, ![4096, 1024]⟩ .bf16 := fun i =>
  b (ix2 (i 0) ⟨3072 + (i 1).val, by have : (i 1).val < 1024 := (i 1).isLt; omega⟩)

/-- The gradient from those columns. -/
def spec (a : FVec Ideal ⟨2, ![4096, 512]⟩ .bf16) (b : FVec Ideal ⟨2, ![4096, 4096]⟩ .bf16) : FVec Ideal ⟨2, ![512, 1024]⟩ .bf16 :=
  Product.tn a (cols b)

namespace Kern

open Cert.Kernel10Ideal Cert.Kernel10Ideal.Gen

variable (m : (ℓ : Loc nD τ sig) → Buf (Elt Ideal) ℓ)

/-- Which block of its array each window holds at a point. -/
theorem idx : ∀ t : Fin cfg0.N, win0_0.index t = ![0, 0] ∧ win0_1.index t = ![0, 6 + t.val] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, 6 + t.val] := (idx t).2.1
theorem idx2 (t : Fin cfg0.N) : win0_2.index t = ![0, t.val] := (idx t).2.2

/-- The array's row that row `i` of block `t` is. -/
def row (t : Fin cfg0.N) (i : Fin 512) : Fin 512 := ⟨512 * (0) + i.val, by have : t.val < 2 := lt_of_lt_of_eq t.isLt N_0; omega⟩

/-- Its column. -/
def col (t : Fin cfg0.N) (j : Fin 512) : Fin 1024 := ⟨512 * (t.val) + j.val, by have : t.val < 2 := lt_of_lt_of_eq t.isLt N_0; omega⟩

variable (c : Dev nD) (t : Fin cfg0.N)

abbrev A0 : FVec Ideal ⟨2, ![4096, 512]⟩ .bf16 := m ((c : Thread nD τ).loc main_arg0)
abbrev A1 : FVec Ideal ⟨2, ![4096, 4096]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 512) : iblk m c 1 t (ix2 l j) = A1 m c (ix2 l ⟨512 * (6 + t.val) + j.val, by have : t.val < 2 := lt_of_lt_of_eq t.isLt N_0; omega⟩) := by
  unfold A1; blk_point [iblk, V, idx1 t]

/-- What a point stores. -/
theorem block (i : Fin 512) (j : Fin 512) : k0_pay1 (iblk m c 0 t) (iblk m c 1 t) (ix2 i j) = spec (A0 m c) (A1 m c) (ix2 (row t i) (col t j)) := by
  pointwise [k0_pay1, in0, in1]
  refine Finset.sum_congr rfl fun l _ => congrArg (A0 m c (ix2 l (row t i)) * ·) (congrArg (A1 m c) (congrArg (ix2 l) (Fin.ext ?_)))
  show 512 * (6 + t.val) + j.val = 3072 + (512 * (t.val) + j.val)
  omega

theorem final : (dats m 0 c).arrAt 2 (cfgs 0).N = spec (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference10Ideal Cert.Reference10Ideal.Read

theorem value (a : FVec Ideal ⟨2, ![4096, 512]⟩ .bf16) (b : FVec Ideal ⟨2, ![4096, 4096]⟩ .bf16) : val_main_v5 (F := Ideal) a b = spec a b := by
  funext y
  idx_vars y
  pointwise [val_main_v5, val_main_v4, val_main_v3, val_main_v2, val_main_v1, val_main_v0]
  exact Finset.sum_congr rfl fun l _ => mul_comm _ _

end Ref

/-- The reference alone: it keeps its arguments, and has no semaphore. -/
theorem ref_frame : Cert.quiescent_Reference10Ideal := fun m g _ =>
  (θ_run _ _ _).mono (fun r h => ⟨fun c => (h c).2, sem_eq_zero_of_no_sems (by decide) r.2⟩) (Cert.Reference10Ideal.Value.run m g)

/-- From the same arguments both end with the same array. -/
theorem algebraic : Cert.algebraic_Kernel10Ideal_Reference10Ideal := by
  intro m g m' g' _ hagree
  refine ⟨fun c => spec (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · refine (θ_run _ _ _).mono (fun r h c => ?_) (θ_run_and (Cert.Kernel10Ideal.Gen.unchanged m g) (Cert.Kernel10Ideal.Gen.run_main m g))
    exact ⟨((h.2 c).1 2).trans (Kern.final m c), h.1 c⟩
  · refine (θ_run _ _ _).mono (fun r h c => ?_) (Cert.Reference10Ideal.Value.run m' g')
    obtain ⟨e0, e1⟩ := hagree c
    refine ⟨(h c).1.trans ((Cert.Reference10Ideal.Read.val_main_v5_eq ..).trans ((Ref.value _ _ ).trans ?_)), (h c).2⟩
    beta_reduce
    rw [← e0, ← e1]

end Cert.DwBranch3

end
-- ==== Proof.DwQ.lean ====
/- The gradient of the attention's query projection: the kernel's is the reference's. -/
module

public import proofs.«01_k».proof.Defs
public import proofs.«01_k».proof.Proof.ProductSpec
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Claim

@[expose] public section

set_option maxRecDepth 16384

noncomputable section

namespace Cert.DwQ

open Idealize.ShloMosaic Idealize.ShloMosaic.TcCoe Idealize.SL.Sem
open Idealize.ShloMosaic.Pipeline (Dat)
open scoped BigOperators

namespace Kern

open Cert.Kernel11Ideal Cert.Kernel11Ideal.Gen

variable (m : (ℓ : Loc nD τ sig) → Buf (Elt Ideal) ℓ)

/-- Which block of its array each window holds at a point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem idx0 (t : Fin cfg0.N) : win0_0.index t = ![0, t.val / 2] := (idx t).1
theorem idx1 (t : Fin cfg0.N) : win0_1.index t = ![0, t.val % 2] := (idx t).2.1
theorem idx2 (t : Fin cfg0.N) : win0_2.index t = ![t.val / 2, t.val % 2] := (idx t).2.2

/-- The array's row that row `i` of block `t` is. -/
def row (t : Fin cfg0.N) (i : Fin 512) : Fin 1024 := ⟨512 * (t.val / 2) + i.val, by have : t.val < 4 := lt_of_lt_of_eq t.isLt N_0; omega⟩

/-- Its column. -/
def col (t : Fin cfg0.N) (j : Fin 512) : Fin 1024 := ⟨512 * (t.val % 2) + j.val, by have : t.val < 4 := lt_of_lt_of_eq t.isLt N_0; omega⟩

variable (c : Dev nD) (t : Fin cfg0.N)

abbrev A0 : FVec Ideal ⟨2, ![4096, 1024]⟩ .bf16 := m ((c : Thread nD τ).loc main_arg0)
abbrev A1 : FVec Ideal ⟨2, ![4096, 1024]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 512) : iblk m c 1 t (ix2 l j) = A1 m c (ix2 l (col t j)) := by
  unfold col; blk_point [iblk, V, idx1 t]

/-- What a point stores. -/
theorem block (i : Fin 512) (j : Fin 512) : k0_pay1 (iblk m c 0 t) (iblk m c 1 t) (ix2 i j) = Product.tn (A0 m c) (A1 m c) (ix2 (row t i) (col t j)) := by
  pointwise [k0_pay1, in0, in1]
  rfl

theorem final : (dats m 0 c).arrAt 2 (cfgs 0).N = Product.tn (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference11Ideal Cert.Reference11Ideal.Read

theorem value (a : FVec Ideal ⟨2, ![4096, 1024]⟩ .bf16) (b : FVec Ideal ⟨2, ![4096, 1024]⟩ .bf16) : val_main_v4 (F := Ideal) a b = Product.tn a b := by
  funext y
  idx_vars y
  pointwise [val_main_v4, val_main_v3, val_main_v2, val_main_v1, val_main_v0]
  exact Finset.sum_congr rfl fun l _ => mul_comm _ _

end Ref

/-- The reference alone: it keeps its arguments, and has no semaphore. -/
theorem ref_frame : Cert.quiescent_Reference11Ideal := fun m g _ =>
  (θ_run _ _ _).mono (fun r h => ⟨fun c => (h c).2, sem_eq_zero_of_no_sems (by decide) r.2⟩) (Cert.Reference11Ideal.Value.run m g)

/-- From the same arguments both end with the same array. -/
theorem algebraic : Cert.algebraic_Kernel11Ideal_Reference11Ideal := by
  intro m g m' g' _ hagree
  refine ⟨fun c => Product.tn (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine (θ_run _ _ _).mono (fun r h c => ?_) (θ_run_and (Cert.Kernel11Ideal.Gen.unchanged m g) (Cert.Kernel11Ideal.Gen.run_main m g))
    exact ⟨((h.2 c).1 2).trans (Kern.final m c), h.1 c⟩
  · refine (θ_run _ _ _).mono (fun r h c => ?_) (Cert.Reference11Ideal.Value.run m' g')
    obtain ⟨e0, e1⟩ := hagree c
    refine ⟨(h c).1.trans ((Cert.Reference11Ideal.Read.val_main_v4_eq ..).trans ((Ref.value _ _ ).trans ?_)), (h c).2⟩
    beta_reduce
    rw [← e0, ← e1]

end Cert.DwQ

end
-- ==== Proof.DwO.lean ====
/- The gradient of the attention's output projection: the kernel's is the reference's. -/
module

public import proofs.«01_k».proof.Defs
public import proofs.«01_k».proof.Proof.ProductSpec
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Claim

@[expose] public section

set_option maxRecDepth 16384

noncomputable section

namespace Cert.DwO

open Idealize.ShloMosaic Idealize.ShloMosaic.TcCoe Idealize.SL.Sem
open Idealize.ShloMosaic.Pipeline (Dat)
open scoped BigOperators

namespace Kern

open Cert.Kernel12Ideal Cert.Kernel12Ideal.Gen

variable (m : (ℓ : Loc nD τ sig) → Buf (Elt Ideal) ℓ)

/-- Which block of its array each window holds at a point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem idx0 (t : Fin cfg0.N) : win0_0.index t = ![0, t.val / 2] := (idx t).1
theorem idx1 (t : Fin cfg0.N) : win0_1.index t = ![0, t.val % 2] := (idx t).2.1
theorem idx2 (t : Fin cfg0.N) : win0_2.index t = ![t.val / 2, t.val % 2] := (idx t).2.2

/-- The array's row that row `i` of block `t` is. -/
def row (t : Fin cfg0.N) (i : Fin 512) : Fin 1024 := ⟨512 * (t.val / 2) + i.val, by have : t.val < 4 := lt_of_lt_of_eq t.isLt N_0; omega⟩

/-- Its column. -/
def col (t : Fin cfg0.N) (j : Fin 512) : Fin 1024 := ⟨512 * (t.val % 2) + j.val, by have : t.val < 4 := lt_of_lt_of_eq t.isLt N_0; omega⟩

variable (c : Dev nD) (t : Fin cfg0.N)

abbrev A0 : FVec Ideal ⟨2, ![4096, 1024]⟩ .bf16 := m ((c : Thread nD τ).loc main_arg0)
abbrev A1 : FVec Ideal ⟨2, ![4096, 1024]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 512) : iblk m c 1 t (ix2 l j) = A1 m c (ix2 l (col t j)) := by
  unfold col; blk_point [iblk, V, idx1 t]

/-- What a point stores. -/
theorem block (i : Fin 512) (j : Fin 512) : k0_pay1 (iblk m c 0 t) (iblk m c 1 t) (ix2 i j) = Product.tn (A0 m c) (A1 m c) (ix2 (row t i) (col t j)) := by
  pointwise [k0_pay1, in0, in1]
  rfl

theorem final : (dats m 0 c).arrAt 2 (cfgs 0).N = Product.tn (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference12Ideal Cert.Reference12Ideal.Read

theorem value (a : FVec Ideal ⟨2, ![4096, 1024]⟩ .bf16) (b : FVec Ideal ⟨2, ![4096, 1024]⟩ .bf16) : val_main_v4 (F := Ideal) a b = Product.tn a b := by
  funext y
  idx_vars y
  pointwise [val_main_v4, val_main_v3, val_main_v2, val_main_v1, val_main_v0]
  exact Finset.sum_congr rfl fun l _ => mul_comm _ _

end Ref

/-- The reference alone: it keeps its arguments, and has no semaphore. -/
theorem ref_frame : Cert.quiescent_Reference12Ideal := fun m g _ =>
  (θ_run _ _ _).mono (fun r h => ⟨fun c => (h c).2, sem_eq_zero_of_no_sems (by decide) r.2⟩) (Cert.Reference12Ideal.Value.run m g)

/-- From the same arguments both end with the same array. -/
theorem algebraic : Cert.algebraic_Kernel12Ideal_Reference12Ideal := by
  intro m g m' g' _ hagree
  refine ⟨fun c => Product.tn (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine (θ_run _ _ _).mono (fun r h c => ?_) (θ_run_and (Cert.Kernel12Ideal.Gen.unchanged m g) (Cert.Kernel12Ideal.Gen.run_main m g))
    exact ⟨((h.2 c).1 2).trans (Kern.final m c), h.1 c⟩
  · refine (θ_run _ _ _).mono (fun r h c => ?_) (Cert.Reference12Ideal.Value.run m' g')
    obtain ⟨e0, e1⟩ := hagree c
    refine ⟨(h c).1.trans ((Cert.Reference12Ideal.Read.val_main_v4_eq ..).trans ((Ref.value _ _ ).trans ?_)), (h c).2⟩
    beta_reduce
    rw [← e0, ← e1]

end Cert.DwO

end
-- ==== Proof.DwBranch0.lean ====
/- The gradient of the first mixer's projection up: the kernel's is the reference's. -/
module

public import proofs.«01_k».proof.Defs
public import proofs.«01_k».proof.Proof.ProductSpec
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Claim

@[expose] public section

set_option maxRecDepth 16384

noncomputable section

namespace Cert.DwBranch0

open Idealize.ShloMosaic Idealize.ShloMosaic.TcCoe Idealize.SL.Sem
open Idealize.ShloMosaic.Pipeline (Dat)
open scoped BigOperators

/-- This mixer's columns. -/
def cols (b : FVec Ideal ⟨2, ![4096, 4096]⟩ .bf16) : FVec Ideal ⟨2, ![4096, 1024]⟩ .bf16 := fun i =>
  b (ix2 (i 0) ⟨(i 1).val, by have : (i 1).val < 1024 := (i 1).isLt; omega⟩)

/-- The gradient from those columns. -/
def spec (a : FVec Ideal ⟨2, ![4096, 512]⟩ .bf16) (b : FVec Ideal ⟨2, ![4096, 4096]⟩ .bf16) : FVec Ideal ⟨2, ![512, 1024]⟩ .bf16 :=
  Product.tn a (cols b)

namespace Kern

open Cert.Kernel13Ideal Cert.Kernel13Ideal.Gen

variable (m : (ℓ : Loc nD τ sig) → Buf (Elt Ideal) ℓ)

/-- Which block of its array each window holds at a point. -/
theorem idx : ∀ t : Fin cfg0.N, win0_0.index t = ![0, 0] ∧ win0_1.index t = ![0, t.val] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, t.val] := (idx t).2.1
theorem idx2 (t : Fin cfg0.N) : win0_2.index t = ![0, t.val] := (idx t).2.2

/-- The array's row that row `i` of block `t` is. -/
def row (t : Fin cfg0.N) (i : Fin 512) : Fin 512 := ⟨512 * (0) + i.val, by have : t.val < 2 := lt_of_lt_of_eq t.isLt N_0; omega⟩

/-- Its column. -/
def col (t : Fin cfg0.N) (j : Fin 512) : Fin 1024 := ⟨512 * (t.val) + j.val, by have : t.val < 2 := lt_of_lt_of_eq t.isLt N_0; omega⟩

variable (c : Dev nD) (t : Fin cfg0.N)

abbrev A0 : FVec Ideal ⟨2, ![4096, 512]⟩ .bf16 := m ((c : Thread nD τ).loc main_arg0)
abbrev A1 : FVec Ideal ⟨2, ![4096, 4096]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 512) : iblk m c 1 t (ix2 l j) = A1 m c (ix2 l ⟨512 * (t.val) + j.val, by have : t.val < 2 := lt_of_lt_of_eq t.isLt N_0; omega⟩) := by
  unfold A1; blk_point [iblk, V, idx1 t]

/-- What a point stores. -/
theorem block (i : Fin 512) (j : Fin 512) : k0_pay1 (iblk m c 0 t) (iblk m c 1 t) (ix2 i j) = spec (A0 m c) (A1 m c) (ix2 (row t i) (col t j)) := by
  pointwise [k0_pay1, in0, in1]
  rfl

theorem final : (dats m 0 c).arrAt 2 (cfgs 0).N = spec (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference13Ideal Cert.Reference13Ideal.Read

theorem value (a : FVec Ideal ⟨2, ![4096, 512]⟩ .bf16) (b : FVec Ideal ⟨2, ![4096, 4096]⟩ .bf16) : val_main_v5 (F := Ideal) a b = spec a b := by
  funext y
  idx_vars y
  pointwise [val_main_v5, val_main_v4, val_main_v3, val_main_v2, val_main_v1, val_main_v0]
  unfold spec Product.tn cols
  exact Finset.sum_congr rfl fun l _ => mul_comm _ _

end Ref

/-- The reference alone: it keeps its arguments, and has no semaphore. -/
theorem ref_frame : Cert.quiescent_Reference13Ideal := fun m g _ =>
  (θ_run _ _ _).mono (fun r h => ⟨fun c => (h c).2, sem_eq_zero_of_no_sems (by decide) r.2⟩) (Cert.Reference13Ideal.Value.run m g)

/-- From the same arguments both end with the same array. -/
theorem algebraic : Cert.algebraic_Kernel13Ideal_Reference13Ideal := by
  intro m g m' g' _ hagree
  refine ⟨fun c => spec (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · refine (θ_run _ _ _).mono (fun r h c => ?_) (θ_run_and (Cert.Kernel13Ideal.Gen.unchanged m g) (Cert.Kernel13Ideal.Gen.run_main m g))
    exact ⟨((h.2 c).1 2).trans (Kern.final m c), h.1 c⟩
  · refine (θ_run _ _ _).mono (fun r h c => ?_) (Cert.Reference13Ideal.Value.run m' g')
    obtain ⟨e0, e1⟩ := hagree c
    refine ⟨(h c).1.trans ((Cert.Reference13Ideal.Read.val_main_v5_eq ..).trans ((Ref.value _ _ ).trans ?_)), (h c).2⟩
    beta_reduce
    rw [← e0, ← e1]

end Cert.DwBranch0

end
-- ==== Proof.DwBranch1.lean ====
/- The gradient of the second mixer's projection up: the kernel's is the reference's. -/
module

public import proofs.«01_k».proof.Defs
public import proofs.«01_k».proof.Proof.ProductSpec
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Claim

@[expose] public section

set_option maxRecDepth 16384

noncomputable section

namespace Cert.DwBranch1

open Idealize.ShloMosaic Idealize.ShloMosaic.TcCoe Idealize.SL.Sem
open Idealize.ShloMosaic.Pipeline (Dat)
open scoped BigOperators

/-- This mixer's columns. -/
def cols (b : FVec Ideal ⟨2, ![4096, 4096]⟩ .bf16) : FVec Ideal ⟨2, ![4096, 1024]⟩ .bf16 := fun i =>
  b (ix2 (i 0) ⟨1024 + (i 1).val, by have : (i 1).val < 1024 := (i 1).isLt; omega⟩)

/-- The gradient from those columns. -/
def spec (a : FVec Ideal ⟨2, ![4096, 512]⟩ .bf16) (b : FVec Ideal ⟨2, ![4096, 4096]⟩ .bf16) : FVec Ideal ⟨2, ![512, 1024]⟩ .bf16 :=
  Product.tn a (cols b)

namespace Kern

open Cert.Kernel14Ideal Cert.Kernel14Ideal.Gen

variable (m : (ℓ : Loc nD τ sig) → Buf (Elt Ideal) ℓ)

/-- Which block of its array each window holds at a point. -/
theorem idx : ∀ t : Fin cfg0.N, win0_0.index t = ![0, 0] ∧ win0_1.index t = ![0, 2 + t.val] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, 2 + t.val] := (idx t).2.1
theorem idx2 (t : Fin cfg0.N) : win0_2.index t = ![0, t.val] := (idx t).2.2

/-- The array's row that row `i` of block `t` is. -/
def row (t : Fin cfg0.N) (i : Fin 512) : Fin 512 := ⟨512 * (0) + i.val, by have : t.val < 2 := lt_of_lt_of_eq t.isLt N_0; omega⟩

/-- Its column. -/
def col (t : Fin cfg0.N) (j : Fin 512) : Fin 1024 := ⟨512 * (t.val) + j.val, by have : t.val < 2 := lt_of_lt_of_eq t.isLt N_0; omega⟩

variable (c : Dev nD) (t : Fin cfg0.N)

abbrev A0 : FVec Ideal ⟨2, ![4096, 512]⟩ .bf16 := m ((c : Thread nD τ).loc main_arg0)
abbrev A1 : FVec Ideal ⟨2, ![4096, 4096]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 512) : iblk m c 1 t (ix2 l j) = A1 m c (ix2 l ⟨512 * (2 + t.val) + j.val, by have : t.val < 2 := lt_of_lt_of_eq t.isLt N_0; omega⟩) := by
  unfold A1; blk_point [iblk, V, idx1 t]

/-- What a point stores. -/
theorem block (i : Fin 512) (j : Fin 512) : k0_pay1 (iblk m c 0 t) (iblk m c 1 t) (ix2 i j) = spec (A0 m c) (A1 m c) (ix2 (row t i) (col t j)) := by
  pointwise [k0_pay1, in0, in1]
  refine Finset.sum_congr rfl fun l _ => congrArg (A0 m c (ix2 l (row t i)) * ·) (congrArg (A1 m c) (congrArg (ix2 l) (Fin.ext ?_)))
  show 512 * (2 + t.val) + j.val = 1024 + (512 * (t.val) + j.val)
  omega

theorem final : (dats m 0 c).arrAt 2 (cfgs 0).N = spec (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference14Ideal Cert.Reference14Ideal.Read

theorem value (a : FVec Ideal ⟨2, ![4096, 512]⟩ .bf16) (b : FVec Ideal ⟨2, ![4096, 4096]⟩ .bf16) : val_main_v5 (F := Ideal) a b = spec a b := by
  funext y
  idx_vars y
  pointwise [val_main_v5, val_main_v4, val_main_v3, val_main_v2, val_main_v1, val_main_v0]
  exact Finset.sum_congr rfl fun l _ => mul_comm _ _

end Ref

/-- The reference alone: it keeps its arguments, and has no semaphore. -/
theorem ref_frame : Cert.quiescent_Reference14Ideal := fun m g _ =>
  (θ_run _ _ _).mono (fun r h => ⟨fun c => (h c).2, sem_eq_zero_of_no_sems (by decide) r.2⟩) (Cert.Reference14Ideal.Value.run m g)

/-- From the same arguments both end with the same array. -/
theorem algebraic : Cert.algebraic_Kernel14Ideal_Reference14Ideal := by
  intro m g m' g' _ hagree
  refine ⟨fun c => spec (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · refine (θ_run _ _ _).mono (fun r h c => ?_) (θ_run_and (Cert.Kernel14Ideal.Gen.unchanged m g) (Cert.Kernel14Ideal.Gen.run_main m g))
    exact ⟨((h.2 c).1 2).trans (Kern.final m c), h.1 c⟩
  · refine (θ_run _ _ _).mono (fun r h c => ?_) (Cert.Reference14Ideal.Value.run m' g')
    obtain ⟨e0, e1⟩ := hagree c
    refine ⟨(h c).1.trans ((Cert.Reference14Ideal.Read.val_main_v5_eq ..).trans ((Ref.value _ _ ).trans ?_)), (h c).2⟩
    beta_reduce
    rw [← e0, ← e1]

end Cert.DwBranch1

end
-- ==== Proof.DwBranch2.lean ====
/- The gradient of the third mixer's projection up: the kernel's is the reference's. -/
module

public import proofs.«01_k».proof.Defs
public import proofs.«01_k».proof.Proof.ProductSpec
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Claim

@[expose] public section

set_option maxRecDepth 16384

noncomputable section

namespace Cert.DwBranch2

open Idealize.ShloMosaic Idealize.ShloMosaic.TcCoe Idealize.SL.Sem
open Idealize.ShloMosaic.Pipeline (Dat)
open scoped BigOperators

/-- This mixer's columns. -/
def cols (b : FVec Ideal ⟨2, ![4096, 4096]⟩ .bf16) : FVec Ideal ⟨2, ![4096, 1024]⟩ .bf16 := fun i =>
  b (ix2 (i 0) ⟨2048 + (i 1).val, by have : (i 1).val < 1024 := (i 1).isLt; omega⟩)

/-- The gradient from those columns. -/
def spec (a : FVec Ideal ⟨2, ![4096, 512]⟩ .bf16) (b : FVec Ideal ⟨2, ![4096, 4096]⟩ .bf16) : FVec Ideal ⟨2, ![512, 1024]⟩ .bf16 :=
  Product.tn a (cols b)

namespace Kern

open Cert.Kernel15Ideal Cert.Kernel15Ideal.Gen

variable (m : (ℓ : Loc nD τ sig) → Buf (Elt Ideal) ℓ)

/-- Which block of its array each window holds at a point. -/
theorem idx : ∀ t : Fin cfg0.N, win0_0.index t = ![0, 0] ∧ win0_1.index t = ![0, 4 + t.val] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, 4 + t.val] := (idx t).2.1
theorem idx2 (t : Fin cfg0.N) : win0_2.index t = ![0, t.val] := (idx t).2.2

/-- The array's row that row `i` of block `t` is. -/
def row (t : Fin cfg0.N) (i : Fin 512) : Fin 512 := ⟨512 * (0) + i.val, by have : t.val < 2 := lt_of_lt_of_eq t.isLt N_0; omega⟩

/-- Its column. -/
def col (t : Fin cfg0.N) (j : Fin 512) : Fin 1024 := ⟨512 * (t.val) + j.val, by have : t.val < 2 := lt_of_lt_of_eq t.isLt N_0; omega⟩

variable (c : Dev nD) (t : Fin cfg0.N)

abbrev A0 : FVec Ideal ⟨2, ![4096, 512]⟩ .bf16 := m ((c : Thread nD τ).loc main_arg0)
abbrev A1 : FVec Ideal ⟨2, ![4096, 4096]⟩ .bf16 := m ((c : Thread nD τ).loc main_arg1)

theorem in0 (l : Fin 4096) (i : Fin 512) : iblk m c 0 t (ix2 l i) = A0 m c (ix2 l (row t i)) := by
  unfold row; blk_point [iblk, V, idx0 t]

theorem in1 (l : Fin 4096) (j : Fin 512) : iblk m c 1 t (ix2 l j) = A1 m c (ix2 l ⟨512 * (4 + t.val) + j.val, by have : t.val < 2 := lt_of_lt_of_eq t.isLt N_0; omega⟩) := by
  unfold A1; blk_point [iblk, V, idx1 t]

/-- What a point stores. -/
theorem block (i : Fin 512) (j : Fin 512) : k0_pay1 (iblk m c 0 t) (iblk m c 1 t) (ix2 i j) = spec (A0 m c) (A1 m c) (ix2 (row t i) (col t j)) := by
  pointwise [k0_pay1, in0, in1]
  refine Finset.sum_congr rfl fun l _ => congrArg (A0 m c (ix2 l (row t i)) * ·) (congrArg (A1 m c) (congrArg (ix2 l) (Fin.ext ?_)))
  show 512 * (4 + t.val) + j.val = 2048 + (512 * (t.val) + j.val)
  omega

theorem final : (dats m 0 c).arrAt 2 (cfgs 0).N = spec (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference15Ideal Cert.Reference15Ideal.Read

theorem value (a : FVec Ideal ⟨2, ![4096, 512]⟩ .bf16) (b : FVec Ideal ⟨2, ![4096, 4096]⟩ .bf16) : val_main_v5 (F := Ideal) a b = spec a b := by
  funext y
  idx_vars y
  pointwise [val_main_v5, val_main_v4, val_main_v3, val_main_v2, val_main_v1, val_main_v0]
  exact Finset.sum_congr rfl fun l _ => mul_comm _ _

end Ref

/-- The reference alone: it keeps its arguments, and has no semaphore. -/
theorem ref_frame : Cert.quiescent_Reference15Ideal := fun m g _ =>
  (θ_run _ _ _).mono (fun r h => ⟨fun c => (h c).2, sem_eq_zero_of_no_sems (by decide) r.2⟩) (Cert.Reference15Ideal.Value.run m g)

/-- From the same arguments both end with the same array. -/
theorem algebraic : Cert.algebraic_Kernel15Ideal_Reference15Ideal := by
  intro m g m' g' _ hagree
  refine ⟨fun c => spec (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run _ _ _).mono (fun r h c => ?_) (θ_run_and (Cert.Kernel15Ideal.Gen.unchanged m g) (Cert.Kernel15Ideal.Gen.run_main m g))
    exact ⟨((h.2 c).1 2).trans (Kern.final m c), h.1 c⟩
  · refine (θ_run _ _ _).mono (fun r h c => ?_) (Cert.Reference15Ideal.Value.run m' g')
    obtain ⟨e0, e1⟩ := hagree c
    refine ⟨(h c).1.trans ((Cert.Reference15Ideal.Read.val_main_v5_eq ..).trans ((Ref.value _ _ ).trans ?_)), (h c).2⟩
    beta_reduce
    rw [← e0, ← e1]

end Cert.DwBranch2

end
-- ==== Proof.NormSpec.lean ====
/- The gradient of a row's normalisation by the root of its mean square, over the extended reals. The root's inverse is a
   real number that is not negative, whatever the row holds, so it may be taken into and out of every sum; from there the
   gradient as it is usually written, `r (g - x r mean(g x r))`, and the chain of derivatives agree for every row, also one that
   holds an infinity. -/
module

public import Idealize.ShloMosaic.Lib.Pointwise
public import Idealize.ShloMosaic.PureOps.Ideal.Laws

@[expose] public section

noncomputable section

namespace Cert.Norm

open Idealize.ShloMosaic
open scoped BigOperators

/-- The constants' values: how many entries a row has, the small number under the root, and minus a half. -/
theorem count_eq : Ideal.ofBits FTy.f32 1149239296#32 = ((1024 : ℝ) : EReal) := by
  simp [Ideal.ofBits, Ideal.ieee, -EReal.coe_mul]; norm_num

theorem eps_pos : ∃ e : ℝ, 0 < e ∧ Ideal.ofBits FTy.f32 897988541#32 = (e : EReal) := by
  refine ⟨_, ?_, by simp [Ideal.ofBits, Ideal.ieee, -EReal.coe_mul]; rfl⟩
  norm_num

theorem mhalf_eq : Ideal.ofBits FTy.f32 3204448256#32 = ((-(1 / 2) : ℝ) : EReal) := by
  simp [Ideal.ofBits, Ideal.ieee, -EReal.coe_mul]; norm_num

/-- The mean of the squares, and the small number. -/
def ms (x : Fin 1024 → EReal) : EReal :=
  Ideal.div (∑ e, x e * x e) (Ideal.ofBits FTy.f32 1149239296#32) + Ideal.ofBits FTy.f32 897988541#32

/-- The inverse of the root. -/
def inv (x : Fin 1024 → EReal) : EReal := Ideal.rsqrt (ms x)

theorem sq_nonneg (a : EReal) : 0 ≤ a * a := by
  rcases le_total 0 a with h | h
  · exact mul_nonneg h h
  · rw [← neg_mul_neg]; exact mul_nonneg (EReal.neg_nonneg.mpr h) (EReal.neg_nonneg.mpr h)

theorem ms_pos (x : Fin 1024 → EReal) : 0 < ms x := by
  obtain ⟨e, he, h⟩ := eps_pos
  unfold ms
  rw [h, count_eq, Ideal.div_coe (by norm_num)]
  have h0 : 0 ≤ (∑ e, x e * x e) * ((1 / 1024 : ℝ) : EReal) :=
    mul_nonneg (Finset.sum_nonneg fun i _ => sq_nonneg _) (EReal.coe_nonneg.mpr (by norm_num))
  calc (0 : EReal) < (e : EReal) := EReal.coe_pos.mpr he
    _ = 0 + (e : EReal) := (zero_add _).symm
    _ ≤ _ := add_le_add h0 le_rfl

/-- It is a real number, not negative, and its quotient by the mean is its cube. -/
theorem inv_real (x : Fin 1024 → EReal) : ∃ r : ℝ, 0 ≤ r ∧ inv x = (r : EReal) ∧ Ideal.div (inv x) (ms x) = ((r * r * r : ℝ) : EReal) := by
  have hp := ms_pos x
  unfold inv
  generalize ms x = a at hp
  induction a with
  | bot => exact absurd hp (by simp)
  | top => exact ⟨0, le_rfl, by simp, by simp [Ideal.div]⟩
  | coe a =>
    have ha : 0 < a := EReal.coe_pos.mp hp
    refine ⟨(Real.sqrt a)⁻¹, by positivity, ?_, ?_⟩
    · simp [not_lt.mpr ha.le, ha.ne']
    · rw [Ideal.div_coe ha.ne']
      simp only [Ideal.rsqrt_coe, not_lt.mpr ha.le, ha.ne', if_false]
      rw [← EReal.coe_mul]
      congr 1
      have hs : Real.sqrt a * Real.sqrt a = a := Real.mul_self_sqrt ha.le
      rw [mul_assoc, ← mul_inv, hs, one_div]

/-- A real number that is not negative may be taken out of a sum. -/
theorem mul_sum_real {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (EReal.coe_nonneg.mpr hr) (EReal.coe_ne_top _), ih]

/-- Minus a half of a number, twice, is its negative. -/
theorem halves (y : EReal) : ((-(1 / 2) : ℝ) : EReal) * y + ((-(1 / 2) : ℝ) : EReal) * y = -y := by
  induction y with
  | bot => rw [EReal.coe_mul_bot_of_neg (by norm_num)]; simp
  | top => rw [EReal.coe_mul_top_of_neg (by norm_num)]; simp
  | coe y => rw [← EReal.coe_mul, ← EReal.coe_add, ← EReal.coe_neg]; congr 1; ring

/-- What arrives at entry `d` of the row, from the gradient `g` of the normalised row. -/
def back (x g : Fin 1024 → EReal) (d : Fin 1024) : EReal :=
  inv x * (g d - x d * inv x * Ideal.div (∑ e, g e * (x e * inv x)) (Ideal.ofBits FTy.f32 1149239296#32))

/-- What the chain of derivatives passes back through the sum of the squares, for each of a square's two factors. -/
def chain (x g : Fin 1024 → EReal) : EReal :=
  Ideal.div ((∑ e, x e * g e) * (Ideal.ofBits FTy.f32 3204448256#32 * Ideal.div (inv x) (ms x))) (Ideal.ofBits FTy.f32 1149239296#32)

/-- The two agree. -/
theorem back_eq (x g : Fin 1024 → EReal) (d : Fin 1024) : back x g d = g d * inv x + x d * chain x g + chain x g * x d := by
  obtain ⟨r, hr, hi, hc⟩ := inv_real x
  unfold back chain
  rw [hi] at hc ⊢
  rw [hc, count_eq, mhalf_eq, Ideal.div_coe (by norm_num), Ideal.div_coe (by norm_num)]
  have hs : ∑ e, g e * (x e * (r : EReal)) = (r : EReal) * ∑ e, x e * g e := by
    rw [mul_sum_real _ r hr]
    exact Finset.sum_congr rfl fun e _ => by rw [mul_comm (x e) (g e), ← mul_assoc, mul_comm]
  rw [hs]
  generalize ∑ e, x e * g e = s
  generalize g d = b
  generalize x d = a
  rw [sub_eq_add_neg, EReal.left_distrib_of_nonneg_of_ne_top (EReal.coe_nonneg.mpr hr) (EReal.coe_ne_top _), add_assoc, mul_comm (r : EReal) b]
  congr 1
  rw [mul_neg, ← halves]
  have e : ∀ k : EReal, k * ((r : EReal) * (a * (r : EReal) * ((r : EReal) * s * ((1 / 1024 : ℝ) : EReal)))) = a * (s * (k * (r * r * r : ℝ)) * ((1 / 1024 : ℝ) : EReal)) := by
    intro k
    rw [EReal.coe_mul, EReal.coe_mul]
    generalize (r : EReal) = u
    generalize ((1 / 1024 : ℝ) : EReal) = v
    ac_rfl
  rw [e, mul_comm (s * _ * _) a]

end Cert.Norm

end
-- ==== Proof.NormBwd.lean ====
/- The gradient of the mixers' normalisation, added to what arrives around it, and the gradient of its weight: the kernel's are
   the reference's. -/
module

public import proofs.«01_k».proof.Defs
public import proofs.«01_k».proof.Proof.NormSpec
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.NormBwd

open Idealize.ShloMosaic Idealize.ShloMosaic.TcCoe Idealize.SL.Sem
open Idealize.ShloMosaic.Pipeline (Dat)
open scoped BigOperators

/-- Both results, from the block's input, the weight, and what arrives at the normalised rows and around them. -/
def dx (x : FVec Ideal ⟨2, ![4096, 1024]⟩ .f32) (w : FVec Ideal ⟨2, ![1, 1024]⟩ .f32) (dy dres : FVec Ideal ⟨2, ![4096, 1024]⟩ .f32) :
    FVec Ideal ⟨2, ![4096, 1024]⟩ .f32 := fun y =>
  Norm.back (fun e => x (ix2 (y 0) e)) (fun e => dy (ix2 (y 0) e) * w (ix2 0 e)) (y 1) + dres (ix2 (y 0) (y 1))

def dw (x dy : FVec Ideal ⟨2, ![4096, 1024]⟩ .f32) : FVec Ideal ⟨2, ![1, 1024]⟩ .f32 := fun y =>
  ∑ i, dy (ix2 i (y 1)) * (x (ix2 i (y 1)) * Norm.inv fun e => x (ix2 i e))

namespace Kern

open Cert.Kernel16Ideal Cert.Kernel16Ideal.Gen

variable (m : (ℓ : Loc nD τ sig) → Buf (Elt Ideal) ℓ)

/-- Which block of its array each window holds at a point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

theorem idx0 (t : Fin cfg0.N) : win0_0.index t = ![t.val, 0] := (idx t).1
theorem idx1 (t : Fin cfg0.N) : win0_1.index t = ![0, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2

/-- The array's row that row `i` of block `t` is. -/
def row (t : Fin cfg0.N) (i : Fin 512) : Fin 4096 := ⟨512 * t.val + i.val, by have : t.val < 8 := lt_of_lt_of_eq t.isLt N_0; omega⟩

variable (c : Dev nD) (t : Fin cfg0.N)

abbrev X : FVec Ideal ⟨2, ![4096, 1024]⟩ .f32 := m ((c : Thread nD τ).loc main_arg0)
abbrev W : FVec Ideal ⟨2, ![1, 1024]⟩ .f32 := m ((c : Thread nD τ).loc main_arg1)
abbrev DY : FVec Ideal ⟨2, ![4096, 1024]⟩ .f32 := m ((c : Thread nD τ).loc main_arg2)
abbrev DR : FVec Ideal ⟨2, ![4096, 1024]⟩ .f32 := m ((c : Thread nD τ).loc main_arg3)

theorem in0 (i : Fin 512) (l : Fin 1024) : iblk m c 0 t (ix2 i l) = X m c (ix2 (row t i) l) := by
  unfold row; blk_point [iblk, V, idx0 t]

theorem in1 (l : Fin 1024) : iblk m c 1 t (ix2 0 l) = W m c (ix2 0 l) := by
  blk_point [iblk, V, idx1 t]

theorem in2 (i : Fin 512) (l : Fin 1024) : iblk m c 2 t (ix2 i l) = DY m c (ix2 (row t i) l) := by
  unfold row; blk_point [iblk, V, idx2 t]

theorem in3 (i : Fin 512) (l : Fin 1024) : iblk m c 3 t (ix2 i l) = DR m c (ix2 (row t i) l) := by
  unfold row; blk_point [iblk, V, idx3 t]

/-- The root's inverse, of row `i` of a block. -/
theorem root (i : Fin 512) (j : Fin 1) : k0_pay1 (iblk m c 0 t) (ix2 i j) = Norm.inv fun e => X m c (ix2 (row t i) e) := by
  pointwise [k0_pay1, in0]
  rfl

/-- What a point stores for the input. -/
theorem block (i : Fin 512) (j : Fin 1024) :
    k0_pay3 (iblk m c 0 t) (iblk m c 1 t) (iblk m c 2 t) (iblk m c 3 t) (ix2 i j) = dx (X m c) (W m c) (DY m c) (DR m c) (ix2 (row t i) j) := by
  pointwise [k0_pay3, k0_pay2, root, in0, in1, in2, in3]
  rfl

/-- The weight's part from a block's rows. -/
def part (j : Fin 1024) : EReal :=
  ∑ i : Fin 512, DY m c (ix2 (row t i) j) * (X m c (ix2 (row t i) j) * Norm.inv fun e => X m c (ix2 (row t i) e))

/-- What a point adds to the weight's. -/
theorem step (z : FVec Ideal S1x1024 .f32) (a : Fin 1) (j : Fin 1024) :
    k0_pay5 (iblk m c 0 t) (iblk m c 2 t) z (ix2 a j) = z (ix2 a j) + part m c t j := by
  pointwise [k0_pay5, k0_pay2, root, in0, in2]
  rfl

theorem final4 : (dats m 0 c).arrAt 4 (cfgs 0).N = dx (X m c) (W m c) (DY m c) (DR m c) := by
  refine (dats m 0 c).arrAt_eq_of_covers 4 _ (by decide +kernel) fun t _ y => ?_
  blk_simp
  rw [after0_4]
  have e : ∀ (i : Fin 512) (j : Fin 1024), (win0_4.blk t).view.emb (ix2 i j) = ix2 (row t i) j := fun i j => by
    unfold row; blk_ext [idx4 t]
  by_cases h : t.val % 8 = 0
  · rw [outsAt0_A m c t h]; dsimp only; frame_out
    idx_vars y
    rw [e y0 y1]
    exact block m c t y0 y1
  · rw [outsAt0_B m c t h]; dsimp only; frame_out
    idx_vars y
    rw [e y0 y1]
    exact block m c t y0 y1

/-- The first point's part over the cleared block. -/
theorem first (h : t.val % 8 = 0) (a : Fin 1) (j : Fin 1024) : (outsAt0 m c t.val t.isLt).2 (ix2 a j) = 0 + part m c t j := by
  rw [outsAt0_A m c t h]; dsimp only; frame_out
  refine (step m c t _ a j).trans (congrArg (· + part m c t j) ?_)
  pointwise [k0_pay4]

/-- A later point adds its part to what the point before left. -/
theorem next (h : ¬t.val % 8 = 0) (a : Fin 1) (j : Fin 1024) :
    (outsAt0 m c t.val t.isLt).2 (ix2 a j) = (outsAt0 m c (t.val - 1) (Nat.lt_of_le_of_lt (Nat.sub_le _ _) t.isLt)).2 (ix2 a j) + part m c t j := by
  rw [outsAt0_B m c t h]; dsimp only; frame_out
  exact step m c t _ a j

theorem N_8 : cfg0.N = 8 := rfl

theorem final5 : (dats m 0 c).arrAt 5 (cfgs 0).N = dw (X m c) (DY m c) := by
  refine (dats m 0 c).arrAt_eq_of_after_last 5 t0_7 (by decide +kernel) _ fun j => ?_
  blk_simp
  rw [after0_5]
  idx_vars j
  rw [Pipeline.eq_sum_fin_of_reset_step_apply_last (fun n h => (outsAt0 m c n h).2) 8 (fun _ => 0)
    (fun t j => part m c t (j 1))
    (fun t h j => by idx_vars j; exact first m c t h j0 j1)
    (fun t h j => by idx_vars j; exact next m c t h j0 j1) (le_of_eq N_8) t0_7 rfl (ix2 j0 j1), zero_add]
  exact Fin.sum_mul_add_congr (L := 4096) (S := 8) (n := 512)
    (f := fun r => DY m c (ix2 r j1) * (X m c (ix2 r j1) * Norm.inv fun e => X m c (ix2 r e))) fun s k hl =>
    congrArg (fun r => DY m c (ix2 r j1) * (X m c (ix2 r j1) * Norm.inv fun e => X m c (ix2 r e))) (Fin.ext (show 512 * s.val + k.val = s.val * 512 + k.val by omega))

end Kern

namespace Ref

open Cert.Reference16Ideal Cert.Reference16Ideal.Read

variable (x : FVec Ideal ⟨2, ![4096, 1024]⟩ .f32) (w : FVec Ideal ⟨2, ![1, 1024]⟩ .f32) (dy dres : FVec Ideal ⟨2, ![4096, 1024]⟩ .f32)

theorem ms (i : Fin 4096) (j : Fin 1) : val_main_v6 (F := Ideal) x (ix2 i j) = Norm.ms fun e => x (ix2 i e) := by
  pointwise [val_main_v6, val_main_v5, val_main_v4, val_main_v3, val_main_v2, val_main_v1, val_main_v0, val_main_cst, val_main_cst_0, val_main_cst_1]
  rfl

theorem root (i : Fin 4096) (j : Fin 1) : val_main_v7 (F := Ideal) x (ix2 i j) = Norm.inv fun e => x (ix2 i e) := by
  pointwise [val_main_v7, ms]
  rfl

theorem value5 : val_main_v17 (F := Ideal) x dy = dw x dy := by
  funext y
  idx_vars y
  pointwise [val_main_v17, val_main_v16, val_main_v15, val_main_v12, val_main_v11, val_main_cst_3, root]
  exact Finset.sum_congr rfl fun i _ => mul_comm _ _

theorem chain (i : Fin 4096) : val_main_v28 (F := Ideal) x w dy (ix1 i) = Norm.chain (fun e => x (ix2 i e)) fun e => dy (ix2 i e) * w (ix2 0 e) := by
  pointwise [val_main_v28, val_main_v27, val_main_v26, val_main_v25, val_main_v22, val_main_v21, val_main_v20, val_main_v19, val_main_v18, val_main_v10, val_main_v9, val_main_v8, root, ms,
    val_main_cst_2, val_main_cst_4, val_main_cst_5, val_main_cst_6]
  rw [Fin.sum_univ_one]
  rfl

theorem value4 : val_main_v34 (F := Ideal) x w dy dres = dx x w dy dres := by
  funext y
  idx_vars y
  pointwise [val_main_v34, val_main_v33, val_main_v32, val_main_v31, val_main_v30, val_main_v29, val_main_v24, val_main_v23, val_main_v19, val_main_v18, root, chain]
  refine (congrArg (dres (ix2 y0 y1) + ·) (Norm.back_eq (fun e => x (ix2 y0 e)) (fun e => dy (ix2 y0 e) * w (ix2 0 e)) y1).symm).trans (add_comm _ _)

end Ref

/-- The reference alone: it keeps its arguments, and has no semaphore. -/
theorem ref_frame : Cert.quiescent_Reference16Ideal := fun m g _ =>
  (θ_run _ _ _).mono (fun r h => ⟨fun c => (h c).2.2, sem_eq_zero_of_no_sems (by decide) r.2⟩) (Cert.Reference16Ideal.Value.run m g)

/-- From the same arguments both end with the same arrays. -/
theorem algebraic : Cert.algebraic_Kernel16Ideal_Reference16Ideal := by
  intro m g m' g' _ hagree
  refine ⟨fun c => dx (Kern.X m c) (Kern.W m c) (Kern.DY m c) (Kern.DR m c), fun c => dw (Kern.X m c) (Kern.DY m c), ?_, ?_⟩
  · refine (θ_run _ _ _).mono (fun r h c => ?_) (θ_run_and (Cert.Kernel16Ideal.Gen.unchanged m g) (Cert.Kernel16Ideal.Gen.run_main m g))
    exact ⟨((h.2 c).1 4).trans (Kern.final4 m c), ((h.2 c).1 5).trans (Kern.final5 m c), h.1 c⟩
  · refine (θ_run _ _ _).mono (fun r h c => ?_) (Cert.Reference16Ideal.Value.run m' g')
    obtain ⟨e0, e1, e2, e3⟩ := hagree c
    refine ⟨(h c).1.trans ((Cert.Reference16Ideal.Read.val_main_v34_eq ..).trans ((Ref.value4 ..).trans ?_)),
      (h c).2.1.trans ((Cert.Reference16Ideal.Read.val_main_v17_eq ..).trans ((Ref.value5 ..).trans ?_)), (h c).2.2⟩ <;>
    · beta_reduce
      unfold Kern.X Kern.DY
      try unfold Kern.W Kern.DR
      rw [← e0, ← e2]
      try rw [← e1, ← e3]

end Cert.NormBwd

end
-- ==== Proof.AttnSpec.lean ====
/- Attention's gradient of one row, over the extended reals. Where the row's logits are real numbers the probabilities are too,
   and the gradient as it is usually written, `p (g - sum(p g))`, and the chain of derivatives through the quotient and the
   exponential agree, whatever arrives at the probabilities. -/
module

public import proofs.«01_k».proof.Proof.NormSpec

@[expose] public section

noncomputable section

namespace Cert.Attn

open Idealize.ShloMosaic
open scoped BigOperators

/-- A real number, and not an infinity. -/
def IsReal (z : EReal) : Prop := ∃ r : ℝ, z = (r : EReal)

theorem IsReal.mul {a b : EReal} : IsReal a → IsReal b → IsReal (a * b) := by
  rintro ⟨r, rfl⟩ ⟨s, rfl⟩
  exact ⟨r * s, (EReal.coe_mul r s).symm⟩

theorem IsReal.sum {ι : Type} (s : Finset ι) {f : ι → EReal} (h : ∀ i, IsReal (f i)) : IsReal (∑ i ∈ s, f i) := by
  choose r hr using h
  exact ⟨∑ i ∈ s, r i, by rw [Finset.sum_congr rfl fun i _ => hr i]; exact (coe_sum s r)⟩
where
  coe_sum {ι : Type} (s : Finset ι) (r : ι → ℝ) : ∑ i ∈ s, (r i : EReal) = ((∑ i ∈ s, r i : ℝ) : EReal) := by
    classical
    induction s using Finset.induction_on with
    | empty => simp
    | insert a s ha ih => rw [Finset.sum_insert ha, Finset.sum_insert ha, ih, EReal.coe_add]

/-- The scale of the logits. -/
theorem scale_eq : Ideal.ofBits FTy.f32 1031798784#32 = ((1 / 16 : ℝ) : EReal) := by
  simp [Ideal.ofBits, Ideal.ieee, -EReal.coe_mul]; norm_num

theorem scale_real : IsReal (Ideal.ofBits FTy.f32 1031798784#32) := ⟨_, scale_eq⟩

/-- Column `j` of head `h`. -/
def col (h : Fin 4) (j : Fin 256) : Fin 1024 := ⟨256 * h.val + j.val, by omega⟩

/-- The columns of each head, as they are counted from the left. -/
theorem col0 (j : Fin 256) (h : j.val < 1024) : (⟨j.val, h⟩ : Fin 1024) = col 0 j := Fin.ext (by simp [col])
theorem col1 (j : Fin 256) (h : 256 + j.val < 1024) : (⟨256 + j.val, h⟩ : Fin 1024) = col 1 j := Fin.ext (by simp [col])
theorem col2 (j : Fin 256) (h : 512 + j.val < 1024) : (⟨512 + j.val, h⟩ : Fin 1024) = col 2 j := Fin.ext (by simp [col])
theorem col3 (j : Fin 256) (h : 768 + j.val < 1024) : (⟨768 + j.val, h⟩ : Fin 1024) = col 3 j := Fin.ext (by simp [col])

/-- A row normalised; its query; a head's logits. -/
def hn (x w : Fin 1024 → EReal) (d : Fin 1024) : EReal := x d * Norm.inv x * w d

def query (x w : Fin 1024 → EReal) (wq : Fin 1024 → Fin 1024 → EReal) (j : Fin 1024) : EReal := ∑ d, hn x w d * wq d j

def logit (q : Fin 1024 → EReal) (k : Fin 256 → Fin 1024 → EReal) (h : Fin 4) (n : Fin 256) : EReal :=
  (∑ j, q (col h j) * k n (col h j)) * Ideal.ofBits FTy.f32 1031798784#32

/-- The greatest of the logits, their exponentials below it, their sum, and the probabilities. -/
def top (l : Fin 256 → EReal) : EReal := (Finset.univ : Finset (Fin 256)).fold max (Ideal.ofBits FTy.f32 4286578688#32) l

def ex (l : Fin 256 → EReal) (n : Fin 256) : EReal := Ideal.exp (l n - top l)

def total (l : Fin 256 → EReal) : EReal := ∑ n, ex l n

def prob (l : Fin 256 → EReal) (n : Fin 256) : EReal := Ideal.div (ex l n) (total l)

/-- The gradient of the logits' products, from the gradient `g` of the probabilities. -/
def back (l g : Fin 256 → EReal) (n : Fin 256) : EReal :=
  prob l n * (g n - ∑ m, prob l m * g m) * Ideal.ofBits FTy.f32 1031798784#32

/-- The same, down the chain of derivatives. -/
def chain (l g : Fin 256 → EReal) (n : Fin 256) : EReal :=
  (Ideal.div (g n) (total l) + -∑ m, g m * Ideal.div 1 (total l * total l) * ex l m) * ex l n * Ideal.ofBits FTy.f32 1031798784#32

theorem hn_real {x w : Fin 1024 → EReal} (hx : ∀ d, IsReal (x d)) (hw : ∀ d, IsReal (w d)) (d : Fin 1024) : IsReal (hn x w d) := by
  obtain ⟨r, _, h, _⟩ := Norm.inv_real x
  exact ((hx d).mul ⟨r, h⟩).mul (hw d)

theorem logit_real {x w : Fin 1024 → EReal} {wq : Fin 1024 → Fin 1024 → EReal} {k : Fin 256 → Fin 1024 → EReal} (hx : ∀ d, IsReal (x d)) (hw : ∀ d, IsReal (w d))
    (hq : ∀ d j, IsReal (wq d j)) (hk : ∀ n j, IsReal (k n j)) (h : Fin 4) (n : Fin 256) : IsReal (logit (query x w wq) k h n) :=
  (IsReal.sum _ fun _ => (IsReal.sum _ fun _ => (hn_real hx hw _).mul (hq _ _)).mul (hk _ _)).mul scale_real

/-- Where the greatest starts from. -/
theorem least_eq : Ideal.ofBits FTy.f32 4286578688#32 = ⊥ := by
  simp [Ideal.ofBits, Ideal.ieee]

theorem top_real {l : Fin 256 → EReal} (hl : ∀ n, IsReal (l n)) : IsReal (top l) := by
  have hlt : top l < ⊤ := by
    unfold top
    rw [least_eq, Finset.fold_max_lt]
    exact ⟨bot_lt_top, fun n _ => by obtain ⟨r, h⟩ := hl n; rw [h]; exact EReal.coe_lt_top r⟩
  have hgt : ⊥ < top l := by
    unfold top
    rw [least_eq, Finset.lt_fold_max]
    exact Or.inr ⟨0, Finset.mem_univ _, by obtain ⟨r, h⟩ := hl 0; rw [h]; exact EReal.bot_lt_coe r⟩
  exact ⟨(top l).toReal, (EReal.coe_toReal hlt.ne hgt.ne').symm⟩

/-- The exponentials of real logits are positive real numbers. -/
theorem ex_real {l : Fin 256 → EReal} (hl : ∀ n, IsReal (l n)) (n : Fin 256) : ∃ r : ℝ, 0 < r ∧ ex l n = (r : EReal) := by
  obtain ⟨a, ha⟩ := hl n
  obtain ⟨b, hb⟩ := top_real hl
  refine ⟨Real.exp (a - b), Real.exp_pos _, ?_⟩
  unfold ex
  rw [ha, hb, ← EReal.coe_sub]
  rfl

theorem total_real {l : Fin 256 → EReal} (hl : ∀ n, IsReal (l n)) : ∃ r : ℝ, 0 < r ∧ total l = (r : EReal) := by
  choose r hr h using ex_real hl
  refine ⟨∑ n, r n, Finset.sum_pos (fun n _ => hr n) ⟨0, Finset.mem_univ _⟩, ?_⟩
  unfold total
  rw [Finset.sum_congr rfl fun n _ => h n]
  exact IsReal.sum.coe_sum _ _

/-- The two gradients agree. -/
theorem chain_eq {l : Fin 256 → EReal} (hl : ∀ n, IsReal (l n)) (g : Fin 256 → EReal) (n : Fin 256) : chain l g n = back l g n := by
  obtain ⟨s, hs, ht⟩ := total_real hl
  have hu : (0 : ℝ) ≤ 1 / s := by positivity
  unfold chain back prob
  rw [ht, ← EReal.coe_mul, Ideal.div_coe hs.ne']
  simp only [Ideal.div_coe hs.ne', Ideal.div_coe (mul_pos hs hs).ne']
  have e : ∑ m, g m * (1 * ((1 / (s * s) : ℝ) : EReal)) * ex l m = ((1 / s : ℝ) : EReal) * ∑ m, ex l m * ((1 / s : ℝ) : EReal) * g m := by
    rw [Norm.mul_sum_real _ _ hu]
    refine Finset.sum_congr rfl fun m _ => ?_
    rw [one_mul, show (1 / (s * s) : ℝ) = 1 / s * (1 / s) by field_simp, EReal.coe_mul]
    generalize ((1 / s : ℝ) : EReal) = u
    generalize ex l m = a
    ac_rfl
  rw [e]
  generalize ∑ m, ex l m * ((1 / s : ℝ) : EReal) * g m = b
  generalize ex l n = a
  congr 1
  rw [mul_comm (g n), ← mul_neg, ← EReal.left_distrib_of_nonneg_of_ne_top (EReal.coe_nonneg.mpr hu) (EReal.coe_ne_top _), sub_eq_add_neg, mul_comm _ a, ← mul_assoc]

end Cert.Attn

end
-- ==== Proof.AttnKernel.lean ====
/- Attention's gradient, the kernel's values at a point: from the rows of a block, what every product and every sum holds. -/
module

public import proofs.«01_k».proof.Defs
public import proofs.«01_k».proof.Proof.AttnSpec
public import proofs.«01_k».proof.Proof.Gen.Kernel18Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.AttnBwd

open Idealize.ShloMosaic Idealize.ShloMosaic.TcCoe Idealize.SL.Sem
open Idealize.ShloMosaic.Pipeline (Dat)
open scoped BigOperators
open Attn

/-- The arrays a call reads: the block's input, what arrives at its result, the weight of the normalisation, the queries' and the
    result's weights of every layer, and the keys beside the values. -/
structure Args where
  x : FVec Ideal ⟨2, ![4096, 1024]⟩ .f32
  dx : FVec Ideal ⟨2, ![4096, 1024]⟩ .f32
  w : FVec Ideal ⟨2, ![1, 1024]⟩ .f32
  wq : FVec Ideal ⟨3, ![4, 1024, 1024]⟩ .bf16
  kv : FVec Ideal ⟨2, ![256, 2048]⟩ .bf16
  wo : FVec Ideal ⟨3, ![4, 1024, 1024]⟩ .bf16

namespace Args

variable (a : Args) (r : Fin 4096)

def X (d : Fin 1024) : EReal := a.x (ix2 r d)
def D (d : Fin 1024) : EReal := a.dx (ix2 r d)
def W (d : Fin 1024) : EReal := a.w (ix2 0 d)
def Wq (d j : Fin 1024) : EReal := a.wq (ix3 0 d j)
def Wo (j d : Fin 1024) : EReal := a.wo (ix3 0 j d)
def K (n : Fin 256) (j : Fin 1024) : EReal := a.kv (ix2 n ⟨j.val, by omega⟩)
def V (n : Fin 256) (j : Fin 1024) : EReal := a.kv (ix2 n ⟨1024 + j.val, by omega⟩)

/-- A row's query, a head's logits, and what arrives at the heads' results and at the probabilities. -/
def Q (j : Fin 1024) : EReal := query (a.X r) a.W a.Wq j
def L (h : Fin 4) (n : Fin 256) : EReal := logit (a.Q r) a.K h n
def dO (j : Fin 1024) : EReal := ∑ d, a.D r d * a.Wo j d
def dP (h : Fin 4) (n : Fin 256) : EReal := ∑ j, a.dO r (col h j) * a.V n (col h j)

/-- The gradient of the logits' products. -/
def dS (h : Fin 4) (n : Fin 256) : EReal := back (a.L r h) (a.dP r h) n

/-- Head `h`'s result, and the gradient of its query, at its column `j`. -/
def O (h : Fin 4) (j : Fin 256) : EReal := ∑ n, prob (a.L r h) n * a.V n (col h j)
def dQ (h : Fin 4) (j : Fin 256) : EReal := ∑ n, a.dS r h n * a.K n (col h j)

end Args

/-- The head of a column, and the column in its head. -/
def hd (j : Fin 1024) : Fin 4 := ⟨j.val / 256, by omega⟩
def at' (j : Fin 1024) : Fin 256 := ⟨j.val % 256, by omega⟩

theorem hd_col (h : Fin 4) (j : Fin 256) : hd (col h j) = h := Fin.ext (by show (256 * h.val + j.val) / 256 = h.val; omega)
theorem at_col (h : Fin 4) (j : Fin 256) : at' (col h j) = j := Fin.ext (by show (256 * h.val + j.val) % 256 = j.val; omega)
theorem col_hd (j : Fin 1024) : col (hd j) (at' j) = j := Fin.ext (by show 256 * (j.val / 256) + j.val % 256 = j.val; omega)

namespace Args

variable (a : Args) (r : Fin 4096)

/-- What arrives at the normalised row, and at its entries before the weight. -/
def dH (d : Fin 1024) : EReal := ∑ j, a.dQ r (hd j) (at' j) * a.Wq d j
def g (d : Fin 1024) : EReal := a.dH r d * a.W d

/-- The results. -/
def outX : FVec Ideal ⟨2, ![4096, 1024]⟩ .f32 := fun y => a.D (y 0) (y 1) + Norm.back (a.X (y 0)) (a.g (y 0)) (y 1)
def outW : FVec Ideal ⟨2, ![1, 1024]⟩ .f32 := fun y => ∑ r, a.dH r (y 1) * (a.X r (y 1) * Norm.inv (a.X r))
def outH : FVec Ideal ⟨2, ![4096, 1024]⟩ .bf16 := fun y => hn (a.X (y 0)) a.W (y 1)
def outO : FVec Ideal ⟨2, ![4096, 1024]⟩ .bf16 := fun y => a.O (y 0) (hd (y 1)) (at' (y 1))
def outQ : FVec Ideal ⟨2, ![4096, 1024]⟩ .bf16 := fun y => a.dQ (y 0) (hd (y 1)) (at' (y 1))
def outD : FVec Ideal ⟨2, ![4096, 1024]⟩ .bf16 := fun y => a.D (y 0) (y 1)
def outK : FVec Ideal ⟨2, ![256, 1024]⟩ .f32 := fun y => ∑ r, a.dS r (hd (y 1)) (y 0) * a.Q r (y 1)
def outV : FVec Ideal ⟨2, ![256, 1024]⟩ .f32 := fun y => ∑ r, prob (a.L r (hd (y 1))) (y 0) * a.dO r (y 1)

end Args

namespace Kern

open Cert.Kernel18Ideal Cert.Kernel18Ideal.Gen

variable (m : (ℓ : Loc nD τ sig) → Buf (Elt Ideal) ℓ)

/-- Which block of its array each window holds at a point. -/
theorem idx : ∀ t : Fin cfg0.N, win0_0.index t = ![t.val, 0] ∧ win0_1.index t = ![t.val, 0] ∧ win0_2.index t = ![0, 0] ∧ win0_3.index t = ![0, 0, 0] ∧ win0_4.index t = ![0, 0] ∧
    win0_5.index t = ![0, 1] ∧ win0_6.index t = ![0, 0, 0] ∧ win0_7.index t = ![t.val, 0] ∧ win0_9.index t = ![t.val, 0] ∧ win0_10.index t = ![t.val, 0] ∧ win0_11.index t = ![t.val, 0] ∧
    win0_12.index t = ![t.val, 0] :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![0, 0] := (idx t).2.2.1
theorem idx3 (t : Fin cfg0.N) : win0_3.index t = ![0, 0, 0] := (idx t).2.2.2.1
theorem idx4 (t : Fin cfg0.N) : win0_4.index t = ![0, 0] := (idx t).2.2.2.2.1
theorem idx5 (t : Fin cfg0.N) : win0_5.index t = ![0, 1] := (idx t).2.2.2.2.2.1
theorem idx6 (t : Fin cfg0.N) : win0_6.index t = ![0, 0, 0] := (idx t).2.2.2.2.2.2.1
theorem idx7 (t : Fin cfg0.N) : win0_7.index t = ![t.val, 0] := (idx t).2.2.2.2.2.2.2.1
theorem idx9 (t : Fin cfg0.N) : win0_9.index t = ![t.val, 0] := (idx t).2.2.2.2.2.2.2.2.1
theorem idx10 (t : Fin cfg0.N) : win0_10.index t = ![t.val, 0] := (idx t).2.2.2.2.2.2.2.2.2.1
theorem idx11 (t : Fin cfg0.N) : win0_11.index t = ![t.val, 0] := (idx t).2.2.2.2.2.2.2.2.2.2.1
theorem idx12 (t : Fin cfg0.N) : win0_12.index t = ![t.val, 0] := (idx t).2.2.2.2.2.2.2.2.2.2.2

/-- The array's row that row `i` of block `t` is. -/
def row (t : Fin cfg0.N) (i : Fin 256) : Fin 4096 := ⟨256 * t.val + i.val, by have : t.val < 16 := lt_of_lt_of_eq t.isLt N_0; omega⟩

variable (c : Dev nD) (t : Fin cfg0.N)

/-- The arrays the call reads, of one device. -/
def args : Args where
  x := m ((c : Thread nD τ).loc main_arg0)
  dx := m ((c : Thread nD τ).loc main_arg1)
  w := m ((c : Thread nD τ).loc main_arg2)
  wq := m ((c : Thread nD τ).loc main_arg3)
  kv := m ((c : Thread nD τ).loc main_arg4)
  wo := m ((c : Thread nD τ).loc main_arg5)

theorem in0 (i : Fin 256) (l : Fin 1024) : iblk m c 0 t (ix2 i l) = (args m c).X (row t i) l := by
  unfold row args Args.X; blk_point [iblk, Gen.V, idx0 t]

theorem in1 (i : Fin 256) (l : Fin 1024) : iblk m c 1 t (ix2 i l) = (args m c).D (row t i) l := by
  unfold row args Args.D; blk_point [iblk, Gen.V, idx1 t]

theorem in2 (l : Fin 1024) : iblk m c 2 t (ix2 0 l) = (args m c).W l := by
  unfold args Args.W; blk_point [iblk, Gen.V, idx2 t]

theorem in3 (d j : Fin 1024) : iblk m c 3 t (ix3 0 d j) = (args m c).Wq d j := by
  unfold args Args.Wq; blk_point [iblk, Gen.V, idx3 t]

theorem in4 (n : Fin 256) (j : Fin 1024) : iblk m c 4 t (ix2 n j) = (args m c).K n j := by
  unfold args Args.K; blk_point [iblk, Gen.V, idx4 t]

theorem in5 (n : Fin 256) (j : Fin 1024) : iblk m c 5 t (ix2 n j) = (args m c).V n j := by
  unfold args Args.V; blk_point [iblk, Gen.V, idx5 t]

theorem in6 (j d : Fin 1024) : iblk m c 6 t (ix3 0 j d) = (args m c).Wo j d := by
  unfold args Args.Wo; blk_point [iblk, Gen.V, idx6 t]

/-- The root's inverse, the normalised row, its query, and what arrives at the heads' results. -/
theorem root (i : Fin 256) (j : Fin 1) : k0_pay1 (iblk m c 0 t) (ix2 i j) = Norm.inv ((args m c).X (row t i)) := by
  pointwise [k0_pay1, in0]
  rfl

theorem normed (i : Fin 256) (d : Fin 1024) : k0_pay2 (iblk m c 0 t) (iblk m c 2 t) (ix2 i d) = hn ((args m c).X (row t i)) (args m c).W d := by
  pointwise [k0_pay2, root, in0, in2]
  rfl

theorem qry (i : Fin 256) (j : Fin 1024) : k0_pay3 (iblk m c 0 t) (iblk m c 2 t) (iblk m c 3 t) (ix2 i j) = (args m c).Q (row t i) j := by
  pointwise [k0_pay3, normed, in3]
  rfl

theorem qryb (i : Fin 256) (j : Fin 1024) : k0_pay4 (iblk m c 0 t) (iblk m c 2 t) (iblk m c 3 t) (ix2 i j) = (args m c).Q (row t i) j := by
  pointwise [k0_pay4, qry]

theorem dO (i : Fin 256) (j : Fin 1024) : k0_pay11 (iblk m c 1 t) (iblk m c 6 t) (ix2 i j) = (args m c).dO (row t i) j := by
  pointwise [k0_pay11, k0_pay10, in1, in6]
  rfl

/-- The probabilities of the heads. -/
theorem prob0 (kk : Vec Ideal S256x256 .bf16) (hk : ∀ n j, kk (ix2 n j) = (args m c).K n (col 0 j)) (i n : Fin 256) :
    k0_pay5 (iblk m c 0 t) (iblk m c 2 t) (iblk m c 3 t) kk (ix2 i n) = prob ((args m c).L (row t i) 0) n := by
  pointwise [k0_pay5, qry, hk]
  simp only [col0]
  rfl

theorem prob1 (kk : Vec Ideal S256x256 .bf16) (hk : ∀ n j, kk (ix2 n j) = (args m c).K n (col 1 j)) (i n : Fin 256) :
    k0_pay7 (k0_pay6 (iblk m c 0 t) (iblk m c 2 t) (iblk m c 3 t)) kk (ix2 i n) = prob ((args m c).L (row t i) 1) n := by
  pointwise [k0_pay7, k0_pay6, qry, hk]
  simp only [col1]
  rfl

theorem prob2 (kk : Vec Ideal S256x256 .bf16) (hk : ∀ n j, kk (ix2 n j) = (args m c).K n (col 2 j)) (i n : Fin 256) :
    k0_pay8 (k0_pay3 (iblk m c 0 t) (iblk m c 2 t) (iblk m c 3 t)) kk (ix2 i n) = prob ((args m c).L (row t i) 2) n := by
  pointwise [k0_pay8, qry, hk]
  simp only [col2]
  rfl

theorem prob3 (kk : Vec Ideal S256x256 .bf16) (hk : ∀ n j, kk (ix2 n j) = (args m c).K n (col 3 j)) (i n : Fin 256) :
    k0_pay9 (k0_pay3 (iblk m c 0 t) (iblk m c 2 t) (iblk m c 3 t)) kk (ix2 i n) = prob ((args m c).L (row t i) 3) n := by
  pointwise [k0_pay9, qry, hk]
  simp only [col3]
  rfl

/-- What a head's probabilities `p` make: its result, the gradient of its logits' products, and what it adds for the keys and the
    values. -/
theorem dS0 (p : FVec Ideal S256x256 .f32) (vv : Vec Ideal S256x256 .bf16) (hp : ∀ i n, p (ix2 i n) = prob ((args m c).L (row t i) 0) n)
    (hv : ∀ n j, vv (ix2 n j) = (args m c).V n (col 0 j)) (i n : Fin 256) :
    k0_pay18 p (iblk m c 1 t) (iblk m c 6 t) vv (ix2 i n) = (args m c).dS (row t i) 0 n := by
  pointwise [k0_pay18, k0_pay16, dO, hp, hv]
  simp only [col0]
  rfl

theorem dS1 (p : FVec Ideal S256x256 .f32) (vv : Vec Ideal S256x256 .bf16) (hp : ∀ i n, p (ix2 i n) = prob ((args m c).L (row t i) 1) n)
    (hv : ∀ n j, vv (ix2 n j) = (args m c).V n (col 1 j)) (i n : Fin 256) :
    k0_pay27 p (k0_pay11 (iblk m c 1 t) (iblk m c 6 t)) vv (ix2 i n) = (args m c).dS (row t i) 1 n := by
  pointwise [k0_pay27, k0_pay25, dO, hp, hv]
  simp only [col1]
  rfl

theorem dS2 (p : FVec Ideal S256x256 .f32) (vv : Vec Ideal S256x256 .bf16) (hp : ∀ i n, p (ix2 i n) = prob ((args m c).L (row t i) 2) n)
    (hv : ∀ n j, vv (ix2 n j) = (args m c).V n (col 2 j)) (i n : Fin 256) :
    k0_pay34 p (k0_pay11 (iblk m c 1 t) (iblk m c 6 t)) vv (ix2 i n) = (args m c).dS (row t i) 2 n := by
  pointwise [k0_pay34, k0_pay32, dO, hp, hv]
  simp only [col2]
  rfl

theorem dS3 (p : FVec Ideal S256x256 .f32) (vv : Vec Ideal S256x256 .bf16) (hp : ∀ i n, p (ix2 i n) = prob ((args m c).L (row t i) 3) n)
    (hv : ∀ n j, vv (ix2 n j) = (args m c).V n (col 3 j)) (i n : Fin 256) :
    k0_pay41 p (k0_pay11 (iblk m c 1 t) (iblk m c 6 t)) vv (ix2 i n) = (args m c).dS (row t i) 3 n := by
  pointwise [k0_pay41, k0_pay39, dO, hp, hv]
  simp only [col3]
  rfl

/-- The tiles of the keys and of the values that a head reads, and its probabilities. -/
abbrev K0 := View.ld (iblk m c 4 t) (Rect.unit ![0, 0] ![256, 256] inb_S256x1024_S256x256_0_0)
abbrev V0 := View.ld (iblk m c 5 t) (Rect.unit ![0, 0] ![256, 256] inb_S256x1024_S256x256_0_0)
abbrev P0 := k0_pay5 (iblk m c 0 t) (iblk m c 2 t) (iblk m c 3 t) (K0 m c t)
abbrev K1 := View.ld (iblk m c 4 t) (Rect.unit ![0, 256] ![256, 256] inb_S256x1024_S256x256_0_256)
abbrev V1 := View.ld (iblk m c 5 t) (Rect.unit ![0, 256] ![256, 256] inb_S256x1024_S256x256_0_256)
abbrev P1 := k0_pay7 (k0_pay6 (iblk m c 0 t) (iblk m c 2 t) (iblk m c 3 t)) (K1 m c t)
abbrev K2 := View.ld (iblk m c 4 t) (Rect.unit ![0, 512] ![256, 256] inb_S256x1024_S256x256_0_512)
abbrev V2 := View.ld (iblk m c 5 t) (Rect.unit ![0, 512] ![256, 256] inb_S256x1024_S256x256_0_512)
abbrev P2 := k0_pay8 (k0_pay3 (iblk m c 0 t) (iblk m c 2 t) (iblk m c 3 t)) (K2 m c t)
abbrev K3 := View.ld (iblk m c 4 t) (Rect.unit ![0, 768] ![256, 256] inb_S256x1024_S256x256_0_768)
abbrev V3 := View.ld (iblk m c 5 t) (Rect.unit ![0, 768] ![256, 256] inb_S256x1024_S256x256_0_768)
abbrev P3 := k0_pay9 (k0_pay3 (iblk m c 0 t) (iblk m c 2 t) (iblk m c 3 t)) (K3 m c t)

theorem k0 (n j : Fin 256) : K0 m c t (ix2 n j) = (args m c).K n (col 0 j) := by
  unfold K0
  pointwise [in4]
  simp only [col0]

theorem v0 (n j : Fin 256) : V0 m c t (ix2 n j) = (args m c).V n (col 0 j) := by
  unfold V0
  pointwise [in5]
  simp only [col0]

theorem p0 (i n : Fin 256) : P0 m c t (ix2 i n) = prob ((args m c).L (row t i) 0) n := prob0 m c t _ (k0 m c t) i n

theorem s0 (i n : Fin 256) : k0_pay18 (P0 m c t) (iblk m c 1 t) (iblk m c 6 t) (V0 m c t) (ix2 i n) = (args m c).dS (row t i) 0 n :=
  dS0 m c t _ _ (p0 m c t) (v0 m c t) i n

theorem k1 (n j : Fin 256) : K1 m c t (ix2 n j) = (args m c).K n (col 1 j) := by
  unfold K1
  pointwise [in4]
  simp only [col1]

theorem v1 (n j : Fin 256) : V1 m c t (ix2 n j) = (args m c).V n (col 1 j) := by
  unfold V1
  pointwise [in5]
  simp only [col1]

theorem p1 (i n : Fin 256) : P1 m c t (ix2 i n) = prob ((args m c).L (row t i) 1) n := prob1 m c t _ (k1 m c t) i n

theorem s1 (i n : Fin 256) : k0_pay27 (P1 m c t) (k0_pay11 (iblk m c 1 t) (iblk m c 6 t)) (V1 m c t) (ix2 i n) = (args m c).dS (row t i) 1 n :=
  dS1 m c t _ _ (p1 m c t) (v1 m c t) i n

theorem k2 (n j : Fin 256) : K2 m c t (ix2 n j) = (args m c).K n (col 2 j) := by
  unfold K2
  pointwise [in4]
  simp only [col2]

theorem v2 (n j : Fin 256) : V2 m c t (ix2 n j) = (args m c).V n (col 2 j) := by
  unfold V2
  pointwise [in5]
  simp only [col2]

theorem p2 (i n : Fin 256) : P2 m c t (ix2 i n) = prob ((args m c).L (row t i) 2) n := prob2 m c t _ (k2 m c t) i n

theorem s2 (i n : Fin 256) : k0_pay34 (P2 m c t) (k0_pay11 (iblk m c 1 t) (iblk m c 6 t)) (V2 m c t) (ix2 i n) = (args m c).dS (row t i) 2 n :=
  dS2 m c t _ _ (p2 m c t) (v2 m c t) i n

theorem k3 (n j : Fin 256) : K3 m c t (ix2 n j) = (args m c).K n (col 3 j) := by
  unfold K3
  pointwise [in4]
  simp only [col3]

theorem v3 (n j : Fin 256) : V3 m c t (ix2 n j) = (args m c).V n (col 3 j) := by
  unfold V3
  pointwise [in5]
  simp only [col3]

theorem p3 (i n : Fin 256) : P3 m c t (ix2 i n) = prob ((args m c).L (row t i) 3) n := prob3 m c t _ (k3 m c t) i n

theorem s3 (i n : Fin 256) : k0_pay41 (P3 m c t) (k0_pay11 (iblk m c 1 t) (iblk m c 6 t)) (V3 m c t) (ix2 i n) = (args m c).dS (row t i) 3 n :=
  dS3 m c t _ _ (p3 m c t) (v3 m c t) i n

/-- Each head's result, and the gradient of its query. -/
theorem o0 (i j : Fin 256) : k0_pay17 (P0 m c t) (V0 m c t) (ix2 i j) = (args m c).O (row t i) 0 j := by
  pointwise [k0_pay17, k0_pay15, p0, v0]
  rfl

theorem q0 (i j : Fin 256) : k0_pay19 (P0 m c t) (iblk m c 1 t) (iblk m c 6 t) (V0 m c t) (K0 m c t) (ix2 i j) = (args m c).dQ (row t i) 0 j := by
  pointwise [k0_pay19, s0, k0]
  rfl

theorem o1 (i j : Fin 256) : k0_pay26 (P1 m c t) (V1 m c t) (ix2 i j) = (args m c).O (row t i) 1 j := by
  pointwise [k0_pay26, k0_pay24, p1, v1]
  rfl

theorem q1 (i j : Fin 256) : k0_pay28 (P1 m c t) (k0_pay11 (iblk m c 1 t) (iblk m c 6 t)) (V1 m c t) (K1 m c t) (ix2 i j) = (args m c).dQ (row t i) 1 j := by
  pointwise [k0_pay28, s1, k1]
  rfl

theorem o2 (i j : Fin 256) : k0_pay33 (P2 m c t) (V2 m c t) (ix2 i j) = (args m c).O (row t i) 2 j := by
  pointwise [k0_pay33, k0_pay31, p2, v2]
  rfl

theorem q2 (i j : Fin 256) : k0_pay35 (P2 m c t) (k0_pay11 (iblk m c 1 t) (iblk m c 6 t)) (V2 m c t) (K2 m c t) (ix2 i j) = (args m c).dQ (row t i) 2 j := by
  pointwise [k0_pay35, s2, k2]
  rfl

theorem o3 (i j : Fin 256) : k0_pay40 (P3 m c t) (V3 m c t) (ix2 i j) = (args m c).O (row t i) 3 j := by
  pointwise [k0_pay40, k0_pay38, p3, v3]
  rfl

theorem q3 (i j : Fin 256) : k0_pay42 (P3 m c t) (k0_pay11 (iblk m c 1 t) (iblk m c 6 t)) (V3 m c t) (K3 m c t) (ix2 i j) = (args m c).dQ (row t i) 3 j := by
  pointwise [k0_pay42, s3, k3]
  rfl

/-- What a block's rows add to the gradients of the keys and of the values. -/
def partK (n : Fin 256) (j : Fin 1024) : EReal := ∑ i : Fin 256, (args m c).dS (row t i) (hd j) n * (args m c).Q (row t i) j
def partV (n : Fin 256) (j : Fin 1024) : EReal := ∑ i : Fin 256, prob ((args m c).L (row t i) (hd j)) n * (args m c).dO (row t i) j

theorem addK0 (z : Vec Ideal S256x256 .f32) (n j : Fin 256) :
    k0_pay22 (k0_pay18 (P0 m c t) (iblk m c 1 t) (iblk m c 6 t) (V0 m c t)) (k0_pay20 z) (k0_pay21 (k0_pay4 (iblk m c 0 t) (iblk m c 2 t) (iblk m c 3 t))) (constant S256x256 .f32 0x00000000#32) (ix2 n j) = z (ix2 n j) + partK m c t n (col 0 j) := by
  unfold partK
  pointwise [k0_pay22, k0_pay21, k0_pay20, s0, qryb]
  simp only [col0, hd_col]

theorem addV0 (z : Vec Ideal S256x256 .f32) (n j : Fin 256) :
    k0_pay23 (k0_pay15 (P0 m c t)) (k0_pay16 (iblk m c 1 t) (iblk m c 6 t)) z (ix2 n j) = z (ix2 n j) + partV m c t n (col 0 j) := by
  unfold partV
  pointwise [k0_pay23, k0_pay15, k0_pay16, p0, dO]
  simp only [col0, hd_col]

theorem addK1 (z : Vec Ideal S256x256 .f32) (n j : Fin 256) :
    k0_pay29 (k0_pay4 (iblk m c 0 t) (iblk m c 2 t) (iblk m c 3 t)) (P1 m c t) (k0_pay11 (iblk m c 1 t) (iblk m c 6 t)) (V1 m c t) z (ix2 n j) = z (ix2 n j) + partK m c t n (col 1 j) := by
  unfold partK
  pointwise [k0_pay29, s1, qryb]
  simp only [col1, hd_col]

theorem addV1 (z : Vec Ideal S256x256 .f32) (n j : Fin 256) :
    k0_pay30 (k0_pay24 (P1 m c t)) (k0_pay25 (k0_pay11 (iblk m c 1 t) (iblk m c 6 t))) z (ix2 n j) = z (ix2 n j) + partV m c t n (col 1 j) := by
  unfold partV
  pointwise [k0_pay30, k0_pay24, k0_pay25, p1, dO]
  simp only [col1, hd_col]

theorem addK2 (z : Vec Ideal S256x256 .f32) (n j : Fin 256) :
    k0_pay36 (k0_pay4 (iblk m c 0 t) (iblk m c 2 t) (iblk m c 3 t)) (P2 m c t) (k0_pay11 (iblk m c 1 t) (iblk m c 6 t)) (V2 m c t) z (ix2 n j) = z (ix2 n j) + partK m c t n (col 2 j) := by
  unfold partK
  pointwise [k0_pay36, s2, qryb]
  simp only [col2, hd_col]

theorem addV2 (z : Vec Ideal S256x256 .f32) (n j : Fin 256) :
    k0_pay37 (k0_pay31 (P2 m c t)) (k0_pay32 (k0_pay11 (iblk m c 1 t) (iblk m c 6 t))) z (ix2 n j) = z (ix2 n j) + partV m c t n (col 2 j) := by
  unfold partV
  pointwise [k0_pay37, k0_pay31, k0_pay32, p2, dO]
  simp only [col2, hd_col]

theorem addK3 (z : Vec Ideal S256x256 .f32) (n j : Fin 256) :
    k0_pay43 (k0_pay4 (iblk m c 0 t) (iblk m c 2 t) (iblk m c 3 t)) (P3 m c t) (k0_pay11 (iblk m c 1 t) (iblk m c 6 t)) (V3 m c t) z (ix2 n j) = z (ix2 n j) + partK m c t n (col 3 j) := by
  unfold partK
  pointwise [k0_pay43, s3, qryb]
  simp only [col3, hd_col]

theorem addV3 (z : Vec Ideal S256x256 .f32) (n j : Fin 256) :
    k0_pay44 (k0_pay38 (P3 m c t)) (k0_pay39 (k0_pay11 (iblk m c 1 t) (iblk m c 6 t))) z (ix2 n j) = z (ix2 n j) + partV m c t n (col 3 j) := by
  unfold partV
  pointwise [k0_pay44, k0_pay38, k0_pay39, p3, dO]
  simp only [col3, hd_col]

/-- The gradients of the queries of all heads, side by side. -/
theorem dQ (i : Fin 256) (j : Fin 1024) :
    k0_pay45 (k0_pay19 (P0 m c t) (iblk m c 1 t) (iblk m c 6 t) (V0 m c t) (K0 m c t)) (k0_pay28 (P1 m c t) (k0_pay11 (iblk m c 1 t) (iblk m c 6 t)) (V1 m c t) (K1 m c t))
      (k0_pay35 (P2 m c t) (k0_pay11 (iblk m c 1 t) (iblk m c 6 t)) (V2 m c t) (K2 m c t)) (k0_pay42 (P3 m c t) (k0_pay11 (iblk m c 1 t) (iblk m c 6 t)) (V3 m c t) (K3 m c t))
      (ix2 i j) = (args m c).dQ (row t i) (hd j) (at' j) := by
  pointwise [k0_pay45, q0, q1, q2, q3]
  have e : ∀ h k, h = hd j → k = at' j → (args m c).dQ (row t i) h k = (args m c).dQ (row t i) (hd j) (at' j) := by rintro _ _ rfl rfl; rfl
  by_cases h0 : j.val < 256
  · rw [dif_pos h0]
    exact e _ _ (Fin.ext (by show 0 = j.val / 256; omega)) (Fin.ext (by show j.val = j.val % 256; omega))
  rw [dif_neg h0]
  by_cases h1 : j.val - 256 < 256
  · rw [dif_pos h1]
    exact e _ _ (Fin.ext (by show 1 = j.val / 256; omega)) (Fin.ext (by show j.val - 256 = j.val % 256; omega))
  rw [dif_neg h1]
  by_cases h2 : j.val - 256 - 256 < 256
  · rw [dif_pos h2]
    exact e _ _ (Fin.ext (by show 2 = j.val / 256; omega)) (Fin.ext (by show j.val - 256 - 256 = j.val % 256; omega))
  rw [dif_neg h2]
  exact e _ _ (Fin.ext (by show 3 = j.val / 256; omega)) (Fin.ext (by show j.val - 256 - 256 - 256 = j.val % 256; omega))

/-- What a point stores for the input, and adds to the weight's gradient. -/
theorem dH (i : Fin 256) (d : Fin 1024) :
    k0_pay46 (k0_pay19 (P0 m c t) (iblk m c 1 t) (iblk m c 6 t) (V0 m c t) (K0 m c t)) (k0_pay28 (P1 m c t) (k0_pay11 (iblk m c 1 t) (iblk m c 6 t)) (V1 m c t) (K1 m c t))
      (k0_pay35 (P2 m c t) (k0_pay11 (iblk m c 1 t) (iblk m c 6 t)) (V2 m c t) (K2 m c t)) (k0_pay42 (P3 m c t) (k0_pay11 (iblk m c 1 t) (iblk m c 6 t)) (V3 m c t) (K3 m c t))
      (iblk m c 3 t) (ix2 i d) = (args m c).dH (row t i) d := by
  pointwise [k0_pay46, dQ, in3]
  rfl

theorem dX (i : Fin 256) (d : Fin 1024) :
    k0_pay48 (iblk m c 0 t) (k0_pay1 (iblk m c 0 t)) (k0_pay19 (P0 m c t) (iblk m c 1 t) (iblk m c 6 t) (V0 m c t) (K0 m c t))
      (k0_pay28 (P1 m c t) (k0_pay11 (iblk m c 1 t) (iblk m c 6 t)) (V1 m c t) (K1 m c t)) (k0_pay35 (P2 m c t) (k0_pay11 (iblk m c 1 t) (iblk m c 6 t)) (V2 m c t) (K2 m c t))
      (k0_pay42 (P3 m c t) (k0_pay11 (iblk m c 1 t) (iblk m c 6 t)) (V3 m c t) (K3 m c t)) (iblk m c 2 t) (iblk m c 3 t) (iblk m c 1 t) (ix2 i d)
      = (args m c).outX (ix2 (row t i) d) := by
  pointwise [k0_pay48, k0_pay47, dH, root, in0, in1, in2]
  rfl

def partW (d : Fin 1024) : EReal := ∑ i : Fin 256, (args m c).dH (row t i) d * ((args m c).X (row t i) d * Norm.inv ((args m c).X (row t i)))

theorem addW (z : Vec Ideal S1x1024 .f32) (i : Fin 1) (d : Fin 1024) :
    k0_pay49 (iblk m c 0 t) (k0_pay1 (iblk m c 0 t)) (k0_pay19 (P0 m c t) (iblk m c 1 t) (iblk m c 6 t) (V0 m c t) (K0 m c t))
      (k0_pay28 (P1 m c t) (k0_pay11 (iblk m c 1 t) (iblk m c 6 t)) (V1 m c t) (K1 m c t)) (k0_pay35 (P2 m c t) (k0_pay11 (iblk m c 1 t) (iblk m c 6 t)) (V2 m c t) (K2 m c t))
      (k0_pay42 (P3 m c t) (k0_pay11 (iblk m c 1 t) (iblk m c 6 t)) (V3 m c t) (K3 m c t)) (iblk m c 3 t) z (ix2 i d)
      = z (ix2 i d) + partW m c t d := by
  pointwise [k0_pay49, k0_pay47, dH, root, in0]
  rfl

end Kern

end Cert.AttnBwd

end
-- ==== Proof.AttnFinal.lean ====
/- Attention's gradient, the kernel's results: what each array holds after the last point. -/
module

public import proofs.«01_k».proof.Proof.AttnKernel

@[expose] public section

set_option maxRecDepth 16384

noncomputable section

namespace Cert.AttnBwd.Kern

open Idealize.ShloMosaic Idealize.ShloMosaic.TcCoe Idealize.SL.Sem
open Idealize.ShloMosaic.Pipeline (Dat)
open scoped BigOperators
open Attn
open Cert.Kernel18Ideal Cert.Kernel18Ideal.Gen

variable (m : (ℓ : Loc nD τ sig) → Buf (Elt Ideal) ℓ) (c : Dev nD) (t : Fin cfg0.N)

theorem final7 : (dats m 0 c).arrAt 7 (cfgs 0).N = (args m c).outX := by
  refine (dats m 0 c).arrAt_eq_of_covers 7 _ (by decide +kernel) fun t _ y => ?_
  blk_simp
  rw [after0_7]
  have e : ∀ (i : Fin 256) (j : Fin 1024), (win0_7.blk t).view.emb (ix2 i j) = ix2 (row t i) j := fun i j => by
    unfold row; blk_ext [idx7 t]
  by_cases h : t.val % 16 = 0
  · rw [outsAt0_A m c t h]; dsimp only; frame_out
    idx_vars y
    rw [e y0 y1]
    exact dX m c t y0 y1
  · rw [outsAt0_B m c t h]; dsimp only; frame_out
    idx_vars y
    rw [e y0 y1]
    exact dX m c t y0 y1

theorem final9 : (dats m 0 c).arrAt 9 (cfgs 0).N = (args m c).outH := by
  refine (dats m 0 c).arrAt_eq_of_covers 9 _ (by decide +kernel) fun t _ y => ?_
  blk_simp
  rw [after0_9]
  have e : ∀ (i : Fin 256) (j : Fin 1024), (win0_9.blk t).view.emb (ix2 i j) = ix2 (row t i) j := fun i j => by
    unfold row; blk_ext [idx9 t]
  by_cases h : t.val % 16 = 0
  · rw [outsAt0_A m c t h]; dsimp only; frame_out
    idx_vars y
    rw [e y0 y1]
    exact normed m c t y0 y1
  · rw [outsAt0_B m c t h]; dsimp only; frame_out
    idx_vars y
    rw [e y0 y1]
    exact normed m c t y0 y1

theorem final11 : (dats m 0 c).arrAt 11 (cfgs 0).N = (args m c).outQ := by
  refine (dats m 0 c).arrAt_eq_of_covers 11 _ (by decide +kernel) fun t _ y => ?_
  blk_simp
  rw [after0_11]
  have e : ∀ (i : Fin 256) (j : Fin 1024), (win0_11.blk t).view.emb (ix2 i j) = ix2 (row t i) j := fun i j => by
    unfold row; blk_ext [idx11 t]
  by_cases h : t.val % 16 = 0
  · rw [outsAt0_A m c t h]; dsimp only; frame_out
    idx_vars y
    rw [e y0 y1]
    exact dQ m c t y0 y1
  · rw [outsAt0_B m c t h]; dsimp only; frame_out
    idx_vars y
    rw [e y0 y1]
    exact dQ m c t y0 y1

theorem arrived (i : Fin 256) (d : Fin 1024) : k0_pay10 (iblk m c 1 t) (ix2 i d) = (args m c).outD (ix2 (row t i) d) := by
  pointwise [k0_pay10, in1]
  rfl

theorem final12 : (dats m 0 c).arrAt 12 (cfgs 0).N = (args m c).outD := by
  refine (dats m 0 c).arrAt_eq_of_covers 12 _ (by decide +kernel) fun t _ y => ?_
  blk_simp
  rw [after0_12]
  have e : ∀ (i : Fin 256) (j : Fin 1024), (win0_12.blk t).view.emb (ix2 i j) = ix2 (row t i) j := fun i j => by
    unfold row; blk_ext [idx12 t]
  by_cases h : t.val % 16 = 0
  · rw [outsAt0_A m c t h]; dsimp only; frame_out
    idx_vars y
    rw [e y0 y1]
    exact arrived m c t y0 y1
  · rw [outsAt0_B m c t h]; dsimp only; frame_out
    idx_vars y
    rw [e y0 y1]
    exact arrived m c t y0 y1

theorem final10 : (dats m 0 c).arrAt 10 (cfgs 0).N = (args m c).outO := by
  refine (dats m 0 c).arrAt_eq_of_covers 10 _ (by decide +kernel) fun t _ y => ?_
  blk_simp
  rw [after0_10]
  have e : ∀ (i : Fin 256) (j : Fin 1024), (win0_10.blk t).view.emb (ix2 i j) = ix2 (row t i) j := fun i j => by
    unfold row; blk_ext [idx10 t]
  by_cases h : t.val % 16 = 0
  · rw [outsAt0_A m c t h]; dsimp only; frame_out
    idx_vars y
    rw [e y0 y1]
    canon_tiles x hx <;> idx_vars x
    · obtain rfl : y0 = x0 := Fin.ext hx0
      obtain rfl : y1 = col 3 x1 := Fin.ext (by have : y1.val = 768 + x1.val := hx1; show y1.val = 256 * 3 + x1.val; omega)
      refine (o3 m c t y0 x1).trans ?_
      show _ = (args m c).O (row t y0) (hd (col 3 x1)) (at' (col 3 x1))
      rw [hd_col, at_col]
    · obtain rfl : y0 = x0 := Fin.ext hx0
      obtain rfl : y1 = col 2 x1 := Fin.ext (by have : y1.val = 512 + x1.val := hx1; show y1.val = 256 * 2 + x1.val; omega)
      refine (o2 m c t y0 x1).trans ?_
      show _ = (args m c).O (row t y0) (hd (col 2 x1)) (at' (col 2 x1))
      rw [hd_col, at_col]
    · obtain rfl : y0 = x0 := Fin.ext hx0
      obtain rfl : y1 = col 1 x1 := Fin.ext (by have : y1.val = 256 + x1.val := hx1; show y1.val = 256 * 1 + x1.val; omega)
      refine (o1 m c t y0 x1).trans ?_
      show _ = (args m c).O (row t y0) (hd (col 1 x1)) (at' (col 1 x1))
      rw [hd_col, at_col]
    · obtain rfl : y0 = x0 := Fin.ext hx0
      obtain rfl : y1 = col 0 x1 := Fin.ext (by have : y1.val = x1.val := hx1; show y1.val = 256 * 0 + x1.val; omega)
      refine (o0 m c t y0 x1).trans ?_
      show _ = (args m c).O (row t y0) (hd (col 0 x1)) (at' (col 0 x1))
      rw [hd_col, at_col]
  · rw [outsAt0_B m c t h]; dsimp only; frame_out
    idx_vars y
    rw [e y0 y1]
    canon_tiles x hx <;> idx_vars x
    · obtain rfl : y0 = x0 := Fin.ext hx0
      obtain rfl : y1 = col 3 x1 := Fin.ext (by have : y1.val = 768 + x1.val := hx1; show y1.val = 256 * 3 + x1.val; omega)
      refine (o3 m c t y0 x1).trans ?_
      show _ = (args m c).O (row t y0) (hd (col 3 x1)) (at' (col 3 x1))
      rw [hd_col, at_col]
    · obtain rfl : y0 = x0 := Fin.ext hx0
      obtain rfl : y1 = col 2 x1 := Fin.ext (by have : y1.val = 512 + x1.val := hx1; show y1.val = 256 * 2 + x1.val; omega)
      refine (o2 m c t y0 x1).trans ?_
      show _ = (args m c).O (row t y0) (hd (col 2 x1)) (at' (col 2 x1))
      rw [hd_col, at_col]
    · obtain rfl : y0 = x0 := Fin.ext hx0
      obtain rfl : y1 = col 1 x1 := Fin.ext (by have : y1.val = 256 + x1.val := hx1; show y1.val = 256 * 1 + x1.val; omega)
      refine (o1 m c t y0 x1).trans ?_
      show _ = (args m c).O (row t y0) (hd (col 1 x1)) (at' (col 1 x1))
      rw [hd_col, at_col]
    · obtain rfl : y0 = x0 := Fin.ext hx0
      obtain rfl : y1 = col 0 x1 := Fin.ext (by have : y1.val = x1.val := hx1; show y1.val = 256 * 0 + x1.val; omega)
      refine (o0 m c t y0 x1).trans ?_
      show _ = (args m c).O (row t y0) (hd (col 0 x1)) (at' (col 0 x1))
      rw [hd_col, at_col]

theorem N_16 : cfg0.N = 16 := rfl

/-- The first point's part over the cleared block, and a later point's over what the point before left. -/
theorem firstW (h : t.val % 16 = 0) (a : Fin 1) (j : Fin 1024) : (outsAt0 m c t.val t.isLt).2.1 (ix2 a j) = 0 + partW m c t j := by
  rw [outsAt0_A m c t h]; dsimp only; frame_out
  refine (addW m c t _ a j).trans (congrArg (· + partW m c t j) ?_)
  pointwise [k0_pay12]

theorem nextW (h : ¬t.val % 16 = 0) (a : Fin 1) (j : Fin 1024) :
    (outsAt0 m c t.val t.isLt).2.1 (ix2 a j) = (outsAt0 m c (t.val - 1) (Nat.lt_of_le_of_lt (Nat.sub_le _ _) t.isLt)).2.1 (ix2 a j) + partW m c t j := by
  rw [outsAt0_B m c t h]; dsimp only; frame_out
  exact addW m c t _ a j

theorem final8 : (dats m 0 c).arrAt 8 (cfgs 0).N = (args m c).outW := by
  refine (dats m 0 c).arrAt_eq_of_after_last 8 t0_15 (by decide +kernel) _ fun j => ?_
  blk_simp
  rw [after0_8]
  idx_vars j
  rw [Pipeline.eq_sum_fin_of_reset_step_apply_last (fun n h => (outsAt0 m c n h).2.1) 16 (fun _ => 0)
    (fun t j => partW m c t (j 1))
    (fun t h j => by idx_vars j; exact firstW m c t h j0 j1)
    (fun t h j => by idx_vars j; exact nextW m c t h j0 j1) (le_of_eq N_16) t0_15 rfl (ix2 j0 j1), zero_add]
  exact Fin.sum_mul_add_congr (L := 4096) (S := 16) (n := 256)
    (f := fun r => (args m c).dH r j1 * ((args m c).X r j1 * Norm.inv ((args m c).X r))) fun s k hl =>
    congrArg (fun r => (args m c).dH r j1 * ((args m c).X r j1 * Norm.inv ((args m c).X r))) (Fin.ext (show 256 * s.val + k.val = s.val * 256 + k.val by omega))

theorem firstK (h : t.val % 16 = 0) (i : Fin 256) (d : Fin 1024) : (outsAt0 m c t.val t.isLt).2.2.2.2.2.2.1 (ix2 i d) = 0 + partK m c t i d := by
  rw [outsAt0_A m c t h]; dsimp only
  frame_out
  simp (disch := decide) only [↓View.readCov_skip]
  simp (disch := decide) only [View.readCov_fill]
  refine (View.canon_append_of_piecesOf (fun y => 0 + partK m c t (y 0) (y 1)) [_] [_, _, _, _] ?_ (ix2 i d) ?_).trans ?_
  · refine ⟨?_, ?_, ?_, ?_, trivial⟩ <;> intro x <;> idx_vars x
    · refine (addK3 m c t _ x0 x1).trans (congrArg₂ (· + ·) ?_ (congrArg₂ (partK m c t) (Fin.ext ?_) (Fin.ext ?_)))
      · pointwise [k0_pay13]
      · show x0.val = 0 + 1 * x0.val; omega
      · show 256 * 3 + x1.val = 768 + 1 * x1.val; omega
    · refine (addK2 m c t _ x0 x1).trans (congrArg₂ (· + ·) ?_ (congrArg₂ (partK m c t) (Fin.ext ?_) (Fin.ext ?_)))
      · pointwise [k0_pay13]
      · show x0.val = 0 + 1 * x0.val; omega
      · show 256 * 2 + x1.val = 512 + 1 * x1.val; omega
    · refine (addK1 m c t _ x0 x1).trans (congrArg₂ (· + ·) ?_ (congrArg₂ (partK m c t) (Fin.ext ?_) (Fin.ext ?_)))
      · pointwise [k0_pay13]
      · show x0.val = 0 + 1 * x0.val; omega
      · show 256 * 1 + x1.val = 256 + 1 * x1.val; omega
    · refine (addK0 m c t _ x0 x1).trans (congrArg₂ (· + ·) ?_ (congrArg₂ (partK m c t) (Fin.ext ?_) (Fin.ext ?_)))
      · pointwise [k0_pay13]
      · show x0.val = 0 + 1 * x0.val; omega
      · show 256 * 0 + x1.val = 0 + 1 * x1.val; omega
  · have mem : ∀ (k : Nat) (inb), k ≤ d.val ∧ d.val < k + 256 → (ix2 i d : S256x1024.Idx) ∈ (Rect.unit (s := S256x1024) ![0, k] ![256, 256] inb).set := by
      intro k inb hk
      rw [Rect.mem_set_unit]
      intro a
      refine Fin.cases ?_ (fun a => Fin.cases ?_ (fun a => a.elim0) a) a
      · show 0 ≤ i.val ∧ i.val < 0 + 256; omega
      · exact hk
    obtain h | h | h | h : (768 ≤ d.val ∧ d.val < 768 + 256) ∨ (512 ≤ d.val ∧ d.val < 512 + 256) ∨ (256 ≤ d.val ∧ d.val < 256 + 256) ∨ (0 ≤ d.val ∧ d.val < 0 + 256) := by omega
    · exact ⟨_, .head _, mem 768 inb_S256x1024_S256x256_0_768 h⟩
    · exact ⟨_, .tail _ (.head _), mem 512 inb_S256x1024_S256x256_0_512 h⟩
    · exact ⟨_, .tail _ (.tail _ (.head _)), mem 256 inb_S256x1024_S256x256_0_256 h⟩
    · exact ⟨_, .tail _ (.tail _ (.tail _ (.head _))), mem 0 inb_S256x1024_S256x256_0_0 h⟩
  · rfl

theorem nextK (h : ¬t.val % 16 = 0) (i : Fin 256) (d : Fin 1024) :
    (outsAt0 m c t.val t.isLt).2.2.2.2.2.2.1 (ix2 i d) = (outsAt0 m c (t.val - 1) (Nat.lt_of_le_of_lt (Nat.sub_le _ _) t.isLt)).2.2.2.2.2.2.1 (ix2 i d) + partK m c t i d := by
  rw [outsAt0_B m c t h]; dsimp only; frame_out
  generalize (outsAt0 m c (t.val - 1) (Nat.lt_of_le_of_lt (Nat.sub_le _ _) t.isLt)).2.2.2.2.2.2.1 = prev
  canon_tiles x hx <;> idx_vars x
  · obtain rfl : i = x0 := Fin.ext hx0
    obtain rfl : d = col 3 x1 := Fin.ext (by have : d.val = 768 + x1.val := hx1; show d.val = 256 * 3 + x1.val; omega)
    refine (addK3 m c t _ i x1).trans (congrArg (· + partK m c t i (col 3 x1)) (congrArg prev ?_))
    refine (eq_ix2 _).trans (congrArg₂ ix2 (Fin.ext ?_) (Fin.ext ?_))
    · show 0 + 1 * i.val = i.val; omega
    · show 768 + 1 * x1.val = 256 * 3 + x1.val; omega
  · obtain rfl : i = x0 := Fin.ext hx0
    obtain rfl : d = col 2 x1 := Fin.ext (by have : d.val = 512 + x1.val := hx1; show d.val = 256 * 2 + x1.val; omega)
    refine (addK2 m c t _ i x1).trans (congrArg (· + partK m c t i (col 2 x1)) (congrArg prev ?_))
    refine (eq_ix2 _).trans (congrArg₂ ix2 (Fin.ext ?_) (Fin.ext ?_))
    · show 0 + 1 * i.val = i.val; omega
    · show 512 + 1 * x1.val = 256 * 2 + x1.val; omega
  · obtain rfl : i = x0 := Fin.ext hx0
    obtain rfl : d = col 1 x1 := Fin.ext (by have : d.val = 256 + x1.val := hx1; show d.val = 256 * 1 + x1.val; omega)
    refine (addK1 m c t _ i x1).trans (congrArg (· + partK m c t i (col 1 x1)) (congrArg prev ?_))
    refine (eq_ix2 _).trans (congrArg₂ ix2 (Fin.ext ?_) (Fin.ext ?_))
    · show 0 + 1 * i.val = i.val; omega
    · show 256 + 1 * x1.val = 256 * 1 + x1.val; omega
  · obtain rfl : i = x0 := Fin.ext hx0
    obtain rfl : d = col 0 x1 := Fin.ext (by have : d.val = x1.val := hx1; show d.val = 256 * 0 + x1.val; omega)
    refine (addK0 m c t _ i x1).trans (congrArg (· + partK m c t i (col 0 x1)) (congrArg prev ?_))
    refine (eq_ix2 _).trans (congrArg₂ ix2 (Fin.ext ?_) (Fin.ext ?_))
    · show 0 + 1 * i.val = i.val; omega
    · show 0 + 1 * x1.val = 256 * 0 + x1.val; omega

theorem final13 : (dats m 0 c).arrAt 13 (cfgs 0).N = (args m c).outK := by
  refine (dats m 0 c).arrAt_eq_of_after_last 13 t0_15 (by decide +kernel) _ fun j => ?_
  blk_simp
  rw [after0_13]
  idx_vars j
  rw [Pipeline.eq_sum_fin_of_reset_step_apply_last (fun n h => (outsAt0 m c n h).2.2.2.2.2.2.1) 16 (fun _ => 0)
    (fun t j => partK m c t (j 0) (j 1))
    (fun t h j => by idx_vars j; exact firstK m c t h j0 j1)
    (fun t h j => by idx_vars j; exact nextK m c t h j0 j1) (le_of_eq N_16) t0_15 rfl (ix2 j0 j1), zero_add]
  exact Fin.sum_mul_add_congr (L := 4096) (S := 16) (n := 256)
    (f := fun r => (args m c).dS r (hd j1) j0 * (args m c).Q r j1) fun s k hl =>
    congrArg (fun r => (args m c).dS r (hd j1) j0 * (args m c).Q r j1) (Fin.ext (show 256 * s.val + k.val = s.val * 256 + k.val by omega))

theorem firstV (h : t.val % 16 = 0) (i : Fin 256) (d : Fin 1024) : (outsAt0 m c t.val t.isLt).2.2.2.2.2.2.2 (ix2 i d) = 0 + partV m c t i d := by
  rw [outsAt0_A m c t h]; dsimp only
  frame_out
  simp (disch := decide) only [↓View.readCov_skip]
  simp (disch := decide) only [View.readCov_fill]
  refine (View.canon_append_of_piecesOf (fun y => 0 + partV m c t (y 0) (y 1)) [_] [_, _, _, _] ?_ (ix2 i d) ?_).trans ?_
  · refine ⟨?_, ?_, ?_, ?_, trivial⟩ <;> intro x <;> idx_vars x
    · refine (addV3 m c t _ x0 x1).trans (congrArg₂ (· + ·) ?_ (congrArg₂ (partV m c t) (Fin.ext ?_) (Fin.ext ?_)))
      · pointwise [k0_pay14]
      · show x0.val = 0 + 1 * x0.val; omega
      · show 256 * 3 + x1.val = 768 + 1 * x1.val; omega
    · refine (addV2 m c t _ x0 x1).trans (congrArg₂ (· + ·) ?_ (congrArg₂ (partV m c t) (Fin.ext ?_) (Fin.ext ?_)))
      · pointwise [k0_pay14]
      · show x0.val = 0 + 1 * x0.val; omega
      · show 256 * 2 + x1.val = 512 + 1 * x1.val; omega
    · refine (addV1 m c t _ x0 x1).trans (congrArg₂ (· + ·) ?_ (congrArg₂ (partV m c t) (Fin.ext ?_) (Fin.ext ?_)))
      · pointwise [k0_pay14]
      · show x0.val = 0 + 1 * x0.val; omega
      · show 256 * 1 + x1.val = 256 + 1 * x1.val; omega
    · refine (addV0 m c t _ x0 x1).trans (congrArg₂ (· + ·) ?_ (congrArg₂ (partV m c t) (Fin.ext ?_) (Fin.ext ?_)))
      · pointwise [k0_pay14]
      · show x0.val = 0 + 1 * x0.val; omega
      · show 256 * 0 + x1.val = 0 + 1 * x1.val; omega
  · have mem : ∀ (k : Nat) (inb), k ≤ d.val ∧ d.val < k + 256 → (ix2 i d : S256x1024.Idx) ∈ (Rect.unit (s := S256x1024) ![0, k] ![256, 256] inb).set := by
      intro k inb hk
      rw [Rect.mem_set_unit]
      intro a
      refine Fin.cases ?_ (fun a => Fin.cases ?_ (fun a => a.elim0) a) a
      · show 0 ≤ i.val ∧ i.val < 0 + 256; omega
      · exact hk
    obtain h | h | h | h : (768 ≤ d.val ∧ d.val < 768 + 256) ∨ (512 ≤ d.val ∧ d.val < 512 + 256) ∨ (256 ≤ d.val ∧ d.val < 256 + 256) ∨ (0 ≤ d.val ∧ d.val < 0 + 256) := by omega
    · exact ⟨_, .head _, mem 768 inb_S256x1024_S256x256_0_768 h⟩
    · exact ⟨_, .tail _ (.head _), mem 512 inb_S256x1024_S256x256_0_512 h⟩
    · exact ⟨_, .tail _ (.tail _ (.head _)), mem 256 inb_S256x1024_S256x256_0_256 h⟩
    · exact ⟨_, .tail _ (.tail _ (.tail _ (.head _))), mem 0 inb_S256x1024_S256x256_0_0 h⟩
  · rfl

theorem nextV (h : ¬t.val % 16 = 0) (i : Fin 256) (d : Fin 1024) :
    (outsAt0 m c t.val t.isLt).2.2.2.2.2.2.2 (ix2 i d) = (outsAt0 m c (t.val - 1) (Nat.lt_of_le_of_lt (Nat.sub_le _ _) t.isLt)).2.2.2.2.2.2.2 (ix2 i d) + partV m c t i d := by
  rw [outsAt0_B m c t h]; dsimp only; frame_out
  generalize (outsAt0 m c (t.val - 1) (Nat.lt_of_le_of_lt (Nat.sub_le _ _) t.isLt)).2.2.2.2.2.2.2 = prev
  canon_tiles x hx <;> idx_vars x
  · obtain rfl : i = x0 := Fin.ext hx0
    obtain rfl : d = col 3 x1 := Fin.ext (by have : d.val = 768 + x1.val := hx1; show d.val = 256 * 3 + x1.val; omega)
    refine (addV3 m c t _ i x1).trans (congrArg (· + partV m c t i (col 3 x1)) (congrArg prev ?_))
    refine (eq_ix2 _).trans (congrArg₂ ix2 (Fin.ext ?_) (Fin.ext ?_))
    · show 0 + 1 * i.val = i.val; omega
    · show 768 + 1 * x1.val = 256 * 3 + x1.val; omega
  · obtain rfl : i = x0 := Fin.ext hx0
    obtain rfl : d = col 2 x1 := Fin.ext (by have : d.val = 512 + x1.val := hx1; show d.val = 256 * 2 + x1.val; omega)
    refine (addV2 m c t _ i x1).trans (congrArg (· + partV m c t i (col 2 x1)) (congrArg prev ?_))
    refine (eq_ix2 _).trans (congrArg₂ ix2 (Fin.ext ?_) (Fin.ext ?_))
    · show 0 + 1 * i.val = i.val; omega
    · show 512 + 1 * x1.val = 256 * 2 + x1.val; omega
  · obtain rfl : i = x0 := Fin.ext hx0
    obtain rfl : d = col 1 x1 := Fin.ext (by have : d.val = 256 + x1.val := hx1; show d.val = 256 * 1 + x1.val; omega)
    refine (addV1 m c t _ i x1).trans (congrArg (· + partV m c t i (col 1 x1)) (congrArg prev ?_))
    refine (eq_ix2 _).trans (congrArg₂ ix2 (Fin.ext ?_) (Fin.ext ?_))
    · show 0 + 1 * i.val = i.val; omega
    · show 256 + 1 * x1.val = 256 * 1 + x1.val; omega
  · obtain rfl : i = x0 := Fin.ext hx0
    obtain rfl : d = col 0 x1 := Fin.ext (by have : d.val = x1.val := hx1; show d.val = 256 * 0 + x1.val; omega)
    refine (addV0 m c t _ i x1).trans (congrArg (· + partV m c t i (col 0 x1)) (congrArg prev ?_))
    refine (eq_ix2 _).trans (congrArg₂ ix2 (Fin.ext ?_) (Fin.ext ?_))
    · show 0 + 1 * i.val = i.val; omega
    · show 0 + 1 * x1.val = 256 * 0 + x1.val; omega

theorem final14 : (dats m 0 c).arrAt 14 (cfgs 0).N = (args m c).outV := by
  refine (dats m 0 c).arrAt_eq_of_after_last 14 t0_15 (by decide +kernel) _ fun j => ?_
  blk_simp
  rw [after0_14]
  idx_vars j
  rw [Pipeline.eq_sum_fin_of_reset_step_apply_last (fun n h => (outsAt0 m c n h).2.2.2.2.2.2.2) 16 (fun _ => 0)
    (fun t j => partV m c t (j 0) (j 1))
    (fun t h j => by idx_vars j; exact firstV m c t h j0 j1)
    (fun t h j => by idx_vars j; exact nextV m c t h j0 j1) (le_of_eq N_16) t0_15 rfl (ix2 j0 j1), zero_add]
  exact Fin.sum_mul_add_congr (L := 4096) (S := 16) (n := 256)
    (f := fun r => prob ((args m c).L r (hd j1)) j0 * (args m c).dO r j1) fun s k hl =>
    congrArg (fun r => prob ((args m c).L r (hd j1)) j0 * (args m c).dO r j1) (Fin.ext (show 256 * s.val + k.val = s.val * 256 + k.val by omega))

end Cert.AttnBwd.Kern

end
-- ==== Proof.AttnRef.lean ====
/- Attention's gradient, the reference's values: stage by stage, down the chain of derivatives. -/
module

public import proofs.«01_k».proof.Proof.AttnKernel
public import proofs.«01_k».proof.Proof.Gen.Reference18Ideal.Read

@[expose] public section

set_option maxRecDepth 16384

noncomputable section

namespace Cert.AttnBwd.Ref

open Idealize.ShloMosaic Idealize.ShloMosaic.TcCoe Idealize.SL.Sem
open scoped BigOperators
open Attn
open Cert.Reference18Ideal Cert.Reference18Ideal.Read

variable (a : Args)

theorem max_least (t : EReal) : max (Ideal.ofBits FTy.f32 4286578688#32) t = t := by
  rw [least_eq]
  exact max_eq_right bot_le

theorem ms (i : Fin 4096) (j : Fin 1) : val_main_v16 (F := Ideal) a.x (ix2 i j) = Norm.ms (a.X i) := by
  pointwise [val_main_v16, val_main_v15, val_main_v14, val_main_v13, val_main_v12, val_main_v11, val_main_v10, val_main_cst, val_main_cst_0, val_main_cst_1]
  rfl

theorem root (i : Fin 4096) (j : Fin 1) : val_main_v17 (F := Ideal) a.x (ix2 i j) = Norm.inv (a.X i) := by
  pointwise [val_main_v17, ms]
  rfl

theorem normed (i : Fin 4096) (d : Fin 1024) : val_main_v24 (F := Ideal) a.x a.w (ix2 i d) = hn (a.X i) a.W d := by
  pointwise [val_main_v24, val_main_v23, val_main_v22, val_main_v21, root]
  rfl

theorem qry (i : Fin 4096) (j : Fin 1024) : val_main_v25 (F := Ideal) a.x a.w a.wq (ix2 i j) = a.Q i j := by
  pointwise [val_main_v25, val_main_v2, val_main_v1, val_main_v0, normed]
  rfl

/-- A head's columns, of the queries, the keys and the values. -/
theorem colOf (h : Fin 4) (j : Fin 256) (hj : h.val * 256 + j.val < 1024) : (⟨h.val * 256 + j.val, hj⟩ : Fin 1024) = col h j :=
  Fin.ext (by show h.val * 256 + j.val = 256 * h.val + j.val; omega)

theorem qryh (i : Fin 4096) (h : Fin 4) (j : Fin 256) : val_main_v26 (F := Ideal) a.x a.w a.wq (ix3 i h j) = a.Q i (col h j) := by
  pointwise [val_main_v26, qry]
  rw [colOf]

theorem keyh (n : Fin 256) (h : Fin 4) (j : Fin 256) : val_main_v27 (F := Ideal) a.kv (ix3 n h j) = a.K n (col h j) := by
  pointwise [val_main_v27, val_main_v7, val_main_v6]
  exact congrArg (fun d => a.kv (ix2 n d)) (Fin.ext (by show h.val * 256 + j.val = 256 * h.val + j.val; omega))

theorem valh (n : Fin 256) (h : Fin 4) (j : Fin 256) : val_main_v59 (F := Ideal) a.kv (ix3 n h j) = a.V n (col h j) := by
  pointwise [val_main_v59, val_main_v9, val_main_v8]
  exact congrArg (fun d => a.kv (ix2 n d)) (Fin.ext (by show 1024 + (h.val * 256 + j.val) = 1024 + (256 * h.val + j.val); omega))

theorem logit (h : Fin 4) (i : Fin 4096) (n : Fin 256) : val_main_v30 (F := Ideal) a.x a.w a.wq a.kv (ix3 h i n) = a.L i h n := by
  pointwise [val_main_v30, val_main_v29, val_main_v28, val_main_cst_3, qryh, keyh]
  rfl

/-- The maximum over the last axis of three, from any start. -/
theorem greatest_of (v : FVec Ideal S4x4096x256 .f32) (s : FVec Ideal S_ .f32) (e : S4x4096x256.ReducesTo [2] S4x4096) (u : 0 < S_.numel) (p : Fin 4) (i : Fin 4096) :
    Host.reduce FloatOps.maximumf v s e u (ix2 p i) = Finset.univ.fold max (s (Shape.Idx.first u)) fun n : Fin 256 => v (ix3 p i n) := by
  simp only [pointwise]

/-- The greatest logit. -/
theorem greatestOnce (h : Fin 4) (i : Fin 4096) : val_main_v31 (F := Ideal) a.x a.w a.wq a.kv (ix2 h i) = top (a.L i h) := by
  unfold val_main_v31
  rw [greatest_of, val_main_cst_4_apply]
  simp only [logit]
  rfl

/-- Nothing is below the start, so the second comparison with it changes nothing. -/
theorem greatest (h : Fin 4) (i : Fin 4096) : val_main_v38 (F := Ideal) a.x a.w a.wq a.kv (ix2 h i) = top (a.L i h) := by
  rw [val_main_v38_apply, val_main_v37_apply, val_main_cst_6_apply, greatestOnce]
  exact max_least _

theorem expd (h : Fin 4) (i : Fin 4096) (n : Fin 256) : val_main_v51 (F := Ideal) a.x a.w a.wq a.kv (ix3 h i n) = ex (a.L i h) n := by
  pointwise [val_main_v51, val_main_v50, val_main_v49, val_main_v48, logit, greatest]
  rfl

theorem summed (h : Fin 4) (i : Fin 4096) (j : Fin 1) : val_main_v53 (F := Ideal) a.x a.w a.wq a.kv (ix3 h i j) = total (a.L i h) := by
  pointwise [val_main_v53, val_main_v52, val_main_cst_12, expd]
  rfl

theorem prb (h : Fin 4) (i : Fin 4096) (n : Fin 256) : val_main_v55 (F := Ideal) a.x a.w a.wq a.kv (ix3 h i n) = prob (a.L i h) n := by
  pointwise [val_main_v55, val_main_v54, expd, summed]
  rfl

theorem arrived (i : Fin 4096) (j : Fin 1024) : val_main_v64 (F := Ideal) a.dx a.wo (ix2 i j) = a.dO i j := by
  pointwise [val_main_v64, val_main_v5, val_main_v4, val_main_v3]
  rfl

theorem arrivedh (h : Fin 4) (j : Fin 256) (i : Fin 4096) : val_main_v66 (F := Ideal) a.dx a.wo (ix3 h j i) = a.dO i (col h j) := by
  pointwise [val_main_v66, val_main_v65, arrived]
  rw [colOf]

theorem atProbs (h : Fin 4) (i : Fin 4096) (n : Fin 256) : val_main_v67 (F := Ideal) a.dx a.kv a.wo (ix3 h i n) = a.dP i h n := by
  pointwise [val_main_v67, arrivedh, valh]
  rfl

/-- The sum down the chain of derivatives, and its negative. -/
theorem chained (h : Fin 4) (i : Fin 4096) :
    val_main_v79 (F := Ideal) a.x a.dx a.w a.wq a.kv a.wo (ix2 h i) = -∑ n, a.dP i h n * Ideal.div 1 (total (a.L i h) * total (a.L i h)) * ex (a.L i h) n := by
  pointwise [val_main_v79, val_main_v76, val_main_v75, val_main_v74, val_main_v73, val_main_v72, val_main_v71, val_main_v58, val_main_v57, val_main_v56, val_main_cst_13, val_main_cst_14,
    val_main_cst_15, atProbs, expd, summed]
  rw [Fin.sum_univ_one]

/-- Where the logits are real numbers it is the gradient as it is usually written. -/
theorem dS (hl : ∀ i h n, IsReal (a.L i h n)) (h : Fin 4) (i : Fin 4096) (n : Fin 256) :
    val_main_v84 (F := Ideal) a.x a.dx a.w a.wq a.kv a.wo (ix3 h i n) = a.dS i h n := by
  pointwise [val_main_v84, val_main_v83, val_main_v82, val_main_v81, val_main_v80, val_main_v78, val_main_v77, val_main_cst_16, chained, atProbs, expd, summed]
  exact chain_eq (hl i h) (a.dP i h) n

theorem dQ (hl : ∀ i h n, IsReal (a.L i h n)) (i : Fin 4096) (j : Fin 1024) :
    val_main_v90 (F := Ideal) a.x a.dx a.w a.wq a.kv a.wo (ix2 i j) = a.dQ i (hd j) (at' j) := by
  pointwise [val_main_v90, val_main_v88, val_main_v87, dS a hl, keyh]
  rfl

theorem dH (hl : ∀ i h n, IsReal (a.L i h n)) (i : Fin 4096) (d : Fin 1024) :
    val_main_v91 (F := Ideal) a.x a.dx a.w a.wq a.kv a.wo (ix2 i d) = a.dH i d := by
  pointwise [val_main_v91, val_main_v2, val_main_v1, val_main_v0, dQ a hl]
  rfl

theorem chain (hl : ∀ i h n, IsReal (a.L i h n)) (i : Fin 4096) : val_main_v105 (F := Ideal) a.x a.dx a.w a.wq a.kv a.wo (ix1 i) = Norm.chain (a.X i) (a.g i) := by
  pointwise [val_main_v105, val_main_v104, val_main_v103, val_main_v102, val_main_v99, val_main_v98, val_main_v97, val_main_v96, val_main_v95, val_main_v20, val_main_v19, val_main_v18, root, ms, dH a hl,
    val_main_cst_2, val_main_cst_18, val_main_cst_19, val_main_cst_20]
  rw [Fin.sum_univ_one]
  rfl

/-- The results. -/
theorem outX (hl : ∀ i h n, IsReal (a.L i h n)) : val_main_v111 (F := Ideal) a.x a.dx a.w a.wq a.kv a.wo = a.outX := by
  funext y
  idx_vars y
  pointwise [val_main_v111, val_main_v110, val_main_v109, val_main_v108, val_main_v107, val_main_v106, val_main_v101, val_main_v100, val_main_v96, val_main_v95, root, chain a hl, dH a hl]
  exact congrArg (a.dx (ix2 y0 y1) + ·) (Norm.back_eq (a.X y0) (a.g y0) y1).symm

theorem outW (hl : ∀ i h n, IsReal (a.L i h n)) : val_main_v94 (F := Ideal) a.x a.dx a.w a.wq a.kv a.wo = a.outW := by
  funext y
  idx_vars y
  pointwise [val_main_v94, val_main_v93, val_main_v92, val_main_v22, val_main_v21, val_main_cst_17, root, dH a hl]
  exact Finset.sum_congr rfl fun i _ => mul_comm _ _

theorem outH : val_main_v112 (F := Ideal) a.x a.w = a.outH := by
  funext y
  idx_vars y
  pointwise [val_main_v112, normed]
  rfl

theorem outO : val_main_v113 (F := Ideal) a.x a.w a.wq a.kv = a.outO := by
  funext y
  idx_vars y
  pointwise [val_main_v113, val_main_v62, val_main_v61, val_main_v60, valh, prb]
  exact Finset.sum_congr rfl fun n _ => mul_comm _ _

theorem outQ (hl : ∀ i h n, IsReal (a.L i h n)) : val_main_v114 (F := Ideal) a.x a.dx a.w a.wq a.kv a.wo = a.outQ := by
  funext y
  idx_vars y
  pointwise [val_main_v114, dQ a hl]
  rfl

theorem outD : val_main_v115 (F := Ideal) a.dx = a.outD := by
  funext y
  idx_vars y
  pointwise [val_main_v115]
  rfl

theorem outK (hl : ∀ i h n, IsReal (a.L i h n)) : val_main_v89 (F := Ideal) a.x a.dx a.w a.wq a.kv a.wo = a.outK := by
  funext y
  idx_vars y
  pointwise [val_main_v89, val_main_v86, val_main_v85, dS a hl, qryh]
  show _ = ∑ r, a.dS r (hd y1) y0 * a.Q r y1
  exact Finset.sum_congr rfl fun r _ => congrArg (a.dS r (hd y1) y0 * a.Q r ·) (col_hd y1)

theorem outV : val_main_v70 (F := Ideal) a.x a.dx a.w a.wq a.kv a.wo = a.outV := by
  funext y
  idx_vars y
  pointwise [val_main_v70, val_main_v69, val_main_v68, arrivedh, prb]
  show _ = ∑ r, prob (a.L r (hd y1)) y0 * a.dO r y1
  exact Finset.sum_congr rfl fun r _ => (mul_comm _ _).trans (congrArg (prob (a.L r (hd y1)) y0 * a.dO r ·) (col_hd y1))

end Cert.AttnBwd.Ref

end
-- ==== Proof.AttnBwd.lean ====
/- Attention's gradient: where the logits' arguments are finite, the kernel's results are the reference's. -/
module

public import proofs.«01_k».proof.Proof.AttnFinal
public import proofs.«01_k».proof.Proof.AttnRef
public import proofs.«01_k».proof.Proof.Gen.Kernel18Ideal.Value
public import proofs.«01_k».proof.Proof.Gen.Reference18Ideal.Run
public import proofs.«01_k».proof.Proof.Gen.Pre_finite18
public import Idealize.ShloMosaic.Lib.ReduceAll

@[expose] public section

set_option maxRecDepth 16384

noncomputable section

namespace Cert.AttnBwd

open Idealize.ShloMosaic Idealize.ShloMosaic.TcCoe Idealize.SL.Sem
open Attn

/-- A number whose size is below +∞ is a real. -/
theorem isReal_of_size (z : EReal) (h : FloatOps.cmpf (F := Ideal) (φ := .f32) .olt (max z (-z)) (Ideal.ofBits .f32 0x7F800000#32) = 1#1) : IsReal z := by
  have e : Ideal.ofBits .f32 0x7F800000#32 = ⊤ := by simp [Ideal.ofBits, Ideal.ieee]
  rw [e] at h
  induction z with
  | bot => exact absurd h (by simp [FloatOps.cmpf, Ideal.cmp])
  | top => exact absurd h (by simp [FloatOps.cmpf, Ideal.cmp])
  | coe r => exact ⟨r, rfl⟩

namespace Pre

open Cert.Pre_finite18

instance one : Subsingleton S_.Idx := ⟨fun a b => funext fun k => k.elim0⟩

/-- An array that passes the test holds reals. -/
theorem real_of_test {s : Shape} {axes : List (Fin s.rank)} (z : FVec Ideal s .f32) (hb : S_.BroadcastsInDim s ![]) (h : s.ReducesTo axes S_) (u : 0 < S_.numel) (j : S_.Idx)
    (e : Host.reduce IntOp.andi (cmpf .olt (Host.absf z) (broadcastInDim s ![] hb (constant (F := Ideal) S_ .f32 0x7F800000#32))) (constantI S_ 1 1#1) h u j = 1#1) (i : s.Idx) :
    IsReal (z i) :=
  isReal_of_size _ (Host.reduce_andi_all _ _ h u j e i)

/-- What the precondition says of the arguments. -/
theorem read (a : Args) (j : S_.Idx) (e : fn (F := Ideal) a.x a.dx a.w a.wq a.kv a.wo j = 1#1) :
    (∀ r d, IsReal (a.X r d)) ∧ (∀ d, IsReal (a.W d)) ∧ (∀ d k, IsReal (a.Wq d k)) ∧ ∀ n k, IsReal (a.K n k) := by
  unfold fn fn_part1 at e
  dsimp only at e
  obtain ⟨e, e3⟩ := IntOp.andi_eq_one.1 e
  obtain ⟨e, e2⟩ := IntOp.andi_eq_one.1 e
  obtain ⟨e0, e1⟩ := IntOp.andi_eq_one.1 e
  refine ⟨fun r d => real_of_test _ _ _ _ j e0 (ix2 r d), fun d => real_of_test _ _ _ _ j e1 (ix2 0 d), fun d k => ?_, fun n k => ?_⟩
  · have h := real_of_test _ _ _ _ j e2 (ix2 d k)
    pointwise at h
    exact h
  · have h := real_of_test _ _ _ _ j e3 (ix2 n k)
    pointwise at h
    exact h

end Pre

/-- Then every logit is a real. -/
theorem logits (a : Args) (j : Cert.Pre_finite18.S_.Idx) (e : Cert.Pre_finite18.fn (F := Ideal) a.x a.dx a.w a.wq a.kv a.wo j = 1#1) (i : Fin 4096) (h : Fin 4) (n : Fin 256) :
    IsReal (a.L i h n) :=
  have ⟨hx, hw, hq, hk⟩ := Pre.read a j e
  logit_real (hx i) hw hq hk h n

/-- The reference alone: it keeps its arguments, and has no semaphore. -/
theorem ref_frame : Cert.quiescent_Reference18Ideal := fun m g _ =>
  (θ_run _ _ _).mono (fun r h => ⟨fun c => (h c).2.2.2.2.2.2.2.2, sem_eq_zero_of_no_sems (by decide) r.2⟩) (Cert.Reference18Ideal.Value.run m g)

/-- From the same arguments both end with the same arrays. -/
theorem algebraic : Cert.algebraic_Kernel18Ideal_Reference18Ideal_pre_finite18 := by
  intro m g m' g' hpre hagree
  refine ⟨fun c => (Kern.args m c).outX, fun c => (Kern.args m c).outW, fun c => (Kern.args m c).outH, fun c => (Kern.args m c).outO, fun c => (Kern.args m c).outQ,
    fun c => (Kern.args m c).outD, fun c => (Kern.args m c).outK, fun c => (Kern.args m c).outV, ?_, ?_⟩
  · refine (θ_run _ _ _).mono (fun r h c => ?_) (θ_run_and (Cert.Kernel18Ideal.Gen.unchanged m g) (Cert.Kernel18Ideal.Gen.run_main m g))
    exact ⟨((h.2 c).1 7).trans (Kern.final7 m c), ((h.2 c).1 8).trans (Kern.final8 m c), ((h.2 c).1 9).trans (Kern.final9 m c), ((h.2 c).1 10).trans (Kern.final10 m c),
      ((h.2 c).1 11).trans (Kern.final11 m c), ((h.2 c).1 12).trans (Kern.final12 m c), ((h.2 c).1 13).trans (Kern.final13 m c), ((h.2 c).1 14).trans (Kern.final14 m c), h.1 c⟩
  · refine (θ_run _ _ _).mono (fun r h c => ?_) (Cert.Reference18Ideal.Value.run m' g')
    have hl := logits (Kern.args m c) (Shape.Idx.first (by decide)) (congrFun (hpre c) _)
    obtain ⟨e0, e1, e2, e3, e4, e5⟩ := hagree c
    obtain ⟨h0, h1, h2, h3, h4, h5, h6, h7, hk⟩ := h c
    refine ⟨h0.trans ((Cert.Reference18Ideal.Read.val_main_v111_eq ..).trans ?_), h1.trans ((Cert.Reference18Ideal.Read.val_main_v94_eq ..).trans ?_),
      h2.trans ((Cert.Reference18Ideal.Read.val_main_v112_eq ..).trans ?_), h3.trans ((Cert.Reference18Ideal.Read.val_main_v113_eq ..).trans ?_),
      h4.trans ((Cert.Reference18Ideal.Read.val_main_v114_eq ..).trans ?_), h5.trans ((Cert.Reference18Ideal.Read.val_main_v115_eq ..).trans ?_),
      h6.trans ((Cert.Reference18Ideal.Read.val_main_v89_eq ..).trans ?_), h7.trans ((Cert.Reference18Ideal.Read.val_main_v70_eq ..).trans ?_), hk⟩
    · rw [e0, e1, e2, e3, e4, e5]; exact Ref.outX (Kern.args m c) hl
    · rw [e0, e1, e2, e3, e4, e5]; exact Ref.outW (Kern.args m c) hl
    · rw [e0, e2]; exact Ref.outH (Kern.args m c)
    · rw [e0, e2, e3, e4]; exact Ref.outO (Kern.args m c)
    · rw [e0, e1, e2, e3, e4, e5]; exact Ref.outQ (Kern.args m c) hl
    · rw [e1]; exact Ref.outD (Kern.args m c)
    · rw [e0, e1, e2, e3, e4, e5]; exact Ref.outK (Kern.args m c) hl
    · rw [e0, e1, e2, e3, e4, e5]; exact Ref.outV (Kern.args m c)

end Cert.AttnBwd

end
-- ==== Proof.FinalLoss.lean ====
/- The loss head: the loss, its gradient at the last block's output, and the gradient of the last normalisation's weight: the
   kernel's are the reference's. -/
module

public import proofs.«01_k».proof.Defs
public import proofs.«01_k».proof.Proof.NormSpec
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.FinalLoss

open Idealize.ShloMosaic Idealize.ShloMosaic.TcCoe Idealize.SL.Sem
open Idealize.ShloMosaic.Pipeline (Dat)
open scoped BigOperators

theorem half_eq : Ideal.ofBits FTy.f32 1056964608#32 = ((1 / 2 : ℝ) : EReal) := by
  simp [Ideal.ofBits, Ideal.ieee, -EReal.coe_mul]; norm_num

theorem two_eq : Ideal.ofBits FTy.f32 1073741824#32 = ((2 : ℝ) : EReal) := by
  simp [Ideal.ofBits, Ideal.ieee, -EReal.coe_mul]; norm_num

theorem inv_count_eq : Ideal.ofBits FTy.f32 981467136#32 = ((1 / 1024 : ℝ) : EReal) := by
  simp [Ideal.ofBits, Ideal.ieee, -EReal.coe_mul]; norm_num

/-- The derivative of half the mean square is the error over the count. -/
theorem scale (e : EReal) :
    Ideal.div (Ideal.ofBits FTy.f32 1056964608#32) (Ideal.ofBits FTy.f32 1149239296#32) * (Ideal.ofBits FTy.f32 1073741824#32 * e) = e * Ideal.ofBits FTy.f32 981467136#32 := by
  rw [half_eq, two_eq, inv_count_eq, Norm.count_eq, Ideal.div_coe (by norm_num), ← mul_assoc, ← EReal.coe_mul, ← EReal.coe_mul, mul_comm]
  congr 2
  norm_num

section Spec

variable (x : FVec Ideal ⟨2, ![4096, 1024]⟩ .f32) (w : FVec Ideal ⟨2, ![1, 1024]⟩ .f32) (t : FVec Ideal ⟨2, ![4096, 1024]⟩ .f32)

/-- The last normalisation less the target. -/
def err (i : Fin 4096) (d : Fin 1024) : EReal := x (ix2 i d) * (Norm.inv fun e => x (ix2 i e)) * w (ix2 0 d) - t (ix2 i d)

/-- The loss's gradient there. -/
def derr (i : Fin 4096) (d : Fin 1024) : EReal := err x w t i d * Ideal.ofBits FTy.f32 981467136#32

/-- A row's mean square error. -/
def mse (i : Fin 4096) : EReal := Ideal.div (∑ d, err x w t i d * err x w t i d) (Ideal.ofBits FTy.f32 1149239296#32)

/-- The three results: the loss, in every entry of a small block; the gradient of the input; the gradient of the weight. -/
def loss : FVec Ideal ⟨2, ![8, 128]⟩ .f32 := fun _ => Ideal.ofBits FTy.f32 1056964608#32 * ∑ i, mse x w t i

def dx : FVec Ideal ⟨2, ![4096, 1024]⟩ .f32 := fun y => Norm.back (fun e => x (ix2 (y 0) e)) (fun e => derr x w t (y 0) e * w (ix2 0 e)) (y 1)

def dw : FVec Ideal ⟨2, ![1, 1024]⟩ .f32 := fun y => ∑ i, derr x w t i (y 1) * (x (ix2 i (y 1)) * Norm.inv fun e => x (ix2 i e))

end Spec

namespace Kern

open Cert.Kernel19Ideal Cert.Kernel19Ideal.Gen

variable (m : (ℓ : Loc nD τ sig) → Buf (Elt Ideal) ℓ)

/-- Which block of its array each window holds at a point. -/
theorem idx : ∀ t : Fin cfg0.N, win0_0.index t = ![t.val, 0] ∧ win0_1.index t = ![0, 0] ∧ win0_2.index t = ![t.val, 0] ∧ win0_4.index t = ![t.val, 0] :=
  (by decide +kernel : ∀ t : Fin grid0.N, _)

theorem idx0 (t : Fin cfg0.N) : win0_0.index t = ![t.val, 0] := (idx t).1
theorem idx1 (t : Fin cfg0.N) : win0_1.index t = ![0, 0] := (idx t).2.1
theorem idx2 (t : Fin cfg0.N) : win0_2.index t = ![t.val, 0] := (idx t).2.2.1
theorem idx4 (t : Fin cfg0.N) : win0_4.index t = ![t.val, 0] := (idx t).2.2.2

/-- The array's row that row `i` of block `t` is. -/
def row (t : Fin cfg0.N) (i : Fin 512) : Fin 4096 := ⟨512 * t.val + i.val, by have : t.val < 8 := lt_of_lt_of_eq t.isLt N_0; omega⟩

variable (c : Dev nD) (t : Fin cfg0.N)

abbrev X : FVec Ideal ⟨2, ![4096, 1024]⟩ .f32 := m ((c : Thread nD τ).loc main_arg0)
abbrev W : FVec Ideal ⟨2, ![1, 1024]⟩ .f32 := m ((c : Thread nD τ).loc main_arg1)
abbrev T : FVec Ideal ⟨2, ![4096, 1024]⟩ .f32 := m ((c : Thread nD τ).loc main_arg2)

theorem in0 (i : Fin 512) (l : Fin 1024) : iblk m c 0 t (ix2 i l) = X m c (ix2 (row t i) l) := by
  unfold row; blk_point [iblk, V, idx0 t]

theorem in1 (l : Fin 1024) : iblk m c 1 t (ix2 0 l) = W m c (ix2 0 l) := by
  blk_point [iblk, V, idx1 t]

theorem in2 (i : Fin 512) (l : Fin 1024) : iblk m c 2 t (ix2 i l) = T m c (ix2 (row t i) l) := by
  unfold row; blk_point [iblk, V, idx2 t]

/-- The root's inverse, of row `i` of a block. -/
theorem root (i : Fin 512) (j : Fin 1) : k0_pay7 (iblk m c 0 t) (ix2 i j) = Norm.inv fun e => X m c (ix2 (row t i) e) := by
  pointwise [k0_pay7, in0]
  rfl

/-- The error, of a block's rows. -/
theorem error (i : Fin 512) (d : Fin 1024) : k0_pay8 (iblk m c 0 t) (iblk m c 1 t) (iblk m c 2 t) (ix2 i d) = err (X m c) (W m c) (T m c) (row t i) d := by
  pointwise [k0_pay8, root, in0, in1, in2]
  rfl

/-- What a point stores for the input. -/
theorem block (i : Fin 512) (j : Fin 1024) :
    k0_pay3 (iblk m c 0 t) (k0_pay7 (iblk m c 0 t)) (k0_pay8 (iblk m c 0 t) (iblk m c 1 t) (iblk m c 2 t)) (iblk m c 1 t) k0_pay10 (ix2 i j)
      = dx (X m c) (W m c) (T m c) (ix2 (row t i) j) := by
  pointwise [k0_pay3, k0_pay2, k0_pay1, k0_pay10, error, root, in0, in1]
  rfl

/-- The loss's and the weight's parts from a block's rows. -/
def lossPart : EReal := Ideal.ofBits FTy.f32 1056964608#32 * ∑ i : Fin 512, mse (X m c) (W m c) (T m c) (row t i)

def part (j : Fin 1024) : EReal :=
  ∑ i : Fin 512, derr (X m c) (W m c) (T m c) (row t i) j * (X m c (ix2 (row t i) j) * Norm.inv fun e => X m c (ix2 (row t i) e))

/-- What a point adds to them. -/
theorem lossStep (z : FVec Ideal S8x128 .f32) (a : Fin 8) (j : Fin 128) :
    k0_pay9 (iblk m c 0 t) (iblk m c 1 t) (iblk m c 2 t) z (ix2 a j) = z (ix2 a j) + lossPart m c t := by
  pointwise [k0_pay9, error]
  rfl

theorem step (z : FVec Ideal S1x1024 .f32) (a : Fin 1) (j : Fin 1024) :
    k0_pay4 (iblk m c 0 t) (k0_pay7 (iblk m c 0 t)) (k0_pay8 (iblk m c 0 t) (iblk m c 1 t) (iblk m c 2 t)) k0_pay10 z (ix2 a j) = z (ix2 a j) + part m c t j := by
  pointwise [k0_pay4, k0_pay2, k0_pay1, k0_pay10, error, root, in0]
  rfl

theorem final4 : (dats m 0 c).arrAt 4 (cfgs 0).N = dx (X m c) (W m c) (T m c) := by
  refine (dats m 0 c).arrAt_eq_of_covers 4 _ (by decide +kernel) fun t _ y => ?_
  blk_simp
  rw [after0_4]
  have e : ∀ (i : Fin 512) (j : Fin 1024), (win0_4.blk t).view.emb (ix2 i j) = ix2 (row t i) j := fun i j => by
    unfold row; blk_ext [idx4 t]
  by_cases h : t.val % 8 = 0
  · rw [outsAt0_A m c t h]; dsimp only; frame_out
    idx_vars y
    rw [e y0 y1]
    exact block m c t y0 y1
  · rw [outsAt0_B m c t h]; dsimp only; frame_out
    idx_vars y
    rw [e y0 y1]
    exact block m c t y0 y1

/-- The first point's part over the cleared blocks. -/
theorem lossFirst (h : t.val % 8 = 0) (a : Fin 8) (j : Fin 128) : (outsAt0 m c t.val t.isLt).1 (ix2 a j) = 0 + lossPart m c t := by
  rw [outsAt0_A m c t h]; dsimp only; frame_out
  refine (lossStep m c t _ a j).trans (congrArg (· + lossPart m c t) ?_)
  pointwise [k0_pay5]

theorem first (h : t.val % 8 = 0) (a : Fin 1) (j : Fin 1024) : (outsAt0 m c t.val t.isLt).2.2 (ix2 a j) = 0 + part m c t j := by
  rw [outsAt0_A m c t h]; dsimp only; frame_out
  refine (step m c t _ a j).trans (congrArg (· + part m c t j) ?_)
  pointwise [k0_pay6]

/-- A later point adds its part to what the point before left. -/
theorem lossNext (h : ¬t.val % 8 = 0) (a : Fin 8) (j : Fin 128) :
    (outsAt0 m c t.val t.isLt).1 (ix2 a j) = (outsAt0 m c (t.val - 1) (Nat.lt_of_le_of_lt (Nat.sub_le _ _) t.isLt)).1 (ix2 a j) + lossPart m c t := by
  rw [outsAt0_B m c t h]; dsimp only; frame_out
  exact lossStep m c t _ a j

theorem next (h : ¬t.val % 8 = 0) (a : Fin 1) (j : Fin 1024) :
    (outsAt0 m c t.val t.isLt).2.2 (ix2 a j) = (outsAt0 m c (t.val - 1) (Nat.lt_of_le_of_lt (Nat.sub_le _ _) t.isLt)).2.2 (ix2 a j) + part m c t j := by
  rw [outsAt0_B m c t h]; dsimp only; frame_out
  exact step m c t _ a j

theorem N_8 : cfg0.N = 8 := rfl

/-- The blocks' sums of a function of the rows are the sum over all rows. -/
theorem sum_rows (f : Fin 4096 → EReal) : ∑ s : Fin 8, ∑ i : Fin 512, f ⟨512 * s.val + i.val, by omega⟩ = ∑ r, f r :=
  Fin.sum_mul_add_congr (L := 4096) (S := 8) (n := 512) (f := f) fun s k hl =>
    congrArg f (Fin.ext (show 512 * s.val + k.val = s.val * 512 + k.val by omega))

theorem final3 : (dats m 0 c).arrAt 3 (cfgs 0).N = loss (X m c) (W m c) (T m c) := by
  refine (dats m 0 c).arrAt_eq_of_after_last 3 t0_7 (by decide +kernel) _ fun j => ?_
  blk_simp
  rw [after0_3]
  idx_vars j
  rw [Pipeline.eq_sum_fin_of_reset_step_apply_last (fun n h => (outsAt0 m c n h).1) 8 (fun _ => 0)
    (fun t _ => lossPart m c t)
    (fun t h j => by idx_vars j; exact lossFirst m c t h j0 j1)
    (fun t h j => by idx_vars j; exact lossNext m c t h j0 j1) (le_of_eq N_8) t0_7 rfl (ix2 j0 j1), zero_add]
  unfold lossPart loss
  rw [half_eq, ← Norm.mul_sum_real _ _ (by norm_num)]
  exact congrArg (((1 / 2 : ℝ) : EReal) * ·) (sum_rows (mse (X m c) (W m c) (T m c)))

theorem final5 : (dats m 0 c).arrAt 5 (cfgs 0).N = dw (X m c) (W m c) (T m c) := by
  refine (dats m 0 c).arrAt_eq_of_after_last 5 t0_7 (by decide +kernel) _ fun j => ?_
  blk_simp
  rw [after0_5]
  idx_vars j
  rw [Pipeline.eq_sum_fin_of_reset_step_apply_last (fun n h => (outsAt0 m c n h).2.2) 8 (fun _ => 0)
    (fun t j => part m c t (j 1))
    (fun t h j => by idx_vars j; exact first m c t h j0 j1)
    (fun t h j => by idx_vars j; exact next m c t h j0 j1) (le_of_eq N_8) t0_7 rfl (ix2 j0 j1), zero_add]
  exact sum_rows fun r => derr (X m c) (W m c) (T m c) r j1 * (X m c (ix2 r j1) * Norm.inv fun e => X m c (ix2 r e))

end Kern

namespace Ref

open Cert.Reference19Ideal Cert.Reference19Ideal.Read

variable (x : FVec Ideal ⟨2, ![4096, 1024]⟩ .f32) (w : FVec Ideal ⟨2, ![1, 1024]⟩ .f32) (t : FVec Ideal ⟨2, ![4096, 1024]⟩ .f32)

theorem ms (i : Fin 4096) (j : Fin 1) : val_main_v6 (F := Ideal) x (ix2 i j) = Norm.ms fun e => x (ix2 i e) := by
  pointwise [val_main_v6, val_main_v5, val_main_v4, val_main_v3, val_main_v2, val_main_v1, val_main_v0, val_main_cst, val_main_cst_0, val_main_cst_1]
  rfl

theorem root (i : Fin 4096) (j : Fin 1) : val_main_v7 (F := Ideal) x (ix2 i j) = Norm.inv fun e => x (ix2 i e) := by
  pointwise [val_main_v7, ms]
  rfl

theorem error (i : Fin 4096) (d : Fin 1024) : val_main_v15 (F := Ideal) x w t (ix2 i d) = err x w t i d := by
  pointwise [val_main_v15, val_main_v14, val_main_v13, val_main_v12, val_main_v11, root]
  rfl

theorem derror (i : Fin 4096) (d : Fin 1024) : val_main_v29 (F := Ideal) x w t (ix2 i d) = derr x w t i d := by
  pointwise [val_main_v29, val_main_v28, val_main_v27, val_main_v26, val_main_v25, val_main_v24, val_main_v18, val_main_v17, error,
    val_main_cst_3, val_main_cst_8, val_main_cst_9, val_main_cst_10]
  exact scale _

theorem value3 : val_main_v49 (F := Ideal) x w t = loss x w t := by
  funext y
  idx_vars y
  pointwise [val_main_v49, val_main_v23, val_main_v22, val_main_v21, val_main_v20, val_main_v19, val_main_v16, error,
    val_main_cst_4, val_main_cst_5, val_main_cst_6, val_main_cst_7]
  rfl

theorem value5 : val_main_v32 (F := Ideal) x w t = dw x w t := by
  funext y
  idx_vars y
  pointwise [val_main_v32, val_main_v31, val_main_v30, val_main_v12, val_main_v11, val_main_cst_11, root, derror]
  exact Finset.sum_congr rfl fun i _ => mul_comm _ _

theorem chain (i : Fin 4096) : val_main_v43 (F := Ideal) x w t (ix1 i) = Norm.chain (fun e => x (ix2 i e)) fun e => derr x w t i e * w (ix2 0 e) := by
  pointwise [val_main_v43, val_main_v42, val_main_v41, val_main_v40, val_main_v37, val_main_v36, val_main_v35, val_main_v34, val_main_v33, val_main_v10, val_main_v9, val_main_v8, root, ms, derror,
    val_main_cst_2, val_main_cst_12, val_main_cst_13, val_main_cst_14]
  rw [Fin.sum_univ_one]
  rfl

theorem value4 : val_main_v48 (F := Ideal) x w t = dx x w t := by
  funext y
  idx_vars y
  pointwise [val_main_v48, val_main_v47, val_main_v46, val_main_v45, val_main_v44, val_main_v39, val_main_v38, val_main_v34, val_main_v33, root, derror, chain]
  exact (Norm.back_eq (fun e => x (ix2 y0 e)) (fun e => derr x w t y0 e * w (ix2 0 e)) y1).symm

end Ref

/-- The reference alone: it keeps its arguments, and has no semaphore. -/
theorem ref_frame : Cert.quiescent_Reference19Ideal := fun m g _ =>
  (θ_run _ _ _).mono (fun r h => ⟨fun c => (h c).2.2.2, sem_eq_zero_of_no_sems (by decide) r.2⟩) (Cert.Reference19Ideal.Value.run m g)

/-- From the same arguments both end with the same arrays. -/
theorem algebraic : Cert.algebraic_Kernel19Ideal_Reference19Ideal := by
  intro m g m' g' _ hagree
  refine ⟨fun c => loss (Kern.X m c) (Kern.W m c) (Kern.T m c), fun c => dx (Kern.X m c) (Kern.W m c) (Kern.T m c), fun c => dw (Kern.X m c) (Kern.W m c) (Kern.T m c), ?_, ?_⟩
  · refine (θ_run _ _ _).mono (fun r h c => ?_) (θ_run_and (Cert.Kernel19Ideal.Gen.unchanged m g) (Cert.Kernel19Ideal.Gen.run_main m g))
    exact ⟨((h.2 c).1 3).trans (Kern.final3 m c), ((h.2 c).1 4).trans (Kern.final4 m c), ((h.2 c).1 5).trans (Kern.final5 m c), h.1 c⟩
  · refine (θ_run _ _ _).mono (fun r h c => ?_) (Cert.Reference19Ideal.Value.run m' g')
    obtain ⟨e0, e1, e2⟩ := hagree c
    have h0 : m' ((c.tc : Thread Cert.Reference19Ideal.nD Cert.Reference19Ideal.τ).loc Cert.Reference19Ideal.main_arg0) = Kern.X m c := e0
    have h1 : m' ((c.tc : Thread Cert.Reference19Ideal.nD Cert.Reference19Ideal.τ).loc Cert.Reference19Ideal.main_arg1) = Kern.W m c := e1
    have h2 : m' ((c.tc : Thread Cert.Reference19Ideal.nD Cert.Reference19Ideal.τ).loc Cert.Reference19Ideal.main_arg2) = Kern.T m c := e2
    exact ⟨(h c).1.trans ((Cert.Reference19Ideal.Read.val_main_v49_eq ..).trans ((Ref.value3 ..).trans (by rw [h0, h1, h2]))),
      (h c).2.1.trans ((Cert.Reference19Ideal.Read.val_main_v48_eq ..).trans ((Ref.value4 ..).trans (by rw [h0, h1, h2]))),
      (h c).2.2.1.trans ((Cert.Reference19Ideal.Read.val_main_v32_eq ..).trans ((Ref.value5 ..).trans (by rw [h0, h1, h2]))), (h c).2.2.2⟩

end Cert.FinalLoss

end
-- ==== Proof.AdamSpec.lean ====
/- One step of the optimiser, for one weight, over the extended reals: the running means of the gradient and of its square,
   and the update from both with the weight's decay. The constants are the roundings the two programs share. -/
module

public import Idealize.ShloMosaic.Lib.Pointwise

@[expose] public section

set_option maxRecDepth 16384

noncomputable section

namespace Cert.Adam

open Idealize.ShloMosaic

/-- The gradient's running mean. -/
def mean (g m : EReal) : EReal := Ideal.ofBits FTy.f32 1063675494#32 * m + Ideal.ofBits FTy.f32 1036831949#32 * g

/-- The square's. -/
def square (g v : EReal) : EReal := Ideal.ofBits FTy.f32 1065336439#32 * v + Ideal.ofBits FTy.f32 981668463#32 * (g * g)

/-- The update: both means divided by what their start at zero takes away, and the decay. -/
def update (w g m v : EReal) : EReal :=
  Ideal.ofBits FTy.f32 3129152111#32
    * (Ideal.div (Ideal.div (mean g m) (Ideal.ofBits FTy.f32 1059503362#32))
        (Ideal.sqrt (Ideal.div (square g v) (Ideal.ofBits FTy.f32 1008933580#32)) + Ideal.ofBits FTy.f32 841731191#32)
      + Ideal.ofBits FTy.f32 1008981770#32 * w)

end Cert.Adam

end
-- ==== Proof.AdamIn.lean ====
/- The optimiser's step for the input projection: the kernel's is the reference's. -/
module

public import proofs.«01_k».proof.Defs
public import proofs.«01_k».proof.Proof.AdamSpec
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Claim

@[expose] public section

set_option maxRecDepth 16384

noncomputable section

namespace Cert.AdamIn

open Idealize.ShloMosaic Idealize.ShloMosaic.TcCoe Idealize.SL.Sem
open Idealize.ShloMosaic.Pipeline (Dat)

/-- The gradient: the sum of the two parts that arrive. -/
def grad (a1 a2 : FVec Ideal ⟨2, ![4096, 2176]⟩ .f32) : FVec Ideal ⟨2, ![4096, 2176]⟩ .f32 := fun y => a1 y + a2 y

/-- The update. -/
def update (a0 a1 a2 a3 a4 : FVec Ideal ⟨2, ![4096, 2176]⟩ .f32) : FVec Ideal ⟨2, ![4096, 2176]⟩ .f32 := fun y => Adam.update (a0 y) (a1 y + a2 y) (a3 y) (a4 y)

/-- The gradient's running mean. -/
def mean (a1 a2 a3 : FVec Ideal ⟨2, ![4096, 2176]⟩ .f32) : FVec Ideal ⟨2, ![4096, 2176]⟩ .f32 := fun y => Adam.mean (a1 y + a2 y) (a3 y)

/-- The square's. -/
def square (a1 a2 a4 : FVec Ideal ⟨2, ![4096, 2176]⟩ .f32) : FVec Ideal ⟨2, ![4096, 2176]⟩ .f32 := fun y => Adam.square (a1 y + a2 y) (a4 y)

namespace Kern

open Cert.Kernel20Ideal Cert.Kernel20Ideal.Gen

variable (m : (ℓ : Loc nD τ sig) → Buf (Elt Ideal) ℓ)

/-- Every window holds block `t` at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![t.val, 0] := (idx t).2.2.2.2.2.1
theorem idx6 (t : Fin cfg0.N) : win0_6.index t = ![t.val, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2

/-- The array's row that row `i` of block `t` is. -/
def row (t : Fin cfg0.N) (i : Fin 128) : Fin 4096 := ⟨128 * t.val + i.val, by have : t.val < 32 := lt_of_lt_of_eq t.isLt N_0; omega⟩

variable (c : Dev nD) (t : Fin cfg0.N)

abbrev A0 : FVec Ideal ⟨2, ![4096, 2176]⟩ .f32 := m ((c : Thread nD τ).loc main_arg0)
abbrev A1 : FVec Ideal ⟨2, ![4096, 2176]⟩ .f32 := m ((c : Thread nD τ).loc main_arg1)
abbrev A2 : FVec Ideal ⟨2, ![4096, 2176]⟩ .f32 := m ((c : Thread nD τ).loc main_arg2)
abbrev A3 : FVec Ideal ⟨2, ![4096, 2176]⟩ .f32 := m ((c : Thread nD τ).loc main_arg3)
abbrev A4 : FVec Ideal ⟨2, ![4096, 2176]⟩ .f32 := m ((c : Thread nD τ).loc main_arg4)

theorem in0 (i : Fin 128) (l : Fin 2176) : iblk m c 0 t (ix2 i l) = A0 m c (ix2 (row t i) l) := by
  unfold row; blk_point [iblk, V, idx0 t]

theorem in1 (i : Fin 128) (l : Fin 2176) : iblk m c 1 t (ix2 i l) = A1 m c (ix2 (row t i) l) := by
  unfold row; blk_point [iblk, V, idx1 t]

theorem in2 (i : Fin 128) (l : Fin 2176) : iblk m c 2 t (ix2 i l) = A2 m c (ix2 (row t i) l) := by
  unfold row; blk_point [iblk, V, idx2 t]

theorem in3 (i : Fin 128) (l : Fin 2176) : iblk m c 3 t (ix2 i l) = A3 m c (ix2 (row t i) l) := by
  unfold row; blk_point [iblk, V, idx3 t]

theorem in4 (i : Fin 128) (l : Fin 2176) : iblk m c 4 t (ix2 i l) = A4 m c (ix2 (row t i) l) := by
  unfold row; blk_point [iblk, V, idx4 t]

theorem block_grad (i : Fin 128) (j : Fin 2176) : k0_pay1 (iblk m c 1 t) (iblk m c 2 t) (ix2 i j) = grad (A1 m c) (A2 m c) (ix2 (row t i) j) := by
  pointwise [k0_pay4, k0_pay3, k0_pay2, k0_pay1, in1, in2]
  rfl

theorem final_grad : (dats m 0 c).arrAt 5 (cfgs 0).N = grad (A1 m c) (A2 m c) := by
  refine (dats m 0 c).arrAt_eq_of_covers 5 _ (by decide +kernel) fun t _ y => ?_
  blk_simp
  rw [after0_5]
  have e : ∀ (i : Fin 128) (j : Fin 2176), (win0_5.blk t).view.emb (ix2 i j) = ix2 (row t i) j := fun i j => by
    unfold row; blk_ext [idx5 t]
  frame_out
  idx_vars y
  rw [e y0 y1]
  exact block_grad m c t y0 y1

theorem block_update (i : Fin 128) (j : Fin 2176) : k0_pay4 (iblk m c 1 t) (iblk m c 2 t) (iblk m c 0 t) (iblk m c 3 t) (iblk m c 4 t) (ix2 i j) = update (A0 m c) (A1 m c) (A2 m c) (A3 m c) (A4 m c) (ix2 (row t i) j) := by
  pointwise [k0_pay4, k0_pay3, k0_pay2, k0_pay1, in0, in1, in2, in3, in4]
  rfl

theorem final_update : (dats m 0 c).arrAt 6 (cfgs 0).N = update (A0 m c) (A1 m c) (A2 m c) (A3 m c) (A4 m c) := by
  refine (dats m 0 c).arrAt_eq_of_covers 6 _ (by decide +kernel) fun t _ y => ?_
  blk_simp
  rw [after0_6]
  have e : ∀ (i : Fin 128) (j : Fin 2176), (win0_6.blk t).view.emb (ix2 i j) = ix2 (row t i) j := fun i j => by
    unfold row; blk_ext [idx6 t]
  frame_out
  idx_vars y
  rw [e y0 y1]
  exact block_update m c t y0 y1

theorem block_mean (i : Fin 128) (j : Fin 2176) : k0_pay2 (iblk m c 1 t) (iblk m c 2 t) (iblk m c 3 t) (ix2 i j) = mean (A1 m c) (A2 m c) (A3 m c) (ix2 (row t i) j) := by
  pointwise [k0_pay4, k0_pay3, k0_pay2, k0_pay1, in1, in2, in3]
  rfl

theorem final_mean : (dats m 0 c).arrAt 7 (cfgs 0).N = mean (A1 m c) (A2 m c) (A3 m c) := by
  refine (dats m 0 c).arrAt_eq_of_covers 7 _ (by decide +kernel) fun t _ y => ?_
  blk_simp
  rw [after0_7]
  have e : ∀ (i : Fin 128) (j : Fin 2176), (win0_7.blk t).view.emb (ix2 i j) = ix2 (row t i) j := fun i j => by
    unfold row; blk_ext [idx7 t]
  frame_out
  idx_vars y
  rw [e y0 y1]
  exact block_mean m c t y0 y1

theorem block_square (i : Fin 128) (j : Fin 2176) : k0_pay3 (iblk m c 1 t) (iblk m c 2 t) (iblk m c 4 t) (ix2 i j) = square (A1 m c) (A2 m c) (A4 m c) (ix2 (row t i) j) := by
  pointwise [k0_pay4, k0_pay3, k0_pay2, k0_pay1, in1, in2, in4]
  rfl

theorem final_square : (dats m 0 c).arrAt 8 (cfgs 0).N = square (A1 m c) (A2 m c) (A4 m c) := by
  refine (dats m 0 c).arrAt_eq_of_covers 8 _ (by decide +kernel) fun t _ y => ?_
  blk_simp
  rw [after0_8]
  have e : ∀ (i : Fin 128) (j : Fin 2176), (win0_8.blk t).view.emb (ix2 i j) = ix2 (row t i) j := fun i j => by
    unfold row; blk_ext [idx8 t]
  frame_out
  idx_vars y
  rw [e y0 y1]
  exact block_square m c t y0 y1

end Kern

namespace Ref

open Cert.Reference20Ideal Cert.Reference20Ideal.Read

variable (a0 a1 a2 a3 a4 : FVec Ideal ⟨2, ![4096, 2176]⟩ .f32)

theorem value_grad : val_main_v0 (F := Ideal) a1 a2 = grad a1 a2 := by
  funext y
  idx_vars y
  pointwise [val_main_v0]
  rfl

theorem value_update : val_main_v24 (F := Ideal) a0 a1 a2 a3 a4 = update a0 a1 a2 a3 a4 := by
  funext y
  idx_vars y
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_mean : val_main_v5 (F := Ideal) a1 a2 a3 = mean a1 a2 a3 := by
  funext y
  idx_vars y
  pointwise [val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_square : val_main_v11 (F := Ideal) a1 a2 a4 = square a1 a2 a4 := by
  funext y
  idx_vars y
  pointwise [val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Ref

/-- The reference alone: it keeps its arguments, and has no semaphore. -/
theorem ref_frame : Cert.quiescent_Reference20Ideal := fun m g _ =>
  (θ_run _ _ _).mono (fun r h => ⟨fun c => (h c).2.2.2.2, sem_eq_zero_of_no_sems (by decide) r.2⟩) (Cert.Reference20Ideal.Value.run m g)

/-- From the same arguments both end with the same arrays. -/
theorem algebraic : Cert.algebraic_Kernel20Ideal_Reference20Ideal := by
  intro m g m' g' _ hagree
  refine ⟨fun c => grad (Kern.A1 m c) (Kern.A2 m c), fun c => update (Kern.A0 m c) (Kern.A1 m c) (Kern.A2 m c) (Kern.A3 m c) (Kern.A4 m c), fun c => mean (Kern.A1 m c) (Kern.A2 m c) (Kern.A3 m c), fun c => square (Kern.A1 m c) (Kern.A2 m c) (Kern.A4 m c), ?_, ?_⟩
  · refine (θ_run _ _ _).mono (fun r h c => ?_) (θ_run_and (Cert.Kernel20Ideal.Gen.unchanged m g) (Cert.Kernel20Ideal.Gen.run_main m g))
    exact ⟨((h.2 c).1 5).trans (Kern.final_grad m c), ((h.2 c).1 6).trans (Kern.final_update m c), ((h.2 c).1 7).trans (Kern.final_mean m c), ((h.2 c).1 8).trans (Kern.final_square m c), h.1 c⟩
  · refine (θ_run _ _ _).mono (fun r h c => ?_) (Cert.Reference20Ideal.Value.run m' g')
    obtain ⟨e0, e1, e2, e3, e4⟩ := hagree c
    have h0 : m' ((c.tc : Thread Cert.Reference20Ideal.nD Cert.Reference20Ideal.τ).loc Cert.Reference20Ideal.main_arg0) = Kern.A0 m c := e0
    have h1 : m' ((c.tc : Thread Cert.Reference20Ideal.nD Cert.Reference20Ideal.τ).loc Cert.Reference20Ideal.main_arg1) = Kern.A1 m c := e1
    have h2 : m' ((c.tc : Thread Cert.Reference20Ideal.nD Cert.Reference20Ideal.τ).loc Cert.Reference20Ideal.main_arg2) = Kern.A2 m c := e2
    have h3 : m' ((c.tc : Thread Cert.Reference20Ideal.nD Cert.Reference20Ideal.τ).loc Cert.Reference20Ideal.main_arg3) = Kern.A3 m c := e3
    have h4 : m' ((c.tc : Thread Cert.Reference20Ideal.nD Cert.Reference20Ideal.τ).loc Cert.Reference20Ideal.main_arg4) = Kern.A4 m c := e4
    exact ⟨(h c).1.trans ((Cert.Reference20Ideal.Read.val_main_v0_eq ..).trans ((Ref.value_grad ..).trans (by rw [h1, h2]))),
      (h c).2.1.trans ((Cert.Reference20Ideal.Read.val_main_v24_eq ..).trans ((Ref.value_update ..).trans (by rw [h0, h1, h2, h3, h4]))),
      (h c).2.2.1.trans ((Cert.Reference20Ideal.Read.val_main_v5_eq ..).trans ((Ref.value_mean ..).trans (by rw [h1, h2, h3]))),
      (h c).2.2.2.1.trans ((Cert.Reference20Ideal.Read.val_main_v11_eq ..).trans ((Ref.value_square ..).trans (by rw [h1, h2, h4]))), (h c).2.2.2.2⟩

end Cert.AdamIn

end
-- ==== Proof.AdamBranch.lean ====
/- The optimiser's step for the four mixers' projections: the kernel's is the reference's. -/
module

public import proofs.«01_k».proof.Defs
public import proofs.«01_k».proof.Proof.AdamSpec
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Claim

@[expose] public section

set_option maxRecDepth 16384

noncomputable section

namespace Cert.AdamBranch

open Idealize.ShloMosaic Idealize.ShloMosaic.TcCoe Idealize.SL.Sem
open Idealize.ShloMosaic.Pipeline (Dat)

/-- The gradient: the sum of the two parts that arrive. -/
def grad (a1 a2 : FVec Ideal ⟨2, ![8192, 256]⟩ .f32) : FVec Ideal ⟨2, ![8192, 256]⟩ .f32 := fun y => a1 y + a2 y

/-- The update. -/
def update (a0 a1 a2 a3 a4 : FVec Ideal ⟨2, ![8192, 256]⟩ .f32) : FVec Ideal ⟨2, ![8192, 256]⟩ .f32 := fun y => Adam.update (a0 y) (a1 y + a2 y) (a3 y) (a4 y)

/-- The gradient's running mean. -/
def mean (a1 a2 a3 : FVec Ideal ⟨2, ![8192, 256]⟩ .f32) : FVec Ideal ⟨2, ![8192, 256]⟩ .f32 := fun y => Adam.mean (a1 y + a2 y) (a3 y)

/-- The square's. -/
def square (a1 a2 a4 : FVec Ideal ⟨2, ![8192, 256]⟩ .f32) : FVec Ideal ⟨2, ![8192, 256]⟩ .f32 := fun y => Adam.square (a1 y + a2 y) (a4 y)

namespace Kern

open Cert.Kernel21Ideal Cert.Kernel21Ideal.Gen

variable (m : (ℓ : Loc nD τ sig) → Buf (Elt Ideal) ℓ)

/-- Every window holds block `t` at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![t.val, 0] := (idx t).2.2.2.2.2.1
theorem idx6 (t : Fin cfg0.N) : win0_6.index t = ![t.val, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2

/-- The array's row that row `i` of block `t` is. -/
def row (t : Fin cfg0.N) (i : Fin 128) : Fin 8192 := ⟨128 * t.val + i.val, by have : t.val < 64 := lt_of_lt_of_eq t.isLt N_0; omega⟩

variable (c : Dev nD) (t : Fin cfg0.N)

abbrev A0 : FVec Ideal ⟨2, ![8192, 256]⟩ .f32 := m ((c : Thread nD τ).loc main_arg0)
abbrev A1 : FVec Ideal ⟨2, ![8192, 256]⟩ .f32 := m ((c : Thread nD τ).loc main_arg1)
abbrev A2 : FVec Ideal ⟨2, ![8192, 256]⟩ .f32 := m ((c : Thread nD τ).loc main_arg2)
abbrev A3 : FVec Ideal ⟨2, ![8192, 256]⟩ .f32 := m ((c : Thread nD τ).loc main_arg3)
abbrev A4 : FVec Ideal ⟨2, ![8192, 256]⟩ .f32 := m ((c : Thread nD τ).loc main_arg4)

theorem in0 (i : Fin 128) (l : Fin 256) : iblk m c 0 t (ix2 i l) = A0 m c (ix2 (row t i) l) := by
  unfold row; blk_point [iblk, V, idx0 t]

theorem in1 (i : Fin 128) (l : Fin 256) : iblk m c 1 t (ix2 i l) = A1 m c (ix2 (row t i) l) := by
  unfold row; blk_point [iblk, V, idx1 t]

theorem in2 (i : Fin 128) (l : Fin 256) : iblk m c 2 t (ix2 i l) = A2 m c (ix2 (row t i) l) := by
  unfold row; blk_point [iblk, V, idx2 t]

theorem in3 (i : Fin 128) (l : Fin 256) : iblk m c 3 t (ix2 i l) = A3 m c (ix2 (row t i) l) := by
  unfold row; blk_point [iblk, V, idx3 t]

theorem in4 (i : Fin 128) (l : Fin 256) : iblk m c 4 t (ix2 i l) = A4 m c (ix2 (row t i) l) := by
  unfold row; blk_point [iblk, V, idx4 t]

theorem block_grad (i : Fin 128) (j : Fin 256) : k0_pay1 (iblk m c 1 t) (iblk m c 2 t) (ix2 i j) = grad (A1 m c) (A2 m c) (ix2 (row t i) j) := by
  pointwise [k0_pay4, k0_pay3, k0_pay2, k0_pay1, in1, in2]
  rfl

theorem final_grad : (dats m 0 c).arrAt 5 (cfgs 0).N = grad (A1 m c) (A2 m c) := by
  refine (dats m 0 c).arrAt_eq_of_covers 5 _ (by decide +kernel) fun t _ y => ?_
  blk_simp
  rw [after0_5]
  have e : ∀ (i : Fin 128) (j : Fin 256), (win0_5.blk t).view.emb (ix2 i j) = ix2 (row t i) j := fun i j => by
    unfold row; blk_ext [idx5 t]
  frame_out
  idx_vars y
  rw [e y0 y1]
  exact block_grad m c t y0 y1

theorem block_update (i : Fin 128) (j : Fin 256) : k0_pay4 (iblk m c 1 t) (iblk m c 2 t) (iblk m c 0 t) (iblk m c 3 t) (iblk m c 4 t) (ix2 i j) = update (A0 m c) (A1 m c) (A2 m c) (A3 m c) (A4 m c) (ix2 (row t i) j) := by
  pointwise [k0_pay4, k0_pay3, k0_pay2, k0_pay1, in0, in1, in2, in3, in4]
  rfl

theorem final_update : (dats m 0 c).arrAt 6 (cfgs 0).N = update (A0 m c) (A1 m c) (A2 m c) (A3 m c) (A4 m c) := by
  refine (dats m 0 c).arrAt_eq_of_covers 6 _ (by decide +kernel) fun t _ y => ?_
  blk_simp
  rw [after0_6]
  have e : ∀ (i : Fin 128) (j : Fin 256), (win0_6.blk t).view.emb (ix2 i j) = ix2 (row t i) j := fun i j => by
    unfold row; blk_ext [idx6 t]
  frame_out
  idx_vars y
  rw [e y0 y1]
  exact block_update m c t y0 y1

theorem block_mean (i : Fin 128) (j : Fin 256) : k0_pay2 (iblk m c 1 t) (iblk m c 2 t) (iblk m c 3 t) (ix2 i j) = mean (A1 m c) (A2 m c) (A3 m c) (ix2 (row t i) j) := by
  pointwise [k0_pay4, k0_pay3, k0_pay2, k0_pay1, in1, in2, in3]
  rfl

theorem final_mean : (dats m 0 c).arrAt 7 (cfgs 0).N = mean (A1 m c) (A2 m c) (A3 m c) := by
  refine (dats m 0 c).arrAt_eq_of_covers 7 _ (by decide +kernel) fun t _ y => ?_
  blk_simp
  rw [after0_7]
  have e : ∀ (i : Fin 128) (j : Fin 256), (win0_7.blk t).view.emb (ix2 i j) = ix2 (row t i) j := fun i j => by
    unfold row; blk_ext [idx7 t]
  frame_out
  idx_vars y
  rw [e y0 y1]
  exact block_mean m c t y0 y1

theorem block_square (i : Fin 128) (j : Fin 256) : k0_pay3 (iblk m c 1 t) (iblk m c 2 t) (iblk m c 4 t) (ix2 i j) = square (A1 m c) (A2 m c) (A4 m c) (ix2 (row t i) j) := by
  pointwise [k0_pay4, k0_pay3, k0_pay2, k0_pay1, in1, in2, in4]
  rfl

theorem final_square : (dats m 0 c).arrAt 8 (cfgs 0).N = square (A1 m c) (A2 m c) (A4 m c) := by
  refine (dats m 0 c).arrAt_eq_of_covers 8 _ (by decide +kernel) fun t _ y => ?_
  blk_simp
  rw [after0_8]
  have e : ∀ (i : Fin 128) (j : Fin 256), (win0_8.blk t).view.emb (ix2 i j) = ix2 (row t i) j := fun i j => by
    unfold row; blk_ext [idx8 t]
  frame_out
  idx_vars y
  rw [e y0 y1]
  exact block_square m c t y0 y1

end Kern

namespace Ref

open Cert.Reference21Ideal Cert.Reference21Ideal.Read

variable (a0 a1 a2 a3 a4 : FVec Ideal ⟨2, ![8192, 256]⟩ .f32)

theorem value_grad : val_main_v0 (F := Ideal) a1 a2 = grad a1 a2 := by
  funext y
  idx_vars y
  pointwise [val_main_v0]
  rfl

theorem value_update : val_main_v24 (F := Ideal) a0 a1 a2 a3 a4 = update a0 a1 a2 a3 a4 := by
  funext y
  idx_vars y
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_mean : val_main_v5 (F := Ideal) a1 a2 a3 = mean a1 a2 a3 := by
  funext y
  idx_vars y
  pointwise [val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_square : val_main_v11 (F := Ideal) a1 a2 a4 = square a1 a2 a4 := by
  funext y
  idx_vars y
  pointwise [val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Ref

/-- The reference alone: it keeps its arguments, and has no semaphore. -/
theorem ref_frame : Cert.quiescent_Reference21Ideal := fun m g _ =>
  (θ_run _ _ _).mono (fun r h => ⟨fun c => (h c).2.2.2.2, sem_eq_zero_of_no_sems (by decide) r.2⟩) (Cert.Reference21Ideal.Value.run m g)

/-- From the same arguments both end with the same arrays. -/
theorem algebraic : Cert.algebraic_Kernel21Ideal_Reference21Ideal := by
  intro m g m' g' _ hagree
  refine ⟨fun c => grad (Kern.A1 m c) (Kern.A2 m c), fun c => update (Kern.A0 m c) (Kern.A1 m c) (Kern.A2 m c) (Kern.A3 m c) (Kern.A4 m c), fun c => mean (Kern.A1 m c) (Kern.A2 m c) (Kern.A3 m c), fun c => square (Kern.A1 m c) (Kern.A2 m c) (Kern.A4 m c), ?_, ?_⟩
  · refine (θ_run _ _ _).mono (fun r h c => ?_) (θ_run_and (Cert.Kernel21Ideal.Gen.unchanged m g) (Cert.Kernel21Ideal.Gen.run_main m g))
    exact ⟨((h.2 c).1 5).trans (Kern.final_grad m c), ((h.2 c).1 6).trans (Kern.final_update m c), ((h.2 c).1 7).trans (Kern.final_mean m c), ((h.2 c).1 8).trans (Kern.final_square m c), h.1 c⟩
  · refine (θ_run _ _ _).mono (fun r h c => ?_) (Cert.Reference21Ideal.Value.run m' g')
    obtain ⟨e0, e1, e2, e3, e4⟩ := hagree c
    have h0 : m' ((c.tc : Thread Cert.Reference21Ideal.nD Cert.Reference21Ideal.τ).loc Cert.Reference21Ideal.main_arg0) = Kern.A0 m c := e0
    have h1 : m' ((c.tc : Thread Cert.Reference21Ideal.nD Cert.Reference21Ideal.τ).loc Cert.Reference21Ideal.main_arg1) = Kern.A1 m c := e1
    have h2 : m' ((c.tc : Thread Cert.Reference21Ideal.nD Cert.Reference21Ideal.τ).loc Cert.Reference21Ideal.main_arg2) = Kern.A2 m c := e2
    have h3 : m' ((c.tc : Thread Cert.Reference21Ideal.nD Cert.Reference21Ideal.τ).loc Cert.Reference21Ideal.main_arg3) = Kern.A3 m c := e3
    have h4 : m' ((c.tc : Thread Cert.Reference21Ideal.nD Cert.Reference21Ideal.τ).loc Cert.Reference21Ideal.main_arg4) = Kern.A4 m c := e4
    exact ⟨(h c).1.trans ((Cert.Reference21Ideal.Read.val_main_v0_eq ..).trans ((Ref.value_grad ..).trans (by rw [h1, h2]))),
      (h c).2.1.trans ((Cert.Reference21Ideal.Read.val_main_v24_eq ..).trans ((Ref.value_update ..).trans (by rw [h0, h1, h2, h3, h4]))),
      (h c).2.2.1.trans ((Cert.Reference21Ideal.Read.val_main_v5_eq ..).trans ((Ref.value_mean ..).trans (by rw [h1, h2, h3]))),
      (h c).2.2.2.1.trans ((Cert.Reference21Ideal.Read.val_main_v11_eq ..).trans ((Ref.value_square ..).trans (by rw [h1, h2, h4]))), (h c).2.2.2.2⟩

end Cert.AdamBranch

end
-- ==== Proof.AdamOut.lean ====
/- The optimiser's step for the output projections and the queries': the kernel's is the reference's. -/
module

public import proofs.«01_k».proof.Defs
public import proofs.«01_k».proof.Proof.AdamSpec
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Claim

@[expose] public section

set_option maxRecDepth 16384

noncomputable section

namespace Cert.AdamOut

open Idealize.ShloMosaic Idealize.ShloMosaic.TcCoe Idealize.SL.Sem
open Idealize.ShloMosaic.Pipeline (Dat)

/-- The gradient: the sum of the two parts that arrive. -/
def grad (a1 a2 : FVec Ideal ⟨2, ![1024, 1024]⟩ .f32) : FVec Ideal ⟨2, ![1024, 1024]⟩ .f32 := fun y => a1 y + a2 y

/-- The update. -/
def update (a0 a1 a2 a3 a4 : FVec Ideal ⟨2, ![1024, 1024]⟩ .f32) : FVec Ideal ⟨2, ![1024, 1024]⟩ .f32 := fun y => Adam.update (a0 y) (a1 y + a2 y) (a3 y) (a4 y)

/-- The gradient's running mean. -/
def mean (a1 a2 a3 : FVec Ideal ⟨2, ![1024, 1024]⟩ .f32) : FVec Ideal ⟨2, ![1024, 1024]⟩ .f32 := fun y => Adam.mean (a1 y + a2 y) (a3 y)

/-- The square's. -/
def square (a1 a2 a4 : FVec Ideal ⟨2, ![1024, 1024]⟩ .f32) : FVec Ideal ⟨2, ![1024, 1024]⟩ .f32 := fun y => Adam.square (a1 y + a2 y) (a4 y)

namespace Kern

open Cert.Kernel22Ideal Cert.Kernel22Ideal.Gen

variable (m : (ℓ : Loc nD τ sig) → Buf (Elt Ideal) ℓ)

/-- Every window holds block `t` at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![t.val, 0] := (idx t).2.2.2.2.2.1
theorem idx6 (t : Fin cfg0.N) : win0_6.index t = ![t.val, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2

/-- The array's row that row `i` of block `t` is. -/
def row (t : Fin cfg0.N) (i : Fin 128) : Fin 1024 := ⟨128 * t.val + i.val, by have : t.val < 8 := lt_of_lt_of_eq t.isLt N_0; omega⟩

variable (c : Dev nD) (t : Fin cfg0.N)

abbrev A0 : FVec Ideal ⟨2, ![1024, 1024]⟩ .f32 := m ((c : Thread nD τ).loc main_arg0)
abbrev A1 : FVec Ideal ⟨2, ![1024, 1024]⟩ .f32 := m ((c : Thread nD τ).loc main_arg1)
abbrev A2 : FVec Ideal ⟨2, ![1024, 1024]⟩ .f32 := m ((c : Thread nD τ).loc main_arg2)
abbrev A3 : FVec Ideal ⟨2, ![1024, 1024]⟩ .f32 := m ((c : Thread nD τ).loc main_arg3)
abbrev A4 : FVec Ideal ⟨2, ![1024, 1024]⟩ .f32 := m ((c : Thread nD τ).loc main_arg4)

theorem in0 (i : Fin 128) (l : Fin 1024) : iblk m c 0 t (ix2 i l) = A0 m c (ix2 (row t i) l) := by
  unfold row; blk_point [iblk, V, idx0 t]

theorem in1 (i : Fin 128) (l : Fin 1024) : iblk m c 1 t (ix2 i l) = A1 m c (ix2 (row t i) l) := by
  unfold row; blk_point [iblk, V, idx1 t]

theorem in2 (i : Fin 128) (l : Fin 1024) : iblk m c 2 t (ix2 i l) = A2 m c (ix2 (row t i) l) := by
  unfold row; blk_point [iblk, V, idx2 t]

theorem in3 (i : Fin 128) (l : Fin 1024) : iblk m c 3 t (ix2 i l) = A3 m c (ix2 (row t i) l) := by
  unfold row; blk_point [iblk, V, idx3 t]

theorem in4 (i : Fin 128) (l : Fin 1024) : iblk m c 4 t (ix2 i l) = A4 m c (ix2 (row t i) l) := by
  unfold row; blk_point [iblk, V, idx4 t]

theorem block_grad (i : Fin 128) (j : Fin 1024) : k0_pay1 (iblk m c 1 t) (iblk m c 2 t) (ix2 i j) = grad (A1 m c) (A2 m c) (ix2 (row t i) j) := by
  pointwise [k0_pay4, k0_pay3, k0_pay2, k0_pay1, in1, in2]
  rfl

theorem final_grad : (dats m 0 c).arrAt 5 (cfgs 0).N = grad (A1 m c) (A2 m c) := by
  refine (dats m 0 c).arrAt_eq_of_covers 5 _ (by decide +kernel) fun t _ y => ?_
  blk_simp
  rw [after0_5]
  have e : ∀ (i : Fin 128) (j : Fin 1024), (win0_5.blk t).view.emb (ix2 i j) = ix2 (row t i) j := fun i j => by
    unfold row; blk_ext [idx5 t]
  frame_out
  idx_vars y
  rw [e y0 y1]
  exact block_grad m c t y0 y1

theorem block_update (i : Fin 128) (j : Fin 1024) : k0_pay4 (iblk m c 1 t) (iblk m c 2 t) (iblk m c 0 t) (iblk m c 3 t) (iblk m c 4 t) (ix2 i j) = update (A0 m c) (A1 m c) (A2 m c) (A3 m c) (A4 m c) (ix2 (row t i) j) := by
  pointwise [k0_pay4, k0_pay3, k0_pay2, k0_pay1, in0, in1, in2, in3, in4]
  rfl

theorem final_update : (dats m 0 c).arrAt 6 (cfgs 0).N = update (A0 m c) (A1 m c) (A2 m c) (A3 m c) (A4 m c) := by
  refine (dats m 0 c).arrAt_eq_of_covers 6 _ (by decide +kernel) fun t _ y => ?_
  blk_simp
  rw [after0_6]
  have e : ∀ (i : Fin 128) (j : Fin 1024), (win0_6.blk t).view.emb (ix2 i j) = ix2 (row t i) j := fun i j => by
    unfold row; blk_ext [idx6 t]
  frame_out
  idx_vars y
  rw [e y0 y1]
  exact block_update m c t y0 y1

theorem block_mean (i : Fin 128) (j : Fin 1024) : k0_pay2 (iblk m c 1 t) (iblk m c 2 t) (iblk m c 3 t) (ix2 i j) = mean (A1 m c) (A2 m c) (A3 m c) (ix2 (row t i) j) := by
  pointwise [k0_pay4, k0_pay3, k0_pay2, k0_pay1, in1, in2, in3]
  rfl

theorem final_mean : (dats m 0 c).arrAt 7 (cfgs 0).N = mean (A1 m c) (A2 m c) (A3 m c) := by
  refine (dats m 0 c).arrAt_eq_of_covers 7 _ (by decide +kernel) fun t _ y => ?_
  blk_simp
  rw [after0_7]
  have e : ∀ (i : Fin 128) (j : Fin 1024), (win0_7.blk t).view.emb (ix2 i j) = ix2 (row t i) j := fun i j => by
    unfold row; blk_ext [idx7 t]
  frame_out
  idx_vars y
  rw [e y0 y1]
  exact block_mean m c t y0 y1

theorem block_square (i : Fin 128) (j : Fin 1024) : k0_pay3 (iblk m c 1 t) (iblk m c 2 t) (iblk m c 4 t) (ix2 i j) = square (A1 m c) (A2 m c) (A4 m c) (ix2 (row t i) j) := by
  pointwise [k0_pay4, k0_pay3, k0_pay2, k0_pay1, in1, in2, in4]
  rfl

theorem final_square : (dats m 0 c).arrAt 8 (cfgs 0).N = square (A1 m c) (A2 m c) (A4 m c) := by
  refine (dats m 0 c).arrAt_eq_of_covers 8 _ (by decide +kernel) fun t _ y => ?_
  blk_simp
  rw [after0_8]
  have e : ∀ (i : Fin 128) (j : Fin 1024), (win0_8.blk t).view.emb (ix2 i j) = ix2 (row t i) j := fun i j => by
    unfold row; blk_ext [idx8 t]
  frame_out
  idx_vars y
  rw [e y0 y1]
  exact block_square m c t y0 y1

end Kern

namespace Ref

open Cert.Reference22Ideal Cert.Reference22Ideal.Read

variable (a0 a1 a2 a3 a4 : FVec Ideal ⟨2, ![1024, 1024]⟩ .f32)

theorem value_grad : val_main_v0 (F := Ideal) a1 a2 = grad a1 a2 := by
  funext y
  idx_vars y
  pointwise [val_main_v0]
  rfl

theorem value_update : val_main_v24 (F := Ideal) a0 a1 a2 a3 a4 = update a0 a1 a2 a3 a4 := by
  funext y
  idx_vars y
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_mean : val_main_v5 (F := Ideal) a1 a2 a3 = mean a1 a2 a3 := by
  funext y
  idx_vars y
  pointwise [val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_square : val_main_v11 (F := Ideal) a1 a2 a4 = square a1 a2 a4 := by
  funext y
  idx_vars y
  pointwise [val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Ref

/-- The reference alone: it keeps its arguments, and has no semaphore. -/
theorem ref_frame : Cert.quiescent_Reference22Ideal := fun m g _ =>
  (θ_run _ _ _).mono (fun r h => ⟨fun c => (h c).2.2.2.2, sem_eq_zero_of_no_sems (by decide) r.2⟩) (Cert.Reference22Ideal.Value.run m g)

/-- From the same arguments both end with the same arrays. -/
theorem algebraic : Cert.algebraic_Kernel22Ideal_Reference22Ideal := by
  intro m g m' g' _ hagree
  refine ⟨fun c => grad (Kern.A1 m c) (Kern.A2 m c), fun c => update (Kern.A0 m c) (Kern.A1 m c) (Kern.A2 m c) (Kern.A3 m c) (Kern.A4 m c), fun c => mean (Kern.A1 m c) (Kern.A2 m c) (Kern.A3 m c), fun c => square (Kern.A1 m c) (Kern.A2 m c) (Kern.A4 m c), ?_, ?_⟩
  · refine (θ_run _ _ _).mono (fun r h c => ?_) (θ_run_and (Cert.Kernel22Ideal.Gen.unchanged m g) (Cert.Kernel22Ideal.Gen.run_main m g))
    exact ⟨((h.2 c).1 5).trans (Kern.final_grad m c), ((h.2 c).1 6).trans (Kern.final_update m c), ((h.2 c).1 7).trans (Kern.final_mean m c), ((h.2 c).1 8).trans (Kern.final_square m c), h.1 c⟩
  · refine (θ_run _ _ _).mono (fun r h c => ?_) (Cert.Reference22Ideal.Value.run m' g')
    obtain ⟨e0, e1, e2, e3, e4⟩ := hagree c
    have h0 : m' ((c.tc : Thread Cert.Reference22Ideal.nD Cert.Reference22Ideal.τ).loc Cert.Reference22Ideal.main_arg0) = Kern.A0 m c := e0
    have h1 : m' ((c.tc : Thread Cert.Reference22Ideal.nD Cert.Reference22Ideal.τ).loc Cert.Reference22Ideal.main_arg1) = Kern.A1 m c := e1
    have h2 : m' ((c.tc : Thread Cert.Reference22Ideal.nD Cert.Reference22Ideal.τ).loc Cert.Reference22Ideal.main_arg2) = Kern.A2 m c := e2
    have h3 : m' ((c.tc : Thread Cert.Reference22Ideal.nD Cert.Reference22Ideal.τ).loc Cert.Reference22Ideal.main_arg3) = Kern.A3 m c := e3
    have h4 : m' ((c.tc : Thread Cert.Reference22Ideal.nD Cert.Reference22Ideal.τ).loc Cert.Reference22Ideal.main_arg4) = Kern.A4 m c := e4
    exact ⟨(h c).1.trans ((Cert.Reference22Ideal.Read.val_main_v0_eq ..).trans ((Ref.value_grad ..).trans (by rw [h1, h2]))),
      (h c).2.1.trans ((Cert.Reference22Ideal.Read.val_main_v24_eq ..).trans ((Ref.value_update ..).trans (by rw [h0, h1, h2, h3, h4]))),
      (h c).2.2.1.trans ((Cert.Reference22Ideal.Read.val_main_v5_eq ..).trans ((Ref.value_mean ..).trans (by rw [h1, h2, h3]))),
      (h c).2.2.2.1.trans ((Cert.Reference22Ideal.Read.val_main_v11_eq ..).trans ((Ref.value_square ..).trans (by rw [h1, h2, h4]))), (h c).2.2.2.2⟩

end Cert.AdamOut

end
-- ==== Proof.AdamKv.lean ====
/- The optimiser's step for the memory's projection: the kernel's is the reference's. -/
module

public import proofs.«01_k».proof.Defs
public import proofs.«01_k».proof.Proof.AdamSpec
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Claim

@[expose] public section

set_option maxRecDepth 16384

noncomputable section

namespace Cert.AdamKv

open Idealize.ShloMosaic Idealize.ShloMosaic.TcCoe Idealize.SL.Sem
open Idealize.ShloMosaic.Pipeline (Dat)

/-- The gradient: the sum of the two parts that arrive. -/
def grad (a1 a2 : FVec Ideal ⟨2, ![4096, 512]⟩ .f32) : FVec Ideal ⟨2, ![4096, 512]⟩ .f32 := fun y => a1 y + a2 y

/-- The update. -/
def update (a0 a1 a2 a3 a4 : FVec Ideal ⟨2, ![4096, 512]⟩ .f32) : FVec Ideal ⟨2, ![4096, 512]⟩ .f32 := fun y => Adam.update (a0 y) (a1 y + a2 y) (a3 y) (a4 y)

/-- The gradient's running mean. -/
def mean (a1 a2 a3 : FVec Ideal ⟨2, ![4096, 512]⟩ .f32) : FVec Ideal ⟨2, ![4096, 512]⟩ .f32 := fun y => Adam.mean (a1 y + a2 y) (a3 y)

/-- The square's. -/
def square (a1 a2 a4 : FVec Ideal ⟨2, ![4096, 512]⟩ .f32) : FVec Ideal ⟨2, ![4096, 512]⟩ .f32 := fun y => Adam.square (a1 y + a2 y) (a4 y)

namespace Kern

open Cert.Kernel23Ideal Cert.Kernel23Ideal.Gen

variable (m : (ℓ : Loc nD τ sig) → Buf (Elt Ideal) ℓ)

/-- Every window holds block `t` at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![t.val, 0] := (idx t).2.2.2.2.2.1
theorem idx6 (t : Fin cfg0.N) : win0_6.index t = ![t.val, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2

/-- The array's row that row `i` of block `t` is. -/
def row (t : Fin cfg0.N) (i : Fin 128) : Fin 4096 := ⟨128 * t.val + i.val, by have : t.val < 32 := lt_of_lt_of_eq t.isLt N_0; omega⟩

variable (c : Dev nD) (t : Fin cfg0.N)

abbrev A0 : FVec Ideal ⟨2, ![4096, 512]⟩ .f32 := m ((c : Thread nD τ).loc main_arg0)
abbrev A1 : FVec Ideal ⟨2, ![4096, 512]⟩ .f32 := m ((c : Thread nD τ).loc main_arg1)
abbrev A2 : FVec Ideal ⟨2, ![4096, 512]⟩ .f32 := m ((c : Thread nD τ).loc main_arg2)
abbrev A3 : FVec Ideal ⟨2, ![4096, 512]⟩ .f32 := m ((c : Thread nD τ).loc main_arg3)
abbrev A4 : FVec Ideal ⟨2, ![4096, 512]⟩ .f32 := m ((c : Thread nD τ).loc main_arg4)

theorem in0 (i : Fin 128) (l : Fin 512) : iblk m c 0 t (ix2 i l) = A0 m c (ix2 (row t i) l) := by
  unfold row; blk_point [iblk, V, idx0 t]

theorem in1 (i : Fin 128) (l : Fin 512) : iblk m c 1 t (ix2 i l) = A1 m c (ix2 (row t i) l) := by
  unfold row; blk_point [iblk, V, idx1 t]

theorem in2 (i : Fin 128) (l : Fin 512) : iblk m c 2 t (ix2 i l) = A2 m c (ix2 (row t i) l) := by
  unfold row; blk_point [iblk, V, idx2 t]

theorem in3 (i : Fin 128) (l : Fin 512) : iblk m c 3 t (ix2 i l) = A3 m c (ix2 (row t i) l) := by
  unfold row; blk_point [iblk, V, idx3 t]

theorem in4 (i : Fin 128) (l : Fin 512) : iblk m c 4 t (ix2 i l) = A4 m c (ix2 (row t i) l) := by
  unfold row; blk_point [iblk, V, idx4 t]

theorem block_grad (i : Fin 128) (j : Fin 512) : k0_pay1 (iblk m c 1 t) (iblk m c 2 t) (ix2 i j) = grad (A1 m c) (A2 m c) (ix2 (row t i) j) := by
  pointwise [k0_pay4, k0_pay3, k0_pay2, k0_pay1, in1, in2]
  rfl

theorem final_grad : (dats m 0 c).arrAt 5 (cfgs 0).N = grad (A1 m c) (A2 m c) := by
  refine (dats m 0 c).arrAt_eq_of_covers 5 _ (by decide +kernel) fun t _ y => ?_
  blk_simp
  rw [after0_5]
  have e : ∀ (i : Fin 128) (j : Fin 512), (win0_5.blk t).view.emb (ix2 i j) = ix2 (row t i) j := fun i j => by
    unfold row; blk_ext [idx5 t]
  frame_out
  idx_vars y
  rw [e y0 y1]
  exact block_grad m c t y0 y1

theorem block_update (i : Fin 128) (j : Fin 512) : k0_pay4 (iblk m c 1 t) (iblk m c 2 t) (iblk m c 0 t) (iblk m c 3 t) (iblk m c 4 t) (ix2 i j) = update (A0 m c) (A1 m c) (A2 m c) (A3 m c) (A4 m c) (ix2 (row t i) j) := by
  pointwise [k0_pay4, k0_pay3, k0_pay2, k0_pay1, in0, in1, in2, in3, in4]
  rfl

theorem final_update : (dats m 0 c).arrAt 6 (cfgs 0).N = update (A0 m c) (A1 m c) (A2 m c) (A3 m c) (A4 m c) := by
  refine (dats m 0 c).arrAt_eq_of_covers 6 _ (by decide +kernel) fun t _ y => ?_
  blk_simp
  rw [after0_6]
  have e : ∀ (i : Fin 128) (j : Fin 512), (win0_6.blk t).view.emb (ix2 i j) = ix2 (row t i) j := fun i j => by
    unfold row; blk_ext [idx6 t]
  frame_out
  idx_vars y
  rw [e y0 y1]
  exact block_update m c t y0 y1

theorem block_mean (i : Fin 128) (j : Fin 512) : k0_pay2 (iblk m c 1 t) (iblk m c 2 t) (iblk m c 3 t) (ix2 i j) = mean (A1 m c) (A2 m c) (A3 m c) (ix2 (row t i) j) := by
  pointwise [k0_pay4, k0_pay3, k0_pay2, k0_pay1, in1, in2, in3]
  rfl

theorem final_mean : (dats m 0 c).arrAt 7 (cfgs 0).N = mean (A1 m c) (A2 m c) (A3 m c) := by
  refine (dats m 0 c).arrAt_eq_of_covers 7 _ (by decide +kernel) fun t _ y => ?_
  blk_simp
  rw [after0_7]
  have e : ∀ (i : Fin 128) (j : Fin 512), (win0_7.blk t).view.emb (ix2 i j) = ix2 (row t i) j := fun i j => by
    unfold row; blk_ext [idx7 t]
  frame_out
  idx_vars y
  rw [e y0 y1]
  exact block_mean m c t y0 y1

theorem block_square (i : Fin 128) (j : Fin 512) : k0_pay3 (iblk m c 1 t) (iblk m c 2 t) (iblk m c 4 t) (ix2 i j) = square (A1 m c) (A2 m c) (A4 m c) (ix2 (row t i) j) := by
  pointwise [k0_pay4, k0_pay3, k0_pay2, k0_pay1, in1, in2, in4]
  rfl

theorem final_square : (dats m 0 c).arrAt 8 (cfgs 0).N = square (A1 m c) (A2 m c) (A4 m c) := by
  refine (dats m 0 c).arrAt_eq_of_covers 8 _ (by decide +kernel) fun t _ y => ?_
  blk_simp
  rw [after0_8]
  have e : ∀ (i : Fin 128) (j : Fin 512), (win0_8.blk t).view.emb (ix2 i j) = ix2 (row t i) j := fun i j => by
    unfold row; blk_ext [idx8 t]
  frame_out
  idx_vars y
  rw [e y0 y1]
  exact block_square m c t y0 y1

end Kern

namespace Ref

open Cert.Reference23Ideal Cert.Reference23Ideal.Read

variable (a0 a1 a2 a3 a4 : FVec Ideal ⟨2, ![4096, 512]⟩ .f32)

theorem value_grad : val_main_v0 (F := Ideal) a1 a2 = grad a1 a2 := by
  funext y
  idx_vars y
  pointwise [val_main_v0]
  rfl

theorem value_update : val_main_v24 (F := Ideal) a0 a1 a2 a3 a4 = update a0 a1 a2 a3 a4 := by
  funext y
  idx_vars y
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_mean : val_main_v5 (F := Ideal) a1 a2 a3 = mean a1 a2 a3 := by
  funext y
  idx_vars y
  pointwise [val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_square : val_main_v11 (F := Ideal) a1 a2 a4 = square a1 a2 a4 := by
  funext y
  idx_vars y
  pointwise [val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Ref

/-- The reference alone: it keeps its arguments, and has no semaphore. -/
theorem ref_frame : Cert.quiescent_Reference23Ideal := fun m g _ =>
  (θ_run _ _ _).mono (fun r h => ⟨fun c => (h c).2.2.2.2, sem_eq_zero_of_no_sems (by decide) r.2⟩) (Cert.Reference23Ideal.Value.run m g)

/-- From the same arguments both end with the same arrays. -/
theorem algebraic : Cert.algebraic_Kernel23Ideal_Reference23Ideal := by
  intro m g m' g' _ hagree
  refine ⟨fun c => grad (Kern.A1 m c) (Kern.A2 m c), fun c => update (Kern.A0 m c) (Kern.A1 m c) (Kern.A2 m c) (Kern.A3 m c) (Kern.A4 m c), fun c => mean (Kern.A1 m c) (Kern.A2 m c) (Kern.A3 m c), fun c => square (Kern.A1 m c) (Kern.A2 m c) (Kern.A4 m c), ?_, ?_⟩
  · refine (θ_run _ _ _).mono (fun r h c => ?_) (θ_run_and (Cert.Kernel23Ideal.Gen.unchanged m g) (Cert.Kernel23Ideal.Gen.run_main m g))
    exact ⟨((h.2 c).1 5).trans (Kern.final_grad m c), ((h.2 c).1 6).trans (Kern.final_update m c), ((h.2 c).1 7).trans (Kern.final_mean m c), ((h.2 c).1 8).trans (Kern.final_square m c), h.1 c⟩
  · refine (θ_run _ _ _).mono (fun r h c => ?_) (Cert.Reference23Ideal.Value.run m' g')
    obtain ⟨e0, e1, e2, e3, e4⟩ := hagree c
    have h0 : m' ((c.tc : Thread Cert.Reference23Ideal.nD Cert.Reference23Ideal.τ).loc Cert.Reference23Ideal.main_arg0) = Kern.A0 m c := e0
    have h1 : m' ((c.tc : Thread Cert.Reference23Ideal.nD Cert.Reference23Ideal.τ).loc Cert.Reference23Ideal.main_arg1) = Kern.A1 m c := e1
    have h2 : m' ((c.tc : Thread Cert.Reference23Ideal.nD Cert.Reference23Ideal.τ).loc Cert.Reference23Ideal.main_arg2) = Kern.A2 m c := e2
    have h3 : m' ((c.tc : Thread Cert.Reference23Ideal.nD Cert.Reference23Ideal.τ).loc Cert.Reference23Ideal.main_arg3) = Kern.A3 m c := e3
    have h4 : m' ((c.tc : Thread Cert.Reference23Ideal.nD Cert.Reference23Ideal.τ).loc Cert.Reference23Ideal.main_arg4) = Kern.A4 m c := e4
    exact ⟨(h c).1.trans ((Cert.Reference23Ideal.Read.val_main_v0_eq ..).trans ((Ref.value_grad ..).trans (by rw [h1, h2]))),
      (h c).2.1.trans ((Cert.Reference23Ideal.Read.val_main_v24_eq ..).trans ((Ref.value_update ..).trans (by rw [h0, h1, h2, h3, h4]))),
      (h c).2.2.1.trans ((Cert.Reference23Ideal.Read.val_main_v5_eq ..).trans ((Ref.value_mean ..).trans (by rw [h1, h2, h3]))),
      (h c).2.2.2.1.trans ((Cert.Reference23Ideal.Read.val_main_v11_eq ..).trans ((Ref.value_square ..).trans (by rw [h1, h2, h4]))), (h c).2.2.2.2⟩

end Cert.AdamKv

end
-- ==== Proof.AdamFfn.lean ====
/- The optimiser's step for either half of the feed-forward block: the kernel's is the reference's. -/
module

public import proofs.«01_k».proof.Defs
public import proofs.«01_k».proof.Proof.AdamSpec
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Claim

@[expose] public section

set_option maxRecDepth 16384

noncomputable section

namespace Cert.AdamFfn

open Idealize.ShloMosaic Idealize.ShloMosaic.TcCoe Idealize.SL.Sem
open Idealize.ShloMosaic.Pipeline (Dat)

/-- The gradient: the sum of the two parts that arrive. -/
def grad (a1 a2 : FVec Ideal ⟨2, ![4096, 1024]⟩ .f32) : FVec Ideal ⟨2, ![4096, 1024]⟩ .f32 := fun y => a1 y + a2 y

/-- The update. -/
def update (a0 a1 a2 a3 a4 : FVec Ideal ⟨2, ![4096, 1024]⟩ .f32) : FVec Ideal ⟨2, ![4096, 1024]⟩ .f32 := fun y => Adam.update (a0 y) (a1 y + a2 y) (a3 y) (a4 y)

/-- The gradient's running mean. -/
def mean (a1 a2 a3 : FVec Ideal ⟨2, ![4096, 1024]⟩ .f32) : FVec Ideal ⟨2, ![4096, 1024]⟩ .f32 := fun y => Adam.mean (a1 y + a2 y) (a3 y)

/-- The square's. -/
def square (a1 a2 a4 : FVec Ideal ⟨2, ![4096, 1024]⟩ .f32) : FVec Ideal ⟨2, ![4096, 1024]⟩ .f32 := fun y => Adam.square (a1 y + a2 y) (a4 y)

namespace Kern

open Cert.Kernel24Ideal Cert.Kernel24Ideal.Gen

variable (m : (ℓ : Loc nD τ sig) → Buf (Elt Ideal) ℓ)

/-- Every window holds block `t` at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![t.val, 0] := (idx t).2.2.2.2.2.1
theorem idx6 (t : Fin cfg0.N) : win0_6.index t = ![t.val, 0] := (idx t).2.2.2.2.2.2.1
theorem idx7 (t : Fin cfg0.N) : win0_7.index t = ![t.val, 0] := (idx t).2.2.2.2.2.2.2.1
theorem idx8 (t : Fin cfg0.N) : win0_8.index t = ![t.val, 0] := (idx t).2.2.2.2.2.2.2.2

/-- The array's row that row `i` of block `t` is. -/
def row (t : Fin cfg0.N) (i : Fin 128) : Fin 4096 := ⟨128 * t.val + i.val, by have : t.val < 32 := lt_of_lt_of_eq t.isLt N_0; omega⟩

variable (c : Dev nD) (t : Fin cfg0.N)

abbrev A0 : FVec Ideal ⟨2, ![4096, 1024]⟩ .f32 := m ((c : Thread nD τ).loc main_arg0)
abbrev A1 : FVec Ideal ⟨2, ![4096, 1024]⟩ .f32 := m ((c : Thread nD τ).loc main_arg1)
abbrev A2 : FVec Ideal ⟨2, ![4096, 1024]⟩ .f32 := m ((c : Thread nD τ).loc main_arg2)
abbrev A3 : FVec Ideal ⟨2, ![4096, 1024]⟩ .f32 := m ((c : Thread nD τ).loc main_arg3)
abbrev A4 : FVec Ideal ⟨2, ![4096, 1024]⟩ .f32 := m ((c : Thread nD τ).loc main_arg4)

theorem in0 (i : Fin 128) (l : Fin 1024) : iblk m c 0 t (ix2 i l) = A0 m c (ix2 (row t i) l) := by
  unfold row; blk_point [iblk, V, idx0 t]

theorem in1 (i : Fin 128) (l : Fin 1024) : iblk m c 1 t (ix2 i l) = A1 m c (ix2 (row t i) l) := by
  unfold row; blk_point [iblk, V, idx1 t]

theorem in2 (i : Fin 128) (l : Fin 1024) : iblk m c 2 t (ix2 i l) = A2 m c (ix2 (row t i) l) := by
  unfold row; blk_point [iblk, V, idx2 t]

theorem in3 (i : Fin 128) (l : Fin 1024) : iblk m c 3 t (ix2 i l) = A3 m c (ix2 (row t i) l) := by
  unfold row; blk_point [iblk, V, idx3 t]

theorem in4 (i : Fin 128) (l : Fin 1024) : iblk m c 4 t (ix2 i l) = A4 m c (ix2 (row t i) l) := by
  unfold row; blk_point [iblk, V, idx4 t]

theorem block_grad (i : Fin 128) (j : Fin 1024) : k0_pay1 (iblk m c 1 t) (iblk m c 2 t) (ix2 i j) = grad (A1 m c) (A2 m c) (ix2 (row t i) j) := by
  pointwise [k0_pay4, k0_pay3, k0_pay2, k0_pay1, in1, in2]
  rfl

theorem final_grad : (dats m 0 c).arrAt 5 (cfgs 0).N = grad (A1 m c) (A2 m c) := by
  refine (dats m 0 c).arrAt_eq_of_covers 5 _ (by decide +kernel) fun t _ y => ?_
  blk_simp
  rw [after0_5]
  have e : ∀ (i : Fin 128) (j : Fin 1024), (win0_5.blk t).view.emb (ix2 i j) = ix2 (row t i) j := fun i j => by
    unfold row; blk_ext [idx5 t]
  frame_out
  idx_vars y
  rw [e y0 y1]
  exact block_grad m c t y0 y1

theorem block_update (i : Fin 128) (j : Fin 1024) : k0_pay4 (iblk m c 1 t) (iblk m c 2 t) (iblk m c 0 t) (iblk m c 3 t) (iblk m c 4 t) (ix2 i j) = update (A0 m c) (A1 m c) (A2 m c) (A3 m c) (A4 m c) (ix2 (row t i) j) := by
  pointwise [k0_pay4, k0_pay3, k0_pay2, k0_pay1, in0, in1, in2, in3, in4]
  rfl

theorem final_update : (dats m 0 c).arrAt 6 (cfgs 0).N = update (A0 m c) (A1 m c) (A2 m c) (A3 m c) (A4 m c) := by
  refine (dats m 0 c).arrAt_eq_of_covers 6 _ (by decide +kernel) fun t _ y => ?_
  blk_simp
  rw [after0_6]
  have e : ∀ (i : Fin 128) (j : Fin 1024), (win0_6.blk t).view.emb (ix2 i j) = ix2 (row t i) j := fun i j => by
    unfold row; blk_ext [idx6 t]
  frame_out
  idx_vars y
  rw [e y0 y1]
  exact block_update m c t y0 y1

theorem block_mean (i : Fin 128) (j : Fin 1024) : k0_pay2 (iblk m c 1 t) (iblk m c 2 t) (iblk m c 3 t) (ix2 i j) = mean (A1 m c) (A2 m c) (A3 m c) (ix2 (row t i) j) := by
  pointwise [k0_pay4, k0_pay3, k0_pay2, k0_pay1, in1, in2, in3]
  rfl

theorem final_mean : (dats m 0 c).arrAt 7 (cfgs 0).N = mean (A1 m c) (A2 m c) (A3 m c) := by
  refine (dats m 0 c).arrAt_eq_of_covers 7 _ (by decide +kernel) fun t _ y => ?_
  blk_simp
  rw [after0_7]
  have e : ∀ (i : Fin 128) (j : Fin 1024), (win0_7.blk t).view.emb (ix2 i j) = ix2 (row t i) j := fun i j => by
    unfold row; blk_ext [idx7 t]
  frame_out
  idx_vars y
  rw [e y0 y1]
  exact block_mean m c t y0 y1

theorem block_square (i : Fin 128) (j : Fin 1024) : k0_pay3 (iblk m c 1 t) (iblk m c 2 t) (iblk m c 4 t) (ix2 i j) = square (A1 m c) (A2 m c) (A4 m c) (ix2 (row t i) j) := by
  pointwise [k0_pay4, k0_pay3, k0_pay2, k0_pay1, in1, in2, in4]
  rfl

theorem final_square : (dats m 0 c).arrAt 8 (cfgs 0).N = square (A1 m c) (A2 m c) (A4 m c) := by
  refine (dats m 0 c).arrAt_eq_of_covers 8 _ (by decide +kernel) fun t _ y => ?_
  blk_simp
  rw [after0_8]
  have e : ∀ (i : Fin 128) (j : Fin 1024), (win0_8.blk t).view.emb (ix2 i j) = ix2 (row t i) j := fun i j => by
    unfold row; blk_ext [idx8 t]
  frame_out
  idx_vars y
  rw [e y0 y1]
  exact block_square m c t y0 y1

end Kern

namespace Ref

open Cert.Reference24Ideal Cert.Reference24Ideal.Read

variable (a0 a1 a2 a3 a4 : FVec Ideal ⟨2, ![4096, 1024]⟩ .f32)

theorem value_grad : val_main_v0 (F := Ideal) a1 a2 = grad a1 a2 := by
  funext y
  idx_vars y
  pointwise [val_main_v0]
  rfl

theorem value_update : val_main_v24 (F := Ideal) a0 a1 a2 a3 a4 = update a0 a1 a2 a3 a4 := by
  funext y
  idx_vars y
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_mean : val_main_v5 (F := Ideal) a1 a2 a3 = mean a1 a2 a3 := by
  funext y
  idx_vars y
  pointwise [val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_square : val_main_v11 (F := Ideal) a1 a2 a4 = square a1 a2 a4 := by
  funext y
  idx_vars y
  pointwise [val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Ref

/-- The reference alone: it keeps its arguments, and has no semaphore. -/
theorem ref_frame : Cert.quiescent_Reference24Ideal := fun m g _ =>
  (θ_run _ _ _).mono (fun r h => ⟨fun c => (h c).2.2.2.2, sem_eq_zero_of_no_sems (by decide) r.2⟩) (Cert.Reference24Ideal.Value.run m g)

/-- From the same arguments both end with the same arrays. -/
theorem algebraic : Cert.algebraic_Kernel24Ideal_Reference24Ideal := by
  intro m g m' g' _ hagree
  refine ⟨fun c => grad (Kern.A1 m c) (Kern.A2 m c), fun c => update (Kern.A0 m c) (Kern.A1 m c) (Kern.A2 m c) (Kern.A3 m c) (Kern.A4 m c), fun c => mean (Kern.A1 m c) (Kern.A2 m c) (Kern.A3 m c), fun c => square (Kern.A1 m c) (Kern.A2 m c) (Kern.A4 m c), ?_, ?_⟩
  · refine (θ_run _ _ _).mono (fun r h c => ?_) (θ_run_and (Cert.Kernel24Ideal.Gen.unchanged m g) (Cert.Kernel24Ideal.Gen.run_main m g))
    exact ⟨((h.2 c).1 5).trans (Kern.final_grad m c), ((h.2 c).1 6).trans (Kern.final_update m c), ((h.2 c).1 7).trans (Kern.final_mean m c), ((h.2 c).1 8).trans (Kern.final_square m c), h.1 c⟩
  · refine (θ_run _ _ _).mono (fun r h c => ?_) (Cert.Reference24Ideal.Value.run m' g')
    obtain ⟨e0, e1, e2, e3, e4⟩ := hagree c
    have h0 : m' ((c.tc : Thread Cert.Reference24Ideal.nD Cert.Reference24Ideal.τ).loc Cert.Reference24Ideal.main_arg0) = Kern.A0 m c := e0
    have h1 : m' ((c.tc : Thread Cert.Reference24Ideal.nD Cert.Reference24Ideal.τ).loc Cert.Reference24Ideal.main_arg1) = Kern.A1 m c := e1
    have h2 : m' ((c.tc : Thread Cert.Reference24Ideal.nD Cert.Reference24Ideal.τ).loc Cert.Reference24Ideal.main_arg2) = Kern.A2 m c := e2
    have h3 : m' ((c.tc : Thread Cert.Reference24Ideal.nD Cert.Reference24Ideal.τ).loc Cert.Reference24Ideal.main_arg3) = Kern.A3 m c := e3
    have h4 : m' ((c.tc : Thread Cert.Reference24Ideal.nD Cert.Reference24Ideal.τ).loc Cert.Reference24Ideal.main_arg4) = Kern.A4 m c := e4
    exact ⟨(h c).1.trans ((Cert.Reference24Ideal.Read.val_main_v0_eq ..).trans ((Ref.value_grad ..).trans (by rw [h1, h2]))),
      (h c).2.1.trans ((Cert.Reference24Ideal.Read.val_main_v24_eq ..).trans ((Ref.value_update ..).trans (by rw [h0, h1, h2, h3, h4]))),
      (h c).2.2.1.trans ((Cert.Reference24Ideal.Read.val_main_v5_eq ..).trans ((Ref.value_mean ..).trans (by rw [h1, h2, h3]))),
      (h c).2.2.2.1.trans ((Cert.Reference24Ideal.Read.val_main_v11_eq ..).trans ((Ref.value_square ..).trans (by rw [h1, h2, h4]))), (h c).2.2.2.2⟩

end Cert.AdamFfn

end
-- ==== Proof.AdamSmall.lean ====
/- The optimiser's step for the small weights, packed: the kernel's is the reference's. -/
module

public import proofs.«01_k».proof.Defs
public import proofs.«01_k».proof.Proof.AdamSpec
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.Claim

@[expose] public section

set_option maxRecDepth 16384

noncomputable section

namespace Cert.AdamSmall

open Idealize.ShloMosaic Idealize.ShloMosaic.TcCoe Idealize.SL.Sem
open Idealize.ShloMosaic.Pipeline (Dat)

/-- The update. -/
def update (a0 a1 a2 a3 : FVec Ideal ⟨2, ![4608, 128]⟩ .f32) : FVec Ideal ⟨2, ![4608, 128]⟩ .f32 := fun y => Adam.update (a0 y) (a1 y) (a2 y) (a3 y)

/-- The gradient's running mean. -/
def mean (a1 a2 : FVec Ideal ⟨2, ![4608, 128]⟩ .f32) : FVec Ideal ⟨2, ![4608, 128]⟩ .f32 := fun y => Adam.mean (a1 y) (a2 y)

/-- The square's. -/
def square (a1 a3 : FVec Ideal ⟨2, ![4608, 128]⟩ .f32) : FVec Ideal ⟨2, ![4608, 128]⟩ .f32 := fun y => Adam.square (a1 y) (a3 y)

namespace Kern

open Cert.Kernel25Ideal Cert.Kernel25Ideal.Gen

variable (m : (ℓ : Loc nD τ sig) → Buf (Elt Ideal) ℓ)

/-- Every window holds block `t` at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem idx0 (t : Fin cfg0.N) : win0_0.index t = ![t.val, 0] := (idx t).1
theorem idx1 (t : Fin cfg0.N) : win0_1.index t = ![t.val, 0] := (idx t).2.1
theorem idx2 (t : Fin cfg0.N) : win0_2.index t = ![t.val, 0] := (idx t).2.2.1
theorem idx3 (t : Fin cfg0.N) : win0_3.index t = ![t.val, 0] := (idx t).2.2.2.1
theorem idx4 (t : Fin cfg0.N) : win0_4.index t = ![t.val, 0] := (idx t).2.2.2.2.1
theorem idx5 (t : Fin cfg0.N) : win0_5.index t = ![t.val, 0] := (idx t).2.2.2.2.2.1
theorem idx6 (t : Fin cfg0.N) : win0_6.index t = ![t.val, 0] := (idx t).2.2.2.2.2.2

/-- The array's row that row `i` of block `t` is. -/
def row (t : Fin cfg0.N) (i : Fin 128) : Fin 4608 := ⟨128 * t.val + i.val, by have : t.val < 36 := lt_of_lt_of_eq t.isLt N_0; omega⟩

variable (c : Dev nD) (t : Fin cfg0.N)

abbrev A0 : FVec Ideal ⟨2, ![4608, 128]⟩ .f32 := m ((c : Thread nD τ).loc main_arg0)
abbrev A1 : FVec Ideal ⟨2, ![4608, 128]⟩ .f32 := m ((c : Thread nD τ).loc main_arg1)
abbrev A2 : FVec Ideal ⟨2, ![4608, 128]⟩ .f32 := m ((c : Thread nD τ).loc main_arg2)
abbrev A3 : FVec Ideal ⟨2, ![4608, 128]⟩ .f32 := m ((c : Thread nD τ).loc main_arg3)

theorem in0 (i : Fin 128) (l : Fin 128) : iblk m c 0 t (ix2 i l) = A0 m c (ix2 (row t i) l) := by
  unfold row; blk_point [iblk, V, idx0 t]

theorem in1 (i : Fin 128) (l : Fin 128) : iblk m c 1 t (ix2 i l) = A1 m c (ix2 (row t i) l) := by
  unfold row; blk_point [iblk, V, idx1 t]

theorem in2 (i : Fin 128) (l : Fin 128) : iblk m c 2 t (ix2 i l) = A2 m c (ix2 (row t i) l) := by
  unfold row; blk_point [iblk, V, idx2 t]

theorem in3 (i : Fin 128) (l : Fin 128) : iblk m c 3 t (ix2 i l) = A3 m c (ix2 (row t i) l) := by
  unfold row; blk_point [iblk, V, idx3 t]

theorem block_update (i : Fin 128) (j : Fin 128) : k0_pay3 (iblk m c 1 t) (iblk m c 0 t) (iblk m c 2 t) (iblk m c 3 t) (ix2 i j) = update (A0 m c) (A1 m c) (A2 m c) (A3 m c) (ix2 (row t i) j) := by
  pointwise [k0_pay3, k0_pay2, k0_pay1, in0, in1, in2, in3]
  rfl

theorem final_update : (dats m 0 c).arrAt 4 (cfgs 0).N = update (A0 m c) (A1 m c) (A2 m c) (A3 m c) := by
  refine (dats m 0 c).arrAt_eq_of_covers 4 _ (by decide +kernel) fun t _ y => ?_
  blk_simp
  rw [after0_4]
  have e : ∀ (i : Fin 128) (j : Fin 128), (win0_4.blk t).view.emb (ix2 i j) = ix2 (row t i) j := fun i j => by
    unfold row; blk_ext [idx4 t]
  frame_out
  idx_vars y
  rw [e y0 y1]
  exact block_update m c t y0 y1

theorem block_mean (i : Fin 128) (j : Fin 128) : k0_pay1 (iblk m c 1 t) (iblk m c 2 t) (ix2 i j) = mean (A1 m c) (A2 m c) (ix2 (row t i) j) := by
  pointwise [k0_pay3, k0_pay2, k0_pay1, in1, in2]
  rfl

theorem final_mean : (dats m 0 c).arrAt 5 (cfgs 0).N = mean (A1 m c) (A2 m c) := by
  refine (dats m 0 c).arrAt_eq_of_covers 5 _ (by decide +kernel) fun t _ y => ?_
  blk_simp
  rw [after0_5]
  have e : ∀ (i : Fin 128) (j : Fin 128), (win0_5.blk t).view.emb (ix2 i j) = ix2 (row t i) j := fun i j => by
    unfold row; blk_ext [idx5 t]
  frame_out
  idx_vars y
  rw [e y0 y1]
  exact block_mean m c t y0 y1

theorem block_square (i : Fin 128) (j : Fin 128) : k0_pay2 (iblk m c 1 t) (iblk m c 3 t) (ix2 i j) = square (A1 m c) (A3 m c) (ix2 (row t i) j) := by
  pointwise [k0_pay3, k0_pay2, k0_pay1, in1, in3]
  rfl

theorem final_square : (dats m 0 c).arrAt 6 (cfgs 0).N = square (A1 m c) (A3 m c) := by
  refine (dats m 0 c).arrAt_eq_of_covers 6 _ (by decide +kernel) fun t _ y => ?_
  blk_simp
  rw [after0_6]
  have e : ∀ (i : Fin 128) (j : Fin 128), (win0_6.blk t).view.emb (ix2 i j) = ix2 (row t i) j := fun i j => by
    unfold row; blk_ext [idx6 t]
  frame_out
  idx_vars y
  rw [e y0 y1]
  exact block_square m c t y0 y1

end Kern

namespace Ref

open Cert.Reference25Ideal Cert.Reference25Ideal.Read

variable (a0 a1 a2 a3 : FVec Ideal ⟨2, ![4608, 128]⟩ .f32)

theorem value_update : val_main_v23 (F := Ideal) a0 a1 a2 a3 = update a0 a1 a2 a3 := by
  funext y
  idx_vars y
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_mean : val_main_v4 (F := Ideal) a1 a2 = mean a1 a2 := by
  funext y
  idx_vars y
  pointwise [val_main_v4, val_main_v3, val_main_v2, val_main_v1, val_main_v0, val_main_cst, val_main_cst_0, val_main_cst_1, val_main_cst_2, val_main_cst_3, val_main_cst_4, val_main_cst_5, val_main_cst_6, val_main_cst_7]
  rfl

theorem value_square : val_main_v10 (F := Ideal) a1 a3 = square a1 a3 := by
  funext y
  idx_vars y
  pointwise [val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

end Ref

/-- The reference alone: it keeps its arguments, and has no semaphore. -/
theorem ref_frame : Cert.quiescent_Reference25Ideal := fun m g _ =>
  (θ_run _ _ _).mono (fun r h => ⟨fun c => (h c).2.2.2, sem_eq_zero_of_no_sems (by decide) r.2⟩) (Cert.Reference25Ideal.Value.run m g)

/-- From the same arguments both end with the same arrays. -/
theorem algebraic : Cert.algebraic_Kernel25Ideal_Reference25Ideal := by
  intro m g m' g' _ hagree
  refine ⟨fun c => update (Kern.A0 m c) (Kern.A1 m c) (Kern.A2 m c) (Kern.A3 m c), fun c => mean (Kern.A1 m c) (Kern.A2 m c), fun c => square (Kern.A1 m c) (Kern.A3 m c), ?_, ?_⟩
  · refine (θ_run _ _ _).mono (fun r h c => ?_) (θ_run_and (Cert.Kernel25Ideal.Gen.unchanged m g) (Cert.Kernel25Ideal.Gen.run_main m g))
    exact ⟨((h.2 c).1 4).trans (Kern.final_update m c), ((h.2 c).1 5).trans (Kern.final_mean m c), ((h.2 c).1 6).trans (Kern.final_square m c), h.1 c⟩
  · refine (θ_run _ _ _).mono (fun r h c => ?_) (Cert.Reference25Ideal.Value.run m' g')
    obtain ⟨e0, e1, e2, e3⟩ := hagree c
    have h0 : m' ((c.tc : Thread Cert.Reference25Ideal.nD Cert.Reference25Ideal.τ).loc Cert.Reference25Ideal.main_arg0) = Kern.A0 m c := e0
    have h1 : m' ((c.tc : Thread Cert.Reference25Ideal.nD Cert.Reference25Ideal.τ).loc Cert.Reference25Ideal.main_arg1) = Kern.A1 m c := e1
    have h2 : m' ((c.tc : Thread Cert.Reference25Ideal.nD Cert.Reference25Ideal.τ).loc Cert.Reference25Ideal.main_arg2) = Kern.A2 m c := e2
    have h3 : m' ((c.tc : Thread Cert.Reference25Ideal.nD Cert.Reference25Ideal.τ).loc Cert.Reference25Ideal.main_arg3) = Kern.A3 m c := e3
    exact ⟨(h c).1.trans ((Cert.Reference25Ideal.Read.val_main_v23_eq ..).trans ((Ref.value_update ..).trans (by rw [h0, h1, h2, h3]))),
      (h c).2.1.trans ((Cert.Reference25Ideal.Read.val_main_v4_eq ..).trans ((Ref.value_mean ..).trans (by rw [h1, h2]))),
      (h c).2.2.1.trans ((Cert.Reference25Ideal.Read.val_main_v10_eq ..).trans ((Ref.value_square ..).trans (by rw [h1, h3]))), (h c).2.2.2⟩

end Cert.AdamSmall

end
-- ==== Proof.SumRows.lean ====
/- The sum of the chips' packed small gradients and losses: the kernel's is the reference's. -/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.Claim

@[expose] public section

set_option maxRecDepth 16384

noncomputable section

namespace Cert.SumRows

open Idealize.ShloMosaic Idealize.ShloMosaic.TcCoe Idealize.SL.Sem
open Idealize.ShloMosaic.Pipeline (Dat)

/-- At each place, the sum of what the four chips hold there. -/
def total (a0 : FVec Ideal ⟨3, ![4, 5120, 128]⟩ .f32) : FVec Ideal ⟨2, ![5120, 128]⟩ .f32 := fun y => ∑ k : Fin 4, a0 (ix3 k (y 0) (y 1))

namespace Kern

open Cert.Kernel26Ideal Cert.Kernel26Ideal.Gen

variable (m : (ℓ : Loc nD τ sig) → Buf (Elt Ideal) ℓ)

/-- Point `t` reads the `t`-th block of rows of every chip, and writes the `t`-th block. -/
theorem idx : ∀ t : Fin cfg0.N, win0_0.index t = ![0, t.val, 0] ∧ win0_1.index t = ![t.val, 0] :=
  (by decide +kernel : ∀ t : Fin grid0.N, _)

theorem idx0 (t : Fin cfg0.N) : win0_0.index t = ![0, t.val, 0] := (idx t).1
theorem idx1 (t : Fin cfg0.N) : win0_1.index t = ![t.val, 0] := (idx t).2

/-- The array's row that row `i` of block `t` is. -/
def row (t : Fin cfg0.N) (i : Fin 512) : Fin 5120 := ⟨512 * t.val + i.val, by have : t.val < 10 := lt_of_lt_of_eq t.isLt N_0; omega⟩

variable (c : Dev nD) (t : Fin cfg0.N)

abbrev A0 : FVec Ideal ⟨3, ![4, 5120, 128]⟩ .f32 := m ((c : Thread nD τ).loc main_arg0)

theorem in0 (k : Fin 4) (i : Fin 512) (l : Fin 128) : iblk m c 0 t (ix3 k i l) = A0 m c (ix3 k (row t i) l) := by
  unfold row; blk_point [iblk, V, idx0 t]

theorem final_total : (dats m 0 c).arrAt 1 (cfgs 0).N = total (A0 m c) := by
  refine (dats m 0 c).arrAt_eq_of_covers 1 _ (by decide +kernel) fun t _ y => ?_
  blk_simp
  rw [after0_1]
  dsimp only [outsAt0]
  have e : ∀ (i : Fin 512) (j : Fin 128), (win0_1.blk t).view.emb (ix2 i j) = ix2 (row t i) j := fun i j => by
    unfold row; blk_ext [idx1 t]
  frame_out
  idx_vars y
  rw [e y0 y1]
  simp only [total, Fin.sum_univ_four]
  pointwise [k0_pay1, in0]

end Kern

namespace Ref

open Cert.Reference26Ideal Cert.Reference26Ideal.Read

variable (a0 : FVec Ideal ⟨3, ![4, 5120, 128]⟩ .f32)

theorem value_total : val_main_v0 (F := Ideal) a0 = total a0 := by
  funext y
  idx_vars y
  pointwise [val_main_v0, val_main_cst]
  rfl

end Ref

/-- The reference alone: it keeps its arguments, and has no semaphore. -/
theorem ref_frame : Cert.quiescent_Reference26Ideal := fun m g _ =>
  (θ_run _ _ _).mono (fun r h => ⟨fun c => (h c).2, sem_eq_zero_of_no_sems (by decide) r.2⟩) (Cert.Reference26Ideal.Value.run m g)

/-- From the same arguments both end with the same array. -/
theorem algebraic : Cert.algebraic_Kernel26Ideal_Reference26Ideal := by
  intro m g m' g' _ hagree
  refine ⟨fun c => total (Kern.A0 m c), ?_, ?_⟩
  · refine (θ_run _ _ _).mono (fun r h c => ?_) (θ_run_and (Cert.Kernel26Ideal.Gen.unchanged m g) (Cert.Kernel26Ideal.Gen.run_main m g))
    exact ⟨((h.2 c).1 1).trans (Kern.final_total m c), h.1 c⟩
  · refine (θ_run _ _ _).mono (fun r h c => ?_) (Cert.Reference26Ideal.Value.run m' g')
    obtain ⟨e0, e1⟩ := hagree c
    have h0 : m' ((c.tc : Thread Cert.Reference26Ideal.nD Cert.Reference26Ideal.τ).loc Cert.Reference26Ideal.main_arg0) = Kern.A0 m c := e0
    exact ⟨(h c).1.trans ((Cert.Reference26Ideal.Read.val_main_v0_eq ..).trans ((Ref.value_total ..).trans (by rw [h0]))), (h c).2⟩

end Cert.SumRows

end
-- ==== Proof.AttnFwd.lean ====
/- The attention over the memory, forward, with its norm: the kernel's is the reference's. -/
module

public import proofs.«01_k».proof.Defs
public import proofs.«01_k».proof.Proof.AttnSpec
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit
public import Idealize.ShloMosaic.Lib.Claim

@[expose] public section

set_option maxRecDepth 16384

noncomputable section

namespace Cert.AttnFwd

open Idealize.ShloMosaic Idealize.ShloMosaic.TcCoe Idealize.SL.Sem
open Idealize.ShloMosaic.Pipeline (Dat)
open scoped BigOperators
open Attn

/-- The arrays the call reads: the block's input, the weight of the normalisation, the queries' and the result's weights of every
    layer, and the keys beside the values. -/
structure Args where
  x : FVec Ideal ⟨2, ![4096, 1024]⟩ .f32
  w : FVec Ideal ⟨2, ![1, 1024]⟩ .f32
  wq : FVec Ideal ⟨3, ![4, 1024, 1024]⟩ .bf16
  kv : FVec Ideal ⟨2, ![256, 2048]⟩ .bf16
  wo : FVec Ideal ⟨3, ![4, 1024, 1024]⟩ .bf16

/-- The head of a column, and the column in its head. -/
def hd (j : Fin 1024) : Fin 4 := ⟨j.val / 256, by omega⟩
def at' (j : Fin 1024) : Fin 256 := ⟨j.val % 256, by omega⟩

namespace Args

variable (a : Args) (r : Fin 4096)

def X (d : Fin 1024) : EReal := a.x (ix2 r d)
def W (d : Fin 1024) : EReal := a.w (ix2 0 d)
def Wq (d j : Fin 1024) : EReal := a.wq (ix3 0 d j)
def Wo (j d : Fin 1024) : EReal := a.wo (ix3 0 j d)
def K (n : Fin 256) (j : Fin 1024) : EReal := a.kv (ix2 n ⟨j.val, by omega⟩)
def V (n : Fin 256) (j : Fin 1024) : EReal := a.kv (ix2 n ⟨1024 + j.val, by omega⟩)

/-- A row's query, a head's logits, and its result. -/
def Q (j : Fin 1024) : EReal := query (a.X r) a.W a.Wq j
def L (h : Fin 4) (n : Fin 256) : EReal := logit (a.Q r) a.K h n
def O (h : Fin 4) (j : Fin 256) : EReal := ∑ n, prob (a.L r h) n * a.V n (col h j)

/-- The block's output. -/
def out : FVec Ideal ⟨2, ![4096, 1024]⟩ .f32 := fun y => a.X (y 0) (y 1) + ∑ j, a.O (y 0) (hd j) (at' j) * a.Wo j (y 1)

end Args

namespace Kern

open Cert.Kernel27Ideal Cert.Kernel27Ideal.Gen

variable (m : (ℓ : Loc nD τ sig) → Buf (Elt Ideal) ℓ)

/-- Which block of its array each window holds at a point. -/
theorem idx : ∀ t : Fin cfg0.N, win0_0.index t = ![t.val, 0] ∧ win0_1.index t = ![0, 0] ∧ win0_2.index t = ![0, 0, 0] ∧ win0_3.index t = ![0, 0] ∧ win0_4.index t = ![0, 1] ∧
    win0_5.index t = ![0, 0, 0] ∧ win0_6.index t = ![t.val, 0] :=
  (by decide +kernel : ∀ t : Fin grid0.N, _)

theorem idx0 (t : Fin cfg0.N) : win0_0.index t = ![t.val, 0] := (idx t).1
theorem idx1 (t : Fin cfg0.N) : win0_1.index t = ![0, 0] := (idx t).2.1
theorem idx2 (t : Fin cfg0.N) : win0_2.index t = ![0, 0, 0] := (idx t).2.2.1
theorem idx3 (t : Fin cfg0.N) : win0_3.index t = ![0, 0] := (idx t).2.2.2.1
theorem idx4 (t : Fin cfg0.N) : win0_4.index t = ![0, 1] := (idx t).2.2.2.2.1
theorem idx5 (t : Fin cfg0.N) : win0_5.index t = ![0, 0, 0] := (idx t).2.2.2.2.2.1
theorem idx6 (t : Fin cfg0.N) : win0_6.index t = ![t.val, 0] := (idx t).2.2.2.2.2.2

/-- The array's row that row `i` of block `t` is. -/
def row (t : Fin cfg0.N) (i : Fin 256) : Fin 4096 := ⟨256 * t.val + i.val, by have : t.val < 16 := lt_of_lt_of_eq t.isLt N_0; omega⟩

variable (c : Dev nD) (t : Fin cfg0.N)

/-- The arrays the call reads, of one device. -/
def args : Args where
  x := m ((c : Thread nD τ).loc main_arg0)
  w := m ((c : Thread nD τ).loc main_arg1)
  wq := m ((c : Thread nD τ).loc main_arg2)
  kv := m ((c : Thread nD τ).loc main_arg3)
  wo := m ((c : Thread nD τ).loc main_arg4)

theorem in0 (i : Fin 256) (l : Fin 1024) : iblk m c 0 t (ix2 i l) = (args m c).X (row t i) l := by
  unfold row args Args.X; blk_point [iblk, Gen.V, idx0 t]

theorem in1 (l : Fin 1024) : iblk m c 1 t (ix2 0 l) = (args m c).W l := by
  unfold args Args.W; blk_point [iblk, Gen.V, idx1 t]

theorem in2 (d j : Fin 1024) : iblk m c 2 t (ix3 0 d j) = (args m c).Wq d j := by
  unfold args Args.Wq; blk_point [iblk, Gen.V, idx2 t]

theorem in3 (n : Fin 256) (j : Fin 1024) : iblk m c 3 t (ix2 n j) = (args m c).K n j := by
  unfold args Args.K; blk_point [iblk, Gen.V, idx3 t]

theorem in4 (n : Fin 256) (j : Fin 1024) : iblk m c 4 t (ix2 n j) = (args m c).V n j := by
  unfold args Args.V; blk_point [iblk, Gen.V, idx4 t]

theorem in5 (j d : Fin 1024) : iblk m c 5 t (ix3 0 j d) = (args m c).Wo j d := by
  unfold args Args.Wo; blk_point [iblk, Gen.V, idx5 t]

theorem qry (i : Fin 256) (j : Fin 1024) : k0_pay2 (iblk m c 0 t) (iblk m c 1 t) (iblk m c 2 t) (ix2 i j) = (args m c).Q (row t i) j := by
  pointwise [k0_pay2, in0, in1, in2]
  rfl

/-- The probabilities of the heads, from a head's keys; the first head's are multiplied with its values at once. -/
theorem res0 (kk vv : Vec Ideal S256x256 .bf16) (hk : ∀ n j, kk (ix2 n j) = (args m c).K n (col 0 j)) (hv : ∀ n j, vv (ix2 n j) = (args m c).V n (col 0 j)) (i j : Fin 256) :
    k0_pay9 (k0_pay3 (iblk m c 0 t) (iblk m c 1 t) (iblk m c 2 t) kk) vv (ix2 i j) = (args m c).O (row t i) 0 j := by
  pointwise [k0_pay9, k0_pay3, qry, hk, hv]
  simp only [col0]
  rfl

theorem prob1 (kk : Vec Ideal S256x256 .bf16) (hk : ∀ n j, kk (ix2 n j) = (args m c).K n (col 1 j)) (i n : Fin 256) :
    k0_pay6 (k0_pay4 (iblk m c 0 t) (iblk m c 1 t) (iblk m c 2 t) kk) (k0_pay5 (F := Ideal)) (ix2 i n) = prob ((args m c).L (row t i) 1) n := by
  pointwise [k0_pay6, k0_pay4, k0_pay5, qry, hk]
  simp only [col1]
  rfl

theorem prob2 (kk : Vec Ideal S256x256 .bf16) (hk : ∀ n j, kk (ix2 n j) = (args m c).K n (col 2 j)) (i n : Fin 256) :
    k0_pay7 (k0_pay2 (iblk m c 0 t) (iblk m c 1 t) (iblk m c 2 t)) kk (ix2 i n) = prob ((args m c).L (row t i) 2) n := by
  pointwise [k0_pay7, qry, hk]
  simp only [col2]
  rfl

theorem prob3 (kk : Vec Ideal S256x256 .bf16) (hk : ∀ n j, kk (ix2 n j) = (args m c).K n (col 3 j)) (i n : Fin 256) :
    k0_pay8 (k0_pay2 (iblk m c 0 t) (iblk m c 1 t) (iblk m c 2 t)) kk (ix2 i n) = prob ((args m c).L (row t i) 3) n := by
  pointwise [k0_pay8, qry, hk]
  simp only [col3]
  rfl

/-- The tiles of the keys and of the values that a head reads. -/
theorem k0 (n j : Fin 256) : View.ld (iblk m c 3 t) r0_3 (ix2 n j) = (args m c).K n (col 0 j) := by
  unfold r0_3
  pointwise [in3]
  simp only [col0]

theorem k1 (n j : Fin 256) : View.ld (iblk m c 3 t) r0_4 (ix2 n j) = (args m c).K n (col 1 j) := by
  unfold r0_4
  pointwise [in3]
  simp only [col1]

theorem k2 (n j : Fin 256) : View.ld (iblk m c 3 t) r0_5 (ix2 n j) = (args m c).K n (col 2 j) := by
  unfold r0_5
  pointwise [in3]
  simp only [col2]

theorem k3 (n j : Fin 256) : View.ld (iblk m c 3 t) r0_6 (ix2 n j) = (args m c).K n (col 3 j) := by
  unfold r0_6
  pointwise [in3]
  simp only [col3]

theorem v0 (n j : Fin 256) : View.ld (iblk m c 4 t) r0_3 (ix2 n j) = (args m c).V n (col 0 j) := by
  unfold r0_3
  pointwise [in4]
  simp only [col0]

theorem v1 (n j : Fin 256) : View.ld (iblk m c 4 t) r0_4 (ix2 n j) = (args m c).V n (col 1 j) := by
  unfold r0_4
  pointwise [in4]
  simp only [col1]

theorem v2 (n j : Fin 256) : View.ld (iblk m c 4 t) r0_5 (ix2 n j) = (args m c).V n (col 2 j) := by
  unfold r0_5
  pointwise [in4]
  simp only [col2]

theorem v3 (n j : Fin 256) : View.ld (iblk m c 4 t) r0_6 (ix2 n j) = (args m c).V n (col 3 j) := by
  unfold r0_6
  pointwise [in4]
  simp only [col3]

/-- What a point stores, from the first head's result and the other heads' probabilities and values. -/
theorem block (o0 p1 p2 p3 : FVec Ideal S256x256 .f32) (w1 w2 w3 : Vec Ideal S256x256 .bf16) (h0 : ∀ i j, o0 (ix2 i j) = (args m c).O (row t i) 0 j)
    (h1 : ∀ i n, p1 (ix2 i n) = prob ((args m c).L (row t i) 1) n) (h2 : ∀ i n, p2 (ix2 i n) = prob ((args m c).L (row t i) 2) n)
    (h3 : ∀ i n, p3 (ix2 i n) = prob ((args m c).L (row t i) 3) n) (e1 : ∀ n j, w1 (ix2 n j) = (args m c).V n (col 1 j)) (e2 : ∀ n j, w2 (ix2 n j) = (args m c).V n (col 2 j))
    (e3 : ∀ n j, w3 (ix2 n j) = (args m c).V n (col 3 j)) (i : Fin 256) (d : Fin 1024) :
    k0_pay1 (iblk m c 0 t) p1 p2 p3 o0 w1 w2 w3 (iblk m c 5 t) (ix2 i d) = (args m c).out (ix2 (row t i) d) := by
  pointwise [k0_pay1, h0, h1, h2, h3, e1, e2, e3, in0, in5]
  refine congrArg ((args m c).X (row t i) d + ·) (Finset.sum_congr rfl fun j _ => congrArg (· * (args m c).Wo j d) ?_)
  have e : ∀ h k, h = hd j → k = at' j → (args m c).O (row t i) h k = (args m c).O (row t i) (hd j) (at' j) := by rintro _ _ rfl rfl; rfl
  by_cases h0 : j.val < 256
  · rw [dif_pos h0]
    exact e _ _ (Fin.ext (by show 0 = j.val / 256; omega)) (Fin.ext (by show j.val = j.val % 256; omega))
  rw [dif_neg h0]
  by_cases h1 : j.val - 256 < 256
  · rw [dif_pos h1]
    exact e _ _ (Fin.ext (by show 1 = j.val / 256; omega)) (Fin.ext (by show j.val - 256 = j.val % 256; omega))
  rw [dif_neg h1]
  by_cases h2 : j.val - 256 - 256 < 256
  · rw [dif_pos h2]
    exact e _ _ (Fin.ext (by show 2 = j.val / 256; omega)) (Fin.ext (by show j.val - 256 - 256 = j.val % 256; omega))
  rw [dif_neg h2]
  exact e _ _ (Fin.ext (by show 3 = j.val / 256; omega)) (Fin.ext (by show j.val - 256 - 256 - 256 = j.val % 256; omega))

/-- The query under its second name. -/
theorem again : k0_pay10 (iblk m c 0 t) (iblk m c 1 t) (iblk m c 2 t) (iblk m c 3 t) (iblk m c 4 t) (iblk m c 5 t) = k0_pay2 (iblk m c 0 t) (iblk m c 1 t) (iblk m c 2 t) := by
  unfold k0_pay10; frame_out

theorem stored (i : Fin 256) (d : Fin 1024) :
    out0_6 (iblk m c 0 t) (iblk m c 1 t) (iblk m c 2 t) (iblk m c 3 t) (iblk m c 4 t) (iblk m c 5 t) (ix2 i d) = (args m c).out (ix2 (row t i) d) := by
  frame_out
  rw [again]
  refine block m c t _ _ _ _ _ _ _ (fun i j => ?_) (fun i j => ?_) (fun i j => ?_) (fun i j => ?_) (v1 m c t) (v2 m c t) (v3 m c t) i d
  · exact res0 m c t _ _ (k0 m c t) (v0 m c t) i j
  · exact prob1 m c t _ (k1 m c t) i j
  · exact prob2 m c t _ (k2 m c t) i j
  · exact prob3 m c t _ (k3 m c t) i j

theorem final : (dats m 0 c).arrAt 6 (cfgs 0).N = (args m c).out := by
  refine (dats m 0 c).arrAt_eq_of_covers 6 _ (by decide +kernel) fun t _ y => ?_
  blk_simp
  rw [after0_6]
  have e : ∀ (i : Fin 256) (j : Fin 1024), (win0_6.blk t).view.emb (ix2 i j) = ix2 (row t i) j := fun i j => by
    unfold row; blk_ext [idx6 t]
  idx_vars y
  rw [e y0 y1]
  exact stored m c t y0 y1

end Kern

namespace Ref

open Cert.Reference27Ideal Cert.Reference27Ideal.Read

variable (a : Args)

theorem max_least (t : EReal) : max (Ideal.ofBits FTy.f32 4286578688#32) t = t := by
  rw [least_eq]
  exact max_eq_right bot_le

theorem qry (i : Fin 4096) (j : Fin 1024) : val_main_v15 (F := Ideal) a.x a.w a.wq (ix2 i j) = a.Q i j := by
  pointwise [val_main_v15, val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- A head's columns, of the queries, the keys and the values. -/
theorem colOf (h : Fin 4) (j : Fin 256) (hj : h.val * 256 + j.val < 1024) : (⟨h.val * 256 + j.val, hj⟩ : Fin 1024) = col h j :=
  Fin.ext (by show h.val * 256 + j.val = 256 * h.val + j.val; omega)

theorem qryh (i : Fin 4096) (h : Fin 4) (j : Fin 256) : val_main_v16 (F := Ideal) a.x a.w a.wq (ix3 i h j) = a.Q i (col h j) := by
  pointwise [val_main_v16, qry]
  rw [colOf]

theorem keyh (n : Fin 256) (h : Fin 4) (j : Fin 256) : val_main_v19 (F := Ideal) a.kv (ix3 n h j) = a.K n (col h j) := by
  pointwise [val_main_v19, val_main_v18, val_main_v17]
  exact congrArg (fun d => a.kv (ix2 n d)) (Fin.ext (by show h.val * 256 + j.val = 256 * h.val + j.val; omega))

theorem valh (n : Fin 256) (h : Fin 4) (j : Fin 256) : val_main_v22 (F := Ideal) a.kv (ix3 n h j) = a.V n (col h j) := by
  pointwise [val_main_v22, val_main_v21, val_main_v20]
  exact congrArg (fun d => a.kv (ix2 n d)) (Fin.ext (by show 1024 + (h.val * 256 + j.val) = 1024 + (256 * h.val + j.val); omega))

theorem logit (h : Fin 4) (i : Fin 4096) (n : Fin 256) : val_main_v25 (F := Ideal) a.x a.w a.wq a.kv (ix3 h i n) = a.L i h n := by
  pointwise [val_main_v25, val_main_v24, val_main_v23, val_main_cst_2, qryh, keyh]
  rfl

/-- The maximum over the last axis of three, from any start. -/
theorem greatest_of (v : FVec Ideal S4x4096x256 .f32) (s : FVec Ideal S_ .f32) (e : S4x4096x256.ReducesTo [2] S4x4096) (u : 0 < S_.numel) (p : Fin 4) (i : Fin 4096) :
    Host.reduce FloatOps.maximumf v s e u (ix2 p i) = Finset.univ.fold max (s (Shape.Idx.first u)) fun n : Fin 256 => v (ix3 p i n) := by
  simp only [pointwise]

/-- The greatest logit. -/
theorem greatestOnce (h : Fin 4) (i : Fin 4096) : val_main_v26 (F := Ideal) a.x a.w a.wq a.kv (ix2 h i) = top (a.L i h) := by
  unfold val_main_v26
  rw [greatest_of, val_main_cst_3_apply]
  simp only [logit]
  rfl

/-- Nothing is below the start, so the second comparison with it changes nothing. -/
theorem greatest (h : Fin 4) (i : Fin 4096) : val_main_v28 (F := Ideal) a.x a.w a.wq a.kv (ix2 h i) = top (a.L i h) := by
  rw [val_main_v28_apply, val_main_v27_apply, val_main_cst_4_apply, greatestOnce]
  exact max_least _

theorem expd (h : Fin 4) (i : Fin 4096) (n : Fin 256) : val_main_v32 (F := Ideal) a.x a.w a.wq a.kv (ix3 h i n) = ex (a.L i h) n := by
  pointwise [val_main_v32, val_main_v31, val_main_v30, val_main_v29, logit, greatest]
  rfl

theorem summed (h : Fin 4) (i : Fin 4096) : val_main_v33 (F := Ideal) a.x a.w a.wq a.kv (ix2 h i) = total (a.L i h) := by
  pointwise [val_main_v33, val_main_cst_5, expd]
  rfl

theorem prb (h : Fin 4) (i : Fin 4096) (n : Fin 256) : val_main_v36 (F := Ideal) a.x a.w a.wq a.kv (ix3 h i n) = prob (a.L i h) n := by
  pointwise [val_main_v36, val_main_v35, val_main_v34, expd, summed]
  rfl

theorem result (i : Fin 4096) (j : Fin 1024) : val_main_v39 (F := Ideal) a.x a.w a.wq a.kv (ix2 i j) = a.O i (hd j) (at' j) := by
  pointwise [val_main_v39, val_main_v38, val_main_v37, valh, prb]
  exact Finset.sum_congr rfl fun n _ => mul_comm _ _

theorem value : val_main_v44 (F := Ideal) a.x a.w a.wq a.kv a.wo = a.out := by
  funext y
  idx_vars y
  pointwise [val_main_v44, val_main_v43, val_main_v42, val_main_v41, val_main_v40, result]
  rfl

end Ref

/-- The reference alone: it keeps its arguments, and has no semaphore. -/
theorem ref_frame : Cert.quiescent_Reference27Ideal := fun m g _ =>
  (θ_run _ _ _).mono (fun r h => ⟨fun c => (h c).2, sem_eq_zero_of_no_sems (by decide) r.2⟩) (Cert.Reference27Ideal.Value.run m g)

/-- From the same arguments both end with the same array. -/
theorem algebraic : Cert.algebraic_Kernel27Ideal_Reference27Ideal := by
  intro m g m' g' _ hagree
  refine ⟨fun c => (Kern.args m c).out, ?_, ?_⟩
  · refine (θ_run _ _ _).mono (fun r h c => ?_) (θ_run_and (Cert.Kernel27Ideal.Gen.unchanged m g) (Cert.Kernel27Ideal.Gen.run_main m g))
    exact ⟨((h.2 c).1 6).trans (Kern.final m c), h.1 c⟩
  · refine (θ_run _ _ _).mono (fun r h c => ?_) (Cert.Reference27Ideal.Value.run m' g')
    obtain ⟨e0, e1, e2, e3, e4⟩ := hagree c
    refine ⟨(h c).1.trans ((Cert.Reference27Ideal.Read.val_main_v44_eq ..).trans ?_), (h c).2⟩
    rw [e0, e1, e2, e3, e4]
    exact Ref.value (Kern.args m c)

end Cert.AttnFwd

end
-- ==== Proof.NormMix.lean ====
/- The mixers' normalisation: the kernel's is the reference's. -/
module

public import proofs.«01_k».proof.Defs
public import proofs.«01_k».proof.Proof.NormSpec
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pipeline.ValueKit
public import Idealize.ShloMosaic.Lib.Claim

@[expose] public section

set_option maxRecDepth 16384

noncomputable section

namespace Cert.NormMix

open Idealize.ShloMosaic Idealize.ShloMosaic.TcCoe Idealize.SL.Sem
open Idealize.ShloMosaic.Pipeline (Dat)
open scoped BigOperators

/-- The normalised rows, from the rows and the weight. -/
def normed (x : FVec Ideal ⟨2, ![4096, 1024]⟩ .f32) (w : FVec Ideal ⟨2, ![1, 1024]⟩ .f32) : FVec Ideal ⟨2, ![4096, 1024]⟩ .bf16 := fun y =>
  x (ix2 (y 0) (y 1)) * Norm.inv (fun e => x (ix2 (y 0) e)) * w (ix2 0 (y 1))

namespace Kern

open Cert.Kernel28Ideal Cert.Kernel28Ideal.Gen

variable (m : (ℓ : Loc nD τ sig) → Buf (Elt Ideal) ℓ)

/-- Which block of its array each window holds at a point. -/
theorem idx : ∀ t : Fin cfg0.N, win0_0.index t = ![t.val, 0] ∧ win0_1.index t = ![0, 0] ∧ win0_2.index t = ![t.val, 0] :=
  (by decide +kernel : ∀ t : Fin grid0.N, _)

theorem idx0 (t : Fin cfg0.N) : win0_0.index t = ![t.val, 0] := (idx t).1
theorem idx1 (t : Fin cfg0.N) : win0_1.index t = ![0, 0] := (idx t).2.1
theorem idx2 (t : Fin cfg0.N) : win0_2.index t = ![t.val, 0] := (idx t).2.2

/-- The array's row that row `i` of block `t` is. -/
def row (t : Fin cfg0.N) (i : Fin 512) : Fin 4096 := ⟨512 * t.val + i.val, by have : t.val < 8 := lt_of_lt_of_eq t.isLt N_0; omega⟩

variable (c : Dev nD) (t : Fin cfg0.N)

abbrev X : FVec Ideal ⟨2, ![4096, 1024]⟩ .f32 := m ((c : Thread nD τ).loc main_arg0)
abbrev W : FVec Ideal ⟨2, ![1, 1024]⟩ .f32 := m ((c : Thread nD τ).loc main_arg1)

theorem in0 (i : Fin 512) (l : Fin 1024) : iblk m c 0 t (ix2 i l) = X m c (ix2 (row t i) l) := by
  unfold row; blk_point [iblk, V, idx0 t]

theorem in1 (l : Fin 1024) : iblk m c 1 t (ix2 0 l) = W m c (ix2 0 l) := by
  blk_point [iblk, V, idx1 t]

/-- What a point stores. -/
theorem block (i : Fin 512) (j : Fin 1024) : k0_pay1 (iblk m c 0 t) (iblk m c 1 t) (ix2 i j) = normed (X m c) (W m c) (ix2 (row t i) j) := by
  pointwise [k0_pay1, in0, in1]
  rfl

theorem final : (dats m 0 c).arrAt 2 (cfgs 0).N = normed (X m c) (W m c) := by
  refine (dats m 0 c).arrAt_eq_of_covers 2 _ (by decide +kernel) fun t _ y => ?_
  blk_simp
  rw [after0_2]
  have e : ∀ (i : Fin 512) (j : Fin 1024), (win0_2.blk t).view.emb (ix2 i j) = ix2 (row t i) j := fun i j => by
    unfold row; blk_ext [idx2 t]
  frame_out
  idx_vars y
  rw [e y0 y1]
  exact block m c t y0 y1

end Kern

namespace Ref

open Cert.Reference28Ideal Cert.Reference28Ideal.Read

theorem value (x : FVec Ideal ⟨2, ![4096, 1024]⟩ .f32) (w : FVec Ideal ⟨2, ![1, 1024]⟩ .f32) : val_main_v12 (F := Ideal) x w = normed x w := by
  funext y
  idx_vars y
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]
  rfl

end Ref

/-- The reference alone: it keeps its arguments, and has no semaphore. -/
theorem ref_frame : Cert.quiescent_Reference28Ideal := fun m g _ =>
  (θ_run _ _ _).mono (fun r h => ⟨fun c => (h c).2, sem_eq_zero_of_no_sems (by decide) r.2⟩) (Cert.Reference28Ideal.Value.run m g)

/-- From the same arguments both end with the same array. -/
theorem algebraic : Cert.algebraic_Kernel28Ideal_Reference28Ideal := by
  intro m g m' g' _ hagree
  refine ⟨fun c => normed (Kern.X m c) (Kern.W m c), ?_, ?_⟩
  · refine (θ_run _ _ _).mono (fun r h c => ?_) (θ_run_and (Cert.Kernel28Ideal.Gen.unchanged m g) (Cert.Kernel28Ideal.Gen.run_main m g))
    exact ⟨((h.2 c).1 2).trans (Kern.final m c), h.1 c⟩
  · refine (θ_run _ _ _).mono (fun r h c => ?_) (Cert.Reference28Ideal.Value.run m' g')
    obtain ⟨e0, e1⟩ := hagree c
    refine ⟨(h c).1.trans ((Cert.Reference28Ideal.Read.val_main_v12_eq ..).trans ((Ref.value _ _).trans ?_)), (h c).2⟩
    beta_reduce
    unfold Kern.X Kern.W
    rw [← e0, ← e1]

end Cert.NormMix

end
-- ==== Proof.NormMem.lean ====
/- The normalisation of the memory: the kernel's is the reference's. -/
module

public import proofs.«01_k».proof.Defs
public import proofs.«01_k».proof.Proof.NormSpec
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pipeline.ValueKit
public import Idealize.ShloMosaic.Lib.Claim

@[expose] public section

set_option maxRecDepth 16384

noncomputable section

namespace Cert.NormMem

open Idealize.ShloMosaic Idealize.ShloMosaic.TcCoe Idealize.SL.Sem
open Idealize.ShloMosaic.Pipeline (Dat)
open scoped BigOperators

/-- The normalised rows, from the rows and the weight. -/
def normed (x : FVec Ideal ⟨2, ![256, 1024]⟩ .f32) (w : FVec Ideal ⟨2, ![1, 1024]⟩ .f32) : FVec Ideal ⟨2, ![256, 1024]⟩ .bf16 := fun y =>
  x (ix2 (y 0) (y 1)) * Norm.inv (fun e => x (ix2 (y 0) e)) * w (ix2 0 (y 1))

namespace Kern

open Cert.Kernel29Ideal Cert.Kernel29Ideal.Gen

variable (m : (ℓ : Loc nD τ sig) → Buf (Elt Ideal) ℓ)

/-- Which block of its array each window holds at a point. -/
theorem idx : ∀ t : Fin cfg0.N, win0_0.index t = ![t.val, 0] ∧ win0_1.index t = ![0, 0] ∧ win0_2.index t = ![t.val, 0] :=
  (by decide +kernel : ∀ t : Fin grid0.N, _)

theorem idx0 (t : Fin cfg0.N) : win0_0.index t = ![t.val, 0] := (idx t).1
theorem idx1 (t : Fin cfg0.N) : win0_1.index t = ![0, 0] := (idx t).2.1
theorem idx2 (t : Fin cfg0.N) : win0_2.index t = ![t.val, 0] := (idx t).2.2

/-- The array's row that row `i` of block `t` is. -/
def row (t : Fin cfg0.N) (i : Fin 256) : Fin 256 := ⟨256 * t.val + i.val, by have : t.val < 1 := lt_of_lt_of_eq t.isLt N_0; omega⟩

variable (c : Dev nD) (t : Fin cfg0.N)

abbrev X : FVec Ideal ⟨2, ![256, 1024]⟩ .f32 := m ((c : Thread nD τ).loc main_arg0)
abbrev W : FVec Ideal ⟨2, ![1, 1024]⟩ .f32 := m ((c : Thread nD τ).loc main_arg1)

theorem in0 (i : Fin 256) (l : Fin 1024) : iblk m c 0 t (ix2 i l) = X m c (ix2 (row t i) l) := by
  unfold row; blk_point [iblk, V, idx0 t]

theorem in1 (l : Fin 1024) : iblk m c 1 t (ix2 0 l) = W m c (ix2 0 l) := by
  blk_point [iblk, V, idx1 t]

/-- What a point stores. -/
theorem block (i : Fin 256) (j : Fin 1024) : k0_pay1 (iblk m c 0 t) (iblk m c 1 t) (ix2 i j) = normed (X m c) (W m c) (ix2 (row t i) j) := by
  pointwise [k0_pay1, in0, in1]
  rfl

theorem final : (dats m 0 c).arrAt 2 (cfgs 0).N = normed (X m c) (W m c) := by
  refine (dats m 0 c).arrAt_eq_of_covers 2 _ (by decide +kernel) fun t _ y => ?_
  blk_simp
  rw [after0_2]
  have e : ∀ (i : Fin 256) (j : Fin 1024), (win0_2.blk t).view.emb (ix2 i j) = ix2 (row t i) j := fun i j => by
    unfold row; blk_ext [idx2 t]
  frame_out
  idx_vars y
  rw [e y0 y1]
  exact block m c t y0 y1

end Kern

namespace Ref

open Cert.Reference29Ideal Cert.Reference29Ideal.Read

theorem value (x : FVec Ideal ⟨2, ![256, 1024]⟩ .f32) (w : FVec Ideal ⟨2, ![1, 1024]⟩ .f32) : val_main_v12 (F := Ideal) x w = normed x w := by
  funext y
  idx_vars y
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]
  rfl

end Ref

/-- The reference alone: it keeps its arguments, and has no semaphore. -/
theorem ref_frame : Cert.quiescent_Reference29Ideal := fun m g _ =>
  (θ_run _ _ _).mono (fun r h => ⟨fun c => (h c).2, sem_eq_zero_of_no_sems (by decide) r.2⟩) (Cert.Reference29Ideal.Value.run m g)

/-- From the same arguments both end with the same array. -/
theorem algebraic : Cert.algebraic_Kernel29Ideal_Reference29Ideal := by
  intro m g m' g' _ hagree
  refine ⟨fun c => normed (Kern.X m c) (Kern.W m c), ?_, ?_⟩
  · refine (θ_run _ _ _).mono (fun r h c => ?_) (θ_run_and (Cert.Kernel29Ideal.Gen.unchanged m g) (Cert.Kernel29Ideal.Gen.run_main m g))
    exact ⟨((h.2 c).1 2).trans (Kern.final m c), h.1 c⟩
  · refine (θ_run _ _ _).mono (fun r h c => ?_) (Cert.Reference29Ideal.Value.run m' g')
    obtain ⟨e0, e1⟩ := hagree c
    refine ⟨(h c).1.trans ((Cert.Reference29Ideal.Read.val_main_v12_eq ..).trans ((Ref.value _ _).trans ?_)), (h c).2⟩
    beta_reduce
    unfold Kern.X Kern.W
    rw [← e0, ← e1]

end Cert.NormMem

end
-- ==== Proof.KvProj.lean ====
/- The attention's keys and values, from the normalised memory: the kernel's are the reference's. -/
module

public import proofs.«01_k».proof.Defs
public import proofs.«01_k».proof.Proof.ProductSpec
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pipeline.ValueKit
public import Idealize.ShloMosaic.Lib.Claim

@[expose] public section

set_option maxRecDepth 16384

noncomputable section

namespace Cert.KvProj

open Idealize.ShloMosaic Idealize.ShloMosaic.TcCoe Idealize.SL.Sem
open Idealize.ShloMosaic.Pipeline (Dat)
open scoped BigOperators

namespace Kern

open Cert.Kernel30Ideal Cert.Kernel30Ideal.Gen

variable (m : (ℓ : Loc nD τ sig) → Buf (Elt Ideal) ℓ)

/-- Which block of its array each window holds at a point. -/
theorem idx : ∀ t : Fin cfg0.N, win0_0.index t = ![0, 0] ∧ win0_1.index t = ![0, 0, t.val] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, 0, t.val] := (idx t).2.1
theorem idx2 (t : Fin cfg0.N) : win0_2.index t = ![0, t.val] := (idx t).2.2

/-- The array's column that column `j` of block `t` is. -/
def col (t : Fin cfg0.N) (j : Fin 512) : Fin 2048 := ⟨512 * t.val + j.val, by have : t.val < 4 := lt_of_lt_of_eq t.isLt N_0; omega⟩

variable (c : Dev nD) (t : Fin cfg0.N)

abbrev A0 : FVec Ideal ⟨2, ![256, 1024]⟩ .bf16 := m ((c : Thread nD τ).loc main_arg0)
abbrev A1 : FVec Ideal ⟨3, ![4, 1024, 2048]⟩ .bf16 := m ((c : Thread nD τ).loc main_arg1)

theorem in0 (i : Fin 256) (l : Fin 1024) : iblk m c 0 t (ix2 i l) = A0 m c (ix2 i l) := by
  blk_point [iblk, V, idx0 t]

theorem in1 (l : Fin 1024) (j : Fin 512) : iblk m c 1 t (ix3 0 l j) = A1 m c (ix3 0 l (col t j)) := by
  unfold col; blk_point [iblk, V, idx1 t]

/-- What a point stores. -/
theorem block (i : Fin 256) (j : Fin 512) : k0_pay1 (iblk m c 0 t) (iblk m c 1 t) (ix2 i j) = Product.nn (A0 m c) (A1 m c) (ix2 i (col t j)) := by
  pointwise [k0_pay1, in0, in1]
  rfl

theorem final : (dats m 0 c).arrAt 2 (cfgs 0).N = Product.nn (A0 m c) (A1 m c) := by
  refine (dats m 0 c).arrAt_eq_of_covers 2 _ (by decide +kernel) fun t _ y => ?_
  blk_simp
  rw [after0_2]
  have e : ∀ (i : Fin 256) (j : Fin 512), (win0_2.blk t).view.emb (ix2 i j) = ix2 i (col t j) := fun i j => by
    unfold col; blk_ext [idx2 t]
  frame_out
  idx_vars y
  rw [e y0 y1]
  exact block m c t y0 y1

end Kern

namespace Ref

open Cert.Reference30Ideal Cert.Reference30Ideal.Read

theorem value (a : FVec Ideal ⟨2, ![256, 1024]⟩ .bf16) (w : FVec Ideal ⟨3, ![4, 1024, 2048]⟩ .bf16) : val_main_v5 (F := Ideal) a w = Product.nn a w := by
  funext y
  idx_vars y
  pointwise [val_main_v5, val_main_v4, val_main_v3, val_main_v2, val_main_v1, val_main_v0]
  rfl

end Ref

/-- The reference alone: it keeps its arguments, and has no semaphore. -/
theorem ref_frame : Cert.quiescent_Reference30Ideal := fun m g _ =>
  (θ_run _ _ _).mono (fun r h => ⟨fun c => (h c).2, sem_eq_zero_of_no_sems (by decide) r.2⟩) (Cert.Reference30Ideal.Value.run m g)

/-- From the same arguments both end with the same array. -/
theorem algebraic : Cert.algebraic_Kernel30Ideal_Reference30Ideal := by
  intro m g m' g' _ hagree
  refine ⟨fun c => Product.nn (Kern.A0 m c) (Kern.A1 m c), ?_, ?_⟩
  · refine (θ_run _ _ _).mono (fun r h c => ?_) (θ_run_and (Cert.Kernel30Ideal.Gen.unchanged m g) (Cert.Kernel30Ideal.Gen.run_main m g))
    exact ⟨((h.2 c).1 2).trans (Kern.final m c), h.1 c⟩
  · refine (θ_run _ _ _).mono (fun r h c => ?_) (Cert.Reference30Ideal.Value.run m' g')
    obtain ⟨e0, e1⟩ := hagree c
    refine ⟨(h c).1.trans ((Cert.Reference30Ideal.Read.val_main_v5_eq ..).trans ((Ref.value _ _).trans ?_)), (h c).2⟩
    beta_reduce
    unfold Kern.A0 Kern.A1
    rw [← e0, ← e1]

end Cert.KvProj

end
-- ==== Proof.DwKv.lean ====
/- The gradient of the weight that makes the keys and the values: the kernel's is the reference's. -/
module

public import proofs.«01_k».proof.Defs
public import proofs.«01_k».proof.Proof.ProductSpec
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pipeline.ValueKit
public import Idealize.ShloMosaic.Lib.Claim

@[expose] public section

set_option maxRecDepth 16384

noncomputable section

namespace Cert.DwKv

open Idealize.ShloMosaic Idealize.ShloMosaic.TcCoe Idealize.SL.Sem
open Idealize.ShloMosaic.Pipeline (Dat)
open scoped BigOperators

/-- The rows' inputs against the rows' cotangents, summed over the rows. -/
def grad (a : FVec Ideal ⟨2, ![256, 1024]⟩ .bf16) (b : FVec Ideal ⟨2, ![256, 2048]⟩ .f32) : FVec Ideal ⟨2, ![1024, 2048]⟩ .bf16 := fun y =>
  ∑ l : Fin 256, a (ix2 l (y 0)) * b (ix2 l (y 1))

namespace Kern

open Cert.Kernel31Ideal Cert.Kernel31Ideal.Gen

variable (m : (ℓ : Loc nD τ sig) → Buf (Elt Ideal) ℓ)

/-- Which block of its array each window holds at a point. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem idx0 (t : Fin cfg0.N) : win0_0.index t = ![0, t.val / 4] := (idx t).1
theorem idx1 (t : Fin cfg0.N) : win0_1.index t = ![0, t.val % 4] := (idx t).2.1
theorem idx2 (t : Fin cfg0.N) : win0_2.index t = ![t.val / 4, t.val % 4] := (idx t).2.2

/-- The array's row that row `i` of block `t` is. -/
def row (t : Fin cfg0.N) (i : Fin 512) : Fin 1024 := ⟨512 * (t.val / 4) + i.val, by have : t.val < 8 := lt_of_lt_of_eq t.isLt N_0; omega⟩

/-- Its column. -/
def col (t : Fin cfg0.N) (j : Fin 512) : Fin 2048 := ⟨512 * (t.val % 4) + j.val, by omega⟩

variable (c : Dev nD) (t : Fin cfg0.N)

abbrev A0 : FVec Ideal ⟨2, ![256, 1024]⟩ .bf16 := m ((c : Thread nD τ).loc main_arg0)
abbrev A1 : FVec Ideal ⟨2, ![256, 2048]⟩ .f32 := m ((c : Thread nD τ).loc main_arg1)

theorem in0 (l : Fin 256) (i : Fin 512) : iblk m c 0 t (ix2 l i) = A0 m c (ix2 l (row t i)) := by
  unfold row; blk_point [iblk, V, idx0 t]

theorem in1 (l : Fin 256) (j : Fin 512) : iblk m c 1 t (ix2 l j) = A1 m c (ix2 l (col t j)) := by
  unfold col; blk_point [iblk, V, idx1 t]

/-- What a point stores. -/
theorem block (i : Fin 512) (j : Fin 512) : k0_pay1 (iblk m c 0 t) (iblk m c 1 t) (ix2 i j) = grad (A0 m c) (A1 m c) (ix2 (row t i) (col t j)) := by
  pointwise [k0_pay1, in0, in1]
  rfl

theorem final : (dats m 0 c).arrAt 2 (cfgs 0).N = grad (A0 m c) (A1 m c) := by
  refine (dats m 0 c).arrAt_eq_of_covers 2 _ (by decide +kernel) fun t _ y => ?_
  blk_simp
  rw [after0_2]
  have e : ∀ (i : Fin 512) (j : Fin 512), (win0_2.blk t).view.emb (ix2 i j) = ix2 (row t i) (col t j) := fun i j => by
    unfold row col; blk_ext [idx2 t]
  frame_out
  idx_vars y
  rw [e y0 y1]
  exact block m c t y0 y1

end Kern

namespace Ref

open Cert.Reference31Ideal Cert.Reference31Ideal.Read

theorem value (a : FVec Ideal ⟨2, ![256, 1024]⟩ .bf16) (b : FVec Ideal ⟨2, ![256, 2048]⟩ .f32) : val_main_v3 (F := Ideal) a b = grad a b := by
  funext y
  idx_vars y
  pointwise [val_main_v3, val_main_v2, val_main_v1, val_main_v0]
  exact Finset.sum_congr rfl fun l _ => mul_comm _ _

end Ref

/-- The reference alone: it keeps its arguments, and has no semaphore. -/
theorem ref_frame : Cert.quiescent_Reference31Ideal := fun m g _ =>
  (θ_run _ _ _).mono (fun r h => ⟨fun c => (h c).2, sem_eq_zero_of_no_sems (by decide) r.2⟩) (Cert.Reference31Ideal.Value.run m g)

/-- From the same arguments both end with the same array. -/
theorem algebraic : Cert.algebraic_Kernel31Ideal_Reference31Ideal := by
  intro m g m' g' _ hagree
  refine ⟨fun c => grad (Kern.A0 m c) (Kern.A1 m c), ?_, ?_⟩
  · refine (θ_run _ _ _).mono (fun r h c => ?_) (θ_run_and (Cert.Kernel31Ideal.Gen.unchanged m g) (Cert.Kernel31Ideal.Gen.run_main m g))
    exact ⟨((h.2 c).1 2).trans (Kern.final m c), h.1 c⟩
  · refine (θ_run _ _ _).mono (fun r h c => ?_) (Cert.Reference31Ideal.Value.run m' g')
    obtain ⟨e0, e1⟩ := hagree c
    refine ⟨(h c).1.trans ((Cert.Reference31Ideal.Read.val_main_v3_eq ..).trans ((Ref.value _ _).trans ?_)), (h c).2⟩
    beta_reduce
    unfold Kern.A0 Kern.A1
    rw [← e0, ← e1]

end Cert.DwKv

end
-- ==== Proof.DMem.lean ====
/- The gradient of the normalised memory: the kernel's is the reference's. -/
module

public import proofs.«01_k».proof.Defs
public import proofs.«01_k».proof.Proof.ProductSpec
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pipeline.ValueKit
public import Idealize.ShloMosaic.Lib.Claim

@[expose] public section

set_option maxRecDepth 16384

noncomputable section

namespace Cert.DMem

open Idealize.ShloMosaic Idealize.ShloMosaic.TcCoe Idealize.SL.Sem
open Idealize.ShloMosaic.Pipeline (Dat)
open scoped BigOperators

/-- A row's cotangents against a column's weights, of layer 0. -/
def grad (a : FVec Ideal ⟨2, ![256, 2048]⟩ .f32) (w : FVec Ideal ⟨3, ![4, 1024, 2048]⟩ .bf16) : FVec Ideal ⟨2, ![256, 1024]⟩ .f32 := fun y =>
  ∑ l : Fin 2048, a (ix2 (y 0) l) * w (ix3 0 (y 1) l)

namespace Kern

open Cert.Kernel32Ideal Cert.Kernel32Ideal.Gen

variable (m : (ℓ : Loc nD τ sig) → Buf (Elt Ideal) ℓ)

/-- Which block of its array each window holds at a point. -/
theorem idx : ∀ t : Fin cfg0.N, win0_0.index t = ![0, 0] ∧ win0_1.index t = ![0, t.val, 0] ∧ win0_2.index t = ![0, t.val] :=
  (by decide +kernel : ∀ t : Fin grid0.N, _)

theorem idx0 (t : Fin cfg0.N) : win0_0.index t = ![0, 0] := (idx t).1
theorem idx1 (t : Fin cfg0.N) : win0_1.index t = ![0, t.val, 0] := (idx t).2.1
theorem idx2 (t : Fin cfg0.N) : win0_2.index t = ![0, t.val] := (idx t).2.2

/-- The array's column that column `j` of block `t` is. -/
def col (t : Fin cfg0.N) (j : Fin 512) : Fin 1024 := ⟨512 * t.val + j.val, by have : t.val < 2 := lt_of_lt_of_eq t.isLt N_0; omega⟩

variable (c : Dev nD) (t : Fin cfg0.N)

abbrev A0 : FVec Ideal ⟨2, ![256, 2048]⟩ .f32 := m ((c : Thread nD τ).loc main_arg0)
abbrev A1 : FVec Ideal ⟨3, ![4, 1024, 2048]⟩ .bf16 := m ((c : Thread nD τ).loc main_arg1)

theorem in0 (i : Fin 256) (l : Fin 2048) : iblk m c 0 t (ix2 i l) = A0 m c (ix2 i l) := by
  blk_point [iblk, V, idx0 t]

theorem in1 (j : Fin 512) (l : Fin 2048) : iblk m c 1 t (ix3 0 j l) = A1 m c (ix3 0 (col t j) l) := by
  unfold col; blk_point [iblk, V, idx1 t]

/-- What a point stores. -/
theorem block (i : Fin 256) (j : Fin 512) : k0_pay1 (iblk m c 0 t) (iblk m c 1 t) (ix2 i j) = grad (A0 m c) (A1 m c) (ix2 i (col t j)) := by
  pointwise [k0_pay1, in0, in1]
  rfl

theorem final : (dats m 0 c).arrAt 2 (cfgs 0).N = grad (A0 m c) (A1 m c) := by
  refine (dats m 0 c).arrAt_eq_of_covers 2 _ (by decide +kernel) fun t _ y => ?_
  blk_simp
  rw [after0_2]
  have e : ∀ (i : Fin 256) (j : Fin 512), (win0_2.blk t).view.emb (ix2 i j) = ix2 i (col t j) := fun i j => by
    unfold col; blk_ext [idx2 t]
  frame_out
  idx_vars y
  rw [e y0 y1]
  exact block m c t y0 y1

end Kern

namespace Ref

open Cert.Reference32Ideal Cert.Reference32Ideal.Read

theorem value (a : FVec Ideal ⟨2, ![256, 2048]⟩ .f32) (w : FVec Ideal ⟨3, ![4, 1024, 2048]⟩ .bf16) : val_main_v3 (F := Ideal) a w = grad a w := by
  funext y
  idx_vars y
  pointwise [val_main_v3, val_main_v2, val_main_v1, val_main_v0]
  rfl

end Ref

/-- The reference alone: it keeps its arguments, and has no semaphore. -/
theorem ref_frame : Cert.quiescent_Reference32Ideal := fun m g _ =>
  (θ_run _ _ _).mono (fun r h => ⟨fun c => (h c).2, sem_eq_zero_of_no_sems (by decide) r.2⟩) (Cert.Reference32Ideal.Value.run m g)

/-- From the same arguments both end with the same array. -/
theorem algebraic : Cert.algebraic_Kernel32Ideal_Reference32Ideal := by
  intro m g m' g' _ hagree
  refine ⟨fun c => grad (Kern.A0 m c) (Kern.A1 m c), ?_, ?_⟩
  · refine (θ_run _ _ _).mono (fun r h c => ?_) (θ_run_and (Cert.Kernel32Ideal.Gen.unchanged m g) (Cert.Kernel32Ideal.Gen.run_main m g))
    exact ⟨((h.2 c).1 2).trans (Kern.final m c), h.1 c⟩
  · refine (θ_run _ _ _).mono (fun r h c => ?_) (Cert.Reference32Ideal.Value.run m' g')
    obtain ⟨e0, e1⟩ := hagree c
    refine ⟨(h c).1.trans ((Cert.Reference32Ideal.Read.val_main_v3_eq ..).trans ((Ref.value _ _).trans ?_)), (h c).2⟩
    beta_reduce
    unfold Kern.A0 Kern.A1
    rw [← e0, ← e1]

end Cert.DMem

end
-- ==== Proof.NormMemBwd.lean ====
/- The gradients of the memory's normalisation, of the memory and of the weight: the kernel's are the reference's. -/
module

public import proofs.«01_k».proof.Defs
public import proofs.«01_k».proof.Proof.NormSpec
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.NormMemBwd

open Idealize.ShloMosaic Idealize.ShloMosaic.TcCoe Idealize.SL.Sem
open Idealize.ShloMosaic.Pipeline (Dat)
open scoped BigOperators

/-- Both results, from the memory, the weight, and what arrives at the normalised rows. -/
def dx (x : FVec Ideal ⟨2, ![256, 1024]⟩ .f32) (w : FVec Ideal ⟨2, ![1, 1024]⟩ .f32) (dy : FVec Ideal ⟨2, ![256, 1024]⟩ .f32) :
    FVec Ideal ⟨2, ![256, 1024]⟩ .f32 := fun y =>
  Norm.back (fun e => x (ix2 (y 0) e)) (fun e => dy (ix2 (y 0) e) * w (ix2 0 e)) (y 1)

def dw (x dy : FVec Ideal ⟨2, ![256, 1024]⟩ .f32) : FVec Ideal ⟨2, ![1, 1024]⟩ .f32 := fun y =>
  ∑ i, dy (ix2 i (y 1)) * (x (ix2 i (y 1)) * Norm.inv fun e => x (ix2 i e))

namespace Kern

open Cert.Kernel33Ideal Cert.Kernel33Ideal.Gen

variable (m : (ℓ : Loc nD τ sig) → Buf (Elt Ideal) ℓ)

/-- The one point's blocks are the whole arrays. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem idx0 (t : Fin cfg0.N) : win0_0.index t = ![0, 0] := (idx t).1
theorem idx1 (t : Fin cfg0.N) : win0_1.index t = ![0, 0] := (idx t).2.1
theorem idx2 (t : Fin cfg0.N) : win0_2.index t = ![0, 0] := (idx t).2.2.1
theorem idx3 (t : Fin cfg0.N) : win0_3.index t = ![0, 0] := (idx t).2.2.2.1
theorem idx4 (t : Fin cfg0.N) : win0_4.index t = ![0, 0] := (idx t).2.2.2.2

variable (c : Dev nD) (t : Fin cfg0.N)

abbrev X : FVec Ideal ⟨2, ![256, 1024]⟩ .f32 := m ((c : Thread nD τ).loc main_arg0)
abbrev W : FVec Ideal ⟨2, ![1, 1024]⟩ .f32 := m ((c : Thread nD τ).loc main_arg1)
abbrev DY : FVec Ideal ⟨2, ![256, 1024]⟩ .f32 := m ((c : Thread nD τ).loc main_arg2)

theorem in0 (i : Fin 256) (l : Fin 1024) : iblk m c 0 t (ix2 i l) = X m c (ix2 i l) := by
  blk_point [iblk, V, idx0 t]

theorem in1 (l : Fin 1024) : iblk m c 1 t (ix2 0 l) = W m c (ix2 0 l) := by
  blk_point [iblk, V, idx1 t]

theorem in2 (i : Fin 256) (l : Fin 1024) : iblk m c 2 t (ix2 i l) = DY m c (ix2 i l) := by
  blk_point [iblk, V, idx2 t]

/-- The root's inverse, of a row. -/
theorem root (i : Fin 256) (j : Fin 1) : k0_pay1 (iblk m c 0 t) (ix2 i j) = Norm.inv fun e => X m c (ix2 i e) := by
  pointwise [k0_pay1, in0]
  rfl

/-- What is stored for the memory. -/
theorem block (i : Fin 256) (j : Fin 1024) :
    k0_pay3 (iblk m c 0 t) (iblk m c 1 t) (iblk m c 2 t) (ix2 i j) = dx (X m c) (W m c) (DY m c) (ix2 i j) := by
  pointwise [k0_pay3, k0_pay2, root, in0, in1, in2]
  rfl

/-- What is added to the weight's. -/
theorem step (z : FVec Ideal S1x1024 .f32) (a : Fin 1) (j : Fin 1024) :
    k0_pay5 (iblk m c 0 t) (iblk m c 2 t) z (ix2 a j) = z (ix2 a j) + dw (X m c) (DY m c) (ix2 a j) := by
  pointwise [k0_pay5, k0_pay2, root, in0, in2]
  rfl

theorem final3 : (dats m 0 c).arrAt 3 (cfgs 0).N = dx (X m c) (W m c) (DY m c) := by
  refine (dats m 0 c).arrAt_eq_of_covers 3 _ (by decide +kernel) fun t _ y => ?_
  blk_simp
  rw [after0_3]
  have e : ∀ (i : Fin 256) (j : Fin 1024), (win0_3.blk t).view.emb (ix2 i j) = ix2 i j := fun i j => by
    blk_ext [idx3 t]
  unfold outsAt0; dsimp only; frame_out
  idx_vars y
  rw [e y0 y1]
  exact block m c t y0 y1

theorem final4 : (dats m 0 c).arrAt 4 (cfgs 0).N = dw (X m c) (DY m c) := by
  refine (dats m 0 c).arrAt_eq_of_covers 4 _ (by decide +kernel) fun t _ y => ?_
  blk_simp
  rw [after0_4]
  have e : ∀ (i : Fin 1) (j : Fin 1024), (win0_4.blk t).view.emb (ix2 i j) = ix2 i j := fun i j => by
    blk_ext [idx4 t]
  unfold outsAt0; dsimp only; frame_out
  idx_vars y
  rw [e y0 y1]
  refine (step m c t _ y0 y1).trans ((congrArg (· + dw (X m c) (DY m c) (ix2 y0 y1)) ?_).trans (zero_add _))
  pointwise [k0_pay4]

end Kern

namespace Ref

open Cert.Reference33Ideal Cert.Reference33Ideal.Read

variable (x : FVec Ideal ⟨2, ![256, 1024]⟩ .f32) (w : FVec Ideal ⟨2, ![1, 1024]⟩ .f32) (dy : FVec Ideal ⟨2, ![256, 1024]⟩ .f32)

theorem ms (i : Fin 256) (j : Fin 1) : val_main_v6 (F := Ideal) x (ix2 i j) = Norm.ms fun e => x (ix2 i e) := by
  pointwise [val_main_v6, val_main_v5, val_main_v4, val_main_v3, val_main_v2, val_main_v1, val_main_v0, val_main_cst, val_main_cst_0, val_main_cst_1]
  rfl

theorem root (i : Fin 256) (j : Fin 1) : val_main_v7 (F := Ideal) x (ix2 i j) = Norm.inv fun e => x (ix2 i e) := by
  pointwise [val_main_v7, ms]
  rfl

theorem value4 : val_main_v17 (F := Ideal) x dy = dw x dy := by
  funext y
  idx_vars y
  pointwise [val_main_v17, val_main_v16, val_main_v15, val_main_v12, val_main_v11, val_main_cst_3, root]
  exact Finset.sum_congr rfl fun i _ => mul_comm _ _

theorem chain (i : Fin 256) : val_main_v28 (F := Ideal) x w dy (ix1 i) = Norm.chain (fun e => x (ix2 i e)) fun e => dy (ix2 i e) * w (ix2 0 e) := by
  pointwise [val_main_v28, val_main_v27, val_main_v26, val_main_v25, val_main_v22, val_main_v21, val_main_v20, val_main_v19, val_main_v18, val_main_v10, val_main_v9, val_main_v8, root, ms,
    val_main_cst_2, val_main_cst_4, val_main_cst_5, val_main_cst_6]
  rw [Fin.sum_univ_one]
  rfl

theorem value3 : val_main_v33 (F := Ideal) x w dy = dx x w dy := by
  funext y
  idx_vars y
  pointwise [val_main_v33, val_main_v32, val_main_v31, val_main_v30, val_main_v29, val_main_v24, val_main_v23, val_main_v19, val_main_v18, root, chain]
  exact (Norm.back_eq (fun e => x (ix2 y0 e)) (fun e => dy (ix2 y0 e) * w (ix2 0 e)) y1).symm

end Ref

/-- The reference alone: it keeps its arguments, and has no semaphore. -/
theorem ref_frame : Cert.quiescent_Reference33Ideal := fun m g _ =>
  (θ_run _ _ _).mono (fun r h => ⟨fun c => (h c).2.2, sem_eq_zero_of_no_sems (by decide) r.2⟩) (Cert.Reference33Ideal.Value.run m g)

/-- From the same arguments both end with the same arrays. -/
theorem algebraic : Cert.algebraic_Kernel33Ideal_Reference33Ideal := by
  intro m g m' g' _ hagree
  refine ⟨fun c => dx (Kern.X m c) (Kern.W m c) (Kern.DY m c), fun c => dw (Kern.X m c) (Kern.DY m c), ?_, ?_⟩
  · refine (θ_run _ _ _).mono (fun r h c => ?_) (θ_run_and (Cert.Kernel33Ideal.Gen.unchanged m g) (Cert.Kernel33Ideal.Gen.run_main m g))
    exact ⟨((h.2 c).1 3).trans (Kern.final3 m c), ((h.2 c).1 4).trans (Kern.final4 m c), h.1 c⟩
  · refine (θ_run _ _ _).mono (fun r h c => ?_) (Cert.Reference33Ideal.Value.run m' g')
    obtain ⟨e0, e1, e2⟩ := hagree c
    refine ⟨(h c).1.trans ((Cert.Reference33Ideal.Read.val_main_v33_eq ..).trans ((Ref.value3 ..).trans ?_)),
      (h c).2.1.trans ((Cert.Reference33Ideal.Read.val_main_v17_eq ..).trans ((Ref.value4 ..).trans ?_)), (h c).2.2⟩ <;>
    · beta_reduce
      unfold Kern.X Kern.DY
      try unfold Kern.W
      rw [← e0, ← e2]
      try rw [← e1]

end Cert.NormMemBwd

end
-- ==== Proof.PoolSpec.lean ====
/- The trailing means of the pooling mixer, over the extended reals. A row's window holds the last `w` rows, those there are; the
   gradient passes a row's part on to the rows of its window. A block sees 16 rows of its neighbour beside its own 256, and the sum
   over a window is built by doubling: the sum over `2 n` rows is the sum over `n` and the same sum `n` rows away. -/
module

public import Idealize.ShloMosaic.Lib.Pointwise
public import Idealize.ShloMosaic.PureOps.Ideal.Laws

@[expose] public section

noncomputable section

namespace Cert.Pool

open Idealize.ShloMosaic
open scoped BigOperators

/-- Whether row `s` is in the window of row `t`. -/
def seen (w : ℕ) (t s : Fin 4096) : EReal := if s.val ≤ t.val ∧ t.val < s.val + w then 1 else 0

/-- The sum over a row's window, and what the rows whose windows hold a row pass to it. -/
def trail (w : ℕ) (f : Fin 4096 → EReal) (t : Fin 4096) : EReal := ∑ s, seen w t s * f s
def lead (w : ℕ) (g : Fin 4096 → EReal) (s : Fin 4096) : EReal := ∑ t, g t * seen w t s

/-- How many rows a window holds. -/
def count (w t : ℕ) : EReal := ((min (t + 1) w : ℕ) : ℝ)

/-- The trailing mean less the row itself. -/
def pooled (w : ℕ) (f : Fin 4096 → EReal) (t : Fin 4096) : EReal := Ideal.div (trail w f t) (count w t.val) - f t

/-- A column's entry, and 0 past the last row. -/
def at' (f : Fin 4096 → EReal) (n : ℕ) : EReal := if h : n < 4096 then f ⟨n, h⟩ else 0

theorem at_of_lt (f : Fin 4096 → EReal) (t : Fin 4096) : at' f t.val = f t := dif_pos t.isLt

theorem sum_single (f : Fin 4096 → EReal) (p : Fin 4096 → Prop) [DecidablePred p] (n : Fin 4096) (h : ∀ s, p s ↔ s = n) : (∑ s, if p s then f s else 0) = f n := by
  rw [Finset.sum_eq_single n (fun s _ hs => if_neg fun e => hs ((h s).mp e)) (fun hn => absurd (Finset.mem_univ n) hn)]
  exact if_pos ((h n).mpr rfl)

theorem trail_eq (w : ℕ) (f : Fin 4096 → EReal) (t : Fin 4096) : trail w f t = ∑ k ∈ Finset.range w, if k ≤ t.val then at' f (t.val - k) else 0 := by
  induction w with
  | zero =>
    refine Finset.sum_eq_zero fun s _ => ?_
    unfold seen
    rw [if_neg (by omega), zero_mul]
  | succ w ih =>
    rw [Finset.sum_range_succ, ← ih]
    have e : ∀ s, seen (w + 1) t s * f s = seen w t s * f s + if s.val + w = t.val then f s else 0 := fun s => by
      unfold seen
      by_cases h : s.val + w = t.val
      · rw [if_pos (by omega), if_neg (by omega), if_pos h, one_mul, zero_mul, zero_add]
      · rw [if_neg h, add_zero]
        by_cases h' : s.val ≤ t.val ∧ t.val < s.val + w
        · rw [if_pos h', if_pos (by omega)]
        · rw [if_neg h', if_neg (by omega)]
    unfold trail
    rw [Finset.sum_congr rfl fun s _ => e s, Finset.sum_add_distrib]
    congr 1
    by_cases h : w ≤ t.val
    · rw [if_pos h, sum_single f _ ⟨t.val - w, by omega⟩ fun s => ⟨fun e => Fin.ext (by show s.val = t.val - w; omega), fun e => by subst e; show t.val - w + w = t.val; omega⟩]
      exact (at_of_lt f ⟨t.val - w, by omega⟩).symm
    · rw [if_neg h]
      exact Finset.sum_eq_zero fun s _ => if_neg (by omega)

theorem lead_eq (w : ℕ) (g : Fin 4096 → EReal) (s : Fin 4096) : lead w g s = ∑ k ∈ Finset.range w, at' g (s.val + k) := by
  induction w with
  | zero =>
    refine Finset.sum_eq_zero fun t _ => ?_
    unfold seen
    rw [if_neg (by omega), mul_zero]
  | succ w ih =>
    rw [Finset.sum_range_succ, ← ih]
    have e : ∀ t, g t * seen (w + 1) t s = g t * seen w t s + if t.val = s.val + w then g t else 0 := fun t => by
      unfold seen
      by_cases h : t.val = s.val + w
      · rw [if_pos (by omega), if_neg (by omega), if_pos h, mul_one, mul_zero, zero_add]
      · rw [if_neg h, add_zero]
        by_cases h' : s.val ≤ t.val ∧ t.val < s.val + w
        · rw [if_pos h', if_pos (by omega)]
        · rw [if_neg h', if_neg (by omega)]
    unfold lead
    rw [Finset.sum_congr rfl fun t _ => e t, Finset.sum_add_distrib]
    congr 1
    by_cases h : s.val + w < 4096
    · rw [sum_single g _ ⟨s.val + w, h⟩ fun t => ⟨fun e => Fin.ext e, fun e => by subst e; rfl⟩]
      exact (at_of_lt g ⟨s.val + w, h⟩).symm
    · unfold at'
      rw [dif_neg h]
      exact Finset.sum_eq_zero fun t _ => if_neg (by have := t.isLt; omega)

/-- A block's column turned by `n` rows, and the two doublings: with every row, and with 0 for the rows past the end. -/
def rot (n : ℕ) (e : Fin 272 → EReal) (r : Fin 272) : EReal := e ⟨(r.val + 272 - n) % 272, Nat.mod_lt _ (by decide)⟩
def dbl (n : ℕ) (e : Fin 272 → EReal) (r : Fin 272) : EReal := e r + rot n e r
def mdbl (n : ℕ) (e : Fin 272 → EReal) (r : Fin 272) : EReal := e r + if r.val < 272 - n then rot (272 - n) e r else 0

theorem dbl_sum (E : ℕ → EReal) (e : Fin 272 → EReal) (n : ℕ) (h : ∀ r : Fin 272, n ≤ r.val + 1 → e r = ∑ k ∈ Finset.range n, E (r.val - k)) (r : Fin 272) (hr : n + n ≤ r.val + 1) :
    dbl n e r = ∑ k ∈ Finset.range (n + n), E (r.val - k) := by
  rw [Finset.sum_range_add]
  unfold dbl rot
  have hr' := r.isLt
  by_cases hn : n = 0
  · subst hn
    rw [h _ (by omega), h _ (by omega)]; simp
  have e2 : (r.val + 272 - n) % 272 = r.val - n := by omega
  rw [h r (by omega), h ⟨_, _⟩ (by show n ≤ (r.val + 272 - n) % 272 + 1; omega)]
  congr 1
  refine Finset.sum_congr rfl fun k _ => congrArg E ?_
  show (r.val + 272 - n) % 272 - k = r.val - (n + k)
  omega

theorem mdbl_sum (E : ℕ → EReal) (hE : ∀ k, 272 ≤ k → E k = 0) (e : Fin 272 → EReal) (n : ℕ) (hn : n ≤ 272) (h : ∀ r : Fin 272, e r = ∑ k ∈ Finset.range n, E (r.val + k)) (r : Fin 272) :
    mdbl n e r = ∑ k ∈ Finset.range (n + n), E (r.val + k) := by
  rw [Finset.sum_range_add]
  unfold mdbl rot
  rw [h r]
  congr 1
  have hr := r.isLt
  by_cases c : r.val < 272 - n
  · rw [if_pos c, h ⟨_, _⟩]
    refine Finset.sum_congr rfl fun k _ => congrArg E ?_
    show (r.val + 272 - (272 - n)) % 272 + k = r.val + (n + k)
    omega
  · rw [if_neg c]
    exact (Finset.sum_eq_zero fun k _ => hE _ (by omega)).symm

/-- What a block's column holds: 16 rows of the block before, or 0 before the first, then the block's own. -/
def before (f : Fin 4096 → EReal) (b n : ℕ) : EReal := if 16 ≤ 256 * b + n then at' f (256 * b + n - 16) else 0

/-- The doublings over it give the trailing sums. -/
theorem dbl_trail (f : Fin 4096 → EReal) (b : ℕ) (w : ℕ) (hw : w ≤ 16) (a : Fin 272 → EReal) (h : ∀ r : Fin 272, w ≤ r.val + 1 → a r = ∑ k ∈ Finset.range w, before f b (r.val - k))
    (t : Fin 4096) (i : Fin 256) (ht : t.val = 256 * b + i.val) (r : Fin 272) (hr : r.val = 16 + i.val) : a r = trail w f t := by
  rw [h r (by omega), trail_eq]
  refine Finset.sum_congr rfl fun k hk => ?_
  have hk' := Finset.mem_range.mp hk
  unfold before
  by_cases c : k ≤ t.val
  · rw [if_pos c, if_pos (by omega)]
    exact congrArg (at' f) (by omega)
  · rw [if_neg c, if_neg (by omega)]

section

variable (f : Fin 4096 → EReal) (b : ℕ) (e : Fin 272 → EReal) (he : ∀ r : Fin 272, e r = before f b r.val) (t : Fin 4096) (i : Fin 256) (ht : t.val = 256 * b + i.val) (r : Fin 272)
  (hr : r.val = 16 + i.val)

include he

theorem one (r : Fin 272) (_ : 1 ≤ r.val + 1) : e r = ∑ k ∈ Finset.range 1, before f b (r.val - k) := by
  rw [Finset.sum_range_one]; exact he r

theorem two (r : Fin 272) (h : 2 ≤ r.val + 1) : dbl 1 e r = ∑ k ∈ Finset.range 2, before f b (r.val - k) := dbl_sum _ _ 1 (one f b e he) r h
theorem four (r : Fin 272) (h : 4 ≤ r.val + 1) : dbl 2 (dbl 1 e) r = ∑ k ∈ Finset.range 4, before f b (r.val - k) := dbl_sum _ _ 2 (two f b e he) r h
theorem eight (r : Fin 272) (h : 8 ≤ r.val + 1) : dbl 4 (dbl 2 (dbl 1 e)) r = ∑ k ∈ Finset.range 8, before f b (r.val - k) := dbl_sum _ _ 4 (four f b e he) r h
theorem sixteen (r : Fin 272) (h : 16 ≤ r.val + 1) : dbl 8 (dbl 4 (dbl 2 (dbl 1 e))) r = ∑ k ∈ Finset.range 16, before f b (r.val - k) := dbl_sum _ _ 8 (eight f b e he) r h

include ht hr

theorem trail2 : dbl 1 e r = trail 2 f t := dbl_trail f b 2 (by decide) _ (two f b e he) t i ht r hr
theorem trail4 : dbl 2 (dbl 1 e) r = trail 4 f t := dbl_trail f b 4 (by decide) _ (four f b e he) t i ht r hr
theorem trail8 : dbl 4 (dbl 2 (dbl 1 e)) r = trail 8 f t := dbl_trail f b 8 (by decide) _ (eight f b e he) t i ht r hr
theorem trail16 : dbl 8 (dbl 4 (dbl 2 (dbl 1 e))) r = trail 16 f t := dbl_trail f b 16 (by decide) _ (sixteen f b e he) t i ht r hr

theorem own : e r = f t := by
  rw [he r]
  unfold before
  rw [if_pos (by omega), ← at_of_lt f t]
  exact congrArg _ (by omega)

theorem pooled2 : Ideal.div (dbl 1 e r) (count 2 t.val) - e r = pooled 2 f t := by
  rw [trail2 f b e he t i ht r hr, own f b e he t i ht r hr]; rfl
theorem pooled4 : Ideal.div (dbl 2 (dbl 1 e) r) (count 4 t.val) - e r = pooled 4 f t := by
  rw [trail4 f b e he t i ht r hr, own f b e he t i ht r hr]; rfl
theorem pooled8 : Ideal.div (dbl 4 (dbl 2 (dbl 1 e)) r) (count 8 t.val) - e r = pooled 8 f t := by
  rw [trail8 f b e he t i ht r hr, own f b e he t i ht r hr]; rfl
theorem pooled16 : Ideal.div (dbl 8 (dbl 4 (dbl 2 (dbl 1 e))) r) (count 16 t.val) - e r = pooled 16 f t := by
  rw [trail16 f b e he t i ht r hr, own f b e he t i ht r hr]; rfl

end

/-- What a block's column of the gradient holds: the block's own rows, then 16 of the block after, 0 past the last row. -/
def after (g : Fin 4096 → EReal) (b n : ℕ) : EReal := if n < 272 then at' g (256 * b + n) else 0

theorem after_end (g : Fin 4096 → EReal) (b n : ℕ) (h : 272 ≤ n) : after g b n = 0 := if_neg (by omega)

theorem mdbl_lead (g : Fin 4096 → EReal) (b : ℕ) (w : ℕ) (hw : w ≤ 16) (a : Fin 272 → EReal) (h : ∀ r : Fin 272, a r = ∑ k ∈ Finset.range w, after g b (r.val + k))
    (t : Fin 4096) (i : Fin 256) (ht : t.val = 256 * b + i.val) (r : Fin 272) (hr : r.val = i.val) : a r = lead w g t := by
  rw [h r, lead_eq]
  refine Finset.sum_congr rfl fun k hk => ?_
  have hk' := Finset.mem_range.mp hk
  have hi := i.isLt
  unfold after
  rw [if_pos (by omega)]
  exact congrArg (at' g) (by omega)

section

variable (g : Fin 4096 → EReal) (b : ℕ) (e : Fin 272 → EReal) (he : ∀ r : Fin 272, e r = at' g (256 * b + r.val)) (t : Fin 4096) (i : Fin 256) (ht : t.val = 256 * b + i.val) (r : Fin 272)
  (hr : r.val = i.val)

include he

theorem mone (r : Fin 272) : e r = ∑ k ∈ Finset.range 1, after g b (r.val + k) := by
  rw [Finset.sum_range_one, he r]; exact (if_pos r.isLt).symm

theorem mtwo (r : Fin 272) : mdbl 1 e r = ∑ k ∈ Finset.range 2, after g b (r.val + k) := mdbl_sum _ (after_end g b) _ 1 (by decide) (mone g b e he) r
theorem mfour (r : Fin 272) : mdbl 2 (mdbl 1 e) r = ∑ k ∈ Finset.range 4, after g b (r.val + k) := mdbl_sum _ (after_end g b) _ 2 (by decide) (mtwo g b e he) r
theorem meight (r : Fin 272) : mdbl 4 (mdbl 2 (mdbl 1 e)) r = ∑ k ∈ Finset.range 8, after g b (r.val + k) := mdbl_sum _ (after_end g b) _ 4 (by decide) (mfour g b e he) r
theorem msixteen (r : Fin 272) : mdbl 8 (mdbl 4 (mdbl 2 (mdbl 1 e))) r = ∑ k ∈ Finset.range 16, after g b (r.val + k) := mdbl_sum _ (after_end g b) _ 8 (by decide) (meight g b e he) r

include ht hr

theorem lead2 : mdbl 1 e r = lead 2 g t := mdbl_lead g b 2 (by decide) _ (mtwo g b e he) t i ht r hr
theorem lead4 : mdbl 2 (mdbl 1 e) r = lead 4 g t := mdbl_lead g b 4 (by decide) _ (mfour g b e he) t i ht r hr
theorem lead8 : mdbl 4 (mdbl 2 (mdbl 1 e)) r = lead 8 g t := mdbl_lead g b 8 (by decide) _ (meight g b e he) t i ht r hr
theorem lead16 : mdbl 8 (mdbl 4 (mdbl 2 (mdbl 1 e))) r = lead 16 g t := mdbl_lead g b 16 (by decide) _ (msixteen g b e he) t i ht r hr

end

/-! ## Row numbers as words -/

theorem ofNat_slt (a b : ℕ) (ha : a < 8192) (hb : b < 8192) : (BitVec.ofNat 32 a).slt (BitVec.ofNat 32 b) = decide (a < b) := by
  have e : ∀ n : ℕ, n < 8192 → (BitVec.ofNat 32 n).toInt = n := fun n hn => by
    rw [BitVec.toInt_eq_toNat_of_lt (by rw [BitVec.toNat_ofNat]; omega), BitVec.toNat_ofNat]
    omega
  unfold BitVec.slt
  rw [e a ha, e b hb]
  exact decide_eq_decide.mpr Int.ofNat_lt

theorem ofNat_sle (a b : ℕ) (ha : a < 8192) (hb : b < 8192) : (BitVec.ofNat 32 a).sle (BitVec.ofNat 32 b) = decide (a ≤ b) := by
  have e : ∀ n : ℕ, n < 8192 → (BitVec.ofNat 32 n).toInt = n := fun n hn => by
    rw [BitVec.toInt_eq_toNat_of_lt (by rw [BitVec.toNat_ofNat]; omega), BitVec.toNat_ofNat]
    omega
  unfold BitVec.sle
  rw [e a ha, e b hb]
  exact decide_eq_decide.mpr Int.ofNat_le

theorem row_bits (b p : ℕ) : IntOp.addi (Scalar.muli (BitVec.ofNat 32 b) 256#32) (BitVec.ofNat 32 p) = BitVec.ofNat 32 (256 * b + p) := by
  show BitVec.ofNat 32 b * BitVec.ofNat 32 256 + BitVec.ofNat 32 p = _
  rw [← BitVec.ofNat_mul, ← BitVec.ofNat_add, Nat.mul_comm]

theorem count_bits (w n : ℕ) (hn : n < 8000) (hw : w < 8000) : FloatOps.sitofp (F := Ideal) .f32 (IntOp.minsi (IntOp.addi (BitVec.ofNat 32 n) 1#32) (BitVec.ofNat 32 w)) = count w n := by
  have e : ∀ n : ℕ, n < 8192 → (BitVec.ofNat 32 n).toInt = n := fun n hn => by
    rw [BitVec.toInt_eq_toNat_of_lt (by rw [BitVec.toNat_ofNat]; omega), BitVec.toNat_ofNat]
    omega
  have a : IntOp.addi (BitVec.ofNat 32 n) 1#32 = BitVec.ofNat 32 (n + 1) := (BitVec.ofNat_add ..).symm
  have m : IntOp.minsi (BitVec.ofNat 32 (n + 1)) (BitVec.ofNat 32 w) = BitVec.ofNat 32 (min (n + 1) w) := by
    unfold IntOp.minsi
    rw [ofNat_slt _ _ (by omega) (by omega)]
    by_cases c : n + 1 < w
    · rw [if_pos (by simpa using c), Nat.min_eq_left c.le]
    · rw [if_neg (by simpa using c), Nat.min_eq_right (by omega)]
  rw [a, m]
  show (((BitVec.ofNat 32 (min (n + 1) w)).toInt : ℝ) : EReal) = _
  rw [e _ (by omega)]
  unfold count
  push_cast
  rfl

theorem seen_bits (w : ℕ) (hw : w < 4000) (t s : Fin 4096) : FloatOps.uitofp (F := Ideal) .f32 (IntOp.andi (IntOp.cmpi .sle (BitVec.ofNat 32 s.val) (BitVec.ofNat 32 t.val))
    (IntOp.cmpi .slt (BitVec.ofNat 32 t.val) (IntOp.addi (BitVec.ofNat 32 s.val) (BitVec.ofNat 32 w)))) = seen w t s := by
  have hs := s.isLt
  have ht := t.isLt
  have a : IntOp.addi (BitVec.ofNat 32 s.val) (BitVec.ofNat 32 w) = BitVec.ofNat 32 (s.val + w) := (BitVec.ofNat_add ..).symm
  rw [a]
  show (((BitVec.ofBool ((BitVec.ofNat 32 s.val).sle (BitVec.ofNat 32 t.val)) &&& BitVec.ofBool ((BitVec.ofNat 32 t.val).slt (BitVec.ofNat 32 (s.val + w)))).toNat : ℝ) : EReal) = _
  rw [ofNat_sle _ _ (by omega) (by omega), ofNat_slt _ _ (by omega) (by omega)]
  unfold seen
  by_cases c : s.val ≤ t.val <;> by_cases d : t.val < s.val + w <;> simp [c, d]

/-- Whether a block is the first, or the last. -/
theorem first_bits (b : ℕ) (hb : b < 16) : Scalar.cmpi .eq (BitVec.ofNat 32 b) 0#32 = BitVec.ofBool (decide (b = 0)) := by
  revert hb; revert b; decide
theorem last_bits (b : ℕ) (hb : b < 16) : Scalar.cmpi .eq (BitVec.ofNat 32 b) 15#32 = BitVec.ofBool (decide (b = 15)) := by
  revert hb; revert b; decide

theorem select_bool {α : Type} (p : Prop) [Decidable p] (a b : α) : Scalar.select (BitVec.ofBool (decide p)) a b = if p then a else b := by
  by_cases h : p <;> simp [h, Scalar.select]

/-! ## The groups -/

/-- A group's window, and its columns: among the pooled ones, and among those of the input projection. -/
def win (g : Fin 4) : ℕ := (![2, 4, 8, 16] : Fin 4 → ℕ) g
def col (g : Fin 4) (k : Fin 128) : Fin 512 := ⟨128 * g.val + k.val, by omega⟩
def of (x : FVec Ideal ⟨2, ![4096, 8704]⟩ .f32) (q : Fin 512) (t : Fin 4096) : EReal := x (ix2 t ⟨3072 + q.val, by omega⟩)

theorem exists_col (q : Fin 512) : ∃ g k, q = col g k := ⟨⟨q.val / 128, by omega⟩, ⟨q.val % 128, by omega⟩, Fin.ext (by show q.val = 128 * (q.val / 128) + q.val % 128; omega)⟩

/-- A group's pooled columns. -/
def mean (x : FVec Ideal ⟨2, ![4096, 8704]⟩ .f32) (g : Fin 4) (t : Fin 4096) (k : Fin 128) : EReal := pooled (win g) (of x (col g k)) t

/-- A group's product of them with its weights. -/
def mixed (x : FVec Ideal ⟨2, ![4096, 8704]⟩ .f32) (w : FVec Ideal ⟨3, ![4, 128, 128]⟩ .f32) (g : Fin 4) (t : Fin 4096) (c : Fin 128) : EReal := ∑ k : Fin 128, mean x g t k * w (ix3 g k c)

/-- A count is a positive number, so that a quotient of 0 by it is 0. -/
theorem zero_div_count (w t : ℕ) (hw : 0 < w) : Ideal.div 0 (count w t) = 0 := by
  unfold count
  rw [Ideal.div_coe (by have : 0 < min (t + 1) w := by omega
                        exact_mod_cast this.ne'), zero_mul]

/-! ## The gradients -/

/-- A group's cotangents before the scale, the pooled columns' cotangents, and the part of them a row passes to each row of its window. -/
def scaled (d : FVec Ideal ⟨2, ![4096, 512]⟩ .f32) (s : FVec Ideal ⟨2, ![1, 512]⟩ .f32) (t : Fin 4096) (q : Fin 512) : EReal := d (ix2 t q) * s (ix2 0 q)

def fromMean (d : FVec Ideal ⟨2, ![4096, 512]⟩ .f32) (w : FVec Ideal ⟨3, ![4, 128, 128]⟩ .f32) (s : FVec Ideal ⟨2, ![1, 512]⟩ .f32) (g : Fin 4) (k : Fin 128) (t : Fin 4096) : EReal :=
  ∑ c : Fin 128, scaled d s t (col g c) * w (ix3 g k c)

def passed (d : FVec Ideal ⟨2, ![4096, 512]⟩ .f32) (w : FVec Ideal ⟨3, ![4, 128, 128]⟩ .f32) (s : FVec Ideal ⟨2, ![1, 512]⟩ .f32) (g : Fin 4) (k : Fin 128) (t : Fin 4096) : EReal :=
  Ideal.div (fromMean d w s g k t) (count (win g) t.val)

/-- The gradient of a group's columns: what the rows whose windows hold a row pass to it, less its own. -/
def dcol (d : FVec Ideal ⟨2, ![4096, 512]⟩ .f32) (w : FVec Ideal ⟨3, ![4, 128, 128]⟩ .f32) (s : FVec Ideal ⟨2, ![1, 512]⟩ .f32) (g : Fin 4) (k : Fin 128) (t : Fin 4096) : EReal :=
  lead (win g) (passed d w s g k) t - fromMean d w s g k t

/-- The gradients of the weights and of the scale. -/
def dweight (x : FVec Ideal ⟨2, ![4096, 8704]⟩ .f32) (d : FVec Ideal ⟨2, ![4096, 512]⟩ .f32) (s : FVec Ideal ⟨2, ![1, 512]⟩ .f32) (g : Fin 4) (k c : Fin 128) : EReal :=
  ∑ t : Fin 4096, mean x g t k * scaled d s t (col g c)

def dscale (x : FVec Ideal ⟨2, ![4096, 8704]⟩ .f32) (d : FVec Ideal ⟨2, ![4096, 512]⟩ .f32) (w : FVec Ideal ⟨3, ![4, 128, 128]⟩ .f32) (g : Fin 4) (c : Fin 128) : EReal :=
  ∑ t : Fin 4096, d (ix2 t (col g c)) * mixed x w g t c

/-- The group of a column, and its number among the group's. -/
def grp (q : Fin 512) : Fin 4 := ⟨q.val / 128, by omega⟩
def pos (q : Fin 512) : Fin 128 := ⟨q.val % 128, by omega⟩

theorem grp_col (g : Fin 4) (c : Fin 128) : grp (col g c) = g := Fin.ext (by show (128 * g.val + c.val) / 128 = g.val; omega)
theorem pos_col (g : Fin 4) (c : Fin 128) : pos (col g c) = c := Fin.ext (by show (128 * g.val + c.val) % 128 = c.val; omega)

def outU (d : FVec Ideal ⟨2, ![4096, 512]⟩ .f32) (w : FVec Ideal ⟨3, ![4, 128, 128]⟩ .f32) (s : FVec Ideal ⟨2, ![1, 512]⟩ .f32) : FVec Ideal ⟨2, ![4096, 512]⟩ .bf16 :=
  fun y => dcol d w s (grp (y 1)) (pos (y 1)) (y 0)

def outW (x : FVec Ideal ⟨2, ![4096, 8704]⟩ .f32) (d : FVec Ideal ⟨2, ![4096, 512]⟩ .f32) (s : FVec Ideal ⟨2, ![1, 512]⟩ .f32) : FVec Ideal ⟨3, ![4, 128, 128]⟩ .f32 :=
  fun y => dweight x d s (y 0) (y 1) (y 2)

def outS (x : FVec Ideal ⟨2, ![4096, 8704]⟩ .f32) (d : FVec Ideal ⟨2, ![4096, 512]⟩ .f32) (w : FVec Ideal ⟨3, ![4, 128, 128]⟩ .f32) : FVec Ideal ⟨2, ![1, 512]⟩ .f32 :=
  fun y => dscale x d w (grp (y 1)) (pos (y 1))

theorem outU_col (d w s) (t : Fin 4096) (g : Fin 4) (k : Fin 128) : outU d w s (ix2 t (col g k)) = dcol d w s g k t := by
  show dcol d w s (grp (col g k)) (pos (col g k)) t = _
  rw [grp_col, pos_col]

theorem outS_col (x d w) (a : Fin 1) (g : Fin 4) (k : Fin 128) : outS x d w (ix2 a (col g k)) = dscale x d w g k := by
  show dscale x d w (grp (col g k)) (pos (col g k)) = _
  rw [grp_col, pos_col]

end Cert.Pool

end
-- ==== Proof.PoolFwd.lean ====
/- The pooling mixer: the kernel's is the reference's. -/
module

public import proofs.«01_k».proof.Defs
public import proofs.«01_k».proof.Proof.PoolSpec
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pipeline.ValueKit
public import Idealize.ShloMosaic.Lib.Claim

@[expose] public section

set_option maxRecDepth 16384

noncomputable section

namespace Cert.PoolFwd

open Idealize.ShloMosaic Idealize.ShloMosaic.TcCoe Idealize.SL.Sem
open Idealize.ShloMosaic.Pipeline (Dat)
open Cert.Pool
open scoped BigOperators

/-- The mixer: a group's pooled columns times its weights, times the scale. -/
def out (x : FVec Ideal ⟨2, ![4096, 8704]⟩ .f32) (w : FVec Ideal ⟨3, ![4, 128, 128]⟩ .f32) (s : FVec Ideal ⟨2, ![1, 512]⟩ .f32) : FVec Ideal ⟨2, ![4096, 512]⟩ .bf16 := fun y =>
  mixed x w ⟨(y 1).val / 128, Nat.div_lt_of_lt_mul (y 1).isLt⟩ (y 0) ⟨(y 1).val % 128, Nat.mod_lt _ (by decide)⟩ * s (ix2 0 (y 1))

theorem out_col (x : FVec Ideal ⟨2, ![4096, 8704]⟩ .f32) (w : FVec Ideal ⟨3, ![4, 128, 128]⟩ .f32) (s : FVec Ideal ⟨2, ![1, 512]⟩ .f32) (t : Fin 4096) (g : Fin 4) (c : Fin 128) :
    out x w s (ix2 t (col g c)) = mixed x w g t c * s (ix2 0 (col g c)) := by
  have e0 : (⟨(col g c).val / 128, Nat.div_lt_of_lt_mul (col g c).isLt⟩ : Fin 4) = g := Fin.ext (by show (128 * g.val + c.val) / 128 = g.val; omega)
  have e1 : (⟨(col g c).val % 128, Nat.mod_lt _ (by decide)⟩ : Fin 128) = c := Fin.ext (by show (128 * g.val + c.val) % 128 = c.val; omega)
  show mixed x w ⟨(col g c).val / 128, _⟩ t ⟨(col g c).val % 128, _⟩ * s (ix2 0 (col g c)) = _
  rw [e0, e1]

namespace Kern

open Cert.Kernel34Ideal Cert.Kernel34Ideal.Gen

variable (m : (ℓ : Loc nD τ sig) → Buf (Elt Ideal) ℓ)

/-- Which block of its array each window holds at a point. -/
theorem idx : ∀ t : Fin cfg0.N, (grid0.coords t 0).val = t.val ∧ win0_0.index t = ![t.val, 6] ∧ win0_1.index t = ![16 * t.val - 1, 6] ∧ win0_2.index t = ![0, 0, 0] ∧ win0_3.index t = ![0, 0]
    ∧ win0_4.index t = ![t.val, 0] :=
  (by decide +kernel : ∀ t : Fin grid0.N, _)

theorem idxg (t : Fin cfg0.N) : (grid0.coords t 0).val = t.val := (idx t).1
theorem idx0 (t : Fin cfg0.N) : win0_0.index t = ![t.val, 6] := (idx t).2.1
theorem idx1 (t : Fin cfg0.N) : win0_1.index t = ![16 * t.val - 1, 6] := (idx t).2.2.1
theorem idx2 (t : Fin cfg0.N) : win0_2.index t = ![0, 0, 0] := (idx t).2.2.2.1
theorem idx3 (t : Fin cfg0.N) : win0_3.index t = ![0, 0] := (idx t).2.2.2.2.1
theorem idx4 (t : Fin cfg0.N) : win0_4.index t = ![t.val, 0] := (idx t).2.2.2.2.2

theorem lt (t : Fin cfg0.N) : t.val < 16 := lt_of_lt_of_eq t.isLt N_0

/-- The array's row that row `i` of block `t` is. -/
def row (t : Fin cfg0.N) (i : Fin 256) : Fin 4096 := ⟨256 * t.val + i.val, by have := lt t; omega⟩

variable (c : Dev nD) (t : Fin cfg0.N)

abbrev A0 : FVec Ideal ⟨2, ![4096, 8704]⟩ .f32 := m ((c : Thread nD τ).loc main_arg0)
abbrev A1 : FVec Ideal ⟨3, ![4, 128, 128]⟩ .f32 := m ((c : Thread nD τ).loc main_arg1)
abbrev A2 : FVec Ideal ⟨2, ![1, 512]⟩ .f32 := m ((c : Thread nD τ).loc main_arg2)

theorem in0 (i : Fin 256) (q : Fin 512) : iblk m c 0 t (ix2 i q) = A0 m c (ix2 (row t i) ⟨3072 + q.val, by omega⟩) := by
  unfold row; blk_point [iblk, V, idx0 t]

theorem in1 (i : Fin 16) (q : Fin 512) : iblk m c 1 t (ix2 i q) = A0 m c (ix2 ⟨16 * (16 * t.val - 1) + i.val, by have := lt t; omega⟩ ⟨3072 + q.val, by omega⟩) := by
  blk_point [iblk, V, idx1 t]

theorem in2 (g : Fin 4) (k l : Fin 128) : iblk m c 2 t (ix3 g k l) = A1 m c (ix3 g k l) := by
  blk_point [iblk, V, idx2 t]

theorem in3 (q : Fin 512) : iblk m c 3 t (ix2 0 q) = A2 m c (ix2 0 q) := by
  blk_point [iblk, V, idx3 t]

/-- The rows a point works on: 16 of the block before, 0 before the first, then its own. -/
theorem rows (r : Fin 272) (q : Fin 512) : k0_pay2 (grid0.coords t) (iblk m c 1 t) (iblk m c 0 t) (ix2 r q) = before (of (A0 m c) q) t.val r.val := by
  have ht := lt t
  have hr := r.isLt
  pointwise [k0_pay2, in0, in1]
  unfold before
  by_cases h : r.val < 16
  · rw [dif_pos h]
    show Scalar.select (Scalar.cmpi .eq (BitVec.ofNat 32 (grid0.coords t 0).val) 0#32) 0 (A0 m c (ix2 ⟨16 * (16 * t.val - 1) + r.val, by omega⟩ ⟨3072 + q.val, by omega⟩)) = _
    rw [idxg t, first_bits _ ht, select_bool]
    by_cases z : t.val = 0
    · rw [if_pos z, if_neg (by omega)]
    · rw [if_neg z, if_pos (by omega)]
      refine Eq.trans ?_ (at_of_lt _ ⟨256 * t.val + r.val - 16, by omega⟩).symm
      unfold of
      congr 2
      exact Fin.ext (by show 16 * (16 * t.val - 1) + r.val = 256 * t.val + r.val - 16; omega)
  · rw [dif_neg h]
    refine Eq.trans ?_ (if_pos (by omega)).symm
    refine Eq.trans ?_ (at_of_lt _ ⟨256 * t.val + r.val - 16, by omega⟩).symm
    unfold of row
    congr 2
    exact Fin.ext (by show 256 * t.val + (r.val - 16) = 256 * t.val + r.val - 16; omega)

/-- A point's rows of a column, and how many of them a row's window holds. -/
def seg (q : Fin 512) (r : Fin 272) : EReal := k0_pay2 (grid0.coords t) (iblk m c 1 t) (iblk m c 0 t) (ix2 r q)

def held (w : ℕ) (i : Fin 256) : EReal := FloatOps.sitofp (F := Ideal) .f32 (IntOp.minsi (IntOp.addi (IntOp.addi (Scalar.muli (BitVec.ofNat 32 (grid0.coords t 0).val) 256#32) (BitVec.ofNat 32 i.val)) 1#32)
  (BitVec.ofNat 32 w))

theorem held_eq (w : ℕ) (hw : w < 8000) (i : Fin 256) : held t w i = count w (row t i).val := by
  have ht := lt t
  unfold held
  rw [idxg t, row_bits, count_bits _ _ (by omega) hw]
  rfl

/-- A doubling of a point's rows, and what becomes of the rows and their doublings: the mean less the row. -/
def turn (n : BitVec 32) (x : FVec Ideal S272x128 .f32) : FVec Ideal S272x128 .f32 := addf x (dynamicRotate 0 n none x rotates_S272x128_d0)

theorem turn1 (x : FVec Ideal S272x128 .f32) (r : Fin 272) (k : Fin 128) : turn 1#32 x (ix2 r k) = dbl 1 (fun r => x (ix2 r k)) r := by pointwise [turn]; rfl
theorem turn2 (x : FVec Ideal S272x128 .f32) (r : Fin 272) (k : Fin 128) : turn 2#32 x (ix2 r k) = dbl 2 (fun r => x (ix2 r k)) r := by pointwise [turn]; rfl
theorem turn4 (x : FVec Ideal S272x128 .f32) (r : Fin 272) (k : Fin 128) : turn 4#32 x (ix2 r k) = dbl 4 (fun r => x (ix2 r k)) r := by pointwise [turn]; rfl
theorem turn8 (x : FVec Ideal S272x128 .f32) (r : Fin 272) (k : Fin 128) : turn 8#32 x (ix2 r k) = dbl 8 (fun r => x (ix2 r k)) r := by pointwise [turn]; rfl

def less (x y : FVec Ideal S272x128 .f32) (n : IVec S256x1 32) (w : BitVec 32) : FVec Ideal S256x128 .f32 :=
  subf (divf (extractStridedSlice S256x128 ![16, 0] y slices_S272x128_o16_0_S256x128)
    (broadcastTo S256x128 (sitofp .f32 (minsi (addi n (broadcast S256x1 1#32)) (broadcast S256x1 w))) broadcasts_S256x1_S256x128))
    (extractStridedSlice S256x128 ![16, 0] x slices_S272x128_o16_0_S256x128)

theorem less_apply (x y : FVec Ideal S272x128 .f32) (w : ℕ) (hw : w < 8000) (i : Fin 256) (k : Fin 128) :
    less x y (k0_pay3 (grid0.coords t)) (BitVec.ofNat 32 w) (ix2 i k) = Ideal.div (y (ix2 ⟨16 + i.val, by omega⟩ k)) (count w (row t i).val) - x (ix2 ⟨16 + i.val, by omega⟩ k) := by
  rw [← held_eq t w hw i]
  pointwise [less, k0_pay3]
  rfl

/-- A group's columns of the rows a point works on. -/
def cut0 : FVec Ideal S272x128 .f32 := extractStridedSlice S272x128 ![0, 0] (k0_pay2 (grid0.coords t) (iblk m c 1 t) (iblk m c 0 t)) slices_S272x512_o0_0_S272x128
def cut1 : FVec Ideal S272x128 .f32 := extractStridedSlice S272x128 ![0, 128] (k0_pay2 (grid0.coords t) (iblk m c 1 t) (iblk m c 0 t)) slices_S272x512_o0_128_S272x128
def cut2 : FVec Ideal S272x128 .f32 := extractStridedSlice S272x128 ![0, 256] (k0_pay2 (grid0.coords t) (iblk m c 1 t) (iblk m c 0 t)) slices_S272x512_o0_256_S272x128
def cut3 : FVec Ideal S272x128 .f32 := extractStridedSlice S272x128 ![0, 384] (k0_pay2 (grid0.coords t) (iblk m c 1 t) (iblk m c 0 t)) slices_S272x512_o0_384_S272x128

theorem cut0_eq (k : Fin 128) (r : Fin 272) : cut0 m c t (ix2 r k) = before (of (A0 m c) (col 0 k)) t.val r.val := by
  refine Eq.trans ?_ (rows m c t r (col 0 k))
  have e : (⟨k.val, by omega⟩ : Fin 512) = col 0 k := Fin.ext (by show k.val = 128 * 0 + k.val; omega)
  rw [← e]
  pointwise [cut0]
theorem cut1_eq (k : Fin 128) (r : Fin 272) : cut1 m c t (ix2 r k) = before (of (A0 m c) (col 1 k)) t.val r.val := by
  refine Eq.trans ?_ (rows m c t r (col 1 k))
  pointwise [cut1]
  rfl
theorem cut2_eq (k : Fin 128) (r : Fin 272) : cut2 m c t (ix2 r k) = before (of (A0 m c) (col 2 k)) t.val r.val := by
  refine Eq.trans ?_ (rows m c t r (col 2 k))
  pointwise [cut2]
  rfl
theorem cut3_eq (k : Fin 128) (r : Fin 272) : cut3 m c t (ix2 r k) = before (of (A0 m c) (col 3 k)) t.val r.val := by
  refine Eq.trans ?_ (rows m c t r (col 3 k))
  pointwise [cut3]
  rfl

/-- The four groups' pooled columns. -/
theorem mean0 (i : Fin 256) (k : Fin 128) : k0_pay4 (grid0.coords t) (iblk m c 1 t) (iblk m c 0 t) (ix2 i k) = mean (A0 m c) 0 (row t i) k := by
  show less (cut0 m c t) (turn 1#32 (cut0 m c t)) (k0_pay3 (grid0.coords t)) (BitVec.ofNat 32 2) (ix2 i k) = _
  rw [less_apply _ _ _ _ (by decide), turn1]
  exact pooled2 _ t.val _ (cut0_eq m c t k) (row t i) i rfl ⟨16 + i.val, by omega⟩ rfl

theorem mean1 (i : Fin 256) (k : Fin 128) : k0_pay5 (grid0.coords t) (iblk m c 1 t) (iblk m c 0 t) (ix2 i k) = mean (A0 m c) 1 (row t i) k := by
  show less (cut1 m c t) (turn 2#32 (turn 1#32 (cut1 m c t))) (k0_pay3 (grid0.coords t)) (BitVec.ofNat 32 4) (ix2 i k) = _
  rw [less_apply _ _ _ _ (by decide)]
  simp only [turn2, turn1]
  exact pooled4 _ t.val _ (cut1_eq m c t k) (row t i) i rfl ⟨16 + i.val, by omega⟩ rfl

theorem mean2 (i : Fin 256) (k : Fin 128) :
    k0_pay11 (k0_pay3 (grid0.coords t)) (k0_pay6 (grid0.coords t) (iblk m c 1 t) (iblk m c 0 t)) (k0_pay7 (grid0.coords t) (iblk m c 1 t) (iblk m c 0 t)) (ix2 i k) = mean (A0 m c) 2 (row t i) k := by
  show less (cut2 m c t) (turn 4#32 (turn 2#32 (turn 1#32 (cut2 m c t)))) (k0_pay3 (grid0.coords t)) (BitVec.ofNat 32 8) (ix2 i k) = _
  rw [less_apply _ _ _ _ (by decide)]
  simp only [turn4, turn2, turn1]
  exact pooled8 _ t.val _ (cut2_eq m c t k) (row t i) i rfl ⟨16 + i.val, by omega⟩ rfl

theorem mean3 (i : Fin 256) (k : Fin 128) : k0_pay8 (k0_pay2 (grid0.coords t) (iblk m c 1 t) (iblk m c 0 t)) (k0_pay3 (grid0.coords t)) (ix2 i k) = mean (A0 m c) 3 (row t i) k := by
  show less (cut3 m c t) (turn 8#32 (turn 4#32 (turn 2#32 (turn 1#32 (cut3 m c t))))) (k0_pay3 (grid0.coords t)) (BitVec.ofNat 32 16) (ix2 i k) = _
  rw [less_apply _ _ _ _ (by decide)]
  simp only [turn8, turn4, turn2, turn1]
  exact pooled16 _ t.val _ (cut3_eq m c t k) (row t i) i rfl ⟨16 + i.val, by omega⟩ rfl

/-- A group's product, for the first two groups computed apart. -/
theorem mixed0 (i : Fin 256) (l : Fin 128) : k0_pay9 (k0_pay4 (grid0.coords t) (iblk m c 1 t) (iblk m c 0 t)) (View.ld (iblk m c 2 t) r0_2) (ix2 i l) = mixed (A0 m c) (A1 m c) 0 (row t i) l := by
  pointwise [k0_pay9, mean0, in2]
  rfl
theorem mixed1 (i : Fin 256) (l : Fin 128) : k0_pay10 (k0_pay5 (grid0.coords t) (iblk m c 1 t) (iblk m c 0 t)) (View.ld (iblk m c 2 t) r0_3) (ix2 i l) = mixed (A0 m c) (A1 m c) 1 (row t i) l := by
  pointwise [k0_pay10, mean1, in2]
  rfl

/-- What a point stores. -/
def stored : FVec Ideal S256x512 .bf16 :=
  k0_pay1 (k0_pay8 (k0_pay2 (grid0.coords t) (iblk m c 1 t) (iblk m c 0 t)) (k0_pay3 (grid0.coords t)))
    (k0_pay9 (k0_pay4 (grid0.coords t) (iblk m c 1 t) (iblk m c 0 t)) (View.ld (iblk m c 2 t) r0_2)) (k0_pay10 (k0_pay5 (grid0.coords t) (iblk m c 1 t) (iblk m c 0 t)) (View.ld (iblk m c 2 t) r0_3))
    (k0_pay11 (k0_pay3 (grid0.coords t)) (k0_pay6 (grid0.coords t) (iblk m c 1 t) (iblk m c 0 t)) (k0_pay7 (grid0.coords t) (iblk m c 1 t) (iblk m c 0 t)))
    (View.ld (iblk m c 2 t) r0_4) (View.ld (iblk m c 2 t) r0_5) (iblk m c 3 t)

theorem stored_col (i : Fin 256) (g : Fin 4) (l : Fin 128) : stored m c t (ix2 i (col g l)) = mixed (A0 m c) (A1 m c) g (row t i) l * A2 m c (ix2 0 (col g l)) := by
  pointwise [stored, k0_pay1, mixed0, mixed1, mean2, mean3, in2, in3]
  have hl := l.isLt
  refine congrArg (· * _) ?_
  match g with
  | 0 =>
    refine (dif_pos (by show 128 * 0 + l.val < 128; omega)).trans (congrArg (mixed (A0 m c) (A1 m c) 0 (row t i)) (Fin.ext ?_))
    show 128 * 0 + l.val = l.val; omega
  | 1 =>
    refine (dif_neg (by show ¬128 * 1 + l.val < 128; omega)).trans ((dif_pos (by show 128 * 1 + l.val - 128 < 128; omega)).trans (congrArg (mixed (A0 m c) (A1 m c) 1 (row t i)) (Fin.ext ?_)))
    show 128 * 1 + l.val - 128 = l.val; omega
  | 2 =>
    refine (dif_neg (by show ¬128 * 2 + l.val < 128; omega)).trans ((dif_neg (by show ¬128 * 2 + l.val - 128 < 128; omega)).trans ((dif_pos (by show 128 * 2 + l.val - 128 - 128 < 128; omega)).trans
      (congrArg (mixed (A0 m c) (A1 m c) 2 (row t i)) (Fin.ext ?_))))
    show 128 * 2 + l.val - 128 - 128 = l.val; omega
  | 3 =>
    refine (dif_neg (by show ¬128 * 3 + l.val < 128; omega)).trans ((dif_neg (by show ¬128 * 3 + l.val - 128 < 128; omega)).trans ((dif_neg (by show ¬128 * 3 + l.val - 128 - 128 < 128; omega)).trans
      (congrArg (mixed (A0 m c) (A1 m c) 3 (row t i)) (Fin.ext ?_))))
    show 128 * 3 + l.val - 128 - 128 - 128 = l.val; omega

theorem out_eq : out0_4 (grid0.coords t) (iblk m c 0 t) (iblk m c 1 t) (iblk m c 2 t) (iblk m c 3 t) = stored m c t := by
  unfold_out out0_4
  frame_out
  rfl

theorem final : (dats m 0 c).arrAt 4 (cfgs 0).N = out (A0 m c) (A1 m c) (A2 m c) := by
  refine (dats m 0 c).arrAt_eq_of_covers 4 _ (by decide +kernel) fun t _ y => ?_
  blk_simp
  rw [after0_4, out_eq]
  have e : ∀ (i : Fin 256) (j : Fin 512), (win0_4.blk t).view.emb (ix2 i j) = ix2 (row t i) j := fun i j => by
    unfold row; blk_ext [idx4 t]
  idx_vars y
  rw [e y0 y1]
  obtain ⟨g, l, rfl⟩ := exists_col y1
  rw [out_col]
  exact stored_col m c t y0 g l

end Kern

namespace Ref

open Cert.Reference34Ideal Cert.Reference34Ideal.Read

variable (x : FVec Ideal ⟨2, ![4096, 8704]⟩ .f32) (w : FVec Ideal ⟨3, ![4, 128, 128]⟩ .f32)

/-! Each group: whether a row is in another's window, how many rows are, the group's columns, their means less themselves, the
group's weights, and the product. -/

theorem seen0 (t s : Fin 4096) : val_main_v16 (F := Ideal) (ix2 t s) = seen 2 t s := by
  pointwise [val_main_v16, val_main_v15, val_main_v14, val_main_v13, val_main_v12, val_main_v11, val_main_v10, val_main_v9, val_main_v8, val_main_v7, val_main_v6, val_main_v5, val_main_v4, val_main_v3, val_main_c, val_main_v1]
  exact seen_bits 2 (by decide) t s

theorem count0 (t : Fin 4096) (k : Fin 128) : val_main_v24 (F := Ideal) (ix2 t k) = count 2 t.val := by
  have ht := t.isLt
  pointwise [val_main_v24, val_main_v23, val_main_v21, val_main_v20, val_main_v19, val_main_v18, val_main_v17, val_main_c_1, val_main_c_0, val_main_v1]
  exact count_bits 2 t.val (by omega) (by decide)

theorem col0 (t : Fin 4096) (k : Fin 128) : val_main_v2 (F := Ideal) x (ix2 t k) = of x (col 0 k) t := by
  pointwise [val_main_v2, val_main_v0]
  unfold of
  congr 2
  exact Fin.ext (by show 3072 + k.val = 3072 + (128 * 0 + k.val); omega)

theorem mean0 (t : Fin 4096) (k : Fin 128) : val_main_v26 (F := Ideal) x (ix2 t k) = mean x 0 t k := by
  pointwise [val_main_v26, val_main_v25, val_main_v22, seen0, count0, col0]
  rfl

theorem weight0 (k l : Fin 128) : val_main_v28 (F := Ideal) w (ix2 k l) = w (ix3 0 k l) := by
  pointwise [val_main_v28, val_main_v27]

theorem mixed0 (t : Fin 4096) (l : Fin 128) : val_main_v29 (F := Ideal) x w (ix2 t l) = mixed x w 0 t l := by
  pointwise [val_main_v29, mean0, weight0]
  rfl

theorem seen1 (t s : Fin 4096) : val_main_v44 (F := Ideal) (ix2 t s) = seen 4 t s := by
  pointwise [val_main_v44, val_main_v43, val_main_v42, val_main_v41, val_main_v40, val_main_v39, val_main_v38, val_main_v37, val_main_v36, val_main_v35, val_main_v34, val_main_v33, val_main_v32, val_main_v31, val_main_c_2, val_main_v1]
  exact seen_bits 4 (by decide) t s

theorem count1 (t : Fin 4096) (k : Fin 128) : val_main_v52 (F := Ideal) (ix2 t k) = count 4 t.val := by
  have ht := t.isLt
  pointwise [val_main_v52, val_main_v51, val_main_v49, val_main_v48, val_main_v47, val_main_v46, val_main_v45, val_main_c_4, val_main_c_3, val_main_v1]
  exact count_bits 4 t.val (by omega) (by decide)

theorem col1 (t : Fin 4096) (k : Fin 128) : val_main_v30 (F := Ideal) x (ix2 t k) = of x (col 1 k) t := by
  pointwise [val_main_v30, val_main_v0]
  rfl

theorem mean1 (t : Fin 4096) (k : Fin 128) : val_main_v54 (F := Ideal) x (ix2 t k) = mean x 1 t k := by
  pointwise [val_main_v54, val_main_v53, val_main_v50, seen1, count1, col1]
  rfl

theorem weight1 (k l : Fin 128) : val_main_v56 (F := Ideal) w (ix2 k l) = w (ix3 1 k l) := by
  pointwise [val_main_v56, val_main_v55]

theorem mixed1 (t : Fin 4096) (l : Fin 128) : val_main_v57 (F := Ideal) x w (ix2 t l) = mixed x w 1 t l := by
  pointwise [val_main_v57, mean1, weight1]
  rfl

theorem seen2 (t s : Fin 4096) : val_main_v72 (F := Ideal) (ix2 t s) = seen 8 t s := by
  pointwise [val_main_v72, val_main_v71, val_main_v70, val_main_v69, val_main_v68, val_main_v67, val_main_v66, val_main_v65, val_main_v64, val_main_v63, val_main_v62, val_main_v61, val_main_v60, val_main_v59, val_main_c_5, val_main_v1]
  exact seen_bits 8 (by decide) t s

theorem count2 (t : Fin 4096) (k : Fin 128) : val_main_v80 (F := Ideal) (ix2 t k) = count 8 t.val := by
  have ht := t.isLt
  pointwise [val_main_v80, val_main_v79, val_main_v77, val_main_v76, val_main_v75, val_main_v74, val_main_v73, val_main_c_7, val_main_c_6, val_main_v1]
  exact count_bits 8 t.val (by omega) (by decide)

theorem col2 (t : Fin 4096) (k : Fin 128) : val_main_v58 (F := Ideal) x (ix2 t k) = of x (col 2 k) t := by
  pointwise [val_main_v58, val_main_v0]
  rfl

theorem mean2 (t : Fin 4096) (k : Fin 128) : val_main_v82 (F := Ideal) x (ix2 t k) = mean x 2 t k := by
  pointwise [val_main_v82, val_main_v81, val_main_v78, seen2, count2, col2]
  rfl

theorem weight2 (k l : Fin 128) : val_main_v84 (F := Ideal) w (ix2 k l) = w (ix3 2 k l) := by
  pointwise [val_main_v84, val_main_v83]

theorem mixed2 (t : Fin 4096) (l : Fin 128) : val_main_v85 (F := Ideal) x w (ix2 t l) = mixed x w 2 t l := by
  pointwise [val_main_v85, mean2, weight2]
  rfl

theorem seen3 (t s : Fin 4096) : val_main_v100 (F := Ideal) (ix2 t s) = seen 16 t s := by
  pointwise [val_main_v100, val_main_v99, val_main_v98, val_main_v97, val_main_v96, val_main_v95, val_main_v94, val_main_v93, val_main_v92, val_main_v91, val_main_v90, val_main_v89, val_main_v88, val_main_v87, val_main_c_8, val_main_v1]
  exact seen_bits 16 (by decide) t s

theorem count3 (t : Fin 4096) (k : Fin 128) : val_main_v108 (F := Ideal) (ix2 t k) = count 16 t.val := by
  have ht := t.isLt
  pointwise [val_main_v108, val_main_v107, val_main_v105, val_main_v104, val_main_v103, val_main_v102, val_main_v101, val_main_c_10, val_main_c_9, val_main_v1]
  exact count_bits 16 t.val (by omega) (by decide)

theorem col3 (t : Fin 4096) (k : Fin 128) : val_main_v86 (F := Ideal) x (ix2 t k) = of x (col 3 k) t := by
  pointwise [val_main_v86, val_main_v0]
  rfl

theorem mean3 (t : Fin 4096) (k : Fin 128) : val_main_v110 (F := Ideal) x (ix2 t k) = mean x 3 t k := by
  pointwise [val_main_v110, val_main_v109, val_main_v106, seen3, count3, col3]
  rfl

theorem weight3 (k l : Fin 128) : val_main_v112 (F := Ideal) w (ix2 k l) = w (ix3 3 k l) := by
  pointwise [val_main_v112, val_main_v111]

theorem mixed3 (t : Fin 4096) (l : Fin 128) : val_main_v113 (F := Ideal) x w (ix2 t l) = mixed x w 3 t l := by
  pointwise [val_main_v113, mean3, weight3]
  rfl

theorem value (s : FVec Ideal ⟨2, ![1, 512]⟩ .f32) : val_main_v117 (F := Ideal) x w s = out x w s := by
  funext y
  idx_vars y
  obtain ⟨g, l, rfl⟩ := exists_col y1
  rw [out_col]
  pointwise [val_main_v117, val_main_v116, val_main_v115, val_main_v114, mixed0, mixed1, mixed2, mixed3]
  have hl := l.isLt
  refine congrArg (· * _) ?_
  match g with
  | 0 =>
    refine (dif_pos (by show 128 * 0 + l.val < 128; omega)).trans (congrArg (mixed x w 0 y0) (Fin.ext ?_))
    show 128 * 0 + l.val = l.val; omega
  | 1 =>
    refine (dif_neg (by show ¬128 * 1 + l.val < 128; omega)).trans ((dif_pos (by show 128 * 1 + l.val - 128 < 128; omega)).trans (congrArg (mixed x w 1 y0) (Fin.ext ?_)))
    show 128 * 1 + l.val - 128 = l.val; omega
  | 2 =>
    refine (dif_neg (by show ¬128 * 2 + l.val < 128; omega)).trans ((dif_neg (by show ¬128 * 2 + l.val - 128 < 128; omega)).trans ((dif_pos (by show 128 * 2 + l.val - 128 - 128 < 128; omega)).trans
      (congrArg (mixed x w 2 y0) (Fin.ext ?_))))
    show 128 * 2 + l.val - 128 - 128 = l.val; omega
  | 3 =>
    refine (dif_neg (by show ¬128 * 3 + l.val < 128; omega)).trans ((dif_neg (by show ¬128 * 3 + l.val - 128 < 128; omega)).trans ((dif_neg (by show ¬128 * 3 + l.val - 128 - 128 < 128; omega)).trans
      (congrArg (mixed x w 3 y0) (Fin.ext ?_))))
    show 128 * 3 + l.val - 128 - 128 - 128 = l.val; omega

end Ref

/-- The reference alone: it keeps its arguments, and has no semaphore. -/
theorem ref_frame : Cert.quiescent_Reference34Ideal := fun m g _ =>
  (θ_run _ _ _).mono (fun r h => ⟨fun c => (h c).2, sem_eq_zero_of_no_sems (by decide) r.2⟩) (Cert.Reference34Ideal.Value.run m g)

/-- From the same arguments both end with the same array. -/
theorem algebraic : Cert.algebraic_Kernel34Ideal_Reference34Ideal := by
  intro m g m' g' _ hagree
  refine ⟨fun c => out (Kern.A0 m c) (Kern.A1 m c) (Kern.A2 m c), ?_, ?_⟩
  · refine (θ_run _ _ _).mono (fun r h c => ?_) (θ_run_and (Cert.Kernel34Ideal.Gen.unchanged m g) (Cert.Kernel34Ideal.Gen.run_main m g))
    exact ⟨((h.2 c).1 4).trans (Kern.final m c), h.1 c⟩
  · refine (θ_run _ _ _).mono (fun r h c => ?_) (Cert.Reference34Ideal.Value.run m' g')
    obtain ⟨e0, e1, e2⟩ := hagree c
    refine ⟨(h c).1.trans ((Cert.Reference34Ideal.Read.val_main_v117_eq ..).trans ((Ref.value _ _ _).trans ?_)), (h c).2⟩
    beta_reduce
    unfold Kern.A0 Kern.A1 Kern.A2
    rw [← e0, ← e1, ← e2]

end Cert.PoolFwd

end
-- ==== Proof.PoolBwdKernel.lean ====
/- The gradients of the pooling mixer, as the kernel computes them block by block. -/
module

public import proofs.«01_k».proof.Proof.PoolSpec
public import proofs.«01_k».proof.Proof.Gen.Kernel35Ideal.Value
public import Idealize.ShloMosaic.Lib.Pipeline.ValueKit
public import Idealize.ShloMosaic.Lib.Pipeline.ReadBack

@[expose] public section

set_option maxRecDepth 16384

noncomputable section

namespace Cert.PoolBwd.Kern

open Idealize.ShloMosaic Idealize.ShloMosaic.TcCoe Idealize.SL.Sem
open Idealize.ShloMosaic.Pipeline (Dat)
open Cert.Pool
open scoped BigOperators
open Cert.Kernel35Ideal Cert.Kernel35Ideal.Gen

variable (m : (ℓ : Loc nD τ sig) → Buf (Elt Ideal) ℓ)

/-- Which block of its array each window holds at a point. -/
theorem idx : ∀ t : Fin cfg0.N, (grid0.coords t 0).val = t.val ∧ win0_0.index t = ![t.val, 6] ∧ win0_1.index t = ![16 * t.val - 1, 6] ∧ win0_2.index t = ![t.val, 0]
    ∧ win0_3.index t = ![min (16 * t.val + 16) 255, 0] ∧ win0_4.index t = ![0, 0, 0] ∧ win0_5.index t = ![0, 0] ∧ win0_6.index t = ![t.val, 0] ∧ win0_7.index t = ![0, 0, 0] ∧ win0_8.index t = ![0, 0] :=
  (by decide +kernel : ∀ t : Fin grid0.N, _)

theorem idxg (t : Fin cfg0.N) : (grid0.coords t 0).val = t.val := (idx t).1
theorem idx0 (t : Fin cfg0.N) : win0_0.index t = ![t.val, 6] := (idx t).2.1
theorem idx1 (t : Fin cfg0.N) : win0_1.index t = ![16 * t.val - 1, 6] := (idx t).2.2.1
theorem idx2 (t : Fin cfg0.N) : win0_2.index t = ![t.val, 0] := (idx t).2.2.2.1
theorem idx3 (t : Fin cfg0.N) : win0_3.index t = ![min (16 * t.val + 16) 255, 0] := (idx t).2.2.2.2.1
theorem idx4 (t : Fin cfg0.N) : win0_4.index t = ![0, 0, 0] := (idx t).2.2.2.2.2.1
theorem idx5 (t : Fin cfg0.N) : win0_5.index t = ![0, 0] := (idx t).2.2.2.2.2.2.1
theorem idx6 (t : Fin cfg0.N) : win0_6.index t = ![t.val, 0] := (idx t).2.2.2.2.2.2.2.1
theorem idx7 (t : Fin cfg0.N) : win0_7.index t = ![0, 0, 0] := (idx t).2.2.2.2.2.2.2.2.1
theorem idx8 (t : Fin cfg0.N) : win0_8.index t = ![0, 0] := (idx t).2.2.2.2.2.2.2.2.2

theorem lt (t : Fin cfg0.N) : t.val < 16 := lt_of_lt_of_eq t.isLt N_0

/-- The array's row that row `i` of block `t` is. -/
def row (t : Fin cfg0.N) (i : Fin 256) : Fin 4096 := ⟨256 * t.val + i.val, by have := lt t; omega⟩

variable (c : Dev nD) (t : Fin cfg0.N)

abbrev A0 : FVec Ideal ⟨2, ![4096, 8704]⟩ .f32 := m ((c : Thread nD τ).loc main_arg0)
abbrev A1 : FVec Ideal ⟨2, ![4096, 512]⟩ .f32 := m ((c : Thread nD τ).loc main_arg1)
abbrev A2 : FVec Ideal ⟨3, ![4, 128, 128]⟩ .f32 := m ((c : Thread nD τ).loc main_arg2)
abbrev A3 : FVec Ideal ⟨2, ![1, 512]⟩ .f32 := m ((c : Thread nD τ).loc main_arg3)

theorem in0 (i : Fin 256) (q : Fin 512) : iblk m c 0 t (ix2 i q) = A0 m c (ix2 (row t i) ⟨3072 + q.val, by omega⟩) := by
  unfold row; blk_point [iblk, V, idx0 t]

theorem in1 (i : Fin 16) (q : Fin 512) : iblk m c 1 t (ix2 i q) = A0 m c (ix2 ⟨16 * (16 * t.val - 1) + i.val, by have := lt t; omega⟩ ⟨3072 + q.val, by omega⟩) := by
  blk_point [iblk, V, idx1 t]

theorem in2 (i : Fin 256) (q : Fin 512) : iblk m c 2 t (ix2 i q) = A1 m c (ix2 (row t i) q) := by
  unfold row; blk_point [iblk, V, idx2 t]

theorem in3 (i : Fin 16) (q : Fin 512) : iblk m c 3 t (ix2 i q) = A1 m c (ix2 ⟨16 * min (16 * t.val + 16) 255 + i.val, by have := lt t; omega⟩ q) := by
  blk_point [iblk, V, idx3 t]

theorem in4 (g : Fin 4) (k l : Fin 128) : iblk m c 4 t (ix3 g k l) = A2 m c (ix3 g k l) := by
  blk_point [iblk, V, idx4 t]

theorem in5 (q : Fin 512) : iblk m c 5 t (ix2 0 q) = A3 m c (ix2 0 q) := by
  blk_point [iblk, V, idx5 t]

/-- The rows a point works on: 16 of the block before, 0 before the first, then its own. -/
theorem rows (r : Fin 272) (q : Fin 512) : k0_pay4 (grid0.coords t) (iblk m c 1 t) (iblk m c 0 t) (ix2 r q) = before (of (A0 m c) q) t.val r.val := by
  have ht := lt t
  have hr := r.isLt
  pointwise [k0_pay4, in0, in1]
  unfold before
  by_cases h : r.val < 16
  · rw [dif_pos h]
    show Scalar.select (Scalar.cmpi .eq (BitVec.ofNat 32 (grid0.coords t 0).val) 0#32) 0 (A0 m c (ix2 ⟨16 * (16 * t.val - 1) + r.val, by omega⟩ ⟨3072 + q.val, by omega⟩)) = _
    rw [idxg t, first_bits _ ht, select_bool]
    by_cases z : t.val = 0
    · rw [if_pos z, if_neg (by omega)]
    · rw [if_neg z, if_pos (by omega)]
      refine Eq.trans ?_ (at_of_lt _ ⟨256 * t.val + r.val - 16, by omega⟩).symm
      unfold of
      congr 2
      exact Fin.ext (by show 16 * (16 * t.val - 1) + r.val = 256 * t.val + r.val - 16; omega)
  · rw [dif_neg h]
    refine Eq.trans ?_ (if_pos (by omega)).symm
    refine Eq.trans ?_ (at_of_lt _ ⟨256 * t.val + r.val - 16, by omega⟩).symm
    unfold of row
    congr 2
    exact Fin.ext (by show 256 * t.val + (r.val - 16) = 256 * t.val + r.val - 16; omega)

/-- How many rows a row's window holds. -/
def held (w : ℕ) (i : Fin 256) : EReal := FloatOps.sitofp (F := Ideal) .f32 (IntOp.minsi (IntOp.addi (IntOp.addi (Scalar.muli (BitVec.ofNat 32 (grid0.coords t 0).val) 256#32) (BitVec.ofNat 32 i.val)) 1#32)
  (BitVec.ofNat 32 w))

theorem held_eq (w : ℕ) (hw : w < 8000) (i : Fin 256) : held t w i = count w (row t i).val := by
  have ht := lt t
  unfold held
  rw [idxg t, row_bits, count_bits _ _ (by omega) hw]
  rfl

/-- A doubling of a point's rows, and what becomes of the rows and their doublings: the mean less the row. -/
def turn (n : BitVec 32) (x : FVec Ideal S272x128 .f32) : FVec Ideal S272x128 .f32 := addf x (dynamicRotate 0 n none x rotates_S272x128_d0)

theorem turn1 (x : FVec Ideal S272x128 .f32) (r : Fin 272) (k : Fin 128) : turn 1#32 x (ix2 r k) = dbl 1 (fun r => x (ix2 r k)) r := by pointwise [turn]; rfl
theorem turn2 (x : FVec Ideal S272x128 .f32) (r : Fin 272) (k : Fin 128) : turn 2#32 x (ix2 r k) = dbl 2 (fun r => x (ix2 r k)) r := by pointwise [turn]; rfl
theorem turn4 (x : FVec Ideal S272x128 .f32) (r : Fin 272) (k : Fin 128) : turn 4#32 x (ix2 r k) = dbl 4 (fun r => x (ix2 r k)) r := by pointwise [turn]; rfl
theorem turn8 (x : FVec Ideal S272x128 .f32) (r : Fin 272) (k : Fin 128) : turn 8#32 x (ix2 r k) = dbl 8 (fun r => x (ix2 r k)) r := by pointwise [turn]; rfl

def less (x y : FVec Ideal S272x128 .f32) (n : IVec S256x1 32) (w : BitVec 32) : FVec Ideal S256x128 .f32 :=
  subf (divf (extractStridedSlice S256x128 ![16, 0] y slices_S272x128_o16_0_S256x128)
    (broadcastTo S256x128 (sitofp .f32 (minsi (addi n (broadcast S256x1 1#32)) (broadcast S256x1 w))) broadcasts_S256x1_S256x128))
    (extractStridedSlice S256x128 ![16, 0] x slices_S272x128_o16_0_S256x128)

theorem less_apply (x y : FVec Ideal S272x128 .f32) (w : ℕ) (hw : w < 8000) (i : Fin 256) (k : Fin 128) :
    less x y (k0_pay5 (grid0.coords t)) (BitVec.ofNat 32 w) (ix2 i k) = Ideal.div (y (ix2 ⟨16 + i.val, by omega⟩ k)) (count w (row t i).val) - x (ix2 ⟨16 + i.val, by omega⟩ k) := by
  rw [← held_eq t w hw i]
  pointwise [less, k0_pay5]
  rfl

/-- A group's columns of the rows a point works on. -/
def cut0 : FVec Ideal S272x128 .f32 := extractStridedSlice S272x128 ![0, 0] (k0_pay4 (grid0.coords t) (iblk m c 1 t) (iblk m c 0 t)) slices_S272x512_o0_0_S272x128
def cut1 : FVec Ideal S272x128 .f32 := extractStridedSlice S272x128 ![0, 128] (k0_pay4 (grid0.coords t) (iblk m c 1 t) (iblk m c 0 t)) slices_S272x512_o0_128_S272x128
def cut2 : FVec Ideal S272x128 .f32 := extractStridedSlice S272x128 ![0, 256] (k0_pay4 (grid0.coords t) (iblk m c 1 t) (iblk m c 0 t)) slices_S272x512_o0_256_S272x128
def cut3 : FVec Ideal S272x128 .f32 := extractStridedSlice S272x128 ![0, 384] (k0_pay4 (grid0.coords t) (iblk m c 1 t) (iblk m c 0 t)) slices_S272x512_o0_384_S272x128

theorem cut0_eq (k : Fin 128) (r : Fin 272) : cut0 m c t (ix2 r k) = before (of (A0 m c) (col 0 k)) t.val r.val := by
  refine Eq.trans ?_ (rows m c t r (col 0 k))
  have e : (⟨k.val, by omega⟩ : Fin 512) = col 0 k := Fin.ext (by show k.val = 128 * 0 + k.val; omega)
  rw [← e]
  pointwise [cut0]
theorem cut1_eq (k : Fin 128) (r : Fin 272) : cut1 m c t (ix2 r k) = before (of (A0 m c) (col 1 k)) t.val r.val := by
  refine Eq.trans ?_ (rows m c t r (col 1 k))
  pointwise [cut1]
  rfl
theorem cut2_eq (k : Fin 128) (r : Fin 272) : cut2 m c t (ix2 r k) = before (of (A0 m c) (col 2 k)) t.val r.val := by
  refine Eq.trans ?_ (rows m c t r (col 2 k))
  pointwise [cut2]
  rfl
theorem cut3_eq (k : Fin 128) (r : Fin 272) : cut3 m c t (ix2 r k) = before (of (A0 m c) (col 3 k)) t.val r.val := by
  refine Eq.trans ?_ (rows m c t r (col 3 k))
  pointwise [cut3]
  rfl

/-- The four groups' pooled columns. -/
theorem mean0 (i : Fin 256) (k : Fin 128) : k0_pay6 (grid0.coords t) (iblk m c 1 t) (iblk m c 0 t) (ix2 i k) = mean (A0 m c) 0 (row t i) k := by
  show less (cut0 m c t) (turn 1#32 (cut0 m c t)) (k0_pay5 (grid0.coords t)) (BitVec.ofNat 32 2) (ix2 i k) = _
  rw [less_apply _ _ _ _ (by decide), turn1]
  exact pooled2 _ t.val _ (cut0_eq m c t k) (row t i) i rfl ⟨16 + i.val, by omega⟩ rfl

theorem mean1 (i : Fin 256) (k : Fin 128) : k0_pay7 (grid0.coords t) (iblk m c 1 t) (iblk m c 0 t) (ix2 i k) = mean (A0 m c) 1 (row t i) k := by
  show less (cut1 m c t) (turn 2#32 (turn 1#32 (cut1 m c t))) (k0_pay5 (grid0.coords t)) (BitVec.ofNat 32 4) (ix2 i k) = _
  rw [less_apply _ _ _ _ (by decide)]
  simp only [turn2, turn1]
  exact pooled4 _ t.val _ (cut1_eq m c t k) (row t i) i rfl ⟨16 + i.val, by omega⟩ rfl

theorem mean2 (i : Fin 256) (k : Fin 128) :
    k0_pay9 (k0_pay5 (grid0.coords t)) (k0_pay8 (grid0.coords t) (iblk m c 1 t) (iblk m c 0 t)) (ix2 i k) = mean (A0 m c) 2 (row t i) k := by
  show less (cut2 m c t) (turn 4#32 (turn 2#32 (turn 1#32 (cut2 m c t)))) (k0_pay5 (grid0.coords t)) (BitVec.ofNat 32 8) (ix2 i k) = _
  rw [less_apply _ _ _ _ (by decide)]
  simp only [turn4, turn2, turn1]
  exact pooled8 _ t.val _ (cut2_eq m c t k) (row t i) i rfl ⟨16 + i.val, by omega⟩ rfl

theorem mean3 (i : Fin 256) (k : Fin 128) : k0_pay10 (k0_pay4 (grid0.coords t) (iblk m c 1 t) (iblk m c 0 t)) (k0_pay5 (grid0.coords t)) (ix2 i k) = mean (A0 m c) 3 (row t i) k := by
  show less (cut3 m c t) (turn 8#32 (turn 4#32 (turn 2#32 (turn 1#32 (cut3 m c t))))) (k0_pay5 (grid0.coords t)) (BitVec.ofNat 32 16) (ix2 i k) = _
  rw [less_apply _ _ _ _ (by decide)]
  simp only [turn8, turn4, turn2, turn1]
  exact pooled16 _ t.val _ (cut3_eq m c t k) (row t i) i rfl ⟨16 + i.val, by omega⟩ rfl

theorem at_out (f : Fin 4096 → EReal) {n : ℕ} (h : ¬ n < 4096) : at' f n = 0 := dif_neg h

theorem win_pos (g : Fin 4) : 0 < win g := by revert g; decide

/-- The cotangents a point works on: its own rows, then 16 of the block after, 0 past the last. -/
theorem cots (r : Fin 272) (q : Fin 512) : k0_pay11 (BitVec.ofNat 32 (grid0.coords t 0).val) (iblk m c 2 t) (iblk m c 3 t) (ix2 r q) = at' (fun u => A1 m c (ix2 u q)) (256 * t.val + r.val) := by
  have ht := lt t
  have hr := r.isLt
  pointwise [k0_pay11, in2, in3]
  by_cases h : r.val < 256
  · rw [dif_pos h]
    exact (at_of_lt (fun u => A1 m c (ix2 u q)) ⟨256 * t.val + r.val, by omega⟩).symm
  · rw [dif_neg h]
    show Scalar.select (Scalar.cmpi .eq (BitVec.ofNat 32 (grid0.coords t 0).val) 15#32) 0 (A1 m c (ix2 ⟨16 * min (16 * t.val + 16) 255 + (r.val - 256), by omega⟩ q)) = _
    rw [idxg t, last_bits _ ht, select_bool]
    by_cases z : t.val = 15
    · rw [if_pos z]
      exact (at_out _ (by omega)).symm
    · rw [if_neg z]
      refine Eq.trans ?_ (at_of_lt (fun u => A1 m c (ix2 u q)) ⟨256 * t.val + r.val, by omega⟩).symm
      refine congrArg (A1 m c) (congrArg (ix2 · q) (Fin.ext ?_))
      show 16 * min (16 * t.val + 16) 255 + (r.val - 256) = 256 * t.val + r.val
      omega

/-- Times the scale. -/
def cot (r : Fin 272) (q : Fin 512) : EReal := at' (fun u => A1 m c (ix2 u q)) (256 * t.val + r.val) * A3 m c (ix2 0 q)

theorem cot_eq (r : Fin 272) (q : Fin 512) : k0_pay12 (k0_pay11 (BitVec.ofNat 32 (grid0.coords t 0).val) (iblk m c 2 t) (iblk m c 3 t)) (iblk m c 5 t) (ix2 r q) = cot m c t r q := by
  pointwise [k0_pay12, cots, in5]
  rfl

theorem cot_own (i : Fin 256) (q : Fin 512) : cot m c t ⟨i.val, by omega⟩ q = scaled (A1 m c) (A3 m c) (row t i) q := by
  unfold cot scaled
  exact congrArg (· * A3 m c (ix2 0 q)) (at_of_lt (fun u => A1 m c (ix2 u q)) (row t i))

/-- The pooled columns' cotangents of a point's rows. -/
def dp (g : Fin 4) (r : Fin 272) (k : Fin 128) : EReal := ∑ l : Fin 128, cot m c t r (col g l) * A2 m c (ix3 g k l)

theorem dp_own (g : Fin 4) (i : Fin 256) (k : Fin 128) : dp m c t g ⟨i.val, by omega⟩ k = fromMean (A1 m c) (A2 m c) (A3 m c) g k (row t i) :=
  Finset.sum_congr rfl fun l _ => congrArg (· * A2 m c (ix3 g k l)) (cot_own m c t i (col g l))

/-- Their parts, and 0 past the last row. -/
theorem part_eq (g : Fin 4) (r : Fin 272) (k : Fin 128) : Ideal.div (dp m c t g r k) (count (win g) (256 * t.val + r.val)) = at' (passed (A1 m c) (A2 m c) (A3 m c) g k) (256 * t.val + r.val) := by
  by_cases h : 256 * t.val + r.val < 4096
  · refine Eq.trans ?_ (at_of_lt (passed (A1 m c) (A2 m c) (A3 m c) g k) ⟨256 * t.val + r.val, h⟩).symm
    refine congrArg (Ideal.div · (count (win g) (256 * t.val + r.val))) (Finset.sum_congr rfl fun l _ => congrArg (· * A2 m c (ix3 g k l)) ?_)
    exact congrArg (· * A3 m c (ix2 0 (col g l))) (at_of_lt (fun u => A1 m c (ix2 u (col g l))) ⟨256 * t.val + r.val, h⟩)
  · have z : dp m c t g r k = 0 := Finset.sum_eq_zero fun l _ => by
      have e : at' (fun u => A1 m c (ix2 u (col g l))) (256 * t.val + r.val) = 0 := at_out _ h
      unfold cot
      rw [e, zero_mul, zero_mul]
    rw [z, zero_div_count _ _ (win_pos g)]
    exact (at_out _ h).symm

/-- A doubling of a point's rows with 0 for the rows past the end, a quotient by the counts, and what becomes of them. -/
def mturn (n : BitVec 32) (x : FVec Ideal S272x128 .f32) : FVec Ideal S272x128 .f32 :=
  addf x (select (broadcastTo S272x128 (shapeCast S272x1 (cmpi .slt (iota .tc S272x1 32 [0] iota_S272x1_d0_w32) (broadcast S272x1 n)) shapeCasts_S272x1_S272x1) broadcasts_S272x1_S272x128)
    (dynamicRotate 0 n none x rotates_S272x128_d0) (broadcast S272x128 (FloatOps.ofBits .f32 0x00000000#32)))

theorem select_lt (r n : ℕ) (hr : r < 8192) (hn : n < 8192) (a b : EReal) : Scalar.select (IntOp.cmpi .slt (BitVec.ofNat 32 r) (BitVec.ofNat 32 n)) a b = if r < n then a else b := by
  show Scalar.select (BitVec.ofBool ((BitVec.ofNat 32 r).slt (BitVec.ofNat 32 n))) a b = _
  rw [ofNat_slt _ _ hr hn, select_bool]

theorem mturn1 (x : FVec Ideal S272x128 .f32) (r : Fin 272) (k : Fin 128) : mturn 271#32 x (ix2 r k) = mdbl 1 (fun r => x (ix2 r k)) r := by
  have hr := r.isLt
  pointwise [mturn]
  exact congrArg (x (ix2 r k) + ·) (select_lt r.val 271 (by omega) (by decide) _ _)
theorem mturn2 (x : FVec Ideal S272x128 .f32) (r : Fin 272) (k : Fin 128) : mturn 270#32 x (ix2 r k) = mdbl 2 (fun r => x (ix2 r k)) r := by
  have hr := r.isLt
  pointwise [mturn]
  exact congrArg (x (ix2 r k) + ·) (select_lt r.val 270 (by omega) (by decide) _ _)
theorem mturn4 (x : FVec Ideal S272x128 .f32) (r : Fin 272) (k : Fin 128) : mturn 268#32 x (ix2 r k) = mdbl 4 (fun r => x (ix2 r k)) r := by
  have hr := r.isLt
  pointwise [mturn]
  exact congrArg (x (ix2 r k) + ·) (select_lt r.val 268 (by omega) (by decide) _ _)
theorem mturn8 (x : FVec Ideal S272x128 .f32) (r : Fin 272) (k : Fin 128) : mturn 264#32 x (ix2 r k) = mdbl 8 (fun r => x (ix2 r k)) r := by
  have hr := r.isLt
  pointwise [mturn]
  exact congrArg (x (ix2 r k) + ·) (select_lt r.val 264 (by omega) (by decide) _ _)

def share (x : FVec Ideal S272x128 .f32) (n : IVec S272x1 32) (w : BitVec 32) : FVec Ideal S272x128 .f32 :=
  divf x (broadcastTo S272x128 (sitofp .f32 (minsi (addi n (broadcast S272x1 1#32)) (broadcast S272x1 w))) broadcasts_S272x1_S272x128)

theorem share_apply (x : FVec Ideal S272x128 .f32) (w : ℕ) (hw : w < 8000) (r : Fin 272) (k : Fin 128) :
    share x (k0_pay13 (BitVec.ofNat 32 (grid0.coords t 0).val)) (BitVec.ofNat 32 w) (ix2 r k) = Ideal.div (x (ix2 r k)) (count w (256 * t.val + r.val)) := by
  have ht := lt t
  have hr := r.isLt
  rw [← count_bits w (256 * t.val + r.val) (by omega) hw, ← row_bits, ← idxg t]
  pointwise [share, k0_pay13]

def own (y x : FVec Ideal S272x128 .f32) : FVec Ideal S256x128 .f32 :=
  subf (extractStridedSlice S256x128 ![0, 0] y slices_S272x128_o0_0_S256x128) (extractStridedSlice S256x128 ![0, 0] x slices_S272x128_o0_0_S256x128)

theorem own_apply (y x : FVec Ideal S272x128 .f32) (i : Fin 256) (k : Fin 128) : own y x (ix2 i k) = y (ix2 ⟨i.val, by omega⟩ k) - x (ix2 ⟨i.val, by omega⟩ k) := by
  pointwise [own]

abbrev Row := BitVec.ofNat 32 (grid0.coords t 0).val
abbrev Cot := k0_pay11 (BitVec.ofNat 32 (grid0.coords t 0).val) (iblk m c 2 t) (iblk m c 3 t)
abbrev W0 : FVec Ideal S1x128x128 .f32 := View.ld (iblk m c 4 t) (Rect.unit ![0, 0, 0] ![1, 128, 128] inb_S4x128x128_S1x128x128_0_0_0)
abbrev W1 : FVec Ideal S1x128x128 .f32 := View.ld (iblk m c 4 t) (Rect.unit ![1, 0, 0] ![1, 128, 128] inb_S4x128x128_S1x128x128_1_0_0)
abbrev W2 : FVec Ideal S1x128x128 .f32 := View.ld (iblk m c 4 t) (Rect.unit ![2, 0, 0] ![1, 128, 128] inb_S4x128x128_S1x128x128_2_0_0)
abbrev W3 : FVec Ideal S1x128x128 .f32 := View.ld (iblk m c 4 t) (Rect.unit ![3, 0, 0] ![1, 128, 128] inb_S4x128x128_S1x128x128_3_0_0)

/-- Group `0`'s cotangents of its pooled columns. -/
def DP0 : FVec Ideal S272x128 .f32 := k0_pay19 (Cot m c t) (iblk m c 5 t) (W0 m c t)

theorem DP0_eq (r : Fin 272) (k : Fin 128) : DP0 m c t (ix2 r k) = dp m c t 0 r k := by
  pointwise [DP0, W0, k0_pay19, k0_pay17, k0_pay14, cot_eq, in4]
  refine Finset.sum_congr rfl fun l _ => congrArg (· * _) (congrArg (cot m c t r) (Fin.ext ?_))
  show l.val = 128 * 0 + l.val
  omega

/-- Group `1`'s cotangents of its pooled columns. -/
def DP1 : FVec Ideal S272x128 .f32 := k0_pay27 (k0_pay12 (Cot m c t) (iblk m c 5 t)) (W1 m c t)

theorem DP1_eq (r : Fin 272) (k : Fin 128) : DP1 m c t (ix2 r k) = dp m c t 1 r k := by
  pointwise [DP1, W1, k0_pay27, k0_pay25, k0_pay22, cot_eq, in4]
  rfl

/-- Group `2`'s cotangents of its pooled columns. -/
def DP2 : FVec Ideal S272x128 .f32 := matmul dot_S272x128_S128x128_S272x128_1_1_0_0_n_n none (k0_pay33 (k0_pay12 (Cot m c t) (iblk m c 5 t))) (k0_pay30 (W2 m c t)) (constant S272x128 .f32 0x00000000#32)

theorem DP2_eq (r : Fin 272) (k : Fin 128) : DP2 m c t (ix2 r k) = dp m c t 2 r k := by
  pointwise [DP2, W2, k0_pay33, k0_pay30, cot_eq, in4]
  rfl

/-- Group `3`'s cotangents of its pooled columns. -/
def DP3 : FVec Ideal S272x128 .f32 := k0_pay41 (k0_pay12 (Cot m c t) (iblk m c 5 t)) (W3 m c t)

theorem DP3_eq (r : Fin 272) (k : Fin 128) : DP3 m c t (ix2 r k) = dp m c t 3 r k := by
  pointwise [DP3, W3, k0_pay41, k0_pay39, k0_pay36, cot_eq, in4]
  rfl

theorem du0 (i : Fin 256) (k : Fin 128) : k0_pay21 (iota .tc S272x1 32 [0] iota_S272x1_d0_w32) (k0_pay19 (Cot m c t) (iblk m c 5 t) (W0 m c t)) (k0_pay20 (Row t)) (ix2 i k) = dcol (A1 m c) (A2 m c) (A3 m c) 0 k (row t i) := by
  show own (mturn 271#32 (share (DP0 m c t) (k0_pay13 (Row t)) (BitVec.ofNat 32 2))) (DP0 m c t) (ix2 i k) = _
  rw [own_apply, DP0_eq, dp_own]
  unfold dcol
  refine congrArg (· - _) ?_
  simp only [mturn1, share_apply t _ 2 (by decide), DP0_eq]
  exact lead2 (passed (A1 m c) (A2 m c) (A3 m c) 0 k) t.val _ (fun r => part_eq m c t 0 r k) (row t i) i rfl ⟨i.val, by omega⟩ rfl

theorem du1 (i : Fin 256) (k : Fin 128) : k0_pay29 (k0_pay13 (Row t)) (iota .tc S272x1 32 [0] iota_S272x1_d0_w32) (k0_pay27 (k0_pay12 (Cot m c t) (iblk m c 5 t)) (W1 m c t)) k0_pay28 (ix2 i k) = dcol (A1 m c) (A2 m c) (A3 m c) 1 k (row t i) := by
  show own (mturn 270#32 (mturn 271#32 (share (DP1 m c t) (k0_pay13 (Row t)) (BitVec.ofNat 32 4)))) (DP1 m c t) (ix2 i k) = _
  rw [own_apply, DP1_eq, dp_own]
  unfold dcol
  refine congrArg (· - _) ?_
  simp only [mturn2, mturn1, share_apply t _ 4 (by decide), DP1_eq]
  exact lead4 (passed (A1 m c) (A2 m c) (A3 m c) 1 k) t.val _ (fun r => part_eq m c t 1 r k) (row t i) i rfl ⟨i.val, by omega⟩ rfl

theorem du2 (i : Fin 256) (k : Fin 128) : k0_pay35 (k0_pay13 (Row t)) (iota .tc S272x1 32 [0] iota_S272x1_d0_w32) (k0_pay30 (W2 m c t)) (k0_pay33 (k0_pay12 (Cot m c t) (iblk m c 5 t))) (ix2 i k) = dcol (A1 m c) (A2 m c) (A3 m c) 2 k (row t i) := by
  show own (mturn 268#32 (mturn 270#32 (mturn 271#32 (share (DP2 m c t) (k0_pay13 (Row t)) (BitVec.ofNat 32 8))))) (DP2 m c t) (ix2 i k) = _
  rw [own_apply, DP2_eq, dp_own]
  unfold dcol
  refine congrArg (· - _) ?_
  simp only [mturn4, mturn2, mturn1, share_apply t _ 8 (by decide), DP2_eq]
  exact lead8 (passed (A1 m c) (A2 m c) (A3 m c) 2 k) t.val _ (fun r => part_eq m c t 2 r k) (row t i) i rfl ⟨i.val, by omega⟩ rfl

end Cert.PoolBwd.Kern

end
-- ==== Proof.PoolBwdFinal.lean ====
/- The gradients of the pooling mixer, the kernel's results: what each array holds after the last block. -/
module

public import proofs.«01_k».proof.Proof.PoolBwdKernel

@[expose] public section

set_option maxRecDepth 16384

noncomputable section

namespace Cert.PoolBwd.Kern

open Idealize.ShloMosaic Idealize.ShloMosaic.TcCoe Idealize.SL.Sem
open Idealize.ShloMosaic.Pipeline (Dat)
open Cert.Pool
open scoped BigOperators
open Cert.Kernel35Ideal Cert.Kernel35Ideal.Gen

variable (m : (ℓ : Loc nD τ sig) → Buf (Elt Ideal) ℓ) (c : Dev nD) (t : Fin cfg0.N)

/-- The last group's stored columns: the payload's arguments are the rows' parts, their first turn, and what it masks. -/
def last (x y : FVec Ideal S272x128 .f32) : FVec Ideal S256x128 .f32 := own (mturn 264#32 (mturn 268#32 (mturn 270#32 (mturn 271#32 x)))) y

theorem last_apply (i : Fin 256) (k : Fin 128) :
    last (share (DP3 m c t) (k0_pay13 (Row t)) (BitVec.ofNat 32 16)) (DP3 m c t) (ix2 i k) = dcol (A1 m c) (A2 m c) (A3 m c) 3 k (row t i) := by
  show own (mturn 264#32 (mturn 268#32 (mturn 270#32 (mturn 271#32 (share (DP3 m c t) (k0_pay13 (Row t)) (BitVec.ofNat 32 16)))))) (DP3 m c t) (ix2 i k) = _
  rw [own_apply, DP3_eq, dp_own]
  unfold dcol
  refine congrArg (· - _) ?_
  simp only [mturn8, mturn4, mturn2, mturn1, share_apply t _ 16 (by decide), DP3_eq]
  exact lead16 (passed (A1 m c) (A2 m c) (A3 m c) 3 k) t.val _ (fun r => part_eq m c t 3 r k) (row t i) i rfl ⟨i.val, by omega⟩ rfl

/-- The four groups' columns side by side. -/
def beside (a b e f : FVec Ideal S256x128 .f32) : FVec Ideal S256x512 .bf16 :=
  truncf .bf16 (concatenate S256x512 1 [⟨S256x128, a⟩, ⟨S256x128, b⟩, ⟨S256x128, e⟩, ⟨S256x128, f⟩] concatenates_S256x128_S256x128_S256x128_S256x128_S256x512_d1) bitsLt_bf16_f32

/-- What a point stores of the gradient of the columns. -/
def stored : FVec Ideal S256x512 .bf16 :=
  k0_pay1 (iota .tc S272x1 32 [0] iota_S272x1_d0_w32) (k0_pay21 (iota .tc S272x1 32 [0] iota_S272x1_d0_w32) (k0_pay19 (Cot m c t) (iblk m c 5 t) (W0 m c t)) (k0_pay20 (Row t)))
    (k0_pay29 (k0_pay13 (Row t)) (iota .tc S272x1 32 [0] iota_S272x1_d0_w32) (k0_pay27 (k0_pay12 (Cot m c t) (iblk m c 5 t)) (W1 m c t)) k0_pay28)
    (k0_pay35 (k0_pay13 (Row t)) (iota .tc S272x1 32 [0] iota_S272x1_d0_w32) (k0_pay30 (W2 m c t)) (k0_pay33 (k0_pay12 (Cot m c t) (iblk m c 5 t))))
    (k0_pay41 (k0_pay12 (Cot m c t) (iblk m c 5 t)) (W3 m c t)) (k0_pay42 (k0_pay12 (Cot m c t) (iblk m c 5 t)) (k0_pay13 (Row t)) (W3 m c t)) (k0_pay43 (k0_pay12 (Cot m c t) (iblk m c 5 t)) (k0_pay13 (Row t)) (W3 m c t))
    (FloatOps.ofBits .f32 0#32) (k0_pay44 (iota .tc S272x1 32 [0] iota_S272x1_d0_w32))

theorem stored_eq : stored m c t = beside (k0_pay21 (iota .tc S272x1 32 [0] iota_S272x1_d0_w32) (k0_pay19 (Cot m c t) (iblk m c 5 t) (W0 m c t)) (k0_pay20 (Row t)))
    (k0_pay29 (k0_pay13 (Row t)) (iota .tc S272x1 32 [0] iota_S272x1_d0_w32) (k0_pay27 (k0_pay12 (Cot m c t) (iblk m c 5 t)) (W1 m c t)) k0_pay28)
    (k0_pay35 (k0_pay13 (Row t)) (iota .tc S272x1 32 [0] iota_S272x1_d0_w32) (k0_pay30 (W2 m c t)) (k0_pay33 (k0_pay12 (Cot m c t) (iblk m c 5 t))))
    (last (share (DP3 m c t) (k0_pay13 (Row t)) (BitVec.ofNat 32 16)) (DP3 m c t)) := rfl

theorem beside_apply (a b e f : FVec Ideal S256x128 .f32) (i : Fin 256) (g : Fin 4) (l : Fin 128) :
    beside a b e f (ix2 i (col g l)) = (match g with | 0 => a (ix2 i l) | 1 => b (ix2 i l) | 2 => e (ix2 i l) | 3 => f (ix2 i l)) := by
  pointwise [beside]
  have hl := l.isLt
  match g with
  | 0 =>
    refine (dif_pos (by show 128 * 0 + l.val < 128; omega)).trans (congrArg (fun q => a (ix2 i q)) (Fin.ext ?_))
    show 128 * 0 + l.val = l.val; omega
  | 1 =>
    refine (dif_neg (by show ¬128 * 1 + l.val < 128; omega)).trans ((dif_pos (by show 128 * 1 + l.val - 128 < 128; omega)).trans (congrArg (fun q => b (ix2 i q)) (Fin.ext ?_)))
    show 128 * 1 + l.val - 128 = l.val; omega
  | 2 =>
    refine (dif_neg (by show ¬128 * 2 + l.val < 128; omega)).trans ((dif_neg (by show ¬128 * 2 + l.val - 128 < 128; omega)).trans ((dif_pos (by show 128 * 2 + l.val - 128 - 128 < 128; omega)).trans
      (congrArg (fun q => e (ix2 i q)) (Fin.ext ?_))))
    show 128 * 2 + l.val - 128 - 128 = l.val; omega
  | 3 =>
    refine (dif_neg (by show ¬128 * 3 + l.val < 128; omega)).trans ((dif_neg (by show ¬128 * 3 + l.val - 128 < 128; omega)).trans ((dif_neg (by show ¬128 * 3 + l.val - 128 - 128 < 128; omega)).trans
      (congrArg (fun q => f (ix2 i q)) (Fin.ext ?_))))
    show 128 * 3 + l.val - 128 - 128 - 128 = l.val; omega

theorem stored_col (i : Fin 256) (g : Fin 4) (l : Fin 128) : stored m c t (ix2 i (col g l)) = dcol (A1 m c) (A2 m c) (A3 m c) g l (row t i) := by
  rw [stored_eq, beside_apply]
  match g with
  | 0 => exact du0 m c t i l
  | 1 => exact du1 m c t i l
  | 2 => exact du2 m c t i l
  | 3 => exact last_apply m c t i l

theorem final6 : (dats m 0 c).arrAt 6 (cfgs 0).N = outU (A1 m c) (A2 m c) (A3 m c) := by
  refine (dats m 0 c).arrAt_eq_of_covers 6 _ (by decide +kernel) fun t _ y => ?_
  blk_simp
  rw [after0_6]
  have e : ∀ (i : Fin 256) (j : Fin 512), (win0_6.blk t).view.emb (ix2 i j) = ix2 (row t i) j := fun i j => by
    unfold row; blk_ext [idx6 t]
  by_cases h : t.val % 16 = 0
  · rw [outsAt0_A m c t h]; dsimp only; frame_out
    idx_vars y
    rw [e y0 y1]
    obtain ⟨g, l, rfl⟩ := exists_col y1
    rw [outU_col]
    exact stored_col m c t y0 g l
  · rw [outsAt0_B m c t h]; dsimp only; frame_out
    idx_vars y
    rw [e y0 y1]
    obtain ⟨g, l, rfl⟩ := exists_col y1
    rw [outU_col]
    exact stored_col m c t y0 g l

/-- A point's parts of the gradients of the scale and of the weights. -/
def partS (q : Fin 512) : EReal := ∑ i : Fin 256, A1 m c (ix2 (row t i) q) * mixed (A0 m c) (A2 m c) (grp q) (row t i) (pos q)

theorem partS_col (g : Fin 4) (l : Fin 128) :
    partS m c t (col g l) = ∑ i : Fin 256, A1 m c (ix2 (row t i) (col g l)) * mixed (A0 m c) (A2 m c) g (row t i) l := by
  unfold partS
  rw [grp_col, pos_col]

def partW (g : Fin 4) (k l : Fin 128) : EReal := ∑ i : Fin 256, mean (A0 m c) g (row t i) k * scaled (A1 m c) (A3 m c) (row t i) (col g l)

theorem addS0 (prev : FVec Ideal S1x128 .f32) (a : Fin 1) (l : Fin 128) :
    k0_pay16 (k0_pay6 (grid0.coords t) (iblk m c 1 t) (iblk m c 0 t)) (iblk m c 2 t) (W0 m c t) prev (ix2 a l) = prev (ix2 a l) + partS m c t (col 0 l) := by
  obtain rfl : a = 0 := Subsingleton.elim _ _
  rw [partS_col]
  pointwise [k0_pay16, k0_pay15, k0_pay14, W0, in2, in4, mean0]
  refine congrArg (prev (ix2 0 l) + ·) (Finset.sum_congr rfl fun i _ => ?_)
  exact congrArg (· * mixed (A0 m c) (A2 m c) 0 (row t i) l) (congrArg (fun q => A1 m c (ix2 (row t i) q)) (Fin.ext (by show l.val = 128 * 0 + l.val; omega)))

theorem addW0 (prev : FVec Ideal S1x128x128 .f32) (a : Fin 1) (k l : Fin 128) :
    k0_pay18 (k0_pay6 (grid0.coords t) (iblk m c 1 t) (iblk m c 0 t)) (Cot m c t) (iblk m c 5 t) prev (ix3 a k l) = prev (ix3 a k l) + partW m c t 0 k l := by
  obtain rfl : a = 0 := Subsingleton.elim _ _
  unfold partW
  pointwise [k0_pay18, k0_pay17, k0_pay15, cot_eq, mean0]
  refine congrArg (prev (ix3 0 k l) + ·) (Finset.sum_congr rfl fun i _ => congrArg (mean (A0 m c) 0 (row t i) k * ·) ?_)
  rw [← cot_own]
  exact congrArg (cot m c t ⟨i.val, by omega⟩) (Fin.ext (by show l.val = 128 * 0 + l.val; omega))

theorem addS1 (prev : FVec Ideal S1x128 .f32) (a : Fin 1) (l : Fin 128) :
    k0_pay24 (k0_pay7 (grid0.coords t) (iblk m c 1 t) (iblk m c 0 t)) (iblk m c 2 t) (W1 m c t) prev (ix2 a l) = prev (ix2 a l) + partS m c t (col 1 l) := by
  obtain rfl : a = 0 := Subsingleton.elim _ _
  rw [partS_col]
  pointwise [k0_pay24, k0_pay23, k0_pay22, W1, in2, in4, mean1]
  refine congrArg (prev (ix2 0 l) + ·) (Finset.sum_congr rfl fun i _ => ?_)
  exact congrArg (· * mixed (A0 m c) (A2 m c) 1 (row t i) l) (congrArg (fun q => A1 m c (ix2 (row t i) q)) (Fin.ext (by show 128 + l.val = 128 * 1 + l.val; omega)))

theorem addW1 (prev : FVec Ideal S1x128x128 .f32) (a : Fin 1) (k l : Fin 128) :
    k0_pay26 (k0_pay7 (grid0.coords t) (iblk m c 1 t) (iblk m c 0 t)) (k0_pay12 (Cot m c t) (iblk m c 5 t)) prev (ix3 a k l) = prev (ix3 a k l) + partW m c t 1 k l := by
  obtain rfl : a = 0 := Subsingleton.elim _ _
  unfold partW
  pointwise [k0_pay26, k0_pay25, k0_pay23, cot_eq, mean1]
  refine congrArg (prev (ix3 0 k l) + ·) (Finset.sum_congr rfl fun i _ => congrArg (mean (A0 m c) 1 (row t i) k * ·) ?_)
  rw [← cot_own]
  exact congrArg (cot m c t ⟨i.val, by omega⟩) (Fin.ext (by show 128 + l.val = 128 * 1 + l.val; omega))

theorem addS2 (prev : FVec Ideal S1x128 .f32) (a : Fin 1) (l : Fin 128) :
    k0_pay32 (k0_pay9 (k0_pay5 (grid0.coords t)) (k0_pay8 (grid0.coords t) (iblk m c 1 t) (iblk m c 0 t))) (iblk m c 2 t) (W2 m c t) prev (ix2 a l) = prev (ix2 a l) + partS m c t (col 2 l) := by
  obtain rfl : a = 0 := Subsingleton.elim _ _
  rw [partS_col]
  pointwise [k0_pay32, k0_pay31, k0_pay30, W2, in2, in4, mean2]
  refine congrArg (prev (ix2 0 l) + ·) (Finset.sum_congr rfl fun i _ => ?_)
  exact congrArg (· * mixed (A0 m c) (A2 m c) 2 (row t i) l) (congrArg (fun q => A1 m c (ix2 (row t i) q)) (Fin.ext (by show 256 + l.val = 128 * 2 + l.val; omega)))

theorem addW2 (prev : FVec Ideal S1x128x128 .f32) (a : Fin 1) (k l : Fin 128) :
    k0_pay34 (k0_pay31 (k0_pay9 (k0_pay5 (grid0.coords t)) (k0_pay8 (grid0.coords t) (iblk m c 1 t) (iblk m c 0 t)))) (k0_pay33 (k0_pay12 (Cot m c t) (iblk m c 5 t))) prev (ix3 a k l) = prev (ix3 a k l) + partW m c t 2 k l := by
  obtain rfl : a = 0 := Subsingleton.elim _ _
  unfold partW
  pointwise [k0_pay34, k0_pay31, k0_pay33, cot_eq, mean2]
  refine congrArg (prev (ix3 0 k l) + ·) (Finset.sum_congr rfl fun i _ => congrArg (mean (A0 m c) 2 (row t i) k * ·) ?_)
  rw [← cot_own]
  exact congrArg (cot m c t ⟨i.val, by omega⟩) (Fin.ext (by show 256 + l.val = 128 * 2 + l.val; omega))

theorem addS3 (prev : FVec Ideal S1x128 .f32) (a : Fin 1) (l : Fin 128) :
    k0_pay38 (k0_pay10 (k0_pay4 (grid0.coords t) (iblk m c 1 t) (iblk m c 0 t)) (k0_pay5 (grid0.coords t))) (iblk m c 2 t) (W3 m c t) prev (ix2 a l) = prev (ix2 a l) + partS m c t (col 3 l) := by
  obtain rfl : a = 0 := Subsingleton.elim _ _
  rw [partS_col]
  pointwise [k0_pay38, k0_pay37, k0_pay36, W3, in2, in4, mean3]
  refine congrArg (prev (ix2 0 l) + ·) (Finset.sum_congr rfl fun i _ => ?_)
  exact congrArg (· * mixed (A0 m c) (A2 m c) 3 (row t i) l) (congrArg (fun q => A1 m c (ix2 (row t i) q)) (Fin.ext (by show 384 + l.val = 128 * 3 + l.val; omega)))

theorem addW3 (prev : FVec Ideal S1x128x128 .f32) (a : Fin 1) (k l : Fin 128) :
    k0_pay40 (k0_pay10 (k0_pay4 (grid0.coords t) (iblk m c 1 t) (iblk m c 0 t)) (k0_pay5 (grid0.coords t))) (k0_pay12 (Cot m c t) (iblk m c 5 t)) prev (ix3 a k l) = prev (ix3 a k l) + partW m c t 3 k l := by
  obtain rfl : a = 0 := Subsingleton.elim _ _
  unfold partW
  pointwise [k0_pay40, k0_pay39, k0_pay37, cot_eq, mean3]
  refine congrArg (prev (ix3 0 k l) + ·) (Finset.sum_congr rfl fun i _ => congrArg (mean (A0 m c) 3 (row t i) k * ·) ?_)
  rw [← cot_own]
  exact congrArg (cot m c t ⟨i.val, by omega⟩) (Fin.ext (by show 384 + l.val = 128 * 3 + l.val; omega))

/-- The first point's parts over the cleared arrays, and a later point's over what the point before left. -/
theorem firstS (h : t.val % 16 = 0) (a : Fin 1) (d : Fin 512) : (outsAt0 m c t.val t.isLt).2.2 (ix2 a d) = 0 + partS m c t d := by
  rw [outsAt0_A m c t h]; dsimp only
  frame_out
  simp (disch := decide) only [↓View.readCov_skip]
  simp (disch := decide) only [View.readCov_fill]
  refine (View.canon_append_of_piecesOf (fun y => 0 + partS m c t (y 1)) [_] [_, _, _, _] ?_ (ix2 a d) ?_).trans ?_
  · refine ⟨?_, ?_, ?_, ?_, trivial⟩ <;> intro x <;> idx_vars x
    · refine (addS3 m c t _ x0 x1).trans (congrArg₂ (· + ·) ?_ (congrArg (partS m c t) (Fin.ext ?_)))
      · pointwise [k0_pay3]
      · show 128 * 3 + x1.val = 384 + 1 * x1.val; omega
    · refine (addS2 m c t _ x0 x1).trans (congrArg₂ (· + ·) ?_ (congrArg (partS m c t) (Fin.ext ?_)))
      · pointwise [k0_pay3]
      · show 128 * 2 + x1.val = 256 + 1 * x1.val; omega
    · refine (addS1 m c t _ x0 x1).trans (congrArg₂ (· + ·) ?_ (congrArg (partS m c t) (Fin.ext ?_)))
      · pointwise [k0_pay3]
      · show 128 * 1 + x1.val = 128 + 1 * x1.val; omega
    · refine (addS0 m c t _ x0 x1).trans (congrArg₂ (· + ·) ?_ (congrArg (partS m c t) (Fin.ext ?_)))
      · pointwise [k0_pay3]
      · show 128 * 0 + x1.val = 0 + 1 * x1.val; omega
  · have mem : ∀ (k : Nat) (inb), k ≤ d.val ∧ d.val < k + 128 → (ix2 a d : S1x512.Idx) ∈ (Rect.unit (s := S1x512) ![0, k] ![1, 128] inb).set := by
      intro k inb hk
      rw [Rect.mem_set_unit]
      intro b
      refine Fin.cases ?_ (fun b => Fin.cases ?_ (fun b => b.elim0) b) b
      · show 0 ≤ a.val ∧ a.val < 0 + 1; omega
      · exact hk
    obtain h | h | h | h : (384 ≤ d.val ∧ d.val < 384 + 128) ∨ (256 ≤ d.val ∧ d.val < 256 + 128) ∨ (128 ≤ d.val ∧ d.val < 128 + 128) ∨ (0 ≤ d.val ∧ d.val < 0 + 128) := by omega
    · exact ⟨_, .head _, mem 384 inb_S1x512_S1x128_0_384 h⟩
    · exact ⟨_, .tail _ (.head _), mem 256 inb_S1x512_S1x128_0_256 h⟩
    · exact ⟨_, .tail _ (.tail _ (.head _)), mem 128 inb_S1x512_S1x128_0_128 h⟩
    · exact ⟨_, .tail _ (.tail _ (.tail _ (.head _))), mem 0 inb_S1x512_S1x128_0_0 h⟩
  · rfl

theorem nextS (h : ¬t.val % 16 = 0) (a : Fin 1) (d : Fin 512) :
    (outsAt0 m c t.val t.isLt).2.2 (ix2 a d) = (outsAt0 m c (t.val - 1) (Nat.lt_of_le_of_lt (Nat.sub_le _ _) t.isLt)).2.2 (ix2 a d) + partS m c t d := by
  rw [outsAt0_B m c t h]; dsimp only; frame_out
  generalize (outsAt0 m c (t.val - 1) (Nat.lt_of_le_of_lt (Nat.sub_le _ _) t.isLt)).2.2 = prev
  canon_tiles x hx <;> idx_vars x
  · obtain rfl : a = x0 := Fin.ext hx0
    obtain rfl : d = col 3 x1 := Fin.ext (by have : d.val = 384 + x1.val := hx1; show d.val = 128 * 3 + x1.val; omega)
    refine (addS3 m c t _ a x1).trans (congrArg (· + partS m c t (col 3 x1)) (congrArg prev ?_))
    refine (eq_ix2 _).trans (congrArg₂ ix2 (Fin.ext ?_) (Fin.ext ?_))
    · show 0 + 1 * a.val = a.val; omega
    · show 384 + 1 * x1.val = 128 * 3 + x1.val; omega
  · obtain rfl : a = x0 := Fin.ext hx0
    obtain rfl : d = col 2 x1 := Fin.ext (by have : d.val = 256 + x1.val := hx1; show d.val = 128 * 2 + x1.val; omega)
    refine (addS2 m c t _ a x1).trans (congrArg (· + partS m c t (col 2 x1)) (congrArg prev ?_))
    refine (eq_ix2 _).trans (congrArg₂ ix2 (Fin.ext ?_) (Fin.ext ?_))
    · show 0 + 1 * a.val = a.val; omega
    · show 256 + 1 * x1.val = 128 * 2 + x1.val; omega
  · obtain rfl : a = x0 := Fin.ext hx0
    obtain rfl : d = col 1 x1 := Fin.ext (by have : d.val = 128 + x1.val := hx1; show d.val = 128 * 1 + x1.val; omega)
    refine (addS1 m c t _ a x1).trans (congrArg (· + partS m c t (col 1 x1)) (congrArg prev ?_))
    refine (eq_ix2 _).trans (congrArg₂ ix2 (Fin.ext ?_) (Fin.ext ?_))
    · show 0 + 1 * a.val = a.val; omega
    · show 128 + 1 * x1.val = 128 * 1 + x1.val; omega
  · obtain rfl : a = x0 := Fin.ext hx0
    obtain rfl : d = col 0 x1 := Fin.ext (by have : d.val = x1.val := hx1; show d.val = 128 * 0 + x1.val; omega)
    refine (addS0 m c t _ a x1).trans (congrArg (· + partS m c t (col 0 x1)) (congrArg prev ?_))
    refine (eq_ix2 _).trans (congrArg₂ ix2 (Fin.ext ?_) (Fin.ext ?_))
    · show 0 + 1 * a.val = a.val; omega
    · show 0 + 1 * x1.val = 128 * 0 + x1.val; omega

theorem N_16 : cfg0.N = 16 := rfl

theorem final8 : (dats m 0 c).arrAt 8 (cfgs 0).N = outS (A0 m c) (A1 m c) (A2 m c) := by
  refine (dats m 0 c).arrAt_eq_of_after_last 8 t0_15 (by decide +kernel) _ fun j => ?_
  blk_simp
  rw [after0_8]
  idx_vars j
  rw [Pipeline.eq_sum_fin_of_reset_step_apply_last (fun n h => (outsAt0 m c n h).2.2) 16 (fun _ => 0)
    (fun t j => partS m c t (j 1))
    (fun t h j => by idx_vars j; exact firstS m c t h j0 j1)
    (fun t h j => by idx_vars j; exact nextS m c t h j0 j1) (le_of_eq N_16) t0_15 rfl (ix2 j0 j1), zero_add]
  obtain ⟨g, l, rfl⟩ := exists_col j1
  refine Eq.trans ?_ (outS_col (A0 m c) (A1 m c) (A2 m c) j0 g l).symm
  refine (Finset.sum_congr rfl fun p _ => partS_col m c p g l).trans ?_
  exact Fin.sum_mul_add_congr (L := 4096) (S := 16) (n := 256)
    (f := fun r => A1 m c (ix2 r (col g l)) * mixed (A0 m c) (A2 m c) g r l) fun s k hl =>
    congrArg (fun r => A1 m c (ix2 r (col g l)) * mixed (A0 m c) (A2 m c) g r l) (Fin.ext (show 256 * s.val + k.val = s.val * 256 + k.val by omega))

theorem firstW (h : t.val % 16 = 0) (g : Fin 4) (k l : Fin 128) : (outsAt0 m c t.val t.isLt).2.1 (ix3 g k l) = 0 + partW m c t g k l := by
  rw [outsAt0_A m c t h]; dsimp only
  frame_out
  simp (disch := decide) only [↓View.readCov_skip]
  simp (disch := decide) only [View.readCov_fill]
  refine (View.canon_append_of_piecesOf (fun y => 0 + partW m c t (y 0) (y 1) (y 2)) [_] [_, _, _, _] ?_ (ix3 g k l) ?_).trans ?_
  · refine ⟨?_, ?_, ?_, ?_, trivial⟩ <;> intro x <;> idx_vars x
    · refine (addW3 m c t _ x0 x1 x2).trans (congrArg₂ (· + ·) ?_ (congr (congrArg₂ (partW m c t) (Fin.ext ?_) (Fin.ext ?_)) (Fin.ext ?_)))
      · pointwise [k0_pay2]
      · show 3 = 3 + 1 * x0.val; omega
      · show x1.val = 0 + 1 * x1.val; omega
      · show x2.val = 0 + 1 * x2.val; omega
    · refine (addW2 m c t _ x0 x1 x2).trans (congrArg₂ (· + ·) ?_ (congr (congrArg₂ (partW m c t) (Fin.ext ?_) (Fin.ext ?_)) (Fin.ext ?_)))
      · pointwise [k0_pay2]
      · show 2 = 2 + 1 * x0.val; omega
      · show x1.val = 0 + 1 * x1.val; omega
      · show x2.val = 0 + 1 * x2.val; omega
    · refine (addW1 m c t _ x0 x1 x2).trans (congrArg₂ (· + ·) ?_ (congr (congrArg₂ (partW m c t) (Fin.ext ?_) (Fin.ext ?_)) (Fin.ext ?_)))
      · pointwise [k0_pay2]
      · show 1 = 1 + 1 * x0.val; omega
      · show x1.val = 0 + 1 * x1.val; omega
      · show x2.val = 0 + 1 * x2.val; omega
    · refine (addW0 m c t _ x0 x1 x2).trans (congrArg₂ (· + ·) ?_ (congr (congrArg₂ (partW m c t) (Fin.ext ?_) (Fin.ext ?_)) (Fin.ext ?_)))
      · pointwise [k0_pay2]
      · show 0 = 0 + 1 * x0.val; omega
      · show x1.val = 0 + 1 * x1.val; omega
      · show x2.val = 0 + 1 * x2.val; omega
  · have mem : ∀ (n : Nat) (inb), g.val = n → (ix3 g k l : S4x128x128.Idx) ∈ (Rect.unit (s := S4x128x128) ![n, 0, 0] ![1, 128, 128] inb).set := by
      intro n inb hn
      rw [Rect.mem_set_unit]
      intro b
      refine Fin.cases ?_ (fun b => Fin.cases ?_ (fun b => Fin.cases ?_ (fun b => b.elim0) b) b) b
      · show n ≤ g.val ∧ g.val < n + 1; omega
      · show 0 ≤ k.val ∧ k.val < 0 + 128; omega
      · show 0 ≤ l.val ∧ l.val < 0 + 128; omega
    obtain h | h | h | h : g.val = 3 ∨ g.val = 2 ∨ g.val = 1 ∨ g.val = 0 := by omega
    · exact ⟨_, .head _, mem 3 inb_S4x128x128_S1x128x128_3_0_0 h⟩
    · exact ⟨_, .tail _ (.head _), mem 2 inb_S4x128x128_S1x128x128_2_0_0 h⟩
    · exact ⟨_, .tail _ (.tail _ (.head _)), mem 1 inb_S4x128x128_S1x128x128_1_0_0 h⟩
    · exact ⟨_, .tail _ (.tail _ (.tail _ (.head _))), mem 0 inb_S4x128x128_S1x128x128_0_0_0 h⟩
  · rfl

theorem nextW (h : ¬t.val % 16 = 0) (g : Fin 4) (k l : Fin 128) :
    (outsAt0 m c t.val t.isLt).2.1 (ix3 g k l) = (outsAt0 m c (t.val - 1) (Nat.lt_of_le_of_lt (Nat.sub_le _ _) t.isLt)).2.1 (ix3 g k l) + partW m c t g k l := by
  rw [outsAt0_B m c t h]; dsimp only; frame_out
  generalize (outsAt0 m c (t.val - 1) (Nat.lt_of_le_of_lt (Nat.sub_le _ _) t.isLt)).2.1 = prev
  canon_tiles x hx <;> idx_vars x
  · obtain rfl : g = 3 := Fin.ext (by have : g.val = 3 + x0.val := hx0; show g.val = 3; omega)
    obtain rfl : k = x1 := Fin.ext hx1
    obtain rfl : l = x2 := Fin.ext hx2
    refine (addW3 m c t _ x0 k l).trans (congrArg (· + partW m c t 3 k l) (congrArg prev ?_))
    rw [show x0 = 0 from Subsingleton.elim _ _]
    refine (eq_ix3 _).trans (congr (congrArg₂ ix3 rfl (Fin.ext ?_)) (Fin.ext ?_))
    · show 0 + 1 * k.val = k.val; omega
    · show 0 + 1 * l.val = l.val; omega
  · obtain rfl : g = 2 := Fin.ext (by have : g.val = 2 + x0.val := hx0; show g.val = 2; omega)
    obtain rfl : k = x1 := Fin.ext hx1
    obtain rfl : l = x2 := Fin.ext hx2
    refine (addW2 m c t _ x0 k l).trans (congrArg (· + partW m c t 2 k l) (congrArg prev ?_))
    rw [show x0 = 0 from Subsingleton.elim _ _]
    refine (eq_ix3 _).trans (congr (congrArg₂ ix3 rfl (Fin.ext ?_)) (Fin.ext ?_))
    · show 0 + 1 * k.val = k.val; omega
    · show 0 + 1 * l.val = l.val; omega
  · obtain rfl : g = 1 := Fin.ext (by have : g.val = 1 + x0.val := hx0; show g.val = 1; omega)
    obtain rfl : k = x1 := Fin.ext hx1
    obtain rfl : l = x2 := Fin.ext hx2
    refine (addW1 m c t _ x0 k l).trans (congrArg (· + partW m c t 1 k l) (congrArg prev ?_))
    rw [show x0 = 0 from Subsingleton.elim _ _]
    refine (eq_ix3 _).trans (congr (congrArg₂ ix3 rfl (Fin.ext ?_)) (Fin.ext ?_))
    · show 0 + 1 * k.val = k.val; omega
    · show 0 + 1 * l.val = l.val; omega
  · obtain rfl : g = 0 := Fin.ext (by have : g.val = x0.val := hx0; show g.val = 0; omega)
    obtain rfl : k = x1 := Fin.ext hx1
    obtain rfl : l = x2 := Fin.ext hx2
    refine (addW0 m c t _ x0 k l).trans (congrArg (· + partW m c t 0 k l) (congrArg prev ?_))
    rw [show x0 = 0 from Subsingleton.elim _ _]
    refine (eq_ix3 _).trans (congr (congrArg₂ ix3 rfl (Fin.ext ?_)) (Fin.ext ?_))
    · show 0 + 1 * k.val = k.val; omega
    · show 0 + 1 * l.val = l.val; omega

theorem final7 : (dats m 0 c).arrAt 7 (cfgs 0).N = outW (A0 m c) (A1 m c) (A3 m c) := by
  refine (dats m 0 c).arrAt_eq_of_after_last 7 t0_15 (by decide +kernel) _ fun j => ?_
  blk_simp
  rw [after0_7]
  idx_vars j
  rw [Pipeline.eq_sum_fin_of_reset_step_apply_last (fun n h => (outsAt0 m c n h).2.1) 16 (fun _ => 0)
    (fun t j => partW m c t (j 0) (j 1) (j 2))
    (fun t h j => by idx_vars j; exact firstW m c t h j0 j1 j2)
    (fun t h j => by idx_vars j; exact nextW m c t h j0 j1 j2) (le_of_eq N_16) t0_15 rfl (ix3 j0 j1 j2), zero_add]
  exact Fin.sum_mul_add_congr (L := 4096) (S := 16) (n := 256)
    (f := fun r => mean (A0 m c) j0 r j1 * scaled (A1 m c) (A3 m c) r (col j0 j2)) fun s k hl =>
    congrArg (fun r => mean (A0 m c) j0 r j1 * scaled (A1 m c) (A3 m c) r (col j0 j2)) (Fin.ext (show 256 * s.val + k.val = s.val * 256 + k.val by omega))

end Cert.PoolBwd.Kern

end
-- ==== Proof.PoolBwdRef.lean ====
/- The gradients of the pooling mixer, the reference's program read value by value. -/
module

public import proofs.«01_k».proof.Proof.PoolSpec
public import proofs.«01_k».proof.Proof.Gen.Reference35Ideal.Read
public import Idealize.ShloMosaic.Lib.Pipeline.ValueKit

@[expose] public section

set_option maxRecDepth 16384

noncomputable section

namespace Cert.PoolBwd.Ref

open Idealize.ShloMosaic Idealize.ShloMosaic.TcCoe Idealize.SL.Sem
open Cert.Pool
open scoped BigOperators
open Cert.Reference35Ideal Cert.Reference35Ideal.Read

variable (x : FVec Ideal ⟨2, ![4096, 8704]⟩ .f32) (d : FVec Ideal ⟨2, ![4096, 512]⟩ .f32) (w : FVec Ideal ⟨3, ![4, 128, 128]⟩ .f32) (s : FVec Ideal ⟨2, ![1, 512]⟩ .f32)

/-! Each group: whether a row is in another's window, how many rows are, the group's columns, their means less themselves, the
group's weights, and the product. -/

theorem seen0 (t s : Fin 4096) : val_main_v16 (F := Ideal) (ix2 t s) = seen 2 t s := by
  pointwise [val_main_v16, val_main_v15, val_main_v14, val_main_v13, val_main_v12, val_main_v11, val_main_v10, val_main_v9, val_main_v8, val_main_v7, val_main_v6, val_main_v5, val_main_v4, val_main_v3, val_main_c, val_main_v1]
  exact seen_bits 2 (by decide) t s

theorem count0 (t : Fin 4096) (k : Fin 128) : val_main_v24 (F := Ideal) (ix2 t k) = count 2 t.val := by
  have ht := t.isLt
  pointwise [val_main_v24, val_main_v23, val_main_v21, val_main_v20, val_main_v19, val_main_v18, val_main_v17, val_main_c_1, val_main_c_0, val_main_v1]
  exact count_bits 2 t.val (by omega) (by decide)

theorem col0 (t : Fin 4096) (k : Fin 128) : val_main_v2 (F := Ideal) x (ix2 t k) = of x (col 0 k) t := by
  pointwise [val_main_v2, val_main_v0]
  unfold of
  congr 2
  exact Fin.ext (by show 3072 + k.val = 3072 + (128 * 0 + k.val); omega)

theorem mean0 (t : Fin 4096) (k : Fin 128) : val_main_v26 (F := Ideal) x (ix2 t k) = mean x 0 t k := by
  pointwise [val_main_v26, val_main_v25, val_main_v22, seen0, count0, col0]
  rfl

theorem weight0 (k l : Fin 128) : val_main_v28 (F := Ideal) w (ix2 k l) = w (ix3 0 k l) := by
  pointwise [val_main_v28, val_main_v27]

theorem mixed0 (t : Fin 4096) (l : Fin 128) : val_main_v29 (F := Ideal) x w (ix2 t l) = mixed x w 0 t l := by
  pointwise [val_main_v29, mean0, weight0]
  rfl

theorem seen1 (t s : Fin 4096) : val_main_v44 (F := Ideal) (ix2 t s) = seen 4 t s := by
  pointwise [val_main_v44, val_main_v43, val_main_v42, val_main_v41, val_main_v40, val_main_v39, val_main_v38, val_main_v37, val_main_v36, val_main_v35, val_main_v34, val_main_v33, val_main_v32, val_main_v31, val_main_c_2, val_main_v1]
  exact seen_bits 4 (by decide) t s

theorem count1 (t : Fin 4096) (k : Fin 128) : val_main_v52 (F := Ideal) (ix2 t k) = count 4 t.val := by
  have ht := t.isLt
  pointwise [val_main_v52, val_main_v51, val_main_v49, val_main_v48, val_main_v47, val_main_v46, val_main_v45, val_main_c_4, val_main_c_3, val_main_v1]
  exact count_bits 4 t.val (by omega) (by decide)

theorem col1 (t : Fin 4096) (k : Fin 128) : val_main_v30 (F := Ideal) x (ix2 t k) = of x (col 1 k) t := by
  pointwise [val_main_v30, val_main_v0]
  rfl

theorem mean1 (t : Fin 4096) (k : Fin 128) : val_main_v54 (F := Ideal) x (ix2 t k) = mean x 1 t k := by
  pointwise [val_main_v54, val_main_v53, val_main_v50, seen1, count1, col1]
  rfl

theorem weight1 (k l : Fin 128) : val_main_v56 (F := Ideal) w (ix2 k l) = w (ix3 1 k l) := by
  pointwise [val_main_v56, val_main_v55]

theorem mixed1 (t : Fin 4096) (l : Fin 128) : val_main_v57 (F := Ideal) x w (ix2 t l) = mixed x w 1 t l := by
  pointwise [val_main_v57, mean1, weight1]
  rfl

theorem seen2 (t s : Fin 4096) : val_main_v72 (F := Ideal) (ix2 t s) = seen 8 t s := by
  pointwise [val_main_v72, val_main_v71, val_main_v70, val_main_v69, val_main_v68, val_main_v67, val_main_v66, val_main_v65, val_main_v64, val_main_v63, val_main_v62, val_main_v61, val_main_v60, val_main_v59, val_main_c_5, val_main_v1]
  exact seen_bits 8 (by decide) t s

theorem count2 (t : Fin 4096) (k : Fin 128) : val_main_v80 (F := Ideal) (ix2 t k) = count 8 t.val := by
  have ht := t.isLt
  pointwise [val_main_v80, val_main_v79, val_main_v77, val_main_v76, val_main_v75, val_main_v74, val_main_v73, val_main_c_7, val_main_c_6, val_main_v1]
  exact count_bits 8 t.val (by omega) (by decide)

theorem col2 (t : Fin 4096) (k : Fin 128) : val_main_v58 (F := Ideal) x (ix2 t k) = of x (col 2 k) t := by
  pointwise [val_main_v58, val_main_v0]
  rfl

theorem mean2 (t : Fin 4096) (k : Fin 128) : val_main_v82 (F := Ideal) x (ix2 t k) = mean x 2 t k := by
  pointwise [val_main_v82, val_main_v81, val_main_v78, seen2, count2, col2]
  rfl

theorem weight2 (k l : Fin 128) : val_main_v84 (F := Ideal) w (ix2 k l) = w (ix3 2 k l) := by
  pointwise [val_main_v84, val_main_v83]

theorem mixed2 (t : Fin 4096) (l : Fin 128) : val_main_v85 (F := Ideal) x w (ix2 t l) = mixed x w 2 t l := by
  pointwise [val_main_v85, mean2, weight2]
  rfl

theorem seen3 (t s : Fin 4096) : val_main_v100 (F := Ideal) (ix2 t s) = seen 16 t s := by
  pointwise [val_main_v100, val_main_v99, val_main_v98, val_main_v97, val_main_v96, val_main_v95, val_main_v94, val_main_v93, val_main_v92, val_main_v91, val_main_v90, val_main_v89, val_main_v88, val_main_v87, val_main_c_8, val_main_v1]
  exact seen_bits 16 (by decide) t s

theorem count3 (t : Fin 4096) (k : Fin 128) : val_main_v108 (F := Ideal) (ix2 t k) = count 16 t.val := by
  have ht := t.isLt
  pointwise [val_main_v108, val_main_v107, val_main_v105, val_main_v104, val_main_v103, val_main_v102, val_main_v101, val_main_c_10, val_main_c_9, val_main_v1]
  exact count_bits 16 t.val (by omega) (by decide)

theorem col3 (t : Fin 4096) (k : Fin 128) : val_main_v86 (F := Ideal) x (ix2 t k) = of x (col 3 k) t := by
  pointwise [val_main_v86, val_main_v0]
  rfl

theorem mean3 (t : Fin 4096) (k : Fin 128) : val_main_v110 (F := Ideal) x (ix2 t k) = mean x 3 t k := by
  pointwise [val_main_v110, val_main_v109, val_main_v106, seen3, count3, col3]
  rfl

theorem weight3 (k l : Fin 128) : val_main_v112 (F := Ideal) w (ix2 k l) = w (ix3 3 k l) := by
  pointwise [val_main_v112, val_main_v111]

theorem mixed3 (t : Fin 4096) (l : Fin 128) : val_main_v113 (F := Ideal) x w (ix2 t l) = mixed x w 3 t l := by
  pointwise [val_main_v113, mean3, weight3]
  rfl

/-! The gradients of each group: of the product, of the weights, and of the columns. -/

theorem cot0 (t : Fin 4096) (k : Fin 128) : val_main_v122 (F := Ideal) d s (ix2 t k) = scaled d s t (col 0 k) := by
  pointwise [val_main_v122, val_main_v121, val_main_v120]
  refine congrArg (scaled d s t) (Fin.ext ?_)
  show k.val = 128 * 0 + k.val
  omega

theorem dmean0 (t : Fin 4096) (k : Fin 128) : val_main_v168 (F := Ideal) d w s (ix2 t k) = fromMean d w s 0 k t := by
  pointwise [val_main_v168, cot0, weight0]
  rfl

theorem again0 (t : Fin 4096) (k : Fin 128) : val_main_v173 (F := Ideal) (ix2 t k) = count 2 t.val := by
  have ht := t.isLt
  pointwise [val_main_v173, val_main_v23, val_main_v21, val_main_v20, val_main_v19, val_main_v18, val_main_v17, val_main_c_1, val_main_c_0, val_main_v1]
  exact count_bits 2 t.val (by omega) (by decide)

theorem du0 (t : Fin 4096) (k : Fin 128) : val_main_v177 (F := Ideal) d w s (ix2 t k) = dcol d w s 0 k t := by
  pointwise [val_main_v177, val_main_v176, val_main_v175, val_main_v174, val_main_v172, dmean0, seen0, again0]
  exact (add_comm _ _).trans (sub_eq_add_neg _ _).symm

theorem dw0 (k l : Fin 128) : val_main_v167 (F := Ideal) x d s (ix2 k l) = dweight x d s 0 k l := by
  pointwise [val_main_v167, val_main_v166, cot0, mean0]
  exact Finset.sum_congr rfl fun t _ => mul_comm _ _

theorem cot1 (t : Fin 4096) (k : Fin 128) : val_main_v123 (F := Ideal) d s (ix2 t k) = scaled d s t (col 1 k) := by
  pointwise [val_main_v123, val_main_v121, val_main_v120]
  rfl

theorem dmean1 (t : Fin 4096) (k : Fin 128) : val_main_v154 (F := Ideal) d w s (ix2 t k) = fromMean d w s 1 k t := by
  pointwise [val_main_v154, cot1, weight1]
  rfl

theorem again1 (t : Fin 4096) (k : Fin 128) : val_main_v159 (F := Ideal) (ix2 t k) = count 4 t.val := by
  have ht := t.isLt
  pointwise [val_main_v159, val_main_v51, val_main_v49, val_main_v48, val_main_v47, val_main_v46, val_main_v45, val_main_c_4, val_main_c_3, val_main_v1]
  exact count_bits 4 t.val (by omega) (by decide)

theorem du1 (t : Fin 4096) (k : Fin 128) : val_main_v163 (F := Ideal) d w s (ix2 t k) = dcol d w s 1 k t := by
  pointwise [val_main_v163, val_main_v162, val_main_v161, val_main_v160, val_main_v158, dmean1, seen1, again1]
  exact (add_comm _ _).trans (sub_eq_add_neg _ _).symm

theorem dw1 (k l : Fin 128) : val_main_v153 (F := Ideal) x d s (ix2 k l) = dweight x d s 1 k l := by
  pointwise [val_main_v153, val_main_v152, cot1, mean1]
  exact Finset.sum_congr rfl fun t _ => mul_comm _ _

theorem cot2 (t : Fin 4096) (k : Fin 128) : val_main_v124 (F := Ideal) d s (ix2 t k) = scaled d s t (col 2 k) := by
  pointwise [val_main_v124, val_main_v121, val_main_v120]
  rfl

theorem dmean2 (t : Fin 4096) (k : Fin 128) : val_main_v140 (F := Ideal) d w s (ix2 t k) = fromMean d w s 2 k t := by
  pointwise [val_main_v140, cot2, weight2]
  rfl

theorem again2 (t : Fin 4096) (k : Fin 128) : val_main_v145 (F := Ideal) (ix2 t k) = count 8 t.val := by
  have ht := t.isLt
  pointwise [val_main_v145, val_main_v79, val_main_v77, val_main_v76, val_main_v75, val_main_v74, val_main_v73, val_main_c_7, val_main_c_6, val_main_v1]
  exact count_bits 8 t.val (by omega) (by decide)

theorem du2 (t : Fin 4096) (k : Fin 128) : val_main_v149 (F := Ideal) d w s (ix2 t k) = dcol d w s 2 k t := by
  pointwise [val_main_v149, val_main_v148, val_main_v147, val_main_v146, val_main_v144, dmean2, seen2, again2]
  exact (add_comm _ _).trans (sub_eq_add_neg _ _).symm

theorem dw2 (k l : Fin 128) : val_main_v139 (F := Ideal) x d s (ix2 k l) = dweight x d s 2 k l := by
  pointwise [val_main_v139, val_main_v138, cot2, mean2]
  exact Finset.sum_congr rfl fun t _ => mul_comm _ _

theorem cot3 (t : Fin 4096) (k : Fin 128) : val_main_v125 (F := Ideal) d s (ix2 t k) = scaled d s t (col 3 k) := by
  pointwise [val_main_v125, val_main_v121, val_main_v120]
  rfl

theorem dmean3 (t : Fin 4096) (k : Fin 128) : val_main_v128 (F := Ideal) d w s (ix2 t k) = fromMean d w s 3 k t := by
  pointwise [val_main_v128, cot3, weight3]
  rfl

theorem again3 (t : Fin 4096) (k : Fin 128) : val_main_v132 (F := Ideal) (ix2 t k) = count 16 t.val := by
  have ht := t.isLt
  pointwise [val_main_v132, val_main_v107, val_main_v105, val_main_v104, val_main_v103, val_main_v102, val_main_v101, val_main_c_10, val_main_c_9, val_main_v1]
  exact count_bits 16 t.val (by omega) (by decide)

theorem du3 (t : Fin 4096) (k : Fin 128) : val_main_v136 (F := Ideal) d w s (ix2 t k) = dcol d w s 3 k t := by
  pointwise [val_main_v136, val_main_v135, val_main_v134, val_main_v133, val_main_v131, dmean3, seen3, again3]
  exact (add_comm _ _).trans (sub_eq_add_neg _ _).symm

theorem dw3 (k l : Fin 128) : val_main_v127 (F := Ideal) x d s (ix2 k l) = dweight x d s 3 k l := by
  pointwise [val_main_v127, val_main_v126, cot3, mean3]
  exact Finset.sum_congr rfl fun t _ => mul_comm _ _

theorem scaleOut : val_main_v119 (F := Ideal) x d w = outS x d w := by
  funext y
  idx_vars y
  obtain rfl : y0 = 0 := Subsingleton.elim _ _
  obtain ⟨g, l, rfl⟩ := exists_col y1
  rw [outS_col]
  pointwise [val_main_v119, val_main_v118, val_main_v117, val_main_v114, val_main_cst, mixed0, mixed1, mixed2, mixed3]
  refine Finset.sum_congr rfl fun t _ => (mul_comm _ _).trans (congrArg (d (ix2 t (col g l)) * ·) ?_)
  have hl := l.isLt
  match g with
  | 0 =>
    refine (dif_pos (by show 128 * 0 + l.val < 128; omega)).trans (congrArg (mixed x w 0 t) (Fin.ext ?_))
    show 128 * 0 + l.val = l.val; omega
  | 1 =>
    refine (dif_neg (by show ¬128 * 1 + l.val < 128; omega)).trans ((dif_pos (by show 128 * 1 + l.val - 128 < 128; omega)).trans (congrArg (mixed x w 1 t) (Fin.ext ?_)))
    show 128 * 1 + l.val - 128 = l.val; omega
  | 2 =>
    refine (dif_neg (by show ¬128 * 2 + l.val < 128; omega)).trans ((dif_neg (by show ¬128 * 2 + l.val - 128 < 128; omega)).trans ((dif_pos (by show 128 * 2 + l.val - 128 - 128 < 128; omega)).trans (congrArg (mixed x w 2 t) (Fin.ext ?_))))
    show 128 * 2 + l.val - 128 - 128 = l.val; omega
  | 3 =>
    refine (dif_neg (by show ¬128 * 3 + l.val < 128; omega)).trans ((dif_neg (by show ¬128 * 3 + l.val - 128 < 128; omega)).trans ((dif_neg (by show ¬128 * 3 + l.val - 128 - 128 < 128; omega)).trans (congrArg (mixed x w 3 t) (Fin.ext ?_))))
    show 128 * 3 + l.val - 128 - 128 - 128 = l.val; omega

theorem weightOut : val_main_v171 (F := Ideal) x d s = outW x d s := by
  funext y
  idx_vars y
  pointwise [val_main_v171, val_main_v170, val_main_v169, val_main_v157, val_main_v156, val_main_v155, val_main_v143, val_main_v142, val_main_v141, val_main_v130, val_main_v129, val_main_cst_11, val_main_cst_13, val_main_cst_15, val_main_cst_17, dw0, dw1, dw2, dw3]
  match y0 with
  | 0 =>
    refine (congrArg₂ (· + ·) (congrArg₂ (· + ·) (congrArg₂ (· + ·) (dif_neg (by decide)) (dif_neg (by decide))) (dif_neg (by decide))) (dif_pos (by decide))).trans ?_
    rw [add_zero, add_zero, zero_add]
    rfl
  | 1 =>
    refine (congrArg₂ (· + ·) (congrArg₂ (· + ·) (congrArg₂ (· + ·) (dif_neg (by decide)) (dif_neg (by decide))) (dif_pos (by decide))) (dif_neg (by decide))).trans ?_
    rw [add_zero, zero_add, zero_add]
    rfl
  | 2 =>
    refine (congrArg₂ (· + ·) (congrArg₂ (· + ·) (congrArg₂ (· + ·) (dif_neg (by decide)) (dif_pos (by decide))) (dif_neg (by decide))) (dif_neg (by decide))).trans ?_
    rw [zero_add, add_zero, add_zero]
    rfl
  | 3 =>
    refine (congrArg₂ (· + ·) (congrArg₂ (· + ·) (congrArg₂ (· + ·) (dif_pos (by decide)) (dif_neg (by decide))) (dif_neg (by decide))) (dif_neg (by decide))).trans ?_
    rw [add_zero, add_zero, add_zero]
    rfl

theorem colOut : val_main_v180 (F := Ideal) d w s = outU d w s := by
  funext y
  idx_vars y
  obtain ⟨g, l, rfl⟩ := exists_col y1
  rw [outU_col]
  pointwise [val_main_v180, val_main_v179, val_main_v178, val_main_v165, val_main_v164, val_main_v151, val_main_v150, val_main_v137, val_main_cst_12, val_main_cst_14, val_main_cst_16, val_main_cst_18, du0, du1, du2, du3]
  have hl := l.isLt
  match g with
  | 0 =>
    refine (congrArg₂ (· + ·) (congrArg₂ (· + ·) (congrArg₂ (· + ·) (dif_neg (by show ¬(384 ≤ 128 * 0 + l.val ∧ 128 * 0 + l.val - 384 < 128); omega)) (dif_neg (by show ¬(256 ≤ 128 * 0 + l.val ∧ 128 * 0 + l.val - 256 < 128); omega))) (dif_neg (by show ¬(128 ≤ 128 * 0 + l.val ∧ 128 * 0 + l.val - 128 < 128); omega))) ((dif_pos (by show 128 * 0 + l.val < 128; omega)).trans (congrArg (fun q => dcol d w s 0 q y0) (Fin.ext (show 128 * 0 + l.val = l.val by omega))))).trans ?_
    rw [add_zero, add_zero, zero_add]
  | 1 =>
    refine (congrArg₂ (· + ·) (congrArg₂ (· + ·) (congrArg₂ (· + ·) (dif_neg (by show ¬(384 ≤ 128 * 1 + l.val ∧ 128 * 1 + l.val - 384 < 128); omega)) (dif_neg (by show ¬(256 ≤ 128 * 1 + l.val ∧ 128 * 1 + l.val - 256 < 128); omega))) ((dif_pos (by show 128 ≤ 128 * 1 + l.val ∧ 128 * 1 + l.val - 128 < 128; omega)).trans (congrArg (fun q => dcol d w s 1 q y0) (Fin.ext (show 128 * 1 + l.val - 128 = l.val by omega))))) (dif_neg (by show ¬(128 * 1 + l.val < 128); omega))).trans ?_
    rw [add_zero, zero_add, zero_add]
  | 2 =>
    refine (congrArg₂ (· + ·) (congrArg₂ (· + ·) (congrArg₂ (· + ·) (dif_neg (by show ¬(384 ≤ 128 * 2 + l.val ∧ 128 * 2 + l.val - 384 < 128); omega)) ((dif_pos (by show 256 ≤ 128 * 2 + l.val ∧ 128 * 2 + l.val - 256 < 128; omega)).trans (congrArg (fun q => dcol d w s 2 q y0) (Fin.ext (show 128 * 2 + l.val - 256 = l.val by omega))))) (dif_neg (by show ¬(128 ≤ 128 * 2 + l.val ∧ 128 * 2 + l.val - 128 < 128); omega))) (dif_neg (by show ¬(128 * 2 + l.val < 128); omega))).trans ?_
    rw [zero_add, add_zero, add_zero]
  | 3 =>
    refine (congrArg₂ (· + ·) (congrArg₂ (· + ·) (congrArg₂ (· + ·) ((dif_pos (by show 384 ≤ 128 * 3 + l.val ∧ 128 * 3 + l.val - 384 < 128; omega)).trans (congrArg (fun q => dcol d w s 3 q y0) (Fin.ext (show 128 * 3 + l.val - 384 = l.val by omega)))) (dif_neg (by show ¬(256 ≤ 128 * 3 + l.val ∧ 128 * 3 + l.val - 256 < 128); omega))) (dif_neg (by show ¬(128 ≤ 128 * 3 + l.val ∧ 128 * 3 + l.val - 128 < 128); omega))) (dif_neg (by show ¬(128 * 3 + l.val < 128); omega))).trans ?_
    rw [add_zero, add_zero, add_zero]

end Cert.PoolBwd.Ref

end
-- ==== Proof.PoolBwd.lean ====
/- The gradients of the pooling mixer: the kernel and the reference end with the same three arrays. -/
module

public import proofs.«01_k».proof.Defs
public import proofs.«01_k».proof.Proof.PoolBwdFinal
public import proofs.«01_k».proof.Proof.PoolBwdRef
public import proofs.«01_k».proof.Proof.Gen.Reference35Ideal.Run
public import Idealize.ShloMosaic.Lib.Claim

@[expose] public section

set_option maxRecDepth 16384

noncomputable section

namespace Cert.PoolBwd

open Idealize.ShloMosaic Idealize.ShloMosaic.TcCoe Idealize.SL.Sem
open Cert.Pool

theorem ref_frame : Cert.quiescent_Reference35Ideal := fun m g _ =>
  (θ_run _ _ _).mono (fun r h => ⟨fun c => (h c).2.2.2, sem_eq_zero_of_no_sems (by decide) r.2⟩) (Cert.Reference35Ideal.Value.run m g)

/-- From the same arguments both end with the same arrays. -/
theorem algebraic : Cert.algebraic_Kernel35Ideal_Reference35Ideal := by
  intro m g m' g' _ hagree
  refine ⟨fun c => outU (Kern.A1 m c) (Kern.A2 m c) (Kern.A3 m c), fun c => outW (Kern.A0 m c) (Kern.A1 m c) (Kern.A3 m c), fun c => outS (Kern.A0 m c) (Kern.A1 m c) (Kern.A2 m c), ?_, ?_⟩
  · refine (θ_run _ _ _).mono (fun r h c => ?_) (θ_run_and (Cert.Kernel35Ideal.Gen.unchanged m g) (Cert.Kernel35Ideal.Gen.run_main m g))
    exact ⟨((h.2 c).1 6).trans (Kern.final6 m c), ((h.2 c).1 7).trans (Kern.final7 m c), ((h.2 c).1 8).trans (Kern.final8 m c), h.1 c⟩
  · refine (θ_run _ _ _).mono (fun r h c => ?_) (Cert.Reference35Ideal.Value.run m' g')
    obtain ⟨e0, e1, e2, e3⟩ := hagree c
    refine ⟨(h c).1.trans ((Cert.Reference35Ideal.Read.val_main_v180_eq ..).trans ((Ref.colOut _ _ _).trans ?_)),
      (h c).2.1.trans ((Cert.Reference35Ideal.Read.val_main_v171_eq ..).trans ((Ref.weightOut _ _ _).trans ?_)),
      (h c).2.2.1.trans ((Cert.Reference35Ideal.Read.val_main_v119_eq ..).trans ((Ref.scaleOut _ _ _).trans ?_)), (h c).2.2.2⟩
    · beta_reduce
      unfold Kern.A1 Kern.A2 Kern.A3
      rw [← e1, ← e2, ← e3]
    · beta_reduce
      unfold Kern.A0 Kern.A1 Kern.A3
      rw [← e0, ← e1, ← e3]
    · beta_reduce
      unfold Kern.A0 Kern.A1 Kern.A2
      rw [← e0, ← e1, ← e2]

end Cert.PoolBwd

end
-- ==== Proof.ConvSpec.lean ====
/- The convolution module, over the extended reals: the gated columns, each row's sum over the 31 taps that end at it (rows before
   the first count as 0), the normalisation of a row, and the activation. A sum over the taps may be taken in any order. -/
module

public import Idealize.ShloMosaic.Lib.Pointwise
public import Idealize.ShloMosaic.PureOps.Ideal.Laws

@[expose] public section

noncomputable section

namespace Cert.Conv

open Idealize.ShloMosaic
open scoped BigOperators

/-- The logistic function, and its product with its argument. -/
def logistic (x : EReal) : EReal := Ideal.div 1 (1 + Ideal.exp (-x))

def act (x : EReal) : EReal := x * logistic x

/-- Column `l` of the gated rows: the first half's column times the logistic function of the second half's. -/
def gated (x : FVec Ideal ⟨2, ![4096, 8704]⟩ .f32) (l : Fin 512) (n : Fin 4096) : EReal :=
  x (ix2 n ⟨2048 + l.val, by omega⟩) * logistic (x (ix2 n ⟨2560 + l.val, by omega⟩))

/-- The gated rows with 30 rows of 0 before them. -/
def padded (x : FVec Ideal ⟨2, ![4096, 8704]⟩ .f32) (l : Fin 512) (n : ℕ) : EReal :=
  if h : 30 ≤ n ∧ n - 30 < 4096 then gated x l ⟨n - 30, h.2⟩ else 0

theorem padded_in (x : FVec Ideal ⟨2, ![4096, 8704]⟩ .f32) (l : Fin 512) (n : ℕ) (i : Fin 4096) (h : n = i.val + 30) : padded x l n = gated x l i := by
  have hi := i.isLt
  refine (dif_pos ⟨by omega, by omega⟩).trans ?_
  exact congrArg (gated x l) (Fin.ext (by show n - 30 = i.val; omega))

theorem padded_out (x : FVec Ideal ⟨2, ![4096, 8704]⟩ .f32) (l : Fin 512) (n : ℕ) (h : n < 30) : padded x l n = 0 := dif_neg (by omega)

/-- Tap `k`'s part of a row. -/
def tap (w : FVec Ideal ⟨2, ![32, 512]⟩ .f32) (l : Fin 512) (p : ℕ → EReal) (k : Fin 31) : EReal := w (ix2 ⟨k.val, by omega⟩ l) * p k.val

/-- A row of the convolution. -/
def conv (w : FVec Ideal ⟨2, ![32, 512]⟩ .f32) (b : FVec Ideal ⟨2, ![1, 512]⟩ .f32) (l : Fin 512) (p : ℕ → EReal) : EReal :=
  (∑ k : Fin 31, tap w l p k) + b (ix2 0 l)

/-- A row less its mean, and over the root of its variance. -/
def centred (y : Fin 512 → EReal) (l : Fin 512) : EReal := y l - Ideal.div (∑ e, y e) (Ideal.ofBits FTy.f32 1140850688#32)

def normed (y : Fin 512 → EReal) (l : Fin 512) : EReal :=
  centred y l * Ideal.rsqrt (Ideal.div (∑ e, centred y e * centred y e) (Ideal.ofBits FTy.f32 1140850688#32) + Ideal.ofBits FTy.f32 897988541#32)

/-- The module's result. -/
def out (x : FVec Ideal ⟨2, ![4096, 8704]⟩ .f32) (w : FVec Ideal ⟨2, ![32, 512]⟩ .f32) (b u v : FVec Ideal ⟨2, ![1, 512]⟩ .f32) :
    FVec Ideal ⟨2, ![4096, 512]⟩ .bf16 := fun y =>
  act (normed (fun l => conv w b l fun k => padded x l ((y 0).val + k)) (y 1) * u (ix2 0 (y 1)) + v (ix2 0 (y 1)))

/-- The taps summed from 0 in the rows' order, and after the bias by their place in groups of eight. -/
theorem inOrder (f : Fin 31 → EReal) : ((((((((((((((((((((((((((((((0 + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30 = ∑ k, f k := by
  have e : ∀ k : Fin 31, f k = (fun n : ℕ => if h : n < 31 then f ⟨n, h⟩ else 0) k.val := fun k => by
    show f k = if h : k.val < 31 then f ⟨k.val, h⟩ else 0
    rw [dif_pos k.isLt]
  generalize (fun n : ℕ => if h : n < 31 then f ⟨n, h⟩ else 0) = g at e
  rw [Finset.sum_congr rfl fun k _ => e k, ← Finset.sum_range g]
  simp only [Finset.sum_range_succ, Finset.sum_range_zero]
  rw [show f 0 = g 0 from e 0, show f 1 = g 1 from e 1, show f 2 = g 2 from e 2, show f 3 = g 3 from e 3, show f 4 = g 4 from e 4, show f 5 = g 5 from e 5, show f 6 = g 6 from e 6, show f 7 = g 7 from e 7, show f 8 = g 8 from e 8, show f 9 = g 9 from e 9, show f 10 = g 10 from e 10, show f 11 = g 11 from e 11, show f 12 = g 12 from e 12, show f 13 = g 13 from e 13, show f 14 = g 14 from e 14, show f 15 = g 15 from e 15, show f 16 = g 16 from e 16, show f 17 = g 17 from e 17, show f 18 = g 18 from e 18, show f 19 = g 19 from e 19, show f 20 = g 20 from e 20, show f 21 = g 21 from e 21, show f 22 = g 22 from e 22, show f 23 = g 23 from e 23, show f 24 = g 24 from e 24, show f 25 = g 25 from e 25, show f 26 = g 26 from e 26, show f 27 = g 27 from e 27, show f 28 = g 28 from e 28, show f 29 = g 29 from e 29, show f 30 = g 30 from e 30]

theorem inGroups (f : Fin 31 → EReal) (b : EReal) : (((((((((((((((((((((((((((((((0 + b) + f 6) + f 14) + f 22) + f 30) + f 7) + f 15) + f 23) + f 0) + f 8) + f 16) + f 24) + f 1) + f 9) + f 17) + f 25) + f 2) + f 10) + f 18) + f 26) + f 3) + f 11) + f 19) + f 27) + f 4) + f 12) + f 20) + f 28) + f 5) + f 13) + f 21) + f 29 = (∑ k, f k) + b := by
  rw [← inOrder f]
  simp only [zero_add]
  ac_rfl

end Cert.Conv

end
-- ==== Proof.ConvKernel.lean ====
/- The convolution module, forward: what the kernel stores. -/
module

public import proofs.«01_k».proof.Proof.ConvSpec
public import proofs.«01_k».proof.Proof.Gen.Kernel36Ideal.Value
public import Idealize.ShloMosaic.Lib.Pipeline.ValueKit
public import Idealize.ShloMosaic.Lib.Claim

@[expose] public section

set_option maxRecDepth 16384

noncomputable section

namespace Cert.Conv.Kern

open Idealize.ShloMosaic Idealize.ShloMosaic.TcCoe Idealize.SL.Sem
open Idealize.ShloMosaic.Pipeline (Dat)
open Cert.Kernel36Ideal Cert.Kernel36Ideal.Gen
open scoped BigOperators

/-! Thirty-two rows of a block: the convolution from the eight windows that begin at consecutive rows, and what is stored of it. -/

def mid (a0 : Vec Ideal S64x512 .f32) (a1 a2 a3 a4 a5 a6 a7 : Vec Ideal S56x512 .f32) (w : Vec Ideal S32x512 .f32) (b : Vec Ideal S1x512 .f32) : FVec Ideal S32x512 .f32 :=
  k0_pay38 (k0_pay25 a5) (k0_pay26 a5) (k0_pay27 a6) (k0_pay28 a6) (k0_pay29 a6) (k0_pay30 a6) (k0_pay31 a7) (k0_pay32 a7) (k0_pay33 a7) (k0_pay34 a7) (k0_pay37 (k0_pay15 a3) (k0_pay16 a3) (k0_pay17 a3) (k0_pay18 a3) (k0_pay19 a4) (k0_pay20 a4) (k0_pay21 a4) (k0_pay22 a4) (k0_pay23 a5) (k0_pay24 a5) (k0_pay36 (k0_pay5 a0) (k0_pay6 a0) (k0_pay7 a0) (k0_pay8 a1) (k0_pay9 a1) (k0_pay10 a1) (k0_pay11 a2) (k0_pay12 a2) (k0_pay13 a2) (k0_pay14 a2) (k0_pay35 (k0_pay4 b) a0 (View.ld w (Rect.unit ![6, 0] ![1, 512] inb_S32x512_S1x512_6_0))) (View.ld w (Rect.unit ![14, 0] ![1, 512] inb_S32x512_S1x512_14_0)) (View.ld w (Rect.unit ![22, 0] ![1, 512] inb_S32x512_S1x512_22_0)) (View.ld w (Rect.unit ![30, 0] ![1, 512] inb_S32x512_S1x512_30_0)) (View.ld w (Rect.unit ![7, 0] ![1, 512] inb_S32x512_S1x512_7_0)) (View.ld w (Rect.unit ![15, 0] ![1, 512] inb_S32x512_S1x512_15_0)) (View.ld w (Rect.unit ![23, 0] ![1, 512] inb_S32x512_S1x512_23_0)) (View.ld w (Rect.unit ![0, 0] ![1, 512] inb_S32x512_S1x512_0_0)) (View.ld w (Rect.unit ![8, 0] ![1, 512] inb_S32x512_S1x512_8_0)) (View.ld w (Rect.unit ![16, 0] ![1, 512] inb_S32x512_S1x512_16_0)) (View.ld w (Rect.unit ![24, 0] ![1, 512] inb_S32x512_S1x512_24_0))) (View.ld w (Rect.unit ![1, 0] ![1, 512] inb_S32x512_S1x512_1_0)) (View.ld w (Rect.unit ![9, 0] ![1, 512] inb_S32x512_S1x512_9_0)) (View.ld w (Rect.unit ![17, 0] ![1, 512] inb_S32x512_S1x512_17_0)) (View.ld w (Rect.unit ![25, 0] ![1, 512] inb_S32x512_S1x512_25_0)) (View.ld w (Rect.unit ![2, 0] ![1, 512] inb_S32x512_S1x512_2_0)) (View.ld w (Rect.unit ![10, 0] ![1, 512] inb_S32x512_S1x512_10_0)) (View.ld w (Rect.unit ![18, 0] ![1, 512] inb_S32x512_S1x512_18_0)) (View.ld w (Rect.unit ![26, 0] ![1, 512] inb_S32x512_S1x512_26_0)) (View.ld w (Rect.unit ![3, 0] ![1, 512] inb_S32x512_S1x512_3_0)) (View.ld w (Rect.unit ![11, 0] ![1, 512] inb_S32x512_S1x512_11_0))) (View.ld w (Rect.unit ![19, 0] ![1, 512] inb_S32x512_S1x512_19_0)) (View.ld w (Rect.unit ![27, 0] ![1, 512] inb_S32x512_S1x512_27_0)) (View.ld w (Rect.unit ![4, 0] ![1, 512] inb_S32x512_S1x512_4_0)) (View.ld w (Rect.unit ![12, 0] ![1, 512] inb_S32x512_S1x512_12_0)) (View.ld w (Rect.unit ![20, 0] ![1, 512] inb_S32x512_S1x512_20_0)) (View.ld w (Rect.unit ![28, 0] ![1, 512] inb_S32x512_S1x512_28_0)) (View.ld w (Rect.unit ![5, 0] ![1, 512] inb_S32x512_S1x512_5_0)) (View.ld w (Rect.unit ![13, 0] ![1, 512] inb_S32x512_S1x512_13_0)) (View.ld w (Rect.unit ![21, 0] ![1, 512] inb_S32x512_S1x512_21_0)) (View.ld w (Rect.unit ![29, 0] ![1, 512] inb_S32x512_S1x512_29_0))

theorem mid_apply (a0 : Vec Ideal S64x512 .f32) (a1 a2 a3 a4 a5 a6 a7 : Vec Ideal S56x512 .f32) (w : Vec Ideal S32x512 .f32) (b : Vec Ideal S1x512 .f32) (P : Fin 512 → ℕ → EReal)
    (h0 : ∀ (r : Fin 64) (l : Fin 512), 2 ≤ 0 + r.val → a0 (ix2 r l) = P l (0 + r.val - 2)) (h1 : ∀ (r : Fin 56) (l : Fin 512), 2 ≤ 1 + r.val → a1 (ix2 r l) = P l (1 + r.val - 2)) (h2 : ∀ (r : Fin 56) (l : Fin 512), 2 ≤ 2 + r.val → a2 (ix2 r l) = P l (2 + r.val - 2)) (h3 : ∀ (r : Fin 56) (l : Fin 512), 2 ≤ 3 + r.val → a3 (ix2 r l) = P l (3 + r.val - 2)) (h4 : ∀ (r : Fin 56) (l : Fin 512), 2 ≤ 4 + r.val → a4 (ix2 r l) = P l (4 + r.val - 2)) (h5 : ∀ (r : Fin 56) (l : Fin 512), 2 ≤ 5 + r.val → a5 (ix2 r l) = P l (5 + r.val - 2)) (h6 : ∀ (r : Fin 56) (l : Fin 512), 2 ≤ 6 + r.val → a6 (ix2 r l) = P l (6 + r.val - 2)) (h7 : ∀ (r : Fin 56) (l : Fin 512), 2 ≤ 7 + r.val → a7 (ix2 r l) = P l (7 + r.val - 2))
    (r : Fin 32) (l : Fin 512) : mid a0 a1 a2 a3 a4 a5 a6 a7 w b (ix2 r l) = conv w b l fun k => P l (r.val + k) := by
  have hr := r.isLt
  pointwise [mid, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  refine Eq.trans ?_ (inGroups (tap w l fun k => P l (r.val + k)) (b (ix2 0 l)))
  exact congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      ((zero_add (b (ix2 0 l))).symm)
      (congrArg (w (ix2 6 l) * ·) ((h0 ⟨8 + r.val, by omega⟩ l (by show 2 ≤ 0 + (8 + r.val); omega)).trans (congrArg (P l) (by show 0 + (8 + r.val) - 2 = r.val + 6; omega)))))
      (congrArg (w (ix2 14 l) * ·) ((h0 ⟨16 + r.val, by omega⟩ l (by show 2 ≤ 0 + (16 + r.val); omega)).trans (congrArg (P l) (by show 0 + (16 + r.val) - 2 = r.val + 14; omega)))))
      (congrArg (w (ix2 22 l) * ·) ((h0 ⟨24 + r.val, by omega⟩ l (by show 2 ≤ 0 + (24 + r.val); omega)).trans (congrArg (P l) (by show 0 + (24 + r.val) - 2 = r.val + 22; omega)))))
      (congrArg (w (ix2 30 l) * ·) ((h0 ⟨32 + r.val, by omega⟩ l (by show 2 ≤ 0 + (32 + r.val); omega)).trans (congrArg (P l) (by show 0 + (32 + r.val) - 2 = r.val + 30; omega)))))
      (congrArg (w (ix2 7 l) * ·) ((h1 ⟨8 + r.val, by omega⟩ l (by show 2 ≤ 1 + (8 + r.val); omega)).trans (congrArg (P l) (by show 1 + (8 + r.val) - 2 = r.val + 7; omega)))))
      (congrArg (w (ix2 15 l) * ·) ((h1 ⟨16 + r.val, by omega⟩ l (by show 2 ≤ 1 + (16 + r.val); omega)).trans (congrArg (P l) (by show 1 + (16 + r.val) - 2 = r.val + 15; omega)))))
      (congrArg (w (ix2 23 l) * ·) ((h1 ⟨24 + r.val, by omega⟩ l (by show 2 ≤ 1 + (24 + r.val); omega)).trans (congrArg (P l) (by show 1 + (24 + r.val) - 2 = r.val + 23; omega)))))
      (congrArg (w (ix2 0 l) * ·) ((h2 ⟨r.val, by omega⟩ l (by show 2 ≤ 2 + r.val; omega)).trans (congrArg (P l) (by show 2 + r.val - 2 = r.val + 0; omega)))))
      (congrArg (w (ix2 8 l) * ·) ((h2 ⟨8 + r.val, by omega⟩ l (by show 2 ≤ 2 + (8 + r.val); omega)).trans (congrArg (P l) (by show 2 + (8 + r.val) - 2 = r.val + 8; omega)))))
      (congrArg (w (ix2 16 l) * ·) ((h2 ⟨16 + r.val, by omega⟩ l (by show 2 ≤ 2 + (16 + r.val); omega)).trans (congrArg (P l) (by show 2 + (16 + r.val) - 2 = r.val + 16; omega)))))
      (congrArg (w (ix2 24 l) * ·) ((h2 ⟨24 + r.val, by omega⟩ l (by show 2 ≤ 2 + (24 + r.val); omega)).trans (congrArg (P l) (by show 2 + (24 + r.val) - 2 = r.val + 24; omega)))))
      (congrArg (w (ix2 1 l) * ·) ((h3 ⟨r.val, by omega⟩ l (by show 2 ≤ 3 + r.val; omega)).trans (congrArg (P l) (by show 3 + r.val - 2 = r.val + 1; omega)))))
      (congrArg (w (ix2 9 l) * ·) ((h3 ⟨8 + r.val, by omega⟩ l (by show 2 ≤ 3 + (8 + r.val); omega)).trans (congrArg (P l) (by show 3 + (8 + r.val) - 2 = r.val + 9; omega)))))
      (congrArg (w (ix2 17 l) * ·) ((h3 ⟨16 + r.val, by omega⟩ l (by show 2 ≤ 3 + (16 + r.val); omega)).trans (congrArg (P l) (by show 3 + (16 + r.val) - 2 = r.val + 17; omega)))))
      (congrArg (w (ix2 25 l) * ·) ((h3 ⟨24 + r.val, by omega⟩ l (by show 2 ≤ 3 + (24 + r.val); omega)).trans (congrArg (P l) (by show 3 + (24 + r.val) - 2 = r.val + 25; omega)))))
      (congrArg (w (ix2 2 l) * ·) ((h4 ⟨r.val, by omega⟩ l (by show 2 ≤ 4 + r.val; omega)).trans (congrArg (P l) (by show 4 + r.val - 2 = r.val + 2; omega)))))
      (congrArg (w (ix2 10 l) * ·) ((h4 ⟨8 + r.val, by omega⟩ l (by show 2 ≤ 4 + (8 + r.val); omega)).trans (congrArg (P l) (by show 4 + (8 + r.val) - 2 = r.val + 10; omega)))))
      (congrArg (w (ix2 18 l) * ·) ((h4 ⟨16 + r.val, by omega⟩ l (by show 2 ≤ 4 + (16 + r.val); omega)).trans (congrArg (P l) (by show 4 + (16 + r.val) - 2 = r.val + 18; omega)))))
      (congrArg (w (ix2 26 l) * ·) ((h4 ⟨24 + r.val, by omega⟩ l (by show 2 ≤ 4 + (24 + r.val); omega)).trans (congrArg (P l) (by show 4 + (24 + r.val) - 2 = r.val + 26; omega)))))
      (congrArg (w (ix2 3 l) * ·) ((h5 ⟨r.val, by omega⟩ l (by show 2 ≤ 5 + r.val; omega)).trans (congrArg (P l) (by show 5 + r.val - 2 = r.val + 3; omega)))))
      (congrArg (w (ix2 11 l) * ·) ((h5 ⟨8 + r.val, by omega⟩ l (by show 2 ≤ 5 + (8 + r.val); omega)).trans (congrArg (P l) (by show 5 + (8 + r.val) - 2 = r.val + 11; omega)))))
      (congrArg (w (ix2 19 l) * ·) ((h5 ⟨16 + r.val, by omega⟩ l (by show 2 ≤ 5 + (16 + r.val); omega)).trans (congrArg (P l) (by show 5 + (16 + r.val) - 2 = r.val + 19; omega)))))
      (congrArg (w (ix2 27 l) * ·) ((h5 ⟨24 + r.val, by omega⟩ l (by show 2 ≤ 5 + (24 + r.val); omega)).trans (congrArg (P l) (by show 5 + (24 + r.val) - 2 = r.val + 27; omega)))))
      (congrArg (w (ix2 4 l) * ·) ((h6 ⟨r.val, by omega⟩ l (by show 2 ≤ 6 + r.val; omega)).trans (congrArg (P l) (by show 6 + r.val - 2 = r.val + 4; omega)))))
      (congrArg (w (ix2 12 l) * ·) ((h6 ⟨8 + r.val, by omega⟩ l (by show 2 ≤ 6 + (8 + r.val); omega)).trans (congrArg (P l) (by show 6 + (8 + r.val) - 2 = r.val + 12; omega)))))
      (congrArg (w (ix2 20 l) * ·) ((h6 ⟨16 + r.val, by omega⟩ l (by show 2 ≤ 6 + (16 + r.val); omega)).trans (congrArg (P l) (by show 6 + (16 + r.val) - 2 = r.val + 20; omega)))))
      (congrArg (w (ix2 28 l) * ·) ((h6 ⟨24 + r.val, by omega⟩ l (by show 2 ≤ 6 + (24 + r.val); omega)).trans (congrArg (P l) (by show 6 + (24 + r.val) - 2 = r.val + 28; omega)))))
      (congrArg (w (ix2 5 l) * ·) ((h7 ⟨r.val, by omega⟩ l (by show 2 ≤ 7 + r.val; omega)).trans (congrArg (P l) (by show 7 + r.val - 2 = r.val + 5; omega)))))
      (congrArg (w (ix2 13 l) * ·) ((h7 ⟨8 + r.val, by omega⟩ l (by show 2 ≤ 7 + (8 + r.val); omega)).trans (congrArg (P l) (by show 7 + (8 + r.val) - 2 = r.val + 13; omega)))))
      (congrArg (w (ix2 21 l) * ·) ((h7 ⟨16 + r.val, by omega⟩ l (by show 2 ≤ 7 + (16 + r.val); omega)).trans (congrArg (P l) (by show 7 + (16 + r.val) - 2 = r.val + 21; omega)))))
      (congrArg (w (ix2 29 l) * ·) ((h7 ⟨24 + r.val, by omega⟩ l (by show 2 ≤ 7 + (24 + r.val); omega)).trans (congrArg (P l) (by show 7 + (24 + r.val) - 2 = r.val + 29; omega))))

def chunk (a0 : Vec Ideal S64x512 .f32) (a1 a2 a3 a4 a5 a6 a7 : Vec Ideal S56x512 .f32) (w : Vec Ideal S32x512 .f32) (b : Vec Ideal S1x512 .f32) (u v : Vec Ideal S1x512 .f32) : FVec Ideal S32x512 .bf16 :=
  k0_pay39 (mid a0 a1 a2 a3 a4 a5 a6 a7 w b) u v

theorem stored (y : FVec Ideal S32x512 .f32) (u v : Vec Ideal S1x512 .f32) (r : Fin 32) (l : Fin 512) :
    k0_pay39 y u v (ix2 r l) = act (normed (fun e => y (ix2 r e)) l * u (ix2 0 l) + v (ix2 0 l)) := by
  pointwise [k0_pay39]
  simp only [zero_sub]
  rfl

end Cert.Conv.Kern

end
-- ==== Proof.ConvFinal.lean ====
/- The convolution module, forward: the whole array the kernel leaves. -/
module

public import proofs.«01_k».proof.Proof.ConvKernel

@[expose] public section

set_option maxRecDepth 16384

noncomputable section

namespace Cert.Conv.Kern

open Idealize.ShloMosaic Idealize.ShloMosaic.TcCoe Idealize.SL.Sem
open Idealize.ShloMosaic.Pipeline (Dat)
open Cert.Kernel36Ideal Cert.Kernel36Ideal.Gen
open scoped BigOperators

variable (m : (ℓ : Loc nD τ sig) → Buf (Elt Ideal) ℓ)

/-- Which block of its array each window holds at a point. -/
theorem idx : ∀ t : Fin cfg0.N, (grid0.coords t 0).val = t.val ∧ win0_0.index t = ![t.val, 4] ∧ win0_1.index t = ![t.val, 5] ∧ win0_2.index t = ![8 * t.val - 1, 4] ∧ win0_3.index t = ![8 * t.val - 1, 5]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

theorem idxg (t : Fin cfg0.N) : (grid0.coords t 0).val = t.val := (idx t).1
theorem idx0 (t : Fin cfg0.N) : win0_0.index t = ![t.val, 4] := (idx t).2.1
theorem idx1 (t : Fin cfg0.N) : win0_1.index t = ![t.val, 5] := (idx t).2.2.1
theorem idx2 (t : Fin cfg0.N) : win0_2.index t = ![8 * t.val - 1, 4] := (idx t).2.2.2.1
theorem idx3 (t : Fin cfg0.N) : win0_3.index t = ![8 * t.val - 1, 5] := (idx t).2.2.2.2.1
theorem idx4 (t : Fin cfg0.N) : win0_4.index t = ![0, 0] := (idx t).2.2.2.2.2.1
theorem idx5 (t : Fin cfg0.N) : win0_5.index t = ![0, 0] := (idx t).2.2.2.2.2.2.1
theorem idx6 (t : Fin cfg0.N) : win0_6.index t = ![0, 0] := (idx t).2.2.2.2.2.2.2.1
theorem idx7 (t : Fin cfg0.N) : win0_7.index t = ![0, 0] := (idx t).2.2.2.2.2.2.2.2.1
theorem idx8 (t : Fin cfg0.N) : win0_8.index t = ![t.val, 0] := (idx t).2.2.2.2.2.2.2.2.2

theorem lt (t : Fin cfg0.N) : t.val < 16 := lt_of_lt_of_eq t.isLt N_0

/-- The array's row that row `i` of block `t` is. -/
def row (t : Fin cfg0.N) (i : Fin 256) : Fin 4096 := ⟨256 * t.val + i.val, by have := lt t; omega⟩

variable (c : Dev nD) (t : Fin cfg0.N)

abbrev A0 : FVec Ideal ⟨2, ![4096, 8704]⟩ .f32 := m ((c : Thread nD τ).loc main_arg0)
abbrev A1 : FVec Ideal ⟨2, ![32, 512]⟩ .f32 := m ((c : Thread nD τ).loc main_arg1)
abbrev A2 : FVec Ideal ⟨2, ![1, 512]⟩ .f32 := m ((c : Thread nD τ).loc main_arg2)
abbrev A3 : FVec Ideal ⟨2, ![1, 512]⟩ .f32 := m ((c : Thread nD τ).loc main_arg3)
abbrev A4 : FVec Ideal ⟨2, ![1, 512]⟩ .f32 := m ((c : Thread nD τ).loc main_arg4)

theorem in0 (i : Fin 256) (l : Fin 512) : iblk m c 0 t (ix2 i l) = A0 m c (ix2 (row t i) ⟨2048 + l.val, by omega⟩) := by
  unfold row; blk_point [iblk, V, idx0 t]

theorem in1 (i : Fin 256) (l : Fin 512) : iblk m c 1 t (ix2 i l) = A0 m c (ix2 (row t i) ⟨2560 + l.val, by omega⟩) := by
  unfold row; blk_point [iblk, V, idx1 t]

theorem in2 (i : Fin 32) (l : Fin 512) : iblk m c 2 t (ix2 i l) = A0 m c (ix2 ⟨32 * (8 * t.val - 1) + i.val, by have := lt t; omega⟩ ⟨2048 + l.val, by omega⟩) := by
  blk_point [iblk, V, idx2 t]

theorem in3 (i : Fin 32) (l : Fin 512) : iblk m c 3 t (ix2 i l) = A0 m c (ix2 ⟨32 * (8 * t.val - 1) + i.val, by have := lt t; omega⟩ ⟨2560 + l.val, by omega⟩) := by
  blk_point [iblk, V, idx3 t]

theorem in4 : iblk m c 4 t = A1 m c := by
  funext y; idx_vars y; blk_point [iblk, V, idx4 t]

theorem in5 : iblk m c 5 t = A2 m c := by
  funext y; idx_vars y; blk_point [iblk, V, idx5 t]

theorem in6 : iblk m c 6 t = A3 m c := by
  funext y; idx_vars y; blk_point [iblk, V, idx6 t]

theorem in7 : iblk m c 7 t = A4 m c := by
  funext y; idx_vars y; blk_point [iblk, V, idx7 t]

theorem first_bits (n : ℕ) (h : n < 16) : Scalar.cmpi .eq (BitVec.ofNat 32 n) 0#32 = BitVec.ofBool (decide (n = 0)) := by
  interval_cases n <;> rfl

/-- The 32 gated rows before the block, 0 before the first. -/
theorem before (r : Fin 32) (l : Fin 512) (h : 2 ≤ r.val) : k0_pay2 (grid0.coords t) (iblk m c 2 t) (iblk m c 3 t) (ix2 r l) = padded (A0 m c) l (256 * t.val + (r.val - 2)) := by
  have ht := lt t
  have hr := r.isLt
  pointwise [k0_pay2, in2, in3]
  show Scalar.select (Scalar.cmpi .eq (BitVec.ofNat 32 (grid0.coords t 0).val) 0#32) _ _ = _
  rw [idxg t, first_bits _ ht]
  by_cases z : t.val = 0
  · rw [padded_out _ _ _ (by omega)]
    rw [decide_eq_true z]
    rfl
  · rw [padded_in _ _ _ ⟨32 * (8 * t.val - 1) + r.val, by omega⟩ (by show _ = 32 * (8 * t.val - 1) + r.val + 30; omega)]
    rw [decide_eq_false z]
    simp only [zero_sub]
    rfl

/-- The block's own gated rows. -/
theorem own (r : Fin 256) (l : Fin 512) : k0_pay3 (iblk m c 0 t) (iblk m c 1 t) (ix2 r l) = padded (A0 m c) l (256 * t.val + (r.val + 30)) := by
  pointwise [k0_pay3, in0, in1]
  rw [padded_in _ _ _ (row t r) (by show _ = 256 * t.val + r.val + 30; omega)]
  simp only [zero_sub]
  rfl

/-- What the point keeps: those rows one after the other. -/
def held : List (View.Piece (Elt Ideal) S288x512 .f32) :=
  [⟨Rect.unit ![32, 0] ![256, 512] inb_S288x512_S256x512_32_0, k0_pay3 (iblk m c 0 t) (iblk m c 1 t)⟩,
    ⟨Rect.unit ![0, 0] ![32, 512] inb_S288x512_S32x512_0_0, k0_pay2 (grid0.coords t) (iblk m c 2 t) (iblk m c 3 t)⟩]

theorem held_apply (y : S288x512.Idx) (l : Fin 512) (n : ℕ) (h0 : (y 0).val = n + 2) (h1 : (y 1).val = l.val) : View.canon (held m c t) y = padded (A0 m c) l (256 * t.val + n) := by
  have hcover : ∀ y : S288x512.Idx, ∃ p ∈ held m c t, y ∈ p.1.set := fun y => by
    have y0 : (y 0).val < 288 := (y 0).isLt
    have y1 : (y 1).val < 512 := (y 1).isLt
    by_cases z : 32 ≤ (y 0).val
    · refine ⟨_, List.mem_cons_self, (Rect.mem_set_unit (inb := inb_S288x512_S256x512_32_0)).mpr fun a => ?_⟩
      fin_cases a
      · exact ⟨z, by show (y 0).val < 32 + 256; omega⟩
      · exact ⟨Nat.zero_le _, by show (y 1).val < 0 + 512; omega⟩
    · refine ⟨_, List.mem_cons_of_mem _ List.mem_cons_self, (Rect.mem_set_unit (inb := inb_S288x512_S32x512_0_0)).mpr fun a => ?_⟩
      fin_cases a
      · exact ⟨Nat.zero_le _, by show (y 0).val < 0 + 32; omega⟩
      · exact ⟨Nat.zero_le _, by show (y 1).val < 0 + 512; omega⟩
  unfold held at hcover ⊢
  canon_tiles x hx using hcover y
  case piece0 =>
    idx_vars x
    have e : x1 = l := Fin.ext (hx1.symm.trans h1)
    subst e
    refine (own m c t x0 x1).trans (congrArg (padded (A0 m c) x1) ?_)
    have : (y 0).val = 32 + x0.val := hx0
    omega
  case piece1 =>
    idx_vars x
    have e : x1 = l := Fin.ext (hx1.symm.trans h1)
    subst e
    have : (y 0).val = x0.val := hx0
    refine (before m c t x0 x1 (by omega)).trans (congrArg (padded (A0 m c) x1) ?_)
    omega

/-- A window of 64 of the kept rows. -/
def window64 (o : ℕ) (inb : ∀ a, (![o, 0] : Fin 2 → ℕ) a + (![64, 512] : Fin 2 → ℕ) a ≤ S288x512.size a) : Vec Ideal S64x512 .f32 :=
  View.readCov (View.whole cc0_scratch0) (held m c t) (Rect.unit (s := S288x512) ![o, 0] ![64, 512] inb).toLoadRect

theorem window64_apply (o : ℕ) (inb : ∀ a, (![o, 0] : Fin 2 → ℕ) a + (![64, 512] : Fin 2 → ℕ) a ≤ S288x512.size a) (r : Fin 64) (l : Fin 512) (n : ℕ) (h : o + r.val = n + 2) :
    window64 m c t o inb (ix2 r l) = padded (A0 m c) l (256 * t.val + n) := by
  unfold window64
  rw [View.readCov_eq_canon']
  exact held_apply m c t _ l n (by show o + 1 * r.val = _; omega) (by show 0 + 1 * l.val = _; omega)

/-- A window of 56 of the kept rows. -/
def window56 (o : ℕ) (inb : ∀ a, (![o, 0] : Fin 2 → ℕ) a + (![56, 512] : Fin 2 → ℕ) a ≤ S288x512.size a) : Vec Ideal S56x512 .f32 :=
  View.readCov (View.whole cc0_scratch0) (held m c t) (Rect.unit (s := S288x512) ![o, 0] ![56, 512] inb).toLoadRect

theorem window56_apply (o : ℕ) (inb : ∀ a, (![o, 0] : Fin 2 → ℕ) a + (![56, 512] : Fin 2 → ℕ) a ≤ S288x512.size a) (r : Fin 56) (l : Fin 512) (n : ℕ) (h : o + r.val = n + 2) :
    window56 m c t o inb (ix2 r l) = padded (A0 m c) l (256 * t.val + n) := by
  unfold window56
  rw [View.readCov_eq_canon']
  exact held_apply m c t _ l n (by show o + 1 * r.val = _; omega) (by show 0 + 1 * l.val = _; omega)

/-- Thirty-two rows of what a point stores. -/
theorem piece (r0 : ℕ) (a0 : Vec Ideal S64x512 .f32) (a1 a2 a3 a4 a5 a6 a7 : Vec Ideal S56x512 .f32)
    (h0 : ∀ (r : Fin 64) (l : Fin 512), 2 ≤ 0 + r.val → a0 (ix2 r l) = padded (A0 m c) l (256 * t.val + (r0 + (0 + r.val - 2)))) (h1 : ∀ (r : Fin 56) (l : Fin 512), 2 ≤ 1 + r.val → a1 (ix2 r l) = padded (A0 m c) l (256 * t.val + (r0 + (1 + r.val - 2)))) (h2 : ∀ (r : Fin 56) (l : Fin 512), 2 ≤ 2 + r.val → a2 (ix2 r l) = padded (A0 m c) l (256 * t.val + (r0 + (2 + r.val - 2)))) (h3 : ∀ (r : Fin 56) (l : Fin 512), 2 ≤ 3 + r.val → a3 (ix2 r l) = padded (A0 m c) l (256 * t.val + (r0 + (3 + r.val - 2)))) (h4 : ∀ (r : Fin 56) (l : Fin 512), 2 ≤ 4 + r.val → a4 (ix2 r l) = padded (A0 m c) l (256 * t.val + (r0 + (4 + r.val - 2)))) (h5 : ∀ (r : Fin 56) (l : Fin 512), 2 ≤ 5 + r.val → a5 (ix2 r l) = padded (A0 m c) l (256 * t.val + (r0 + (5 + r.val - 2)))) (h6 : ∀ (r : Fin 56) (l : Fin 512), 2 ≤ 6 + r.val → a6 (ix2 r l) = padded (A0 m c) l (256 * t.val + (r0 + (6 + r.val - 2)))) (h7 : ∀ (r : Fin 56) (l : Fin 512), 2 ≤ 7 + r.val → a7 (ix2 r l) = padded (A0 m c) l (256 * t.val + (r0 + (7 + r.val - 2))))
    (y : S256x512.Idx) (i : Fin 32) (l : Fin 512) (e0 : (y 0).val = r0 + i.val) (e1 : (y 1).val = l.val) :
    chunk a0 a1 a2 a3 a4 a5 a6 a7 (iblk m c 4 t) (iblk m c 5 t) (iblk m c 6 t) (iblk m c 7 t) (ix2 i l) = out (A0 m c) (A1 m c) (A2 m c) (A3 m c) (A4 m c) (ix2 (row t (y 0)) (y 1)) := by
  have el : y 1 = l := Fin.ext e1
  rw [el, in4, in5, in6, in7]
  unfold chunk
  rw [stored]
  have e : (fun e => mid a0 a1 a2 a3 a4 a5 a6 a7 (A1 m c) (A2 m c) (ix2 i e)) = fun e => conv (A1 m c) (A2 m c) e fun k => padded (A0 m c) e ((row t (y 0)).val + k) := funext fun e => by
    rw [mid_apply a0 a1 a2 a3 a4 a5 a6 a7 _ _ (fun l n => padded (A0 m c) l (256 * t.val + (r0 + n))) h0 h1 h2 h3 h4 h5 h6 h7]
    refine congrArg (conv (A1 m c) (A2 m c) e) (funext fun k => congrArg (padded (A0 m c) e) ?_)
    show 256 * t.val + (r0 + (i.val + k)) = 256 * t.val + (y 0).val + k
    omega
  rw [e]
  rfl

theorem left (y : S256x512.Idx) : outsAt0 m c t y = out (A0 m c) (A1 m c) (A2 m c) (A3 m c) (A4 m c) (ix2 (row t (y 0)) (y 1)) := by
  unfold outsAt0
  frame_out
  canon_tiles x hx
  case piece0 =>
    show chunk (window64 m c t 224 inb_S288x512_S64x512_224_0) (window56 m c t 225 inb_S288x512_S56x512_225_0) (window56 m c t 226 inb_S288x512_S56x512_226_0) (window56 m c t 227 inb_S288x512_S56x512_227_0) (window56 m c t 228 inb_S288x512_S56x512_228_0) (window56 m c t 229 inb_S288x512_S56x512_229_0) (window56 m c t 230 inb_S288x512_S56x512_230_0) (window56 m c t 231 inb_S288x512_S56x512_231_0) (iblk m c 4 t) (iblk m c 5 t) (iblk m c 6 t) (iblk m c 7 t) x = _
    idx_vars x
    exact piece m c t 224 _ _ _ _ _ _ _ _ (fun r l h => window64_apply m c t 224 _ r l _ (by omega)) (fun r l h => window56_apply m c t 225 _ r l _ (by omega)) (fun r l h => window56_apply m c t 226 _ r l _ (by omega)) (fun r l h => window56_apply m c t 227 _ r l _ (by omega)) (fun r l h => window56_apply m c t 228 _ r l _ (by omega)) (fun r l h => window56_apply m c t 229 _ r l _ (by omega)) (fun r l h => window56_apply m c t 230 _ r l _ (by omega)) (fun r l h => window56_apply m c t 231 _ r l _ (by omega)) y x0 x1 hx0 hx1
  case piece1 =>
    show chunk (window64 m c t 192 inb_S288x512_S64x512_192_0) (window56 m c t 193 inb_S288x512_S56x512_193_0) (window56 m c t 194 inb_S288x512_S56x512_194_0) (window56 m c t 195 inb_S288x512_S56x512_195_0) (window56 m c t 196 inb_S288x512_S56x512_196_0) (window56 m c t 197 inb_S288x512_S56x512_197_0) (window56 m c t 198 inb_S288x512_S56x512_198_0) (window56 m c t 199 inb_S288x512_S56x512_199_0) (iblk m c 4 t) (iblk m c 5 t) (iblk m c 6 t) (iblk m c 7 t) x = _
    idx_vars x
    exact piece m c t 192 _ _ _ _ _ _ _ _ (fun r l h => window64_apply m c t 192 _ r l _ (by omega)) (fun r l h => window56_apply m c t 193 _ r l _ (by omega)) (fun r l h => window56_apply m c t 194 _ r l _ (by omega)) (fun r l h => window56_apply m c t 195 _ r l _ (by omega)) (fun r l h => window56_apply m c t 196 _ r l _ (by omega)) (fun r l h => window56_apply m c t 197 _ r l _ (by omega)) (fun r l h => window56_apply m c t 198 _ r l _ (by omega)) (fun r l h => window56_apply m c t 199 _ r l _ (by omega)) y x0 x1 hx0 hx1
  case piece2 =>
    show chunk (window64 m c t 160 inb_S288x512_S64x512_160_0) (window56 m c t 161 inb_S288x512_S56x512_161_0) (window56 m c t 162 inb_S288x512_S56x512_162_0) (window56 m c t 163 inb_S288x512_S56x512_163_0) (window56 m c t 164 inb_S288x512_S56x512_164_0) (window56 m c t 165 inb_S288x512_S56x512_165_0) (window56 m c t 166 inb_S288x512_S56x512_166_0) (window56 m c t 167 inb_S288x512_S56x512_167_0) (iblk m c 4 t) (iblk m c 5 t) (iblk m c 6 t) (iblk m c 7 t) x = _
    idx_vars x
    exact piece m c t 160 _ _ _ _ _ _ _ _ (fun r l h => window64_apply m c t 160 _ r l _ (by omega)) (fun r l h => window56_apply m c t 161 _ r l _ (by omega)) (fun r l h => window56_apply m c t 162 _ r l _ (by omega)) (fun r l h => window56_apply m c t 163 _ r l _ (by omega)) (fun r l h => window56_apply m c t 164 _ r l _ (by omega)) (fun r l h => window56_apply m c t 165 _ r l _ (by omega)) (fun r l h => window56_apply m c t 166 _ r l _ (by omega)) (fun r l h => window56_apply m c t 167 _ r l _ (by omega)) y x0 x1 hx0 hx1
  case piece3 =>
    show chunk (window64 m c t 128 inb_S288x512_S64x512_128_0) (window56 m c t 129 inb_S288x512_S56x512_129_0) (window56 m c t 130 inb_S288x512_S56x512_130_0) (window56 m c t 131 inb_S288x512_S56x512_131_0) (window56 m c t 132 inb_S288x512_S56x512_132_0) (window56 m c t 133 inb_S288x512_S56x512_133_0) (window56 m c t 134 inb_S288x512_S56x512_134_0) (window56 m c t 135 inb_S288x512_S56x512_135_0) (iblk m c 4 t) (iblk m c 5 t) (iblk m c 6 t) (iblk m c 7 t) x = _
    idx_vars x
    exact piece m c t 128 _ _ _ _ _ _ _ _ (fun r l h => window64_apply m c t 128 _ r l _ (by omega)) (fun r l h => window56_apply m c t 129 _ r l _ (by omega)) (fun r l h => window56_apply m c t 130 _ r l _ (by omega)) (fun r l h => window56_apply m c t 131 _ r l _ (by omega)) (fun r l h => window56_apply m c t 132 _ r l _ (by omega)) (fun r l h => window56_apply m c t 133 _ r l _ (by omega)) (fun r l h => window56_apply m c t 134 _ r l _ (by omega)) (fun r l h => window56_apply m c t 135 _ r l _ (by omega)) y x0 x1 hx0 hx1
  case piece4 =>
    show chunk (window64 m c t 96 inb_S288x512_S64x512_96_0) (window56 m c t 97 inb_S288x512_S56x512_97_0) (window56 m c t 98 inb_S288x512_S56x512_98_0) (window56 m c t 99 inb_S288x512_S56x512_99_0) (window56 m c t 100 inb_S288x512_S56x512_100_0) (window56 m c t 101 inb_S288x512_S56x512_101_0) (window56 m c t 102 inb_S288x512_S56x512_102_0) (window56 m c t 103 inb_S288x512_S56x512_103_0) (iblk m c 4 t) (iblk m c 5 t) (iblk m c 6 t) (iblk m c 7 t) x = _
    idx_vars x
    exact piece m c t 96 _ _ _ _ _ _ _ _ (fun r l h => window64_apply m c t 96 _ r l _ (by omega)) (fun r l h => window56_apply m c t 97 _ r l _ (by omega)) (fun r l h => window56_apply m c t 98 _ r l _ (by omega)) (fun r l h => window56_apply m c t 99 _ r l _ (by omega)) (fun r l h => window56_apply m c t 100 _ r l _ (by omega)) (fun r l h => window56_apply m c t 101 _ r l _ (by omega)) (fun r l h => window56_apply m c t 102 _ r l _ (by omega)) (fun r l h => window56_apply m c t 103 _ r l _ (by omega)) y x0 x1 hx0 hx1
  case piece5 =>
    show chunk (window64 m c t 64 inb_S288x512_S64x512_64_0) (window56 m c t 65 inb_S288x512_S56x512_65_0) (window56 m c t 66 inb_S288x512_S56x512_66_0) (window56 m c t 67 inb_S288x512_S56x512_67_0) (window56 m c t 68 inb_S288x512_S56x512_68_0) (window56 m c t 69 inb_S288x512_S56x512_69_0) (window56 m c t 70 inb_S288x512_S56x512_70_0) (window56 m c t 71 inb_S288x512_S56x512_71_0) (iblk m c 4 t) (iblk m c 5 t) (iblk m c 6 t) (iblk m c 7 t) x = _
    idx_vars x
    exact piece m c t 64 _ _ _ _ _ _ _ _ (fun r l h => window64_apply m c t 64 _ r l _ (by omega)) (fun r l h => window56_apply m c t 65 _ r l _ (by omega)) (fun r l h => window56_apply m c t 66 _ r l _ (by omega)) (fun r l h => window56_apply m c t 67 _ r l _ (by omega)) (fun r l h => window56_apply m c t 68 _ r l _ (by omega)) (fun r l h => window56_apply m c t 69 _ r l _ (by omega)) (fun r l h => window56_apply m c t 70 _ r l _ (by omega)) (fun r l h => window56_apply m c t 71 _ r l _ (by omega)) y x0 x1 hx0 hx1
  case piece6 =>
    show chunk (window64 m c t 32 inb_S288x512_S64x512_32_0) (window56 m c t 33 inb_S288x512_S56x512_33_0) (window56 m c t 34 inb_S288x512_S56x512_34_0) (window56 m c t 35 inb_S288x512_S56x512_35_0) (window56 m c t 36 inb_S288x512_S56x512_36_0) (window56 m c t 37 inb_S288x512_S56x512_37_0) (window56 m c t 38 inb_S288x512_S56x512_38_0) (window56 m c t 39 inb_S288x512_S56x512_39_0) (iblk m c 4 t) (iblk m c 5 t) (iblk m c 6 t) (iblk m c 7 t) x = _
    idx_vars x
    exact piece m c t 32 _ _ _ _ _ _ _ _ (fun r l h => window64_apply m c t 32 _ r l _ (by omega)) (fun r l h => window56_apply m c t 33 _ r l _ (by omega)) (fun r l h => window56_apply m c t 34 _ r l _ (by omega)) (fun r l h => window56_apply m c t 35 _ r l _ (by omega)) (fun r l h => window56_apply m c t 36 _ r l _ (by omega)) (fun r l h => window56_apply m c t 37 _ r l _ (by omega)) (fun r l h => window56_apply m c t 38 _ r l _ (by omega)) (fun r l h => window56_apply m c t 39 _ r l _ (by omega)) y x0 x1 hx0 hx1
  case piece7 =>
    show chunk (window64 m c t 0 inb_S288x512_S64x512_0_0) (window56 m c t 1 inb_S288x512_S56x512_1_0) (window56 m c t 2 inb_S288x512_S56x512_2_0) (window56 m c t 3 inb_S288x512_S56x512_3_0) (window56 m c t 4 inb_S288x512_S56x512_4_0) (window56 m c t 5 inb_S288x512_S56x512_5_0) (window56 m c t 6 inb_S288x512_S56x512_6_0) (window56 m c t 7 inb_S288x512_S56x512_7_0) (iblk m c 4 t) (iblk m c 5 t) (iblk m c 6 t) (iblk m c 7 t) x = _
    idx_vars x
    exact piece m c t 0 _ _ _ _ _ _ _ _ (fun r l h => window64_apply m c t 0 _ r l _ (by omega)) (fun r l h => window56_apply m c t 1 _ r l _ (by omega)) (fun r l h => window56_apply m c t 2 _ r l _ (by omega)) (fun r l h => window56_apply m c t 3 _ r l _ (by omega)) (fun r l h => window56_apply m c t 4 _ r l _ (by omega)) (fun r l h => window56_apply m c t 5 _ r l _ (by omega)) (fun r l h => window56_apply m c t 6 _ r l _ (by omega)) (fun r l h => window56_apply m c t 7 _ r l _ (by omega)) y x0 x1 (hx0.trans (Nat.zero_add _).symm) hx1

theorem final : (dats m 0 c).arrAt 8 (cfgs 0).N = out (A0 m c) (A1 m c) (A2 m c) (A3 m c) (A4 m c) := by
  refine (dats m 0 c).arrAt_eq_of_covers 8 _ (by decide +kernel) fun t _ y => ?_
  blk_simp
  rw [after0_8]
  have e : ∀ (i : Fin 256) (j : Fin 512), (win0_8.blk t).view.emb (ix2 i j) = ix2 (row t i) j := fun i j => by
    unfold row; blk_ext [idx8 t]
  idx_vars y
  rw [e y0 y1]
  exact left m c t (ix2 y0 y1)

end Cert.Conv.Kern

end
-- ==== Proof.ConvRef.lean ====
/- The convolution module, forward: what the reference computes. -/
module

public import proofs.«01_k».proof.Proof.ConvSpec
public import proofs.«01_k».proof.Proof.Gen.Reference36Ideal.Run
public import proofs.«01_k».proof.Proof.Gen.Reference36Ideal.Read

@[expose] public section

set_option maxRecDepth 16384

noncomputable section

namespace Cert.Conv.Ref

open Idealize.ShloMosaic Idealize.ShloMosaic.TcCoe Idealize.SL.Sem
open Cert.Reference36Ideal Cert.Reference36Ideal.Read
open scoped BigOperators

variable (x : FVec Ideal ⟨2, ![4096, 8704]⟩ .f32) (w : FVec Ideal ⟨2, ![32, 512]⟩ .f32) (b u v : FVec Ideal ⟨2, ![1, 512]⟩ .f32)

/-- The gated rows. -/
theorem gate (i : Fin 4096) (l : Fin 512) : val_main_v9 (F := Ideal) x (ix2 i l) = gated x l i := by
  pointwise [val_main_v9, val_main_v8, val_main_v7, val_main_v6, val_main_v5, val_main_v4, val_main_v3, val_main_v2, val_main_v1, val_main_v0, val_main_cst, val_main_cst_0]
  have e : (⟨2048 + (512 + l.val), by omega⟩ : Fin 8704) = ⟨2560 + l.val, by omega⟩ := Fin.ext (by show 2048 + (512 + l.val) = 2560 + l.val; omega)
  rw [e]
  rfl

theorem zero : FloatOps.sitofp (F := Ideal) FTy.f32 0#32 = 0 := by
  show (((0#32 : BitVec 32).toInt : ℝ) : EReal) = 0
  simp

/-- Those with 30 rows of 0 before them. -/
theorem rows (i : Fin 4126) (l : Fin 512) (n : ℕ) (h : i.val = n) : val_main_v10 (F := Ideal) x (ix2 i l) = padded x l n := by
  have hi := i.isLt
  subst h
  pointwise [val_main_v10, gate, val_main_call0_v0, val_main_c]
  unfold padded
  rw [show FloatOps.sitofp (F := Ideal) FTy.f32 0#32 = 0 from zero]

/-- The sum over the taps. -/
theorem taps (i : Fin 4096) (l : Fin 512) : val_main_v228 (F := Ideal) x w (ix2 i l) = ∑ k, tap w l (fun k => padded x l (i.val + k)) k := by
  have hi := i.isLt
  pointwise [val_main_v18, val_main_v17, val_main_cst_1, val_main_v16, val_main_v15, val_main_v14, val_main_v13, val_main_v12, val_main_v11, val_main_v25, val_main_v24, val_main_v23, val_main_v22, val_main_v21, val_main_v20, val_main_v19, val_main_v32, val_main_v31, val_main_v30, val_main_v29, val_main_v28, val_main_v27, val_main_v26, val_main_v39, val_main_v38, val_main_v37, val_main_v36, val_main_v35, val_main_v34, val_main_v33, val_main_v46, val_main_v45, val_main_v44, val_main_v43, val_main_v42, val_main_v41, val_main_v40, val_main_v53, val_main_v52, val_main_v51, val_main_v50, val_main_v49, val_main_v48, val_main_v47, val_main_v60, val_main_v59, val_main_v58, val_main_v57, val_main_v56, val_main_v55, val_main_v54, val_main_v67, val_main_v66, val_main_v65, val_main_v64, val_main_v63, val_main_v62, val_main_v61, val_main_v74, val_main_v73, val_main_v72, val_main_v71, val_main_v70, val_main_v69, val_main_v68, val_main_v81, val_main_v80, val_main_v79, val_main_v78, val_main_v77, val_main_v76, val_main_v75, val_main_v88, val_main_v87, val_main_v86, val_main_v85, val_main_v84, val_main_v83, val_main_v82, val_main_v95, val_main_v94, val_main_v93, val_main_v92, val_main_v91, val_main_v90, val_main_v89, val_main_v102, val_main_v101, val_main_v100, val_main_v99, val_main_v98, val_main_v97, val_main_v96, val_main_v109, val_main_v108, val_main_v107, val_main_v106, val_main_v105, val_main_v104, val_main_v103, val_main_v116, val_main_v115, val_main_v114, val_main_v113, val_main_v112, val_main_v111, val_main_v110, val_main_v123, val_main_v122, val_main_v121, val_main_v120, val_main_v119, val_main_v118, val_main_v117, val_main_v130, val_main_v129, val_main_v128, val_main_v127, val_main_v126, val_main_v125, val_main_v124, val_main_v137, val_main_v136, val_main_v135, val_main_v134, val_main_v133, val_main_v132, val_main_v131, val_main_v144, val_main_v143, val_main_v142, val_main_v141, val_main_v140, val_main_v139, val_main_v138, val_main_v151, val_main_v150, val_main_v149, val_main_v148, val_main_v147, val_main_v146, val_main_v145, val_main_v158, val_main_v157, val_main_v156, val_main_v155, val_main_v154, val_main_v153, val_main_v152, val_main_v165, val_main_v164, val_main_v163, val_main_v162, val_main_v161, val_main_v160, val_main_v159, val_main_v172, val_main_v171, val_main_v170, val_main_v169, val_main_v168, val_main_v167, val_main_v166, val_main_v179, val_main_v178, val_main_v177, val_main_v176, val_main_v175, val_main_v174, val_main_v173, val_main_v186, val_main_v185, val_main_v184, val_main_v183, val_main_v182, val_main_v181, val_main_v180, val_main_v193, val_main_v192, val_main_v191, val_main_v190, val_main_v189, val_main_v188, val_main_v187, val_main_v200, val_main_v199, val_main_v198, val_main_v197, val_main_v196, val_main_v195, val_main_v194, val_main_v207, val_main_v206, val_main_v205, val_main_v204, val_main_v203, val_main_v202, val_main_v201, val_main_v214, val_main_v213, val_main_v212, val_main_v211, val_main_v210, val_main_v209, val_main_v208, val_main_v221, val_main_v220, val_main_v219, val_main_v218, val_main_v217, val_main_v216, val_main_v215, val_main_v228, val_main_v227, val_main_v226, val_main_v225, val_main_v224, val_main_v223, val_main_v222]
  refine Eq.trans ?_ (inOrder (tap w l fun k => padded x l (i.val + k)))
  exact congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (congrArg₂ (· + ·)
      (((congrArg (w (ix2 0 l) * ·) (rows x ⟨i.val, by omega⟩ l (i.val + 0) (by show i.val = i.val + 0; omega)))).trans (zero_add _).symm)
      (congrArg (w (ix2 1 l) * ·) (rows x ⟨1 + i.val, by omega⟩ l (i.val + 1) (by show 1 + i.val = i.val + 1; omega))))
      (congrArg (w (ix2 2 l) * ·) (rows x ⟨2 + i.val, by omega⟩ l (i.val + 2) (by show 2 + i.val = i.val + 2; omega))))
      (congrArg (w (ix2 3 l) * ·) (rows x ⟨3 + i.val, by omega⟩ l (i.val + 3) (by show 3 + i.val = i.val + 3; omega))))
      (congrArg (w (ix2 4 l) * ·) (rows x ⟨4 + i.val, by omega⟩ l (i.val + 4) (by show 4 + i.val = i.val + 4; omega))))
      (congrArg (w (ix2 5 l) * ·) (rows x ⟨5 + i.val, by omega⟩ l (i.val + 5) (by show 5 + i.val = i.val + 5; omega))))
      (congrArg (w (ix2 6 l) * ·) (rows x ⟨6 + i.val, by omega⟩ l (i.val + 6) (by show 6 + i.val = i.val + 6; omega))))
      (congrArg (w (ix2 7 l) * ·) (rows x ⟨7 + i.val, by omega⟩ l (i.val + 7) (by show 7 + i.val = i.val + 7; omega))))
      (congrArg (w (ix2 8 l) * ·) (rows x ⟨8 + i.val, by omega⟩ l (i.val + 8) (by show 8 + i.val = i.val + 8; omega))))
      (congrArg (w (ix2 9 l) * ·) (rows x ⟨9 + i.val, by omega⟩ l (i.val + 9) (by show 9 + i.val = i.val + 9; omega))))
      (congrArg (w (ix2 10 l) * ·) (rows x ⟨10 + i.val, by omega⟩ l (i.val + 10) (by show 10 + i.val = i.val + 10; omega))))
      (congrArg (w (ix2 11 l) * ·) (rows x ⟨11 + i.val, by omega⟩ l (i.val + 11) (by show 11 + i.val = i.val + 11; omega))))
      (congrArg (w (ix2 12 l) * ·) (rows x ⟨12 + i.val, by omega⟩ l (i.val + 12) (by show 12 + i.val = i.val + 12; omega))))
      (congrArg (w (ix2 13 l) * ·) (rows x ⟨13 + i.val, by omega⟩ l (i.val + 13) (by show 13 + i.val = i.val + 13; omega))))
      (congrArg (w (ix2 14 l) * ·) (rows x ⟨14 + i.val, by omega⟩ l (i.val + 14) (by show 14 + i.val = i.val + 14; omega))))
      (congrArg (w (ix2 15 l) * ·) (rows x ⟨15 + i.val, by omega⟩ l (i.val + 15) (by show 15 + i.val = i.val + 15; omega))))
      (congrArg (w (ix2 16 l) * ·) (rows x ⟨16 + i.val, by omega⟩ l (i.val + 16) (by show 16 + i.val = i.val + 16; omega))))
      (congrArg (w (ix2 17 l) * ·) (rows x ⟨17 + i.val, by omega⟩ l (i.val + 17) (by show 17 + i.val = i.val + 17; omega))))
      (congrArg (w (ix2 18 l) * ·) (rows x ⟨18 + i.val, by omega⟩ l (i.val + 18) (by show 18 + i.val = i.val + 18; omega))))
      (congrArg (w (ix2 19 l) * ·) (rows x ⟨19 + i.val, by omega⟩ l (i.val + 19) (by show 19 + i.val = i.val + 19; omega))))
      (congrArg (w (ix2 20 l) * ·) (rows x ⟨20 + i.val, by omega⟩ l (i.val + 20) (by show 20 + i.val = i.val + 20; omega))))
      (congrArg (w (ix2 21 l) * ·) (rows x ⟨21 + i.val, by omega⟩ l (i.val + 21) (by show 21 + i.val = i.val + 21; omega))))
      (congrArg (w (ix2 22 l) * ·) (rows x ⟨22 + i.val, by omega⟩ l (i.val + 22) (by show 22 + i.val = i.val + 22; omega))))
      (congrArg (w (ix2 23 l) * ·) (rows x ⟨23 + i.val, by omega⟩ l (i.val + 23) (by show 23 + i.val = i.val + 23; omega))))
      (congrArg (w (ix2 24 l) * ·) (rows x ⟨24 + i.val, by omega⟩ l (i.val + 24) (by show 24 + i.val = i.val + 24; omega))))
      (congrArg (w (ix2 25 l) * ·) (rows x ⟨25 + i.val, by omega⟩ l (i.val + 25) (by show 25 + i.val = i.val + 25; omega))))
      (congrArg (w (ix2 26 l) * ·) (rows x ⟨26 + i.val, by omega⟩ l (i.val + 26) (by show 26 + i.val = i.val + 26; omega))))
      (congrArg (w (ix2 27 l) * ·) (rows x ⟨27 + i.val, by omega⟩ l (i.val + 27) (by show 27 + i.val = i.val + 27; omega))))
      (congrArg (w (ix2 28 l) * ·) (rows x ⟨28 + i.val, by omega⟩ l (i.val + 28) (by show 28 + i.val = i.val + 28; omega))))
      (congrArg (w (ix2 29 l) * ·) (rows x ⟨29 + i.val, by omega⟩ l (i.val + 29) (by show 29 + i.val = i.val + 29; omega))))
      (congrArg (w (ix2 30 l) * ·) (rows x ⟨30 + i.val, by omega⟩ l (i.val + 30) (by show 30 + i.val = i.val + 30; omega)))

theorem row (i : Fin 4096) (l : Fin 512) : val_main_v230 (F := Ideal) x w b (ix2 i l) = conv w b l fun k => padded x l (i.val + k) := by
  pointwise [val_main_v230, val_main_v229, taps]
  rfl

theorem mean (i : Fin 4096) (l : Fin 512) : val_main_v236 (F := Ideal) x w b (ix2 i l) = centred (fun l => conv w b l fun k => padded x l (i.val + k)) l := by
  pointwise [val_main_v236, val_main_v235, val_main_v234, val_main_v233, val_main_cst_3, val_main_v232, val_main_v231, val_main_cst_2, row]
  rfl

theorem less (i : Fin 4096) (l : Fin 512) : val_main_v243 (F := Ideal) x w b (ix2 i l) = centred (fun l => conv w b l fun k => padded x l (i.val + k)) l := by
  pointwise [val_main_v243, val_main_v242, val_main_v234, val_main_v233, val_main_cst_3, val_main_v232, val_main_v231, val_main_cst_2, row]
  rfl

theorem norm (i : Fin 4096) (l : Fin 512) : val_main_v248 (F := Ideal) x w b (ix2 i l) = normed (fun l => conv w b l fun k => padded x l (i.val + k)) l := by
  pointwise [val_main_v248, val_main_v247, val_main_v246, val_main_v245, val_main_v244, val_main_cst_6, val_main_v241, val_main_v240, val_main_cst_5, val_main_v239, val_main_v238, val_main_cst_4, val_main_v237, mean, less]
  rfl

theorem affine (i : Fin 4096) (l : Fin 512) : val_main_v252 (F := Ideal) x w b u v (ix2 i l) = normed (fun l => conv w b l fun k => padded x l (i.val + k)) l * u (ix2 0 l) + v (ix2 0 l) := by
  pointwise [val_main_v252, val_main_v251, val_main_v250, val_main_v249, norm]

theorem result : val_main_v254 (F := Ideal) x w b u v = out x w b u v := by
  funext y
  idx_vars y
  pointwise [val_main_v254, val_main_v253, val_main_call1_v5, val_main_call1_v4, val_main_call1_cst_0, val_main_call1_v3, val_main_call1_v2, val_main_call1_cst, val_main_call1_v1, val_main_call1_v0, affine]
  rfl

end Cert.Conv.Ref

end
-- ==== Proof.ConvFwd.lean ====
/- The convolution module, forward: the kernel's is the reference's. -/
module

public import proofs.«01_k».proof.Defs
public import proofs.«01_k».proof.Proof.ConvFinal
public import proofs.«01_k».proof.Proof.ConvRef
public import Idealize.ShloMosaic.Lib.Claim

@[expose] public section

noncomputable section

namespace Cert.ConvFwd

open Idealize.ShloMosaic Idealize.ShloMosaic.TcCoe Idealize.SL.Sem
open Cert.Conv

theorem ref_frame : Cert.quiescent_Reference36Ideal := fun m g _ =>
  (θ_run _ _ _).mono (fun r h => ⟨fun c => (h c).2, sem_eq_zero_of_no_sems (by decide) r.2⟩) (Cert.Reference36Ideal.Value.run m g)

/-- From the same arguments both end with the same array. -/
theorem algebraic : Cert.algebraic_Kernel36Ideal_Reference36Ideal := by
  intro m g m' g' _ hagree
  refine ⟨fun c => out (Kern.A0 m c) (Kern.A1 m c) (Kern.A2 m c) (Kern.A3 m c) (Kern.A4 m c), ?_, ?_⟩
  · refine (θ_run _ _ _).mono (fun r h c => ?_) (θ_run_and (Cert.Kernel36Ideal.Gen.unchanged m g) (Cert.Kernel36Ideal.Gen.run_main m g))
    exact ⟨((h.2 c).1 8).trans (Kern.final m c), h.1 c⟩
  · refine (θ_run _ _ _).mono (fun r h c => ?_) (Cert.Reference36Ideal.Value.run m' g')
    obtain ⟨e0, e1, e2, e3, e4⟩ := hagree c
    refine ⟨(h c).1.trans ((Cert.Reference36Ideal.Read.val_main_v254_eq ..).trans ((Ref.result _ _ _ _ _).trans ?_)), (h c).2⟩
    beta_reduce
    unfold Kern.A0 Kern.A1 Kern.A2 Kern.A3 Kern.A4
    rw [← e0, ← e1, ← e2, ← e3, ← e4]

end Cert.ConvFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Pre_finite18
public import proofs.«01_k».proof.Proof.MergeClaim
public import proofs.«01_k».proof.Proof.DwIn
public import proofs.«01_k».proof.Proof.DhMix
public import proofs.«01_k».proof.Proof.DwFfn1
public import proofs.«01_k».proof.Proof.DwFfn2
public import proofs.«01_k».proof.Proof.Proj
public import proofs.«01_k».proof.Proof.FfnFwd
public import proofs.«01_k».proof.Proof.MergeFwd
public import proofs.«01_k».proof.Proof.DwOut
public import proofs.«01_k».proof.Proof.DwBranch3
public import proofs.«01_k».proof.Proof.DwQ
public import proofs.«01_k».proof.Proof.DwO
public import proofs.«01_k».proof.Proof.DwBranch0
public import proofs.«01_k».proof.Proof.DwBranch1
public import proofs.«01_k».proof.Proof.DwBranch2
public import proofs.«01_k».proof.Proof.NormBwd
public import proofs.«01_k».proof.Proof.AttnBwd
public import proofs.«01_k».proof.Proof.FinalLoss
public import proofs.«01_k».proof.Proof.AdamIn
public import proofs.«01_k».proof.Proof.AdamBranch
public import proofs.«01_k».proof.Proof.AdamOut
public import proofs.«01_k».proof.Proof.AdamKv
public import proofs.«01_k».proof.Proof.AdamFfn
public import proofs.«01_k».proof.Proof.AdamSmall
public import proofs.«01_k».proof.Proof.SumRows
public import proofs.«01_k».proof.Proof.AttnFwd
public import proofs.«01_k».proof.Proof.NormMix
public import proofs.«01_k».proof.Proof.NormMem
public import proofs.«01_k».proof.Proof.KvProj
public import proofs.«01_k».proof.Proof.DwKv
public import proofs.«01_k».proof.Proof.DMem
public import proofs.«01_k».proof.Proof.NormMemBwd
public import proofs.«01_k».proof.Proof.PoolFwd
public import proofs.«01_k».proof.Proof.PoolBwd
public import proofs.«01_k».proof.Proof.ConvFwd
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Pre_finite18.Gen.facts,
  fun m ρ _ => Cert.Kernel.Gen.frame m ρ, fun m ρ _ => Cert.KernelIdeal.Gen.frame m ρ, Cert.Merge.ref_frame,
  fun m ρ _ => Cert.Kernel2.Gen.frame m ρ, fun m ρ _ => Cert.Kernel2Ideal.Gen.frame m ρ, Cert.DwIn.ref_frame,
  fun m ρ _ => Cert.Kernel3.Gen.frame m ρ, fun m ρ _ => Cert.Kernel3Ideal.Gen.frame m ρ, Cert.DhMix.ref_frame,
  fun m ρ _ => Cert.Kernel4.Gen.frame m ρ, fun m ρ _ => Cert.Kernel4Ideal.Gen.frame m ρ, Cert.DwFfn1.ref_frame,
  fun m ρ _ => Cert.Kernel5.Gen.frame m ρ, fun m ρ _ => Cert.Kernel5Ideal.Gen.frame m ρ, Cert.DwFfn2.ref_frame,
  fun m ρ _ => Cert.Kernel6.Gen.frame m ρ, fun m ρ _ => Cert.Kernel6Ideal.Gen.frame m ρ, Cert.Proj.ref_frame,
  fun m ρ _ => Cert.Kernel7.Gen.frame m ρ, fun m ρ _ => Cert.Kernel7Ideal.Gen.frame m ρ, Cert.FfnFwd.ref_frame,
  fun m ρ _ => Cert.Kernel8.Gen.frame m ρ, fun m ρ _ => Cert.Kernel8Ideal.Gen.frame m ρ, Cert.MergeFwd.ref_frame,
  fun m ρ _ => Cert.Kernel9.Gen.frame m ρ, fun m ρ _ => Cert.Kernel9Ideal.Gen.frame m ρ, Cert.DwOut.ref_frame,
  fun m ρ _ => Cert.Kernel10.Gen.frame m ρ, fun m ρ _ => Cert.Kernel10Ideal.Gen.frame m ρ, Cert.DwBranch3.ref_frame,
  fun m ρ _ => Cert.Kernel11.Gen.frame m ρ, fun m ρ _ => Cert.Kernel11Ideal.Gen.frame m ρ, Cert.DwQ.ref_frame,
  fun m ρ _ => Cert.Kernel12.Gen.frame m ρ, fun m ρ _ => Cert.Kernel12Ideal.Gen.frame m ρ, Cert.DwO.ref_frame,
  fun m ρ _ => Cert.Kernel13.Gen.frame m ρ, fun m ρ _ => Cert.Kernel13Ideal.Gen.frame m ρ, Cert.DwBranch0.ref_frame,
  fun m ρ _ => Cert.Kernel14.Gen.frame m ρ, fun m ρ _ => Cert.Kernel14Ideal.Gen.frame m ρ, Cert.DwBranch1.ref_frame,
  fun m ρ _ => Cert.Kernel15.Gen.frame m ρ, fun m ρ _ => Cert.Kernel15Ideal.Gen.frame m ρ, Cert.DwBranch2.ref_frame,
  fun m ρ _ => Cert.Kernel16.Gen.frame m ρ, fun m ρ _ => Cert.Kernel16Ideal.Gen.frame m ρ, Cert.NormBwd.ref_frame,
  fun m ρ _ => Cert.Kernel18.Gen.frame m ρ, fun m ρ _ => Cert.Kernel18Ideal.Gen.frame m ρ, fun m ρ _ => Cert.Kernel18Ideal.Gen.frame m ρ,
  Cert.AttnBwd.ref_frame, fun m ρ _ => Cert.AttnBwd.ref_frame m ρ trivial,
  fun m ρ _ => Cert.Kernel19.Gen.frame m ρ, fun m ρ _ => Cert.Kernel19Ideal.Gen.frame m ρ, Cert.FinalLoss.ref_frame,
  fun m ρ _ => Cert.Kernel20.Gen.frame m ρ, fun m ρ _ => Cert.Kernel20Ideal.Gen.frame m ρ, Cert.AdamIn.ref_frame,
  fun m ρ _ => Cert.Kernel21.Gen.frame m ρ, fun m ρ _ => Cert.Kernel21Ideal.Gen.frame m ρ, Cert.AdamBranch.ref_frame,
  fun m ρ _ => Cert.Kernel22.Gen.frame m ρ, fun m ρ _ => Cert.Kernel22Ideal.Gen.frame m ρ, Cert.AdamOut.ref_frame,
  fun m ρ _ => Cert.Kernel23.Gen.frame m ρ, fun m ρ _ => Cert.Kernel23Ideal.Gen.frame m ρ, Cert.AdamKv.ref_frame,
  fun m ρ _ => Cert.Kernel24.Gen.frame m ρ, fun m ρ _ => Cert.Kernel24Ideal.Gen.frame m ρ, Cert.AdamFfn.ref_frame,
  fun m ρ _ => Cert.Kernel25.Gen.frame m ρ, fun m ρ _ => Cert.Kernel25Ideal.Gen.frame m ρ, Cert.AdamSmall.ref_frame,
  fun m ρ _ => Cert.Kernel26.Gen.frame m ρ, fun m ρ _ => Cert.Kernel26Ideal.Gen.frame m ρ, Cert.SumRows.ref_frame,
  fun m ρ _ => Cert.Kernel27.Gen.frame m ρ, fun m ρ _ => Cert.Kernel27Ideal.Gen.frame m ρ, Cert.AttnFwd.ref_frame,
  fun m ρ _ => Cert.Kernel28.Gen.frame m ρ, fun m ρ _ => Cert.Kernel28Ideal.Gen.frame m ρ, Cert.NormMix.ref_frame,
  fun m ρ _ => Cert.Kernel29.Gen.frame m ρ, fun m ρ _ => Cert.Kernel29Ideal.Gen.frame m ρ, Cert.NormMem.ref_frame,
  fun m ρ _ => Cert.Kernel30.Gen.frame m ρ, fun m ρ _ => Cert.Kernel30Ideal.Gen.frame m ρ, Cert.KvProj.ref_frame,
  fun m ρ _ => Cert.Kernel31.Gen.frame m ρ, fun m ρ _ => Cert.Kernel31Ideal.Gen.frame m ρ, Cert.DwKv.ref_frame,
  fun m ρ _ => Cert.Kernel32.Gen.frame m ρ, fun m ρ _ => Cert.Kernel32Ideal.Gen.frame m ρ, Cert.DMem.ref_frame,
  fun m ρ _ => Cert.Kernel33.Gen.frame m ρ, fun m ρ _ => Cert.Kernel33Ideal.Gen.frame m ρ, Cert.NormMemBwd.ref_frame,
  fun m ρ _ => Cert.Kernel34.Gen.frame m ρ, fun m ρ _ => Cert.Kernel34Ideal.Gen.frame m ρ, Cert.PoolFwd.ref_frame,
  fun m ρ _ => Cert.Kernel35.Gen.frame m ρ, fun m ρ _ => Cert.Kernel35Ideal.Gen.frame m ρ, Cert.PoolBwd.ref_frame,
  fun m ρ _ => Cert.Kernel36.Gen.frame m ρ, fun m ρ _ => Cert.Kernel36Ideal.Gen.frame m ρ, Cert.ConvFwd.ref_frame,
  trivial, Cert.Merge.algebraic,
  trivial, Cert.DwIn.algebraic,
  trivial, Cert.DhMix.algebraic,
  trivial, Cert.DwFfn1.algebraic,
  trivial, Cert.DwFfn2.algebraic,
  trivial, Cert.Proj.algebraic,
  trivial, Cert.FfnFwd.algebraic,
  trivial, Cert.MergeFwd.algebraic,
  trivial, Cert.DwOut.algebraic,
  trivial, Cert.DwBranch3.algebraic,
  trivial, Cert.DwQ.algebraic,
  trivial, Cert.DwO.algebraic,
  trivial, Cert.DwBranch0.algebraic,
  trivial, Cert.DwBranch1.algebraic,
  trivial, Cert.DwBranch2.algebraic,
  trivial, Cert.NormBwd.algebraic,
  trivial, Cert.AttnBwd.algebraic,
  trivial, Cert.FinalLoss.algebraic,
  trivial, Cert.AdamIn.algebraic,
  trivial, Cert.AdamBranch.algebraic,
  trivial, Cert.AdamOut.algebraic,
  trivial, Cert.AdamKv.algebraic,
  trivial, Cert.AdamFfn.algebraic,
  trivial, Cert.AdamSmall.algebraic,
  trivial, Cert.SumRows.algebraic,
  trivial, Cert.AttnFwd.algebraic,
  trivial, Cert.NormMix.algebraic,
  trivial, Cert.NormMem.algebraic,
  trivial, Cert.KvProj.algebraic,
  trivial, Cert.DwKv.algebraic,
  trivial, Cert.DMem.algebraic,
  trivial, Cert.NormMemBwd.algebraic,
  trivial, Cert.PoolFwd.algebraic,
  trivial, Cert.PoolBwd.algebraic,
  trivial, Cert.ConvFwd.algebraic⟩

end Cert.Proof

end
